-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.2.2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.2.2.2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7))).2.2.2.2.2.2.2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.2.2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.2.2.2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7))).2.2.2.2.2.2.2 = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))).1 = (fun _ => 1#1)
    ∧ (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))).2.1 = (fun _ => 1#1)
    ∧ (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))).2.2.1 = (fun _ => 1#1)
    ∧ (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))).2.2.2 = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))).1 = (fun _ => 1#1)
    ∧ (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))).2.1 = (fun _ => 1#1)
    ∧ (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))).2.2.1 = (fun _ => 1#1)
    ∧ (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))).2.2.2 = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite31 [hPre_finite31 : Cert.Pre_finite31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).2.2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).2.2.2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).2.2.2.2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).2.2.2.2.2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))).2.2.2.2.2.2 = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite31 [hPre_finite31 : Cert.Pre_finite31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).2.2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).2.2.2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).2.2.2.2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).2.2.2.2.2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))).2.2.2.2.2.2 = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11)
      ∧ r.2.mem ((c.tc : Thread Cert.Reference16Ideal.nD Cert.Reference16Ideal.τ).loc Cert.Reference16Ideal.main_arg12) = m ((c.tc : Thread Cert.Reference16Ideal.nD Cert.Reference16Ideal.τ).loc Cert.Reference16Ideal.main_arg12))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Kernel31Ideal_pre_finite31 [hKernel31Ideal : Cert.Kernel31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite31 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Reference31Ideal_pre_finite31 [hReference31Ideal : Cert.Reference31Ideal.Facts] [hPre_finite31 : Cert.Pre_finite31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v54) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)
      ∧ m' ((c.tc : Thread Cert.Reference16Ideal.nD Cert.Reference16Ideal.τ).loc Cert.Reference16Ideal.main_arg12) = m ((c.tc : Thread Cert.Kernel16Ideal.nD Cert.Kernel16Ideal.τ).loc Cert.Kernel16Ideal.main_arg12)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
          ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v44) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v31) = v2 c
          ∧ r.2.mem ((c.tc : Thread Cert.Reference16Ideal.nD Cert.Reference16Ideal.τ).loc Cert.Reference16Ideal.main_v35) = v3 c
          ∧ r.2.mem ((c.tc : Thread Cert.Reference16Ideal.nD Cert.Reference16Ideal.τ).loc Cert.Reference16Ideal.main_v45) = v4 c
          ∧ r.2.mem ((c.tc : Thread Cert.Reference16Ideal.nD Cert.Reference16Ideal.τ).loc Cert.Reference16Ideal.main_v46) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11)
          ∧ r.2.mem ((c.tc : Thread Cert.Reference16Ideal.nD Cert.Reference16Ideal.τ).loc Cert.Reference16Ideal.main_arg12) = m' ((c.tc : Thread Cert.Reference16Ideal.nD Cert.Reference16Ideal.τ).loc Cert.Reference16Ideal.main_arg12))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v27) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_v52) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v66) = v0 c
          ∧ r.2.mem ((c.tc : Thread Cert.Reference28Ideal.nD Cert.Reference28Ideal.τ).loc Cert.Reference28Ideal.main_v37) = v1 c
          ∧ r.2.mem ((c.tc : Thread Cert.Reference28Ideal.nD Cert.Reference28Ideal.τ).loc Cert.Reference28Ideal.main_v34) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)) (v4 : (c : Dev Cert.Kernel29Ideal.nD) → Buf (Elt Ideal) ((c.tc : Thread Cert.Kernel29Ideal.nD Cert.Kernel29Ideal.τ).loc Cert.Kernel29Ideal.main_v0_4)) (v5 : (c : Dev Cert.Kernel29Ideal.nD) → Buf (Elt Ideal) ((c.tc : Thread Cert.Kernel29Ideal.nD Cert.Kernel29Ideal.τ).loc Cert.Kernel29Ideal.main_v0_5)) (v6 : (c : Dev Cert.Kernel29Ideal.nD) → Buf (Elt Ideal) ((c.tc : Thread Cert.Kernel29Ideal.nD Cert.Kernel29Ideal.τ).loc Cert.Kernel29Ideal.main_v0_6)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_v0_4) = v4 c
          ∧ r.2.mem ((c.tc : Thread Cert.Kernel29Ideal.nD Cert.Kernel29Ideal.τ).loc Cert.Kernel29Ideal.main_v0_5) = v5 c
          ∧ r.2.mem ((c.tc : Thread Cert.Kernel29Ideal.nD Cert.Kernel29Ideal.τ).loc Cert.Kernel29Ideal.main_v0_6) = v6 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v130) = v0 c
          ∧ r.2.mem ((c.tc : Thread Cert.Reference29Ideal.nD Cert.Reference29Ideal.τ).loc Cert.Reference29Ideal.main_v138) = v1 c
          ∧ r.2.mem ((c.tc : Thread Cert.Reference29Ideal.nD Cert.Reference29Ideal.τ).loc Cert.Reference29Ideal.main_v38) = v2 c
          ∧ r.2.mem ((c.tc : Thread Cert.Reference29Ideal.nD Cert.Reference29Ideal.τ).loc Cert.Reference29Ideal.main_v35) = v3 c
          ∧ r.2.mem ((c.tc : Thread Cert.Reference29Ideal.nD Cert.Reference29Ideal.τ).loc Cert.Reference29Ideal.main_v104) = v4 c
          ∧ r.2.mem ((c.tc : Thread Cert.Reference29Ideal.nD Cert.Reference29Ideal.τ).loc Cert.Reference29Ideal.main_v101) = v5 c
          ∧ r.2.mem ((c.tc : Thread Cert.Reference29Ideal.nD Cert.Reference29Ideal.τ).loc Cert.Reference29Ideal.main_v137) = v6 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v60) = v0 c
          ∧ r.2.mem ((c.tc : Thread Cert.Reference30Ideal.nD Cert.Reference30Ideal.τ).loc Cert.Reference30Ideal.main_v34) = v1 c
          ∧ r.2.mem ((c.tc : Thread Cert.Reference30Ideal.nD Cert.Reference30Ideal.τ).loc Cert.Reference30Ideal.main_v31) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal_pre_finite31 [hKernel31Ideal : Cert.Kernel31Ideal.Facts] [hReference31Ideal : Cert.Reference31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite31 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)) (v4 : (c : Dev Cert.Kernel31Ideal.nD) → Buf (Elt Ideal) ((c.tc : Thread Cert.Kernel31Ideal.nD Cert.Kernel31Ideal.τ).loc Cert.Kernel31Ideal.main_v0_4)) (v5 : (c : Dev Cert.Kernel31Ideal.nD) → Buf (Elt Ideal) ((c.tc : Thread Cert.Kernel31Ideal.nD Cert.Kernel31Ideal.τ).loc Cert.Kernel31Ideal.main_v0_5)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_v0_4) = v4 c
          ∧ r.2.mem ((c.tc : Thread Cert.Kernel31Ideal.nD Cert.Kernel31Ideal.τ).loc Cert.Kernel31Ideal.main_v0_5) = v5 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v80) = v0 c
          ∧ r.2.mem ((c.tc : Thread Cert.Reference31Ideal.nD Cert.Reference31Ideal.τ).loc Cert.Reference31Ideal.main_v88) = v1 c
          ∧ r.2.mem ((c.tc : Thread Cert.Reference31Ideal.nD Cert.Reference31Ideal.τ).loc Cert.Reference31Ideal.main_v89) = v2 c
          ∧ r.2.mem ((c.tc : Thread Cert.Reference31Ideal.nD Cert.Reference31Ideal.τ).loc Cert.Reference31Ideal.main_v54) = v3 c
          ∧ r.2.mem ((c.tc : Thread Cert.Reference31Ideal.nD Cert.Reference31Ideal.τ).loc Cert.Reference31Ideal.main_v51) = v4 c
          ∧ r.2.mem ((c.tc : Thread Cert.Reference31Ideal.nD Cert.Reference31Ideal.τ).loc Cert.Reference31Ideal.main_v87) = v5 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v9) = v0 c
          ∧ r.2.mem ((c.tc : Thread Cert.Reference33Ideal.nD Cert.Reference33Ideal.τ).loc Cert.Reference33Ideal.main_v11) = v1 c
          ∧ r.2.mem ((c.tc : Thread Cert.Reference33Ideal.nD Cert.Reference33Ideal.τ).loc Cert.Reference33Ideal.main_v20) = v2 c
          ∧ r.2.mem ((c.tc : Thread Cert.Reference33Ideal.nD Cert.Reference33Ideal.τ).loc Cert.Reference33Ideal.main_v24) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite28 : Cert.Pre_finite28.Facts) (hPre_finite29 : Cert.Pre_finite29.Facts) (hPre_finite30 : Cert.Pre_finite30.Facts) (hPre_finite31 : Cert.Pre_finite31.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Kernel31Ideal_pre_finite31 (hKernel31Ideal := hKernel31Ideal) (hPre_finite31 := hPre_finite31)
    ∧ quiescent_Reference31Ideal (hReference31Ideal := hReference31Ideal)
    ∧ quiescent_Reference31Ideal_pre_finite31 (hReference31Ideal := hReference31Ideal) (hPre_finite31 := hPre_finite31)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel26_Kernel26Ideal
    ∧ algebraic_Kernel26Ideal_Reference26Ideal (hKernel26Ideal := hKernel26Ideal) (hReference26Ideal := hReference26Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal_pre_finite29 (hKernel29Ideal := hKernel29Ideal) (hReference29Ideal := hReference29Ideal) (hPre_finite29 := hPre_finite29)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal_pre_finite31 (hKernel31Ideal := hKernel31Ideal) (hReference31Ideal := hReference31Ideal) (hPre_finite31 := hPre_finite31)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite28.lean ====
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S8192x1024 .f32) (main_arg2 : FVec F S8192x1024 .f32) (main_arg3 : FVec F S1x1024 .f32) : IVec S8192x1024 1 × IVec S8192x1024 1 × IVec S1x1024 1 :=
  let main_v0 : FVec F S8192x1024 .f32 := (extf .f32 · bitsLt_bf16_f32) main_arg0
  let main_v1 : FVec F S8192x1024 .f32 := subf main_v0 main_v0
  let main_cst : FVec F S_ .f32 := constant S_ .f32 0x00000000#32
  let main_v2 : FVec F S8192x1024 .f32 := broadcastInDim S8192x1024 ![] bcast_S_S8192x1024 main_cst
  let main_v3 : IVec S8192x1024 1 := cmpf .oeq main_v1 main_v2
  let main_v4 : FVec F S8192x1024 .f32 := subf main_arg1 main_arg1
  let main_cst_0 : FVec F S_ .f32 := constant S_ .f32 0x00000000#32
  let main_v5 : FVec F S8192x1024 .f32 := broadcastInDim S8192x1024 ![] bcast_S_S8192x1024 main_cst_0
  let main_v6 : IVec S8192x1024 1 := cmpf .oeq main_v4 main_v5
  let main_v7 : FVec F S1x1024 .f32 := subf main_arg3 main_arg3
  let main_cst_1 : FVec F S_ .f32 := constant S_ .f32 0x00000000#32
  let main_v8 : FVec F S1x1024 .f32 := broadcastInDim S1x1024 ![] bcast_S_S1x1024 main_cst_1
  let main_v9 : IVec S1x1024 1 := cmpf .oeq main_v7 main_v8
  (main_v3, main_v6, main_v9)
-- ==== Pre_finite29.lean ====
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v3 : IVec S8192x1024 1) (main_v6 : IVec S8192x1024 1) (main_v9 : IVec S8192x1024 1) (main_v12 : IVec S8192x1024 1) (main_v16 : IVec S8192x1024 1) (main_v17 : FVec F S1x1024 .f32) (main_cst_4 : FVec F S_ .f32) : IVec S8192x1024 1 × IVec S8192x1024 1 × IVec S8192x1024 1 × IVec S8192x1024 1 × IVec S8192x1024 1 × IVec S1x1024 1 × IVec S1x1024 1 × IVec S1x1024 1 :=
  let main_v18 : FVec F S1x1024 .f32 := broadcastInDim S1x1024 ![] bcast_S_S1x1024 main_cst_4
  let main_v19 : IVec S1x1024 1 := cmpf .oeq main_v17 main_v18
  let main_v20 : FVec F S1x1024 .f32 := subf main_arg6 main_arg6
  let main_cst_5 : FVec F S_ .f32 := constant S_ .f32 0x00000000#32
  let main_v21 : FVec F S1x1024 .f32 := broadcastInDim S1x1024 ![] bcast_S_S1x1024 main_cst_5
  let main_v22 : IVec S1x1024 1 := cmpf .oeq main_v20 main_v21
  let main_v23 : FVec F S1x1024 .f32 := subf main_arg7 main_arg7
  let main_cst_6 : FVec F S_ .f32 := constant S_ .f32 0x00000000#32
  let main_v24 : FVec F S1x1024 .f32 := broadcastInDim S1x1024 ![] bcast_S_S1x1024 main_cst_6
  let main_v25 : IVec S1x1024 1 := cmpf .oeq main_v23 main_v24
  (main_v3, main_v6, main_v9, main_v12, main_v16, main_v19, main_v22, main_v25)

def fn {F : FTy → Type} [FloatOps F] (main_arg0 : FVec F S8192x1024 .bf16) (main_arg1 : FVec F S8192x1024 .f32) (main_arg2 : FVec F S8192x1024 .f32) (main_arg3 : FVec F S8192x1024 .f32) (main_arg4 : FVec F S8192x1024 .bf16) (main_arg5 : FVec F S1x1024 .f32) (main_arg6 : FVec F S1x1024 .f32) (main_arg7 : FVec F S1x1024 .f32) : IVec S8192x1024 1 × IVec S8192x1024 1 × IVec S8192x1024 1 × IVec S8192x1024 1 × IVec S8192x1024 1 × IVec S1x1024 1 × IVec S1x1024 1 × IVec S1x1024 1 :=
  let main_v0 : FVec F S8192x1024 .f32 := (extf .f32 · bitsLt_bf16_f32) main_arg0
  let main_v1 : FVec F S8192x1024 .f32 := subf main_v0 main_v0
  let main_cst : FVec F S_ .f32 := constant S_ .f32 0x00000000#32
  let main_v2 : FVec F S8192x1024 .f32 := broadcastInDim S8192x1024 ![] bcast_S_S8192x1024 main_cst
  let main_v3 : IVec S8192x1024 1 := cmpf .oeq main_v1 main_v2
  let main_v4 : FVec F S8192x1024 .f32 := subf main_arg1 main_arg1
  let main_cst_0 : FVec F S_ .f32 := constant S_ .f32 0x00000000#32
  let main_v5 : FVec F S8192x1024 .f32 := broadcastInDim S8192x1024 ![] bcast_S_S8192x1024 main_cst_0
  let main_v6 : IVec S8192x1024 1 := cmpf .oeq main_v4 main_v5
  let main_v7 : FVec F S8192x1024 .f32 := subf main_arg2 main_arg2
  let main_cst_1 : FVec F S_ .f32 := constant S_ .f32 0x00000000#32
  let main_v8 : FVec F S8192x1024 .f32 := broadcastInDim S8192x1024 ![] bcast_S_S8192x1024 main_cst_1
  let main_v9 : IVec S8192x1024 1 := cmpf .oeq main_v7 main_v8
  let main_v10 : FVec F S8192x1024 .f32 := subf main_arg3 main_arg3
  let main_cst_2 : FVec F S_ .f32 := constant S_ .f32 0x00000000#32
  let main_v11 : FVec F S8192x1024 .f32 := broadcastInDim S8192x1024 ![] bcast_S_S8192x1024 main_cst_2
  let main_v12 : IVec S8192x1024 1 := cmpf .oeq main_v10 main_v11
  let main_v13 : FVec F S8192x1024 .f32 := (extf .f32 · bitsLt_bf16_f32) main_arg4
  let main_v14 : FVec F S8192x1024 .f32 := subf main_v13 main_v13
  let main_cst_3 : FVec F S_ .f32 := constant S_ .f32 0x00000000#32
  let main_v15 : FVec F S8192x1024 .f32 := broadcastInDim S8192x1024 ![] bcast_S_S8192x1024 main_cst_3
  let main_v16 : IVec S8192x1024 1 := cmpf .oeq main_v14 main_v15
  let main_v17 : FVec F S1x1024 .f32 := subf main_arg5 main_arg5
  let main_cst_4 : FVec F S_ .f32 := constant S_ .f32 0x00000000#32
  fn_part1 (F := F) main_arg6 main_arg7 main_v3 main_v6 main_v9 main_v12 main_v16 main_v17 main_cst_4
-- ==== Pre_finite30.lean ====
abbrev S8192x512 : Shape := ⟨2, ![8192, 512]⟩
abbrev S1x512 : Shape := ⟨2, ![1, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x512 .bf16) (main_arg1 : FVec F S8192x512 .f32) (main_arg2 : FVec F S1x512 .f32) (main_arg3 : FVec F S1x512 .f32) : IVec S8192x512 1 × IVec S8192x512 1 × IVec S1x512 1 × IVec S1x512 1 :=
  let main_v0 : FVec F S8192x512 .f32 := (extf .f32 · bitsLt_bf16_f32) main_arg0
  let main_v1 : FVec F S8192x512 .f32 := subf main_v0 main_v0
  let main_cst : FVec F S_ .f32 := constant S_ .f32 0x00000000#32
  let main_v2 : FVec F S8192x512 .f32 := broadcastInDim S8192x512 ![] bcast_S_S8192x512 main_cst
  let main_v3 : IVec S8192x512 1 := cmpf .oeq main_v1 main_v2
  let main_v4 : FVec F S8192x512 .f32 := subf main_arg1 main_arg1
  let main_cst_0 : FVec F S_ .f32 := constant S_ .f32 0x00000000#32
  let main_v5 : FVec F S8192x512 .f32 := broadcastInDim S8192x512 ![] bcast_S_S8192x512 main_cst_0
  let main_v6 : IVec S8192x512 1 := cmpf .oeq main_v4 main_v5
  let main_v7 : FVec F S1x512 .f32 := subf main_arg2 main_arg2
  let main_cst_1 : FVec F S_ .f32 := constant S_ .f32 0x00000000#32
  let main_v8 : FVec F S1x512 .f32 := broadcastInDim S1x512 ![] bcast_S_S1x512 main_cst_1
  let main_v9 : IVec S1x512 1 := cmpf .oeq main_v7 main_v8
  let main_v10 : FVec F S1x512 .f32 := subf main_arg3 main_arg3
  let main_cst_2 : FVec F S_ .f32 := constant S_ .f32 0x00000000#32
  let main_v11 : FVec F S1x512 .f32 := broadcastInDim S1x512 ![] bcast_S_S1x512 main_cst_2
  let main_v12 : IVec S1x512 1 := cmpf .oeq main_v10 main_v11
  (main_v3, main_v6, main_v9, main_v12)
-- ==== Pre_finite31.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S8192x1024 .f32) (main_v2 : IVec S8192x1024 1) (main_v6 : IVec S8192x2816 1) (main_v10 : IVec S2816x1024 1) (main_v13 : IVec S1x1024 1) (main_v16 : IVec S1x1024 1) (main_v17 : FVec F S1x1024 .f32) (main_cst_4 : FVec F S_ .f32) : IVec S8192x1024 1 × IVec S8192x2816 1 × IVec S2816x1024 1 × IVec S1x1024 1 × IVec S1x1024 1 × IVec S1x1024 1 × IVec S8192x1024 1 :=
  let main_v18 : FVec F S1x1024 .f32 := broadcastInDim S1x1024 ![] bcast_S_S1x1024 main_cst_4
  let main_v19 : IVec S1x1024 1 := cmpf .oeq main_v17 main_v18
  let main_v20 : FVec F S8192x1024 .f32 := subf main_arg6 main_arg6
  let main_cst_5 : FVec F S_ .f32 := constant S_ .f32 0x00000000#32
  let main_v21 : FVec F S8192x1024 .f32 := broadcastInDim S8192x1024 ![] bcast_S_S8192x1024 main_cst_5
  let main_v22 : IVec S8192x1024 1 := cmpf .oeq main_v20 main_v21
  (main_v2, main_v6, main_v10, main_v13, main_v16, main_v19, main_v22)

def fn {F : FTy → Type} [FloatOps F] (main_arg0 : FVec F S8192x1024 .f32) (main_arg1 : FVec F S8192x2816 .bf16) (main_arg2 : FVec F S2816x1024 .bf16) (main_arg3 : FVec F S1x1024 .f32) (main_arg4 : FVec F S1x1024 .f32) (main_arg5 : FVec F S1x1024 .f32) (main_arg6 : FVec F S8192x1024 .f32) : IVec S8192x1024 1 × IVec S8192x2816 1 × IVec S2816x1024 1 × IVec S1x1024 1 × IVec S1x1024 1 × IVec S1x1024 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x2816 .f32 := (extf .f32 · bitsLt_bf16_f32) main_arg1
  let main_v4 : FVec F S8192x2816 .f32 := subf main_v3 main_v3
  let main_cst_0 : FVec F S_ .f32 := constant S_ .f32 0x00000000#32
  let main_v5 : FVec F S8192x2816 .f32 := broadcastInDim S8192x2816 ![] bcast_S_S8192x2816 main_cst_0
  let main_v6 : IVec S8192x2816 1 := cmpf .oeq main_v4 main_v5
  let main_v7 : FVec F S2816x1024 .f32 := (extf .f32 · bitsLt_bf16_f32) main_arg2
  let main_v8 : FVec F S2816x1024 .f32 := subf main_v7 main_v7
  let main_cst_1 : FVec F S_ .f32 := constant S_ .f32 0x00000000#32
  let main_v9 : FVec F S2816x1024 .f32 := broadcastInDim S2816x1024 ![] bcast_S_S2816x1024 main_cst_1
  let main_v10 : IVec S2816x1024 1 := cmpf .oeq main_v8 main_v9
  let main_v11 : FVec F S1x1024 .f32 := subf main_arg3 main_arg3
  let main_cst_2 : FVec F S_ .f32 := constant S_ .f32 0x00000000#32
  let main_v12 : FVec F S1x1024 .f32 := broadcastInDim S1x1024 ![] bcast_S_S1x1024 main_cst_2
  let main_v13 : IVec S1x1024 1 := cmpf .oeq main_v11 main_v12
  let main_v14 : FVec F S1x1024 .f32 := subf main_arg4 main_arg4
  let main_cst_3 : FVec F S_ .f32 := constant S_ .f32 0x00000000#32
  let main_v15 : FVec F S1x1024 .f32 := broadcastInDim S1x1024 ![] bcast_S_S1x1024 main_cst_3
  let main_v16 : IVec S1x1024 1 := cmpf .oeq main_v14 main_v15
  let main_v17 : FVec F S1x1024 .f32 := subf main_arg5 main_arg5
  let main_cst_4 : FVec F S_ .f32 := constant S_ .f32 0x00000000#32
  fn_part1 (F := F) main_arg6 main_v2 main_v6 main_v10 main_v13 main_v16 main_v17 main_cst_4
-- ==== Kernel.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S_ : Shape := ⟨0, ![]⟩
abbrev S1x1024 : Shape := ⟨2, ![1, 1024]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .bf16⟩
  | .hbm, ⟨74, _⟩ => ⟨S8192x1024, .bf16⟩
  | .hbm, ⟨75, _⟩ => ⟨S8192x1024, .bf16⟩
  | .hbm, ⟨76, _⟩ => ⟨S8192x1024, .bf16⟩
  | .hbm, ⟨77, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel2.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1024x512, .bf16⟩
  | .local _ .vmem, ⟨9, _⟩ => ⟨S1024x512, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x2816 : Shape := ⟨2, ![8192, 2816]⟩
abbrev S1024x2816 : Shape := ⟨2, ![1024, 2816]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S1024x5632, .bf16⟩
  | .hbm, ⟨5, _⟩ => ⟨S8192x5632, .bf16⟩
  | .hbm, ⟨6, _⟩ => ⟨S_, .f32⟩
  | .hbm, ⟨7, _⟩ => ⟨S8192x1024, .f32⟩
  | .hbm, ⟨8, _⟩ => ⟨S1024x5632, .f32⟩
  | .hbm, ⟨9, _⟩ => ⟨S8192x5632, .f32⟩
  | .hbm, ⟨10, _⟩ => ⟨S8192x5632, .f32⟩
  | .hbm, ⟨11, _⟩ => ⟨S8192x1024, .f32⟩
  | .hbm, ⟨12, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x512, .bf16⟩
  | .local _ .vmem, ⟨21, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S1024x3584 : Shape := ⟨2, ![1024, 3584]⟩
abbrev S8192x3584 : Shape := ⟨2, ![8192, 3584]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x1024, .bf16⟩
  | .hbm, ⟨9, _⟩ => ⟨S1024x1024, .bf16⟩
  | .hbm, ⟨10, _⟩ => ⟨S1024x3584, .bf16⟩
  | .hbm, ⟨11, _⟩ => ⟨S8192x3584, .bf16⟩
  | .hbm, ⟨12, _⟩ => ⟨S_, .f32⟩
  | .hbm, ⟨13, _⟩ => ⟨S8192x1024, .f32⟩
  | .hbm, ⟨14, _⟩ => ⟨S1024x3584, .f32⟩
  | .hbm, ⟨15, _⟩ => ⟨S8192x3584, .f32⟩
  | .hbm, ⟨16, _⟩ => ⟨S8192x3584, .f32⟩
  | .hbm, ⟨17, _⟩ => ⟨S8192x1024, .f32⟩
  | .hbm, ⟨18, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S8x1024x448 : Shape := ⟨3, ![8, 1024, 448]⟩
abbrev S512x1024 : Shape := ⟨2, ![512, 1024]⟩
abbrev S512x512 : Shape := ⟨2, ![512, 512]⟩
abbrev S1024x3584 : Shape := ⟨2, ![1024, 3584]⟩
abbrev S1024x512 : Shape := ⟨2, ![1024, 512]⟩
abbrev S1024x1024 : Shape := ⟨2, ![1024, 1024]⟩
abbrev S1024x448 : Shape := ⟨2, ![1024, 448]⟩
abbrev S1x1024x448 : Shape := ⟨3, ![1, 1024, 448]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x1024, .bf16⟩
  | .hbm, ⟨6, _⟩ => ⟨S8x1024x448, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x1024x448, .bf16⟩
  | .local _ .vmem, ⟨13, _⟩ => ⟨S1024x3584, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v39 : BitVec 1 := Scalar.cmpi .eq arg0 c15_i32
  let v40 : BitVec 32 := Scalar.extui v39
  let c0_i32_32 : BitVec 32 := 0#32
  let v41 : BitVec 1 := Scalar.cmpi .ne v40 c0_i32_32
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x448 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x1024 : Shape := ⟨2, ![8192, 1024]⟩
abbrev S8192x512 : Shape := ⟨2, ![8192, 512]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩
abbrev S1024x8x448 : Shape := ⟨3, ![1024, 8, 448]⟩
abbrev S8x1024x448 : Shape := ⟨3, ![8, 1024, 448]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x1024, .bf16⟩
  | .hbm, ⟨6, _⟩ => ⟨S8192x3584, .bf16⟩
  | .hbm, ⟨7, _⟩ => ⟨S_, .f32⟩
  | .hbm, ⟨8, _⟩ => ⟨S1024x3584, .f32⟩
  | .hbm, ⟨9, _⟩ => ⟨S8192x1024, .f32⟩
  | .hbm, ⟨10, _⟩ => ⟨S8192x3584, .f32⟩
  | .hbm, ⟨11, _⟩ => ⟨S8192x3584, .f32⟩
  | .hbm, ⟨12, _⟩ => ⟨S3584x1024, .f32⟩
  | .hbm, ⟨13, _⟩ => ⟨S1024x3584, .f32⟩
  | .hbm, ⟨14, _⟩ => ⟨S1024x3584, .bf16⟩
  | .hbm, ⟨15, _⟩ => ⟨S1024x8x448, .bf16⟩
  | .hbm, ⟨16, _⟩ => ⟨S8x1024x448, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S512x1024, .bf16⟩
  | .hbm, ⟨3, _⟩ => ⟨S512x1024, .bf16⟩
  | .hbm, ⟨4, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S512x1024, .bf16⟩
  | .hbm, ⟨3, _⟩ => ⟨S512x1024, .bf16⟩
  | .hbm, ⟨4, _⟩ => ⟨S_, .f32⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S512x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S8x512x128 : Shape := ⟨3, ![8, 512, 128]⟩
abbrev S512x512 : Shape := ⟨2, ![512, 512]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8x512x128, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S8x512x128, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference12Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x8x128, .bf16⟩
  | .hbm, ⟨11, _⟩ => ⟨S8x512x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S512x1024, .bf16⟩
  | .hbm, ⟨3, _⟩ => ⟨S8192x1024, .bf16⟩
  | .hbm, ⟨4, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S512x1024, .bf16⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .bf16⟩
  | .hbm, ⟨7, _⟩ => ⟨S8192x512, .f32⟩
  | .hbm, ⟨8, _⟩ => ⟨S512x1024, .f32⟩
  | .hbm, ⟨9, _⟩ => ⟨S8192x1024, .f32⟩
  | .hbm, ⟨10, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x512 : Shape := ⟨2, ![1024, 512]⟩
abbrev S1024x1024 : Shape := ⟨2, ![1024, 1024]⟩
abbrev S1x512 : Shape := ⟨2, ![1, 512]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S1024x512, .bf16⟩
  | .hbm, ⟨5, _⟩ => ⟨S1024x512, .bf16⟩
  | .hbm, ⟨6, _⟩ => ⟨S1024x1024, .bf16⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S8192x1024, .bf16⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x1024, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference16Ideal.lean ====
abbrev S8192x1024 : Shape := ⟨2, ![8192, 1024]⟩
abbrev S1x1024 : Shape := ⟨2, ![1, 1024]⟩
abbrev S1024x512 : Shape := ⟨2, ![1024, 512]⟩
abbrev S1024x1024 : Shape := ⟨2, ![1024, 1024]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8192x512 : Shape := ⟨2, ![8192, 512]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S1024x512, .bf16⟩
  | .hbm, ⟨5, _⟩ => ⟨S1024x512, .bf16⟩
  | .hbm, ⟨6, _⟩ => ⟨S1024x1024, .bf16⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1024x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1024x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S1024x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1024x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x1024, .bf16⟩
  | .hbm, ⟨65, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S8192x1024, .bf16⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S1024x1024, .f32⟩
  | .hbm, ⟨41, _⟩ => ⟨S8192x1024, .f32⟩
  | .hbm, ⟨42, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel19.lean ====
abbrev S8x1024x448 : Shape := ⟨3, ![8, 1024, 448]⟩
abbrev S1024x448 : Shape := ⟨2, ![1024, 448]⟩
abbrev S8x128x448 : Shape := ⟨3, ![8, 128, 448]⟩
abbrev S128x448 : Shape := ⟨2, ![128, 448]⟩
abbrev S1x128x448 : Shape := ⟨3, ![1, 128, 448]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x448, .bf16⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S1024x448, .f32⟩
  | .hbm, ⟨5, _⟩ => ⟨S1024x448, .f32⟩
  | .hbm, ⟨6, _⟩ => ⟨S1024x448, .f32⟩
  | .hbm, ⟨7, _⟩ => ⟨S1024x448, .f32⟩
  | .local _ .vmem, ⟨0, _⟩ => ⟨S8x128x448, .bf16⟩
  | .local _ .vmem, ⟨1, _⟩ => ⟨S8x128x448, .bf16⟩
  | .local _ .vmem, ⟨2, _⟩ => ⟨S128x448, .f32⟩
  | .local _ .vmem, ⟨3, _⟩ => ⟨S128x448, .f32⟩
  | .local _ .vmem, ⟨4, _⟩ => ⟨S128x448, .f32⟩
  | .local _ .vmem, ⟨5, _⟩ => ⟨S128x448, .f32⟩
  | .local _ .vmem, ⟨6, _⟩ => ⟨S128x448, .f32⟩
  | .local _ .vmem, ⟨7, _⟩ => ⟨S128x448, .f32⟩
  | .local _ .vmem, ⟨8, _⟩ => ⟨S128x448, .f32⟩
  | .local _ .vmem, ⟨9, _⟩ => ⟨S128x448, .f32⟩
  | .local _ .vmem, ⟨10, _⟩ => ⟨S128x448, .f32⟩
  | .local _ .vmem, ⟨11, _⟩ => ⟨S128x448, .f32⟩
  | .local _ .vmem, ⟨12, _⟩ => ⟨S128x448, .f32⟩
  | .local _ .vmem, ⟨13, _⟩ => ⟨S128x448, .f32⟩
  | .local _ .vmem, ⟨14, _⟩ => ⟨S128x448, .f32⟩
  | .local _ .vmem, ⟨15, _⟩ => ⟨S128x448, .f32⟩
  | _, _ => ⟨S8x1024x448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x1024x448 : Shape := ⟨3, ![8, 1024, 448]⟩
abbrev S1024x448 : Shape := ⟨2, ![1024, 448]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x448, .bf16⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S8x1024x448, .f32⟩
  | .hbm, ⟨5, _⟩ => ⟨S_, .f32⟩
  | .hbm, ⟨6, _⟩ => ⟨S1024x448, .f32⟩
  | .hbm, ⟨7, _⟩ => ⟨S_, .f32⟩
  | .hbm, ⟨8, _⟩ => ⟨S1024x448, .f32⟩
  | .hbm, ⟨9, _⟩ => ⟨S1024x448, .f32⟩
  | .hbm, ⟨10, _⟩ => ⟨S_, .f32⟩
  | .hbm, ⟨11, _⟩ => ⟨S1024x448, .f32⟩
  | .hbm, ⟨12, _⟩ => ⟨S1024x448, .f32⟩
  | .hbm, ⟨13, _⟩ => ⟨S1024x448, .f32⟩
  | .hbm, ⟨14, _⟩ => ⟨S_, .f32⟩
  | .hbm, ⟨15, _⟩ => ⟨S1024x448, .f32⟩
  | .hbm, ⟨16, _⟩ => ⟨S1024x448, .f32⟩
  | .hbm, ⟨17, _⟩ => ⟨S1024x448, .f32⟩
  | .hbm, ⟨18, _⟩ => ⟨S_, .f32⟩
  | .hbm, ⟨19, _⟩ => ⟨S1024x448, .f32⟩
  | .hbm, ⟨20, _⟩ => ⟨S1024x448, .f32⟩
  | .hbm, ⟨21, _⟩ => ⟨S1024x448, .f32⟩
  | .hbm, ⟨22, _⟩ => ⟨S_, .f32⟩
  | .hbm, ⟨23, _⟩ => ⟨S1024x448, .f32⟩
  | .hbm, ⟨24, _⟩ => ⟨S1024x448, .f32⟩
  | .hbm, ⟨25, _⟩ => ⟨S_, .f32⟩
  | .hbm, ⟨26, _⟩ => ⟨S1024x448, .f32⟩
  | .hbm, ⟨27, _⟩ => ⟨S1024x448, .f32⟩
  | .hbm, ⟨28, _⟩ => ⟨S1024x448, .f32⟩
  | .hbm, ⟨29, _⟩ => ⟨S_, .f32⟩
  | .hbm, ⟨30, _⟩ => ⟨S1024x448, .f32⟩
  | .hbm, ⟨31, _⟩ => ⟨S1024x448, .f32⟩
  | .hbm, ⟨32, _⟩ => ⟨S1024x448, .f32⟩
  | .hbm, ⟨33, _⟩ => ⟨S_, .f32⟩
  | .hbm, ⟨34, _⟩ => ⟨S1024x448, .f32⟩
  | .hbm, ⟨35, _⟩ => ⟨S1024x448, .f32⟩
  | .hbm, ⟨36, _⟩ => ⟨S1024x448, .f32⟩
  | .hbm, ⟨37, _⟩ => ⟨S_, .f32⟩
  | .hbm, ⟨38, _⟩ => ⟨S1024x448, .f32⟩
  | .hbm, ⟨39, _⟩ => ⟨S1024x448, .f32⟩
  | _, _ => ⟨S8x1024x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x1024x704 : Shape := ⟨3, ![8, 1024, 704]⟩
abbrev S1024x704 : Shape := ⟨2, ![1024, 704]⟩
abbrev S8x64x704 : Shape := ⟨3, ![8, 64, 704]⟩
abbrev S64x704 : Shape := ⟨2, ![64, 704]⟩
abbrev S1x64x704 : Shape := ⟨3, ![1, 64, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x64x704, .bf16⟩
  | .local _ .vmem, ⟨1, _⟩ => ⟨S8x64x704, .bf16⟩
  | .local _ .vmem, ⟨2, _⟩ => ⟨S64x704, .f32⟩
  | .local _ .vmem, ⟨3, _⟩ => ⟨S64x704, .f32⟩
  | .local _ .vmem, ⟨4, _⟩ => ⟨S64x704, .f32⟩
  | .local _ .vmem, ⟨5, _⟩ => ⟨S64x704, .f32⟩
  | .local _ .vmem, ⟨6, _⟩ => ⟨S64x704, .f32⟩
  | .local _ .vmem, ⟨7, _⟩ => ⟨S64x704, .f32⟩
  | .local _ .vmem, ⟨8, _⟩ => ⟨S64x704, .f32⟩
  | .local _ .vmem, ⟨9, _⟩ => ⟨S64x704, .f32⟩
  | .local _ .vmem, ⟨10, _⟩ => ⟨S64x704, .f32⟩
  | .local _ .vmem, ⟨11, _⟩ => ⟨S64x704, .f32⟩
  | .local _ .vmem, ⟨12, _⟩ => ⟨S64x704, .f32⟩
  | .local _ .vmem, ⟨13, _⟩ => ⟨S64x704, .f32⟩
  | .local _ .vmem, ⟨14, _⟩ => ⟨S64x704, .f32⟩
  | .local _ .vmem, ⟨15, _⟩ => ⟨S64x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference26Ideal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S768x1024, .f32⟩
  | .hbm, ⟨15, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192x1024, .f32⟩
  | .hbm, ⟨89, _⟩ => ⟨S8192x1024, .f32⟩
  | .hbm, ⟨90, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel29.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference29Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 185
  | .vmem => 0
  | .smem => 0
  | _ => 0

abbrev hbmTy0_0 (i : Nat) : BufTy := match i % 128 with
  | 0 => ⟨S8192x1024, .bf16⟩
  | 1 => ⟨S8192x1024, .f32⟩
  | 2 => ⟨S8192x1024, .f32⟩
  | 3 => ⟨S8192x1024, .f32⟩
  | 4 => ⟨S8192x1024, .bf16⟩
  | 5 => ⟨S1x1024, .f32⟩
  | 6 => ⟨S1x1024, .f32⟩
  | 7 => ⟨S1x1024, .f32⟩
  | 8 => ⟨S8192x1024, .f32⟩
  | 9 => ⟨S_, .f32⟩
  | 10 => ⟨S1x1024, .f32⟩
  | 11 => ⟨S_, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S_, .f32⟩
  | 45 => ⟨S1x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S_, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S8192x1, .f32⟩
  | 65 => ⟨S8192x1024, .f32⟩
  | 66 => ⟨S8192x1024, .f32⟩
  | 67 => ⟨S8192x1, .f32⟩
  | 68 => ⟨S8192x1024, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192, .f32⟩
  | 77 => ⟨S8192x1024, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S8192x1024, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x1024, .f32⟩
  | 121 => ⟨S8192x1024, .f32⟩
  | 122 => ⟨S_, .f32⟩
  | 123 => ⟨S8192x1, .f32⟩
  | 124 => ⟨S8192x1, .f32⟩
  | 125 => ⟨S8192x1, .f32⟩
  | 126 => ⟨S8192x1, .f32⟩
  | 127 => ⟨S_, .f32⟩
  | _ => ⟨S8192x1024, .bf16⟩

abbrev hbmTy0_1 (i : Nat) : BufTy := match i % 128 with
  | 0 => ⟨S8192x1, .f32⟩
  | 1 => ⟨S8192x1, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S1024, .f32⟩
  | 55 => ⟨S1x1024, .f32⟩
  | 56 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_20 : Ref sig .tc := ⟨.hbm, 102, rfl⟩
abbrev main_v73 : Ref sig .tc := ⟨.hbm, 103, rfl⟩
abbrev main_v74 : Ref sig .tc := ⟨.hbm, 104, rfl⟩
abbrev main_cst_21 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_22 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_cst_24 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_27 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_28 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_29 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_30 : Ref sig .tc := ⟨.hbm, 153, rfl⟩
abbrev main_v114 : Ref sig .tc := ⟨.hbm, 154, rfl⟩
abbrev main_v115 : Ref sig .tc := ⟨.hbm, 155, rfl⟩
abbrev main_cst_31 : Ref sig .tc := ⟨.hbm, 156, rfl⟩
abbrev main_v116 : Ref sig .tc := ⟨.hbm, 157, rfl⟩
abbrev main_v117 : Ref sig .tc := ⟨.hbm, 158, rfl⟩
abbrev main_cst_32 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_33 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_34 : Ref sig .tc := ⟨.hbm, 169, rfl⟩
abbrev main_v126 : Ref sig .tc := ⟨.hbm, 170, rfl⟩
abbrev main_v127 : Ref sig .tc := ⟨.hbm, 171, rfl⟩
abbrev main_cst_35 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_36 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩

abbrev nD : Nat := 1
abbrev τ : Topo := Topo.v7x

variable {F : FTy → Type} [FloatOps F]
-- ==== Kernel30.lean ====
abbrev S8192x512 : Shape := ⟨2, ![8192, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S1x512, .f32⟩
  | .hbm, ⟨6, _⟩ => ⟨S1x512, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S8192x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x512, .f32⟩
  | .hbm, ⟨70, _⟩ => ⟨S8192x512, .f32⟩
  | .hbm, ⟨71, _⟩ => ⟨S8192x1, .f32⟩
  | .hbm, ⟨72, _⟩ => ⟨S8192x512, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x512, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x512, .f32⟩
  | .hbm, ⟨95, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Kernel31.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1x1 : Shape := ⟨2, ![1, 1]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S1x1, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference31Ideal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S_, .f32⟩
  | .hbm, ⟨110, _⟩ => ⟨S8192, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S_, .f32⟩
  | .hbm, ⟨119, _⟩ => ⟨S1024, .f32⟩
  | .hbm, ⟨120, _⟩ => ⟨S1x1024, .f32⟩
  | .hbm, ⟨121, _⟩ => ⟨S8192x1024, .bf16⟩
  | .hbm, ⟨122, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_cst_12 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_cst_19 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_24 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel33.lean ====
abbrev S32x64 : Shape := ⟨2, ![32, 64]⟩
abbrev S32x1 : Shape := ⟨2, ![32, 1]⟩

abbrev nBuf : Space → Nat
  | .hbm => 7
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference33Ideal.lean ====
abbrev S32x64 : Shape := ⟨2, ![32, 64]⟩
abbrev S32x1 : Shape := ⟨2, ![32, 1]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S_, .f32⟩
  | .hbm, ⟨4, _⟩ => ⟨S32x64, .f32⟩
  | .hbm, ⟨5, _⟩ => ⟨S32x64, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S_, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel34.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference34Ideal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel35.lean ====
abbrev S8x1472x128 : Shape := ⟨3, ![8, 1472, 128]⟩
abbrev S1472x128 : Shape := ⟨2, ![1472, 128]⟩
abbrev S1x1472x128 : Shape := ⟨3, ![1, 1472, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1472x128, .f32⟩
  | .hbm, ⟨1, _⟩ => ⟨S1472x128, .f32⟩
  | .local _ .vmem, ⟨0, _⟩ => ⟨S8x1472x128, .f32⟩
  | .local _ .vmem, ⟨1, _⟩ => ⟨S1472x128, .f32⟩
  | _, _ => ⟨S8x1472x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1472x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1472x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference35Ideal.lean ====
abbrev S8x1472x128 : Shape := ⟨3, ![8, 1472, 128]⟩
abbrev S_ : Shape := ⟨0, ![]⟩
abbrev S1472x128 : Shape := ⟨2, ![1472, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1472x128, .f32⟩
  | .hbm, ⟨1, _⟩ => ⟨S_, .f32⟩
  | .hbm, ⟨2, _⟩ => ⟨S1472x128, .f32⟩
  | _, _ => ⟨S8x1472x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel36.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference36Ideal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Merge.Spec.lean ====
/-
  The gradient of the gated merge `sigmoid(g_s) · (y_a · sigmoid(y_b)) + sigmoid(g_c) · y_c`, written out element by
  element over the extended reals: the seven functions that the kernel and the reference are both shown to compute.
-/
module

public import Idealize.ShloMosaic.Lib.Pointwise

@[expose] public section

noncomputable section

namespace Cert.Merge

open Idealize.ShloMosaic

/-- A matrix of extended reals with `r` rows and `k` columns. -/
abbrev Mat (r k : ℕ) : Type := (⟨2, ![r, k]⟩ : Shape).Idx → EReal

/-- The logistic function `1 / (1 + exp (-x))`. -/
def sg (x : EReal) : EReal := Ideal.div 1 (1 + Ideal.exp (-x))

/-- The gradient with respect to `y_a`: the cotangent through both gates. -/
def dYa (dm yb gs : Mat 8192 1024) : Mat 8192 1024 := fun i => dm i * sg (gs i) * sg (yb i)

/-- The gradient with respect to `y_b`: through the inner gate's derivative `s (1 - s)`. -/
def dYb (dm ya yb gs : Mat 8192 1024) : Mat 8192 1024 := fun i =>
  dm i * sg (gs i) * ya i * sg (yb i) * (1 - sg (yb i))

/-- The gradient with respect to `y_c`. -/
def dYc (dm gc : Mat 8192 1024) : Mat 8192 1024 := fun i => dm i * sg (gc i)

/-- The gradient with respect to the gate `g_s`. -/
def dGs (dm ya yb gs : Mat 8192 1024) : Mat 8192 1024 := fun i =>
  dm i * (ya i * sg (yb i)) * sg (gs i) * (1 - sg (gs i))

/-- The gradient with respect to the gate `g_c`. -/
def dGc (dm yc gc : Mat 8192 1024) : Mat 8192 1024 := fun i => dm i * yc i * sg (gc i) * (1 - sg (gc i))

/-- The sum of every column. -/
def colSum (f : Mat 8192 1024) : Mat 1 1024 := fun j => ∑ r : Fin 8192, f (ix2 r (j 1))

end Cert.Merge

end
-- ==== Proof.Merge.Kernel.lean ====
/-
  The kernel of the gradient of the merge computes the seven functions of `Merge/Spec.lean`: five blocks of rows point
  by point, and two column sums accumulated over the points.
-/
module

public import proofs.«01_k».proof.Proof.Merge.Spec
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Merge

open Cert.KernelIdeal Cert.KernelIdeal.Gen Idealize.ShloMosaic Idealize.ShloMosaic.TcCoe Idealize.SL.Sem Cert.Merge
open Idealize.ShloMosaic.Pipeline (Dat)

variable (m : (ℓ : Loc nD τ sig) → Buf (Elt Ideal) ℓ)

/-- The block of every streamed array at point `t` is its `t`-th band of 512 rows. -/
theorem idx : ∀ t : Fin cfg0.N, win0_0.index t = ![t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧
    win0_8.index t = ![t.val, 0] ∧ win0_9.index t = ![t.val, 0] ∧ win0_10.index t = ![t.val, 0] :=
  (by decide +kernel : ∀ t : Fin grid0.N, _)

/-- Output 0: the gradient of `y_a`. -/
theorem out6 (c : Dev nD) : (dats m 0 c).arrAt 6 cfg0.N =
    dYa (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6]
  idx_vars y
  by_cases h : t.val % 16 = 0
  · rw [outsAt0_A m c t h]; frame_out
    unfold_payloads
    pointwise [dYa, sg]
    simp only [zero_sub]
    blk_point [iblk, V, idx t]
  · rw [outsAt0_B m c t h]; frame_out
    unfold_payloads
    pointwise [dYa, sg]
    simp only [zero_sub]
    blk_point [iblk, V, idx t]

/-- Output 1: the gradient of `y_b`. -/
theorem out7 (c : Dev nD) : (dats m 0 c).arrAt 7 cfg0.N =
    dYb (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  idx_vars y
  by_cases h : t.val % 16 = 0
  · rw [outsAt0_A m c t h]; frame_out
    unfold_payloads
    pointwise [dYb, sg]
    simp only [zero_sub]
    blk_point [iblk, V, idx t]
  · rw [outsAt0_B m c t h]; frame_out
    unfold_payloads
    pointwise [dYb, sg]
    simp only [zero_sub]
    blk_point [iblk, V, idx t]

/-- Output 2: the gradient of `y_c`. -/
theorem out8 (c : Dev nD) : (dats m 0 c).arrAt 8 cfg0.N =
    dYc (m ((c : Thread nD τ).loc main_arg0)) (m ((c : Thread nD τ).loc main_arg5)) := by
  refine (dats m 0 c).arrAt_eq_of_covers 8 _ (by decide +kernel) fun t hf y => ?_
  blk_simp
  rw [after0_8]
  idx_vars y
  by_cases h : t.val % 16 = 0
  · rw [outsAt0_A m c t h]; frame_out
    unfold_payloads
    pointwise [dYc, sg]
    simp only [zero_sub]
    blk_point [iblk, V, idx t]
  · rw [outsAt0_B m c t h]; frame_out
    unfold_payloads
    pointwise [dYc, sg]
    simp only [zero_sub]
    blk_point [iblk, V, idx t]

/-- Output 3: the gradient of the gate `g_s`. -/
theorem out9 (c : Dev nD) : (dats m 0 c).arrAt 9 cfg0.N =
    dGs (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]
  idx_vars y
  by_cases h : t.val % 16 = 0
  · rw [outsAt0_A m c t h]; frame_out
    unfold_payloads
    pointwise [dGs, sg]
    simp only [zero_sub]
    blk_point [iblk, V, idx t]
  · rw [outsAt0_B m c t h]; frame_out
    unfold_payloads
    pointwise [dGs, sg]
    simp only [zero_sub]
    blk_point [iblk, V, idx t]

/-- Output 4: the gradient of the gate `g_c`. -/
theorem out10 (c : Dev nD) : (dats m 0 c).arrAt 10 cfg0.N =
    dGc (m ((c : Thread nD τ).loc main_arg0)) (m ((c : Thread nD τ).loc main_arg3)) (m ((c : Thread nD τ).loc main_arg5)) := by
  refine (dats m 0 c).arrAt_eq_of_covers 10 _ (by decide +kernel) fun t hf y => ?_
  blk_simp
  rw [after0_10]
  idx_vars y
  by_cases h : t.val % 16 = 0
  · rw [outsAt0_A m c t h]; frame_out
    unfold_payloads
    pointwise [dGc, sg]
    simp only [zero_sub]
    blk_point [iblk, V, idx t]
  · rw [outsAt0_B m c t h]; frame_out
    unfold_payloads
    pointwise [dGc, sg]
    simp only [zero_sub]
    blk_point [iblk, V, idx t]

/-- The row of the whole array that the `r`-th row of the block at point `t` is. -/
def row (t : Fin cfg0.N) (r : Fin 512) : Fin 8192 :=
  ⟨t.val * 512 + r.val, by have := t.isLt; have h : cfg0.N = 16 := N_0; have := r.isLt; omega⟩

/-- The sum over one block's rows. -/
def blkSum (G : Mat 8192 1024) (t : Fin cfg0.N) (j : S1x1024.Idx) : EReal := ∑ r : Fin 512, G (ix2 (row t r) (j 1))

/-- The blocks' sums add up to the sum of the whole column. -/
theorem sum_blkSum (G : Mat 8192 1024) (j : S1x1024.Idx) : (0 : EReal) + ∑ t, blkSum G t j = colSum G j := by
  rw [zero_add]
  have h : cfg0.N = 16 := N_0
  exact Fin.sum_mul_add_congr (F := fun t r => G (ix2 (row t r) (j 1))) (f := fun l => G (ix2 l (j 1)))
    (fun s k hl => rfl) (by rw [h])

/-- Output 5: the column sums of output 3, accumulated over the sixteen points. -/
theorem out11 (c : Dev nD) : (dats m 0 c).arrAt 11 cfg0.N =
    colSum (dGs (m ((c : Thread nD τ).loc main_arg0)) (m ((c : Thread nD τ).loc main_arg1)) (m ((c : Thread nD τ).loc main_arg2)) (m ((c : Thread nD τ).loc main_arg4))) := by
  refine (dats m 0 c).arrAt_eq_of_after_last 11 t0_15 (by decide +kernel) _ fun j => ?_
  blk_simp
  rw [after0_11]
  refine (Pipeline.eq_sum_fin_of_reset_step_apply_last (fun n h => (outsAt0 m c n h).2.2.2.2.2.1) 16 (fun _ => (0 : EReal))
    (blkSum (dGs (m ((c : Thread nD τ).loc main_arg0)) (m ((c : Thread nD τ).loc main_arg1)) (m ((c : Thread nD τ).loc main_arg2)) (m ((c : Thread nD τ).loc main_arg4))))
    (fun t h j => ?_) (fun t h j => ?_) N_0.le t0_15 rfl _).trans (sum_blkSum _ _)
  · rw [outsAt0_A m c t h]; frame_out
    unfold_payloads
    idx_vars j
    pointwise [sg]
    simp only [zero_sub, zero_add]
    refine Finset.sum_congr rfl fun x _ => ?_
    simp only [dGs, sg]
    blk_point [iblk, V, idx t, row]
  · rw [outsAt0_B m c t h]; frame_out
    unfold_payloads
    idx_vars j
    pointwise [sg]
    simp only [zero_sub]
    refine congrArg (_ + ·) (Finset.sum_congr rfl fun x _ => ?_)
    simp only [dGs, sg]
    blk_point [iblk, V, idx t, row]

/-- Output 6: the column sums of output 4, accumulated over the sixteen points. -/
theorem out12 (c : Dev nD) : (dats m 0 c).arrAt 12 cfg0.N =
    colSum (dGc (m ((c : Thread nD τ).loc main_arg0)) (m ((c : Thread nD τ).loc main_arg3)) (m ((c : Thread nD τ).loc main_arg5))) := by
  refine (dats m 0 c).arrAt_eq_of_after_last 12 t0_15 (by decide +kernel) _ fun j => ?_
  blk_simp
  rw [after0_12]
  refine (Pipeline.eq_sum_fin_of_reset_step_apply_last (fun n h => (outsAt0 m c n h).2.2.2.2.2.2) 16 (fun _ => (0 : EReal))
    (blkSum (dGc (m ((c : Thread nD τ).loc main_arg0)) (m ((c : Thread nD τ).loc main_arg3)) (m ((c : Thread nD τ).loc main_arg5))))
    (fun t h j => ?_) (fun t h j => ?_) N_0.le t0_15 rfl _).trans (sum_blkSum _ _)
  · rw [outsAt0_A m c t h]; frame_out
    unfold_payloads
    idx_vars j
    pointwise [sg]
    simp only [zero_sub, zero_add]
    refine Finset.sum_congr rfl fun x _ => ?_
    simp only [dGc, sg]
    blk_point [iblk, V, idx t, row]
  · rw [outsAt0_B m c t h]; frame_out
    unfold_payloads
    idx_vars j
    pointwise [sg]
    simp only [zero_sub]
    refine congrArg (_ + ·) (Finset.sum_congr rfl fun x _ => ?_)
    simp only [dGc, sg]
    blk_point [iblk, V, idx t, row]

/-- What the run of the kernel leaves: the seven functions of its arguments, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) =
        dYa (m ((c : Thread nD τ).loc main_arg0)) (m ((c : Thread nD τ).loc main_arg2)) (m ((c : Thread nD τ).loc main_arg4))
      ∧ r.2.mem ((c : Thread nD τ).loc main_v0_1) =
        dYb (m ((c : Thread nD τ).loc main_arg0)) (m ((c : Thread nD τ).loc main_arg1)) (m ((c : Thread nD τ).loc main_arg2)) (m ((c : Thread nD τ).loc main_arg4))
      ∧ r.2.mem ((c : Thread nD τ).loc main_v0_2) =
        dYc (m ((c : Thread nD τ).loc main_arg0)) (m ((c : Thread nD τ).loc main_arg5))
      ∧ r.2.mem ((c : Thread nD τ).loc main_v0_3) =
        dGs (m ((c : Thread nD τ).loc main_arg0)) (m ((c : Thread nD τ).loc main_arg1)) (m ((c : Thread nD τ).loc main_arg2)) (m ((c : Thread nD τ).loc main_arg4))
      ∧ r.2.mem ((c : Thread nD τ).loc main_v0_4) =
        dGc (m ((c : Thread nD τ).loc main_arg0)) (m ((c : Thread nD τ).loc main_arg3)) (m ((c : Thread nD τ).loc main_arg5))
      ∧ r.2.mem ((c : Thread nD τ).loc main_v0_5) =
        colSum (dGs (m ((c : Thread nD τ).loc main_arg0)) (m ((c : Thread nD τ).loc main_arg1)) (m ((c : Thread nD τ).loc main_arg2)) (m ((c : Thread nD τ).loc main_arg4)))
      ∧ r.2.mem ((c : Thread nD τ).loc main_v0_6) =
        colSum (dGc (m ((c : Thread nD τ).loc main_arg0)) (m ((c : Thread nD τ).loc main_arg3)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out6 m c),
    (h c).2.1.trans (out7 m c),
    (h c).2.2.1.trans (out8 m c),
    (h c).2.2.2.1.trans (out9 m c),
    (h c).2.2.2.2.1.trans (out10 m c),
    (h c).2.2.2.2.2.1.trans (out11 m c),
    (h c).2.2.2.2.2.2.1.trans (out12 m c),
    (h c).2.2.2.2.2.2.2⟩) (Cert.KernelIdeal.Value.run_blocks m ρ)

end Cert.KernelIdeal.Merge
end
-- ==== Proof.Merge.Reference.lean ====
/-
  The reference, `jax.vjp` of the merge, computes the seven functions of `Merge/Spec.lean`.
-/
module

public import proofs.«01_k».proof.Proof.Merge.Spec
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Merge

open Cert.ReferenceIdeal Cert.ReferenceIdeal.Gen Cert.ReferenceIdeal.Read Idealize.ShloMosaic Idealize.ShloMosaic.TcCoe Idealize.SL.Sem Cert.Merge

/-- The reference's gradient of `y_a`. -/
theorem ref0 (x0 x2 x4 : Mat 8192 1024) : val_main_v55 (F := Ideal) x0 x2 x4 = dYa x0 x2 x4 := by
  funext i
  idx_vars i
  simp only [val_main_v55_apply, val_main_v49_apply, val_main_v45_apply, val_main_v26_apply, val_main_v25_apply,
    val_main_cst_4_apply, val_main_v24_apply, val_main_v23_apply, val_main_cst_3_apply, val_main_v22_apply,
    val_main_v21_apply, val_main_v8_apply, val_main_v4_apply, val_main_v7_apply, val_main_v6_apply,
    val_main_cst_apply, val_main_v0_apply, val_main_v16_apply, val_main_v15_apply, val_main_cst_1_apply,
    val_main_v14_apply, val_main_v13_apply, val_main_cst_0_apply, val_main_v12_apply, val_main_v11_apply,
    val_main_v2_apply]
  pointwise [dYa, sg]
  ac_rfl

/-- The reference's gradient of `y_b`. -/
theorem ref1 (x0 x1 x2 x4 : Mat 8192 1024) : val_main_v56 (F := Ideal) x0 x1 x2 x4 = dYb x0 x1 x2 x4 := by
  funext i
  idx_vars i
  simp only [val_main_v56_apply, val_main_v50_apply, val_main_v48_apply, val_main_v1_apply, val_main_v45_apply,
    val_main_v26_apply, val_main_v25_apply, val_main_cst_4_apply, val_main_v24_apply, val_main_v23_apply,
    val_main_cst_3_apply, val_main_v22_apply, val_main_v21_apply, val_main_v8_apply, val_main_v4_apply,
    val_main_v7_apply, val_main_v6_apply, val_main_cst_apply, val_main_v0_apply, val_main_v19_apply,
    val_main_v16_apply, val_main_v15_apply, val_main_cst_1_apply, val_main_v14_apply, val_main_v13_apply,
    val_main_cst_0_apply, val_main_v12_apply, val_main_v11_apply, val_main_v2_apply, val_main_v18_apply,
    val_main_v17_apply, val_main_cst_2_apply]
  pointwise [dYb, sg]
  ac_rfl

/-- The reference's gradient of `y_c`. -/
theorem ref2 (x0 x5 : Mat 8192 1024) : val_main_v57 (F := Ideal) x0 x5 = dYc x0 x5 := by
  funext i
  idx_vars i
  simp only [val_main_v57_apply, val_main_v42_apply, val_main_v36_apply, val_main_v35_apply, val_main_cst_7_apply,
    val_main_v34_apply, val_main_v33_apply, val_main_cst_6_apply, val_main_v32_apply, val_main_v31_apply,
    val_main_v10_apply, val_main_v5_apply, val_main_v9_apply, val_main_v6_apply, val_main_cst_apply,
    val_main_v0_apply]
  pointwise [dYc, sg]
  ac_rfl

/-- The reference's gradient of the gate `g_s`. -/
theorem ref3 (x0 x1 x2 x4 : Mat 8192 1024) : val_main_v58 (F := Ideal) x0 x1 x2 x4 = dGs x0 x1 x2 x4 := by
  funext i
  idx_vars i
  simp only [val_main_v58_apply, val_main_v47_apply, val_main_v46_apply, val_main_v0_apply, val_main_v20_apply,
    val_main_v1_apply, val_main_v16_apply, val_main_v15_apply, val_main_cst_1_apply, val_main_v14_apply,
    val_main_v13_apply, val_main_cst_0_apply, val_main_v12_apply, val_main_v11_apply, val_main_v2_apply,
    val_main_v29_apply, val_main_v26_apply, val_main_v25_apply, val_main_cst_4_apply, val_main_v24_apply,
    val_main_v23_apply, val_main_cst_3_apply, val_main_v22_apply, val_main_v21_apply, val_main_v8_apply,
    val_main_v4_apply, val_main_v7_apply, val_main_v6_apply, val_main_cst_apply, val_main_v28_apply,
    val_main_v27_apply, val_main_cst_5_apply]
  pointwise [dGs, sg]
  ac_rfl

/-- The reference's gradient of the gate `g_c`. -/
theorem ref4 (x0 x3 x5 : Mat 8192 1024) : val_main_v59 (F := Ideal) x0 x3 x5 = dGc x0 x3 x5 := by
  funext i
  idx_vars i
  simp only [val_main_v59_apply, val_main_v44_apply, val_main_v43_apply, val_main_v0_apply, val_main_v3_apply,
    val_main_v39_apply, val_main_v36_apply, val_main_v35_apply, val_main_cst_7_apply, val_main_v34_apply,
    val_main_v33_apply, val_main_cst_6_apply, val_main_v32_apply, val_main_v31_apply, val_main_v10_apply,
    val_main_v5_apply, val_main_v9_apply, val_main_v6_apply, val_main_cst_apply, val_main_v38_apply,
    val_main_v37_apply, val_main_cst_8_apply]
  pointwise [dGc, sg]
  ac_rfl

/-- The term of the column sums of the gradient of `g_s`, read at a row. -/
theorem idx5 (i0 : Fin 1) (i1 : Fin 1024) (x : Fin 8192) : idx_main_v53 (idx_main_v54 (ix2 i0 i1)) x = ix2 x i1 := by
  funext a
  match a with
  | ⟨0, _⟩ => rfl
  | ⟨1, _⟩ => exact Fin.ext (by show i0.val * 1024 + i1.val = i1.val; omega)

/-- The reference's column sums of the gradient of the gate `g_s`. -/
theorem ref5 (x0 x1 x2 x4 : Mat 8192 1024) : val_main_v54 (F := Ideal) x0 x1 x2 x4 = colSum (dGs x0 x1 x2 x4) := by
  funext i
  idx_vars i
  rw [val_main_v54_apply, val_main_v53_apply, val_main_cst_10_apply]
  pointwise [colSum]
  refine Finset.sum_congr rfl fun x _ => ?_
  rw [idx5]
  exact congrFun (ref3 x0 x1 x2 x4) (ix2 x i1)

/-- The term of the column sums of the gradient of `g_c`, read at a row. -/
theorem idx6 (i0 : Fin 1) (i1 : Fin 1024) (x : Fin 8192) : idx_main_v51 (idx_main_v52 (ix2 i0 i1)) x = ix2 x i1 := by
  funext a
  match a with
  | ⟨0, _⟩ => rfl
  | ⟨1, _⟩ => exact Fin.ext (by show i0.val * 1024 + i1.val = i1.val; omega)

/-- The reference's column sums of the gradient of the gate `g_c`. -/
theorem ref6 (x0 x3 x5 : Mat 8192 1024) : val_main_v52 (F := Ideal) x0 x3 x5 = colSum (dGc x0 x3 x5) := by
  funext i
  idx_vars i
  rw [val_main_v52_apply, val_main_v51_apply, val_main_cst_9_apply]
  pointwise [colSum]
  refine Finset.sum_congr rfl fun x _ => ?_
  rw [idx6]
  exact congrFun (ref4 x0 x3 x5) (ix2 x i1)

/-- What the run of the reference leaves: the same seven functions of its arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v55) =
        dYa (m ((c : Thread nD τ).loc main_arg0)) (m ((c : Thread nD τ).loc main_arg2)) (m ((c : Thread nD τ).loc main_arg4))
      ∧ r.2.mem ((c : Thread nD τ).loc main_v56) =
        dYb (m ((c : Thread nD τ).loc main_arg0)) (m ((c : Thread nD τ).loc main_arg1)) (m ((c : Thread nD τ).loc main_arg2)) (m ((c : Thread nD τ).loc main_arg4))
      ∧ r.2.mem ((c : Thread nD τ).loc main_v57) =
        dYc (m ((c : Thread nD τ).loc main_arg0)) (m ((c : Thread nD τ).loc main_arg5))
      ∧ r.2.mem ((c : Thread nD τ).loc main_v58) =
        dGs (m ((c : Thread nD τ).loc main_arg0)) (m ((c : Thread nD τ).loc main_arg1)) (m ((c : Thread nD τ).loc main_arg2)) (m ((c : Thread nD τ).loc main_arg4))
      ∧ r.2.mem ((c : Thread nD τ).loc main_v59) =
        dGc (m ((c : Thread nD τ).loc main_arg0)) (m ((c : Thread nD τ).loc main_arg3)) (m ((c : Thread nD τ).loc main_arg5))
      ∧ r.2.mem ((c : Thread nD τ).loc main_v54) =
        colSum (dGs (m ((c : Thread nD τ).loc main_arg0)) (m ((c : Thread nD τ).loc main_arg1)) (m ((c : Thread nD τ).loc main_arg2)) (m ((c : Thread nD τ).loc main_arg4)))
      ∧ r.2.mem ((c : Thread nD τ).loc main_v52) =
        colSum (dGc (m ((c : Thread nD τ).loc main_arg0)) (m ((c : Thread nD τ).loc main_arg3)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((val_main_v55_eq  _ _ _).trans (ref0  _ _ _)),
    (h c).2.1.trans ((val_main_v56_eq  _ _ _ _).trans (ref1  _ _ _ _)),
    (h c).2.2.1.trans ((val_main_v57_eq  _ _).trans (ref2  _ _)),
    (h c).2.2.2.1.trans ((val_main_v58_eq  _ _ _ _).trans (ref3  _ _ _ _)),
    (h c).2.2.2.2.1.trans ((val_main_v59_eq  _ _ _).trans (ref4  _ _ _)),
    (h c).2.2.2.2.2.1.trans ((val_main_v54_eq  _ _ _ _).trans (ref5  _ _ _ _)),
    (h c).2.2.2.2.2.2.1.trans ((val_main_v52_eq  _ _ _).trans (ref6  _ _ _)),
    (h c).2.2.2.2.2.2.2⟩) (Cert.ReferenceIdeal.Value.run m ρ)

end Cert.ReferenceIdeal.Merge

end
-- ==== Proof.Merge.Claims.lean ====
/-
  The claims about the gradient of the merge: the reference's frame, and that the kernel and the reference end holding
  the same seven results.
-/
module

public import proofs.«01_k».proof.Defs
public import proofs.«01_k».proof.Proof.Merge.Kernel
public import proofs.«01_k».proof.Proof.Merge.Reference
public import proofs.«01_k».proof.Proof.Gen.KernelIdeal
public import proofs.«01_k».proof.Proof.Gen.ReferenceIdeal
public import Idealize.ShloMosaic.Lib.Claim

@[expose] public section

set_option maxRecDepth 16384

noncomputable section

namespace Cert.Merge

open Idealize.ShloMosaic Idealize.ShloMosaic.TcCoe Idealize.SL.Sem

/-- The reference terminates with its arguments unchanged; it declares no semaphore. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- The kernel and the reference compute the same seven arrays. -/
theorem algebraic : Cert.algebraic_KernelIdeal_ReferenceIdeal := by
  intro m g m' g' _ agree
  refine ⟨_, _, _, _, _, _, _, Cert.KernelIdeal.Merge.run m g,
    (θ_run Cert.ReferenceIdeal.defs _ _).mono (fun r h c => ?_) (Cert.ReferenceIdeal.Merge.run m' g')⟩
  obtain ⟨h0, h1, h2, h3, h4, h5⟩ := agree c
  have := h c
  rw [h0, h1, h2, h3, h4, h5] at this ⊢
  exact this

end Cert.Merge

end
-- ==== Proof.Product.Spec.lean ====
/-
  Products of matrices of extended reals, in the three forms that a linear layer and its gradients take, entry by entry.
-/
module

public import Idealize.ShloMosaic.Lib.Pointwise

@[expose] public section

noncomputable section

namespace Cert.Product

open Idealize.ShloMosaic

/-- A matrix of extended reals with `r` rows and `k` columns. -/
abbrev Mat (r k : ℕ) : Type := (⟨2, ![r, k]⟩ : Shape).Idx → EReal

/-- `x · w`. -/
def nn {a b c : ℕ} (x : Mat a b) (w : Mat b c) : Mat a c := fun i => ∑ k : Fin b, x (ix2 (i 0) k) * w (ix2 k (i 1))

/-- `x · wᵀ`. -/
def nt {a b c : ℕ} (x : Mat a b) (w : Mat c b) : Mat a c := fun i => ∑ k : Fin b, x (ix2 (i 0) k) * w (ix2 (i 1) k)

/-- `xᵀ · y`. -/
def tn {a b c : ℕ} (x : Mat a b) (y : Mat a c) : Mat b c := fun i => ∑ k : Fin a, x (ix2 k (i 0)) * y (ix2 k (i 1))

/-- A matrix read at any index is the matrix read at that index's two coordinates. -/
theorem read2 {a b : ℕ} (x : Mat a b) {f : (⟨2, ![a, b]⟩ : Shape).Idx} {i : Fin a} {j : Fin b} (h0 : f 0 = i) (h1 : f 1 = j) :
    x f = x (ix2 i j) := by
  subst h0 h1
  exact congrArg x (funext fun d => match d with
    | ⟨0, _⟩ => rfl
    | ⟨1, _⟩ => rfl)

end Cert.Product

end
-- ==== Proof.UpDx.Kernel.lean ====
/-
  The gradient of the up-projection with respect to its input, block by block: every point computes one block of
  `dup_a · w_aᵀ + dup_v · w_vᵀ`.
-/
module

public import proofs.«01_k».proof.Proof.Product.Spec
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.UpDx

open Cert.Kernel2Ideal Cert.Kernel2Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val % 8, 0] ∧
    win0_1.index t = ![t.val % 8, 0] ∧
    win0_2.index t = ![t.val / 8, 0] ∧
    win0_3.index t = ![t.val / 8, 0] ∧
    win0_4.index t = ![t.val % 8, t.val / 8] :=
  (by decide +kernel : ∀ t : Fin grid0.N, _)

/-- The result array holds the sum of the two products. -/
theorem out (c : Dev nD) : (dats m 0 c).arrAt 4 cfg0.N =
    (fun i => nt (m ((c : Thread nD τ).loc main_arg0)) (m ((c : Thread nD τ).loc main_arg2)) i + nt (m ((c : Thread nD τ).loc main_arg1)) (m ((c : Thread nD τ).loc main_arg3)) i) := by
  refine (dats m 0 c).arrAt_eq_of_covers 4 _ (by decide +kernel) fun t hf y => ?_
  blk_simp
  rw [after0_4]
  idx_vars y
  frame_out
  unfold_payloads
  pointwise [nt]
  refine congrArg₂ (fun a b : EReal => a + b) ?_ ?_
  · refine Finset.sum_congr (M := EReal) rfl fun k _ => ?_
    blk_point [iblk, V, idx t]
  · refine Finset.sum_congr (M := EReal) rfl fun k _ => ?_
    blk_point [iblk, V, idx t]

/-- The whole program ends with the result holding the sum of the two products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        (fun i => nt (m ((c : Thread nD τ).loc main_arg0)) (m ((c : Thread nD τ).loc main_arg2)) i + nt (m ((c : Thread nD τ).loc main_arg1)) (m ((c : Thread nD τ).loc main_arg3)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out m c),
    (h c).2⟩) (Cert.Kernel2Ideal.Value.run_blocks m ρ)

end Cert.Kernel2Ideal.UpDx
end
-- ==== Proof.UpDx.Reference.lean ====
/-
  The reference's gradient of the up-projection with respect to its input: one product over both halves laid side
  by side, which splits into the two halves' products.
-/
module

public import proofs.«01_k».proof.Proof.Product.Spec
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Reference2Ideal.UpDx

open Cert.Reference2Ideal Cert.Reference2Ideal.Gen Cert.Reference2Ideal.Read Idealize.ShloMosaic Idealize.ShloMosaic.TcCoe Idealize.SL.Sem Cert.Product

/-- The reference's result is the sum of the two halves' products. -/
theorem ref (x0 x1 : Mat 8192 2816) (x2 x3 : Mat 1024 2816) : val_main_v7 (F := Ideal) x0 x1 x2 x3 = (fun i => nt x0 x2 i + nt x1 x3 i) := by
  funext i
  idx_vars i
  simp only [val_main_v7_apply, val_main_v6_apply, val_main_v5_apply, val_main_v3_apply]
  pointwise [nt]
  refine (Fin.sum_univ_add (a := 2816) (b := 2816) (M := EReal) _).trans
    (congrArg₂ (fun a b : EReal => a + b) (Finset.sum_congr (M := EReal) rfl fun k _ => ?_) (Finset.sum_congr (M := EReal) rfl fun k _ => ?_))
  · exact congrArg₂ (fun a b : EReal => a * b)
      (concatenate_pair_apply_left 1 x0 x1 _ (lidx_main_v6 (ix2 i0 i1) (Fin.castAdd 2816 k)) rfl (ix2 i0 k) (fun b => match b with | ⟨0, _⟩ => rfl | ⟨1, _⟩ => rfl))
      (concatenate_pair_apply_left 1 x2 x3 _ (ridx_main_v6 (ix2 i0 i1) (Fin.castAdd 2816 k)) rfl (ix2 i1 k) (fun b => match b with | ⟨0, _⟩ => rfl | ⟨1, _⟩ => rfl))
  · exact congrArg₂ (fun a b : EReal => a * b)
      (concatenate_pair_apply_right 1 x0 x1 _ (lidx_main_v6 (ix2 i0 i1) (Fin.natAdd 2816 k)) rfl rfl (ix2 i0 k)
        (fun b hb => match b, hb with | ⟨0, _⟩, _ => rfl | ⟨1, _⟩, hb => absurd rfl hb) (Nat.add_comm k.val 2816))
      (concatenate_pair_apply_right 1 x2 x3 _ (ridx_main_v6 (ix2 i0 i1) (Fin.natAdd 2816 k)) rfl rfl (ix2 i1 k)
        (fun b hb => match b, hb with | ⟨0, _⟩, _ => rfl | ⟨1, _⟩, hb => absurd rfl hb) (Nat.add_comm k.val 2816))

/-- The whole program ends with the result holding the sum of the two halves' products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) =
        (fun i => nt (m ((c : Thread nD τ).loc main_arg0)) (m ((c : Thread nD τ).loc main_arg2)) i + nt (m ((c : Thread nD τ).loc main_arg1)) (m ((c : Thread nD τ).loc main_arg3)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v7_eq _ _ _ _).trans (ref _ _ _ _)),
    (h c).2⟩) (Cert.Reference2Ideal.Value.run (F := Ideal) m ρ)

end Cert.Reference2Ideal.UpDx
end
-- ==== Proof.UpDx.Claims.lean ====
/-
  The claims about the gradient of the up-projection with respect to its input: the reference's frame, and that the kernel and the reference end holding the same result.
-/
module

public import proofs.«01_k».proof.Defs
public import proofs.«01_k».proof.Proof.UpDx.Kernel
public import proofs.«01_k».proof.Proof.UpDx.Reference
public import proofs.«01_k».proof.Proof.Gen.Kernel2Ideal
public import proofs.«01_k».proof.Proof.Gen.Reference2Ideal
public import Idealize.ShloMosaic.Lib.Claim

@[expose] public section

set_option maxRecDepth 16384

noncomputable section

namespace Cert.UpDx

open Idealize.ShloMosaic Idealize.ShloMosaic.TcCoe Idealize.SL.Sem

/-- The reference terminates with its arguments unchanged; it declares no semaphore. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The kernel and the reference compute the same array. -/
theorem algebraic : Cert.algebraic_Kernel2Ideal_Reference2Ideal := by
  intro m g m' g' _ agree
  refine ⟨_, Cert.Kernel2Ideal.UpDx.run m g,
    (θ_run Cert.Reference2Ideal.defs _ _).mono (fun r h c => ?_) (Cert.Reference2Ideal.UpDx.run m' g')⟩
  obtain ⟨h0, h1, h2, h3⟩ := agree c
  have := h c
  rw [h0, h1, h2, h3] at this ⊢
  exact this

end Cert.UpDx

end
-- ==== Proof.UpDw.Kernel.lean ====
/-
  The gradient of the up-projection with respect to one half of its weights: every output block is summed over the
  eight blocks of rows.
-/
module

public import proofs.«01_k».proof.Proof.Product.Spec
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.UpDw

open Cert.Kernel3Ideal Cert.Kernel3Ideal.Gen Idealize.ShloMosaic Idealize.ShloMosaic.TcCoe Idealize.SL.Sem Cert.Product
open Idealize.ShloMosaic.Pipeline (Dat)

variable (m : (ℓ : Loc nD τ sig) → Buf (Elt Ideal) ℓ)

/-- The blocks of the three arrays at point `t`. -/
theorem idx : ∀ t : Fin cfg0.N, win0_0.index t = ![t.val % 8, 0] ∧ win0_1.index t = ![t.val % 8, t.val / 8] ∧
    win0_2.index t = ![0, t.val / 8] :=
  (by decide +kernel : ∀ t : Fin grid0.N, _)

/-- The row of the whole arrays that row `r` of the blocks at point `t` is. -/
def row (t : Fin cfg0.N) (r : Fin 1024) : Fin 8192 := ⟨t.val % 8 * 1024 + r.val, by have := r.isLt; omega⟩

/-- The column of the second array that column `k` of its block at point `t` is. -/
def col (t : Fin cfg0.N) (k : Fin 1408) : Fin 2816 :=
  ⟨t.val / 8 * 1408 + k.val, by have := k.isLt; have := t.isLt; have h : cfg0.N = 16 := N_0; omega⟩

/-- What one point adds to entry `j` of its output block. -/
def term (x : Mat 8192 1024) (y : Mat 8192 2816) (t : Fin cfg0.N) (j : S1024x1408.Idx) : EReal :=
  ∑ r : Fin 1024, x (ix2 (row t r) (j 0)) * y (ix2 (row t r) (col t (j 1)))

/-- The eight points of one output block add up to its entry of the product. -/
theorem sum_term (x : Mat 8192 1024) (y : Mat 8192 2816) (t : Fin cfg0.N) (h : t.val % 8 = 8 - 1) (j : S1024x1408.Idx) :
    (0 : EReal) + ∑ s : Fin 8, term x y ⟨8 * (t.val / 8) + s.val, Pipeline.run_point_lt_of_flush t h s⟩ j =
      tn x y (ix2 (j 0) (col t (j 1))) := by
  rw [zero_add]
  refine Fin.sum_mul_add_congr (n := 1024) (f := fun l => x (ix2 l (j 0)) * y (ix2 l (col t (j 1)))) (fun s k hl => ?_) rfl
  have hr : row ⟨8 * (t.val / 8) + s.val, Pipeline.run_point_lt_of_flush t h s⟩ k = ⟨s.val * 1024 + k.val, hl⟩ :=
    Fin.ext (by show (8 * (t.val / 8) + s.val) % 8 * 1024 + k.val = s.val * 1024 + k.val; have := s.isLt; omega)
  have hc : col ⟨8 * (t.val / 8) + s.val, Pipeline.run_point_lt_of_flush t h s⟩ (j 1) = col t (j 1) :=
    Fin.ext (by show (8 * (t.val / 8) + s.val) / 8 * 1408 + _ = t.val / 8 * 1408 + _; have := s.isLt; omega)
  rw [hr, hc]

/-- The result array holds the transpose of the first argument times the second. -/
theorem out (c : Dev nD) : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  refine (Pipeline.eq_sum_fin_of_reset_step_apply_of_flush (fun n h => outsAt0 m c n h) 8 (fun _ => (0 : EReal))
    (term (m ((c : Thread nD τ).loc main_arg0)) (m ((c : Thread nD τ).loc main_arg1)))
    (fun t h j => ?_) (fun t h j => ?_) t ht y).trans ((sum_term _ _ t ht y).trans ?_)
  · rw [outsAt0_A m c t h]; frame_out
    unfold_payloads
    idx_vars j
    pointwise []
    refine Finset.sum_congr (M := EReal) rfl fun r _ => ?_
    blk_point [iblk, V, idx t, row, col]
  · rw [outsAt0_B m c t h]; frame_out
    unfold_payloads
    idx_vars j
    pointwise []
    refine congrArg (fun z : EReal => _ + z) (Finset.sum_congr (M := EReal) rfl fun r _ => ?_)
    blk_point [iblk, V, idx t, row, col]
  · idx_vars y
    blk_point [idx t, col]

/-- The whole program ends with the result holding the transpose of the first argument times the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        tn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel3Ideal.Value.run_blocks m ρ)

end Cert.Kernel3Ideal.UpDw
end
-- ==== Proof.UpDw.Reference.lean ====
/-
  The reference's gradient of the up-projection with respect to one half of its weights.
-/
module

public import proofs.«01_k».proof.Proof.Product.Spec
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Reference3Ideal.UpDw

open Cert.Reference3Ideal Cert.Reference3Ideal.Gen Cert.Reference3Ideal.Read Idealize.ShloMosaic Idealize.ShloMosaic.TcCoe Idealize.SL.Sem Cert.Product

/-- The reference's result is the transpose of the first argument times the second. -/
theorem ref (x0 : Mat 8192 1024) (x1 : Mat 8192 2816) : val_main_v5 (F := Ideal) x0 x1 = tn x0 x1 := by
  funext i
  idx_vars i
  simp only [val_main_v5_apply, val_main_v4_apply, val_main_v3_apply, val_main_v1_apply]
  pointwise [tn]
  exact Finset.sum_congr (M := EReal) rfl fun k _ => (mul_comm _ _).trans (congrArg₂ (fun a b : EReal => a * b) (read2 _ rfl rfl) (read2 _ rfl rfl))

/-- The whole program ends with the result holding the transpose of the first argument times the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) =
        tn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v5_eq _ _).trans (ref _ _)),
    (h c).2⟩) (Cert.Reference3Ideal.Value.run (F := Ideal) m ρ)

end Cert.Reference3Ideal.UpDw
end
-- ==== Proof.UpDw.Claims.lean ====
/-
  The claims about the gradient of the up-projection with respect to one half of its weights: the reference's frame, and that the kernel and the reference end holding the same result.
-/
module

public import proofs.«01_k».proof.Defs
public import proofs.«01_k».proof.Proof.UpDw.Kernel
public import proofs.«01_k».proof.Proof.UpDw.Reference
public import proofs.«01_k».proof.Proof.Gen.Kernel3Ideal
public import proofs.«01_k».proof.Proof.Gen.Reference3Ideal
public import Idealize.ShloMosaic.Lib.Claim

@[expose] public section

set_option maxRecDepth 16384

noncomputable section

namespace Cert.UpDw

open Idealize.ShloMosaic Idealize.ShloMosaic.TcCoe Idealize.SL.Sem

/-- The reference terminates with its arguments unchanged; it declares no semaphore. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The kernel and the reference compute the same array. -/
theorem algebraic : Cert.algebraic_Kernel3Ideal_Reference3Ideal := by
  intro m g m' g' _ agree
  refine ⟨_, Cert.Kernel3Ideal.UpDw.run m g,
    (θ_run Cert.Reference3Ideal.defs _ _).mono (fun r h c => ?_) (Cert.Reference3Ideal.UpDw.run m' g')⟩
  obtain ⟨h0, h1⟩ := agree c
  have := h c
  rw [h0, h1] at this ⊢
  exact this

end Cert.UpDw

end
-- ==== Proof.DownDx.Kernel.lean ====
/-
  The gradient of the down-projection with respect to its input, block by block: every point computes one block of
  rows of `dy · w_dnᵀ`.
-/
module

public import proofs.«01_k».proof.Proof.Product.Spec
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Kernel4Ideal.DownDx

open Cert.Kernel4Ideal Cert.Kernel4Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val, 0] ∧
    win0_1.index t = ![0, 0] ∧
    win0_2.index t = ![t.val, 0] :=
  (by decide +kernel : ∀ t : Fin grid0.N, _)

/-- The result array holds the first argument times the transpose of the second. -/
theorem out (c : Dev nD) : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  frame_out
  unfold_payloads
  pointwise [nt]
  refine Finset.sum_congr (M := EReal) rfl fun k _ => ?_
  blk_point [iblk, V, idx t]

/-- The whole program ends with the result holding the first argument times the transpose of the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        nt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel4Ideal.Value.run_blocks m ρ)

end Cert.Kernel4Ideal.DownDx
end
-- ==== Proof.DownDx.Reference.lean ====
/-
  The reference's gradient of the down-projection with respect to its input.
-/
module

public import proofs.«01_k».proof.Proof.Product.Spec
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Reference4Ideal.DownDx

open Cert.Reference4Ideal Cert.Reference4Ideal.Gen Cert.Reference4Ideal.Read Idealize.ShloMosaic Idealize.ShloMosaic.TcCoe Idealize.SL.Sem Cert.Product

/-- The reference's result is the first argument times the transpose of the second. -/
theorem ref (x0 : Mat 8192 1024) (x1 : Mat 2816 1024) : val_main_v4 (F := Ideal) x0 x1 = nt x0 x1 := by
  funext i
  idx_vars i
  simp only [val_main_v4_apply, val_main_v3_apply, val_main_v1_apply]
  pointwise [nt]
  exact Finset.sum_congr (M := EReal) rfl fun k _ => congrArg₂ (fun a b : EReal => a * b) (read2 _ rfl rfl) (read2 _ rfl rfl)

/-- The whole program ends with the result holding the first argument times the transpose of the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) =
        nt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v4_eq _ _).trans (ref _ _)),
    (h c).2⟩) (Cert.Reference4Ideal.Value.run (F := Ideal) m ρ)

end Cert.Reference4Ideal.DownDx
end
-- ==== Proof.DownDx.Claims.lean ====
/-
  The claims about the gradient of the down-projection with respect to its input: the reference's frame, and that the kernel and the reference end holding the same result.
-/
module

public import proofs.«01_k».proof.Defs
public import proofs.«01_k».proof.Proof.DownDx.Kernel
public import proofs.«01_k».proof.Proof.DownDx.Reference
public import proofs.«01_k».proof.Proof.Gen.Kernel4Ideal
public import proofs.«01_k».proof.Proof.Gen.Reference4Ideal
public import Idealize.ShloMosaic.Lib.Claim

@[expose] public section

set_option maxRecDepth 16384

noncomputable section

namespace Cert.DownDx

open Idealize.ShloMosaic Idealize.ShloMosaic.TcCoe Idealize.SL.Sem

/-- The reference terminates with its arguments unchanged; it declares no semaphore. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The kernel and the reference compute the same array. -/
theorem algebraic : Cert.algebraic_Kernel4Ideal_Reference4Ideal := by
  intro m g m' g' _ agree
  refine ⟨_, Cert.Kernel4Ideal.DownDx.run m g,
    (θ_run Cert.Reference4Ideal.defs _ _).mono (fun r h c => ?_) (Cert.Reference4Ideal.DownDx.run m' g')⟩
  obtain ⟨h0, h1⟩ := agree c
  have := h c
  rw [h0, h1] at this ⊢
  exact this

end Cert.DownDx

end
-- ==== Proof.DownDw.Kernel.lean ====
/-
  The gradient of the down-projection with respect to its weights: every output block is summed over the eight blocks
  of rows in the scratch, and the last point copies the scratch out.
-/
module

public import proofs.«01_k».proof.Proof.Product.Spec
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.DownDw

open Cert.Kernel5Ideal Cert.Kernel5Ideal.Gen Idealize.ShloMosaic Idealize.ShloMosaic.TcCoe Idealize.SL.Sem Cert.Product
open Idealize.ShloMosaic.Pipeline (Dat)

variable (m : (ℓ : Loc nD τ sig) → Buf (Elt Ideal) ℓ)

/-- The blocks of the three arrays at point `t`. -/
theorem idx : ∀ t : Fin cfg0.N, win0_0.index t = ![t.val % 8, 0] ∧ win0_1.index t = ![t.val % 8, t.val / 8] ∧
    win0_2.index t = ![0, t.val / 8] :=
  (by decide +kernel : ∀ t : Fin grid0.N, _)

/-- The row of the whole arrays that row `r` of the blocks at point `t` is. -/
def row (t : Fin cfg0.N) (r : Fin 1024) : Fin 8192 := ⟨t.val % 8 * 1024 + r.val, by have := r.isLt; omega⟩

/-- The column of the second array that column `k` of its block at point `t` is. -/
def col (t : Fin cfg0.N) (k : Fin 512) : Fin 1024 :=
  ⟨t.val / 8 * 512 + k.val, by have := k.isLt; have := t.isLt; have h : cfg0.N = 16 := N_0; omega⟩

/-- What one point adds to entry `j` of its output block. -/
def term (x : Mat 8192 2816) (y : Mat 8192 1024) (t : Fin cfg0.N) (j : S2816x512.Idx) : EReal :=
  ∑ r : Fin 1024, x (ix2 (row t r) (j 0)) * y (ix2 (row t r) (col t (j 1)))

/-- The eight points of one output block add up to its entry of the product. -/
theorem sum_term (x : Mat 8192 2816) (y : Mat 8192 1024) (t : Fin cfg0.N) (h : t.val % 8 = 8 - 1) (j : S2816x512.Idx) :
    (0 : EReal) + ∑ s : Fin 8, term x y ⟨8 * (t.val / 8) + s.val, Pipeline.run_point_lt_of_flush t h s⟩ j =
      tn x y (ix2 (j 0) (col t (j 1))) := by
  rw [zero_add]
  refine Fin.sum_mul_add_congr (n := 1024) (f := fun l => x (ix2 l (j 0)) * y (ix2 l (col t (j 1)))) (fun s k hl => ?_) rfl
  have hr : row ⟨8 * (t.val / 8) + s.val, Pipeline.run_point_lt_of_flush t h s⟩ k = ⟨s.val * 1024 + k.val, hl⟩ :=
    Fin.ext (by show (8 * (t.val / 8) + s.val) % 8 * 1024 + k.val = s.val * 1024 + k.val; have := s.isLt; omega)
  have hc : col ⟨8 * (t.val / 8) + s.val, Pipeline.run_point_lt_of_flush t h s⟩ (j 1) = col t (j 1) :=
    Fin.ext (by show (8 * (t.val / 8) + s.val) / 8 * 512 + _ = t.val / 8 * 512 + _; have := s.isLt; omega)
  rw [hr, hc]

/-- The last point of an output block leaves in it what it leaves in the scratch. -/
theorem copied (c : Dev nD) (t : Fin cfg0.N) (h : t.val % 8 = 7) :
    (outsAt0 m c t.val t.isLt).1 = (outsAt0 m c t.val t.isLt).2 := by
  rw [outsAt0_C m c t (by omega) h]
  funext j
  frame_out
  unfold_payloads
  pointwise []

/-- At the last point of an output block the scratch holds the sum of the eight points. -/
theorem scratch (c : Dev nD) (t : Fin cfg0.N) (ht : t.val % 8 = 8 - 1) (j : S2816x512.Idx) :
    (outsAt0 m c t.val t.isLt).2 j = (0 : EReal) + ∑ s : Fin 8,
      term (m ((c : Thread nD τ).loc main_arg0)) (m ((c : Thread nD τ).loc main_arg1))
        ⟨8 * (t.val / 8) + s.val, Pipeline.run_point_lt_of_flush t ht s⟩ j := by
  refine Pipeline.eq_sum_fin_of_reset_step_apply_of_flush (fun n h => (outsAt0 m c n h).2) 8 (fun _ => (0 : EReal))
    (term (m ((c : Thread nD τ).loc main_arg0)) (m ((c : Thread nD τ).loc main_arg1)))
    (fun t h j => ?_) (fun t h j => ?_) t ht j
  · rw [outsAt0_A m c t h (by omega)]; frame_out
    unfold_payloads
    idx_vars j
    pointwise []
    refine Finset.sum_congr (M := EReal) rfl fun r _ => ?_
    blk_point [iblk, V, idx t, row, col]
  · by_cases h1 : t.val % 8 = 7
    · rw [outsAt0_C m c t h h1]; frame_out
      unfold_payloads
      idx_vars j
      pointwise []
      refine congrArg₂ (fun a b : EReal => a + b) (congrFun (Memref.IsWhole.read_unread _ _) _) (Finset.sum_congr (M := EReal) rfl fun r _ => ?_)
      blk_point [iblk, V, idx t, row, col]
    · rw [outsAt0_B m c t h h1]; frame_out
      unfold_payloads
      idx_vars j
      pointwise []
      refine congrArg₂ (fun a b : EReal => a + b) (congrFun (Memref.IsWhole.read_unread _ _) _) (Finset.sum_congr (M := EReal) rfl fun r _ => ?_)
      blk_point [iblk, V, idx t, row, col]

/-- The result array holds the transpose of the first argument times the second. -/
theorem out (c : Dev nD) : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  rw [copied m c t ht]
  refine (scratch m c t ht y).trans ((sum_term _ _ t ht y).trans ?_)
  idx_vars y
  blk_point [idx t, col]

/-- The whole program ends with the result holding the transpose of the first argument times the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        tn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel5Ideal.Value.run_blocks m ρ)

end Cert.Kernel5Ideal.DownDw
end
-- ==== Proof.DownDw.Reference.lean ====
/-
  The reference's gradient of the down-projection with respect to its weights.
-/
module

public import proofs.«01_k».proof.Proof.Product.Spec
public import proofs.«01_k».proof.Proof.Gen.Reference5Ideal.Run
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.Reference5Ideal.DownDw

open Cert.Reference5Ideal Cert.Reference5Ideal.Gen Cert.Reference5Ideal.Read Idealize.ShloMosaic Idealize.ShloMosaic.TcCoe Idealize.SL.Sem Cert.Product

/-- The reference's result is the transpose of the first argument times the second. -/
theorem ref (x0 : Mat 8192 2816) (x1 : Mat 8192 1024) : val_main_v6 (F := Ideal) x0 x1 = tn x0 x1 := by
  funext i
  idx_vars i
  simp only [val_main_v6_apply, val_main_v5_apply, val_main_v4_apply, val_main_v3_apply, val_main_v1_apply]
  pointwise [tn]
  exact Finset.sum_congr (M := EReal) rfl fun k _ => (mul_comm _ _).trans (congrArg₂ (fun a b : EReal => a * b) (read2 _ rfl rfl) (read2 _ rfl rfl))

/-- The whole program ends with the result holding the transpose of the first argument times the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) =
        tn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v6_eq _ _).trans (ref _ _)),
    (h c).2⟩) (Cert.Reference5Ideal.Value.run (F := Ideal) m ρ)

end Cert.Reference5Ideal.DownDw
end
-- ==== Proof.DownDw.Claims.lean ====
/-
  The claims about the gradient of the down-projection with respect to its weights: the reference's frame, and that the kernel and the reference end holding the same result.
-/
module

public import proofs.«01_k».proof.Defs
public import proofs.«01_k».proof.Proof.DownDw.Kernel
public import proofs.«01_k».proof.Proof.DownDw.Reference
public import proofs.«01_k».proof.Proof.Gen.Kernel5Ideal
public import proofs.«01_k».proof.Proof.Gen.Reference5Ideal
public import Idealize.ShloMosaic.Lib.Claim

@[expose] public section

set_option maxRecDepth 16384

noncomputable section

namespace Cert.DownDw

open Idealize.ShloMosaic Idealize.ShloMosaic.TcCoe Idealize.SL.Sem

/-- The reference terminates with its arguments unchanged; it declares no semaphore. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The kernel and the reference compute the same array. -/
theorem algebraic : Cert.algebraic_Kernel5Ideal_Reference5Ideal := by
  intro m g m' g' _ agree
  refine ⟨_, Cert.Kernel5Ideal.DownDw.run m g,
    (θ_run Cert.Reference5Ideal.defs _ _).mono (fun r h c => ?_) (Cert.Reference5Ideal.DownDw.run m' g')⟩
  obtain ⟨h0, h1⟩ := agree c
  have := h c
  rw [h0, h1] at this ⊢
  exact this

end Cert.DownDw

end
-- ==== Proof.Up.Kernel.lean ====
/-
  The forward product of the feed-forward network's up-projection, block by block: every point computes one block
  of `h2 · w`.
-/
module

public import proofs.«01_k».proof.Proof.Product.Spec
public import proofs.«01_k».proof.Proof.Gen.Kernel6Ideal.Value
public import Idealize.ShloMosaic.Lib.Pipeline.ValueKit
public import Idealize.ShloMosaic.Lib.Pointwise

@[expose] public section

set_option maxRecDepth 16384

noncomputable section

namespace Cert.Kernel6Ideal.Up

open Cert.Kernel6Ideal Cert.Kernel6Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val % 8, 0] ∧
    win0_1.index t = ![0, t.val / 8] ∧
    win0_2.index t = ![t.val % 8, t.val / 8] :=
  (by decide +kernel : ∀ t : Fin grid0.N, _)

/-- The result array holds the product of the two arguments. -/
theorem out (c : Dev nD) : (dats m 0 c).arrAt 2 cfg0.N =
    nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  frame_out
  unfold_payloads
  pointwise [nn]
  refine Finset.sum_congr (M := EReal) rfl fun k _ => ?_
  blk_point [iblk, V, idx t]

/-- The whole program ends with the result holding the product of the two arguments, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        nn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel6Ideal.Value.run_blocks m ρ)

end Cert.Kernel6Ideal.Up
end
-- ==== Proof.Up.Reference.lean ====
/-
  The reference of the up-projection.
-/
module

public import proofs.«01_k».proof.Proof.Product.Spec
public import proofs.«01_k».proof.Proof.Gen.Reference6Ideal.Run
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.Reference6Ideal.Up

open Cert.Reference6Ideal Cert.Reference6Ideal.Gen Cert.Reference6Ideal.Read Idealize.ShloMosaic Idealize.ShloMosaic.TcCoe Idealize.SL.Sem Cert.Product

/-- The reference's result is the product of the two arguments. -/
theorem ref (x0 : Mat 8192 1024) (x1 : Mat 1024 2816) : val_main_v2 (F := Ideal) x0 x1 = nn x0 x1 := by
  funext i
  idx_vars i
  simp only [val_main_v2_apply, val_main_v0_apply, val_main_v1_apply]
  pointwise [nn]
  exact Finset.sum_congr (M := EReal) rfl fun k _ => congrArg₂ (fun a b : EReal => a * b) (read2 _ rfl rfl) (read2 _ rfl rfl)

/-- The whole program ends with the result holding the product of the two arguments, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) =
        nn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v2_eq _ _).trans (ref _ _)),
    (h c).2⟩) (Cert.Reference6Ideal.Value.run (F := Ideal) m ρ)

end Cert.Reference6Ideal.Up
end
-- ==== Proof.Up.Claims.lean ====
/-
  The claims about the forward product of the up-projection: the reference's frame, and that the kernel and the reference end holding the same result.
-/
module

public import proofs.«01_k».proof.Defs
public import proofs.«01_k».proof.Proof.Up.Kernel
public import proofs.«01_k».proof.Proof.Up.Reference
public import proofs.«01_k».proof.Proof.Gen.Kernel6Ideal
public import proofs.«01_k».proof.Proof.Gen.Reference6Ideal
public import Idealize.ShloMosaic.Lib.Claim

@[expose] public section

set_option maxRecDepth 16384

noncomputable section

namespace Cert.Up

open Idealize.ShloMosaic Idealize.ShloMosaic.TcCoe Idealize.SL.Sem

/-- The reference terminates with its arguments unchanged; it declares no semaphore. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The kernel and the reference compute the same array. -/
theorem algebraic : Cert.algebraic_Kernel6Ideal_Reference6Ideal := by
  intro m g m' g' _ agree
  refine ⟨_, Cert.Kernel6Ideal.Up.run m g,
    (θ_run Cert.Reference6Ideal.defs _ _).mono (fun r h c => ?_) (Cert.Reference6Ideal.Up.run m' g')⟩
  obtain ⟨h0, h1⟩ := agree c
  have := h c
  rw [h0, h1] at this ⊢
  exact this

end Cert.Up

end
-- ==== Proof.InDx.Kernel.lean ====
/-
  The gradient of the input projection with respect to its input, block by block: every point computes one block of
  the sum of the five branches' products.
-/
module

public import proofs.«01_k».proof.Proof.Product.Spec
public import proofs.«01_k».proof.Proof.Gen.Kernel7Ideal.Value
public import Idealize.ShloMosaic.Lib.Pipeline.ValueKit
public import Idealize.ShloMosaic.Lib.Pointwise

@[expose] public section

set_option maxRecDepth 16384

noncomputable section

namespace Cert.Kernel7Ideal.InDx

open Cert.Kernel7Ideal Cert.Kernel7Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val % 8, 0] ∧
    win0_1.index t = ![t.val % 8, 0] ∧
    win0_2.index t = ![t.val % 8, 0] ∧
    win0_3.index t = ![t.val % 8, 0] ∧
    win0_4.index t = ![t.val % 8, 0] ∧
    win0_5.index t = ![t.val / 8, 0] ∧
    win0_6.index t = ![t.val / 8, 0] ∧
    win0_7.index t = ![t.val / 8, 0] ∧
    win0_8.index t = ![t.val / 8, 0] ∧
    win0_9.index t = ![t.val / 8, 0] ∧
    win0_10.index t = ![t.val % 8, t.val / 8] :=
  (by decide +kernel : ∀ t : Fin grid0.N, _)

/-- The result array holds the sum of the five products. -/
theorem out (c : Dev nD) : (dats m 0 c).arrAt 10 cfg0.N =
    (fun i => nt (m ((c : Thread nD τ).loc main_arg0)) (m ((c : Thread nD τ).loc main_arg5)) i + nt (m ((c : Thread nD τ).loc main_arg1)) (m ((c : Thread nD τ).loc main_arg6)) i + nt (m ((c : Thread nD τ).loc main_arg2)) (m ((c : Thread nD τ).loc main_arg7)) i + nt (m ((c : Thread nD τ).loc main_arg3)) (m ((c : Thread nD τ).loc main_arg8)) i + nt (m ((c : Thread nD τ).loc main_arg4)) (m ((c : Thread nD τ).loc main_arg9)) i) := by
  refine (dats m 0 c).arrAt_eq_of_covers 10 _ (by decide +kernel) fun t hf y => ?_
  blk_simp
  rw [after0_10]
  idx_vars y
  frame_out
  unfold_payloads
  pointwise [nt]
  refine congrArg₂ (fun a b : EReal => a + b) (congrArg₂ (fun a b : EReal => a + b) (congrArg₂ (fun a b : EReal => a + b) (congrArg₂ (fun a b : EReal => a + b) ?_ ?_) ?_) ?_) ?_
  · refine Finset.sum_congr (M := EReal) rfl fun k _ => ?_
    blk_point [iblk, V, idx t]
  · refine Finset.sum_congr (M := EReal) rfl fun k _ => ?_
    blk_point [iblk, V, idx t]
  · refine Finset.sum_congr (M := EReal) rfl fun k _ => ?_
    blk_point [iblk, V, idx t]
  · refine Finset.sum_congr (M := EReal) rfl fun k _ => ?_
    blk_point [iblk, V, idx t]
  · refine Finset.sum_congr (M := EReal) rfl fun k _ => ?_
    blk_point [iblk, V, idx t]

/-- The whole program ends with the result holding the sum of the five products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        (fun i => nt (m ((c : Thread nD τ).loc main_arg0)) (m ((c : Thread nD τ).loc main_arg5)) i + nt (m ((c : Thread nD τ).loc main_arg1)) (m ((c : Thread nD τ).loc main_arg6)) i + nt (m ((c : Thread nD τ).loc main_arg2)) (m ((c : Thread nD τ).loc main_arg7)) i + nt (m ((c : Thread nD τ).loc main_arg3)) (m ((c : Thread nD τ).loc main_arg8)) i + nt (m ((c : Thread nD τ).loc main_arg4)) (m ((c : Thread nD τ).loc main_arg9)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (out m c),
    (h c).2⟩) (Cert.Kernel7Ideal.Value.run_blocks m ρ)

end Cert.Kernel7Ideal.InDx
end
-- ==== Proof.Product.Concat.lean ====
/-
  Five matrices laid side by side: the entry of each piece, and a sum over all their columns.
-/
module

public import proofs.«01_k».proof.Proof.Product.Spec
public import Idealize.ShloMosaic.Lib.Pipeline.ValueKit
public import Idealize.ShloMosaic.Lib.Pointwise

@[expose] public section

set_option maxRecDepth 16384

noncomputable section

namespace Cert.Concat

open  Idealize.ShloMosaic Idealize.ShloMosaic.TcCoe Idealize.SL.Sem Cert.Product

/-- Five matrices with as many rows laid side by side. -/
abbrev cat (n : ℕ) (x0 x1 x2 : Mat n 512) (x3 x4 : Mat n 1024) : List ((s : Shape) × (s.Idx → EReal)) :=
  [⟨⟨2, ![n, 512]⟩, x0⟩, ⟨⟨2, ![n, 512]⟩, x1⟩, ⟨⟨2, ![n, 512]⟩, x2⟩, ⟨⟨2, ![n, 1024]⟩, x3⟩, ⟨⟨2, ![n, 1024]⟩, x4⟩]

variable {n : ℕ} (x0 x1 x2 : Mat n 512) (x3 x4 : Mat n 1024)

/-- The columns of the five that are those of matrix 0. -/
theorem cat0 (h : Shape.Concatenates ((cat n x0 x1 x2 x3 x4).map (·.1)) ⟨2, ![n, 3584]⟩ 1) (f : (⟨2, ![n, 3584]⟩ : Shape).Idx)
    (i : Fin n) (k : Fin 512) (h0 : (f 0).val = i.val) (h1 : (f 1).val = 0 + k.val) :
    concatenate ⟨2, ![n, 3584]⟩ 1 (cat n x0 x1 x2 x3 x4) h f = x0 (ix2 i k) :=
  concatenate_apply_piece 1 _ h f 0 (by show 0 < 5; omega) ⟨2, ![n, 512]⟩ x0 rfl rfl 0 rfl (ix2 i k)
    (fun b hb => match b, hb with
      | ⟨0, _⟩, _ => h0.symm
      | ⟨1, _⟩, hb => absurd rfl hb) h1.symm

/-- The columns of the five that are those of matrix 1. -/
theorem cat1 (h : Shape.Concatenates ((cat n x0 x1 x2 x3 x4).map (·.1)) ⟨2, ![n, 3584]⟩ 1) (f : (⟨2, ![n, 3584]⟩ : Shape).Idx)
    (i : Fin n) (k : Fin 512) (h0 : (f 0).val = i.val) (h1 : (f 1).val = 512 + k.val) :
    concatenate ⟨2, ![n, 3584]⟩ 1 (cat n x0 x1 x2 x3 x4) h f = x1 (ix2 i k) :=
  concatenate_apply_piece 1 _ h f 1 (by show 1 < 5; omega) ⟨2, ![n, 512]⟩ x1 rfl rfl 512 rfl (ix2 i k)
    (fun b hb => match b, hb with
      | ⟨0, _⟩, _ => h0.symm
      | ⟨1, _⟩, hb => absurd rfl hb) h1.symm

/-- The columns of the five that are those of matrix 2. -/
theorem cat2 (h : Shape.Concatenates ((cat n x0 x1 x2 x3 x4).map (·.1)) ⟨2, ![n, 3584]⟩ 1) (f : (⟨2, ![n, 3584]⟩ : Shape).Idx)
    (i : Fin n) (k : Fin 512) (h0 : (f 0).val = i.val) (h1 : (f 1).val = 1024 + k.val) :
    concatenate ⟨2, ![n, 3584]⟩ 1 (cat n x0 x1 x2 x3 x4) h f = x2 (ix2 i k) :=
  concatenate_apply_piece 1 _ h f 2 (by show 2 < 5; omega) ⟨2, ![n, 512]⟩ x2 rfl rfl 1024 rfl (ix2 i k)
    (fun b hb => match b, hb with
      | ⟨0, _⟩, _ => h0.symm
      | ⟨1, _⟩, hb => absurd rfl hb) h1.symm

/-- The columns of the five that are those of matrix 3. -/
theorem cat3 (h : Shape.Concatenates ((cat n x0 x1 x2 x3 x4).map (·.1)) ⟨2, ![n, 3584]⟩ 1) (f : (⟨2, ![n, 3584]⟩ : Shape).Idx)
    (i : Fin n) (k : Fin 1024) (h0 : (f 0).val = i.val) (h1 : (f 1).val = 1536 + k.val) :
    concatenate ⟨2, ![n, 3584]⟩ 1 (cat n x0 x1 x2 x3 x4) h f = x3 (ix2 i k) :=
  concatenate_apply_piece 1 _ h f 3 (by show 3 < 5; omega) ⟨2, ![n, 1024]⟩ x3 rfl rfl 1536 rfl (ix2 i k)
    (fun b hb => match b, hb with
      | ⟨0, _⟩, _ => h0.symm
      | ⟨1, _⟩, hb => absurd rfl hb) h1.symm

/-- The columns of the five that are those of matrix 4. -/
theorem cat4 (h : Shape.Concatenates ((cat n x0 x1 x2 x3 x4).map (·.1)) ⟨2, ![n, 3584]⟩ 1) (f : (⟨2, ![n, 3584]⟩ : Shape).Idx)
    (i : Fin n) (k : Fin 1024) (h0 : (f 0).val = i.val) (h1 : (f 1).val = 2560 + k.val) :
    concatenate ⟨2, ![n, 3584]⟩ 1 (cat n x0 x1 x2 x3 x4) h f = x4 (ix2 i k) :=
  concatenate_apply_piece 1 _ h f 4 (by show 4 < 5; omega) ⟨2, ![n, 1024]⟩ x4 rfl rfl 2560 rfl (ix2 i k)
    (fun b hb => match b, hb with
      | ⟨0, _⟩, _ => h0.symm
      | ⟨1, _⟩, hb => absurd rfl hb) h1.symm

/-- A sum over all columns of the five, branch by branch. -/
theorem sum_cat (f : Fin 3584 → EReal) : ∑ k, f k =
    ∑ k : Fin 512, f ⟨k.val, by omega⟩ + ∑ k : Fin 512, f ⟨512 + k.val, by omega⟩ + ∑ k : Fin 512, f ⟨1024 + k.val, by omega⟩ +
      ∑ k : Fin 1024, f ⟨1536 + k.val, by omega⟩ + ∑ k : Fin 1024, f ⟨2560 + k.val, by omega⟩ := by
  refine (Fin.sum_univ_add (a := 2560) (b := 1024) f).trans (congrArg (· + _) ?_)
  refine (Fin.sum_univ_add (a := 1536) (b := 1024) _).trans (congrArg (· + _) ?_)
  refine (Fin.sum_univ_add (a := 1024) (b := 512) _).trans (congrArg (· + _) ?_)
  exact Fin.sum_univ_add (a := 512) (b := 512) _

end Cert.Concat
end
-- ==== Proof.InDx.Reference.lean ====
/-
  The reference's gradient of the input projection with respect to its input: one product over the five branches laid
  side by side, which splits into the branches' products.
-/
module

public import proofs.«01_k».proof.Proof.Product.Spec
public import proofs.«01_k».proof.Proof.Product.Concat
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.Reference7Ideal.InDx

open Cert.Reference7Ideal Cert.Reference7Ideal.Gen Cert.Reference7Ideal.Read Idealize.ShloMosaic Idealize.ShloMosaic.TcCoe Idealize.SL.Sem Cert.Product Cert.Concat

/-- The reference's result is the sum of the five branches' products. -/
theorem ref (x0 x1 x2 : Mat 8192 512) (x3 x4 : Mat 8192 1024) (x5 x6 x7 : Mat 1024 512) (x8 x9 : Mat 1024 1024) : val_main_v7 (F := Ideal) x0 x1 x2 x3 x4 x5 x6 x7 x8 x9 = (fun i => nt x0 x5 i + nt x1 x6 i + nt x2 x7 i + nt x3 x8 i + nt x4 x9 i) := by
  funext i
  idx_vars i
  simp only [val_main_v7_apply, val_main_v6_apply, val_main_v5_apply, val_main_v3_apply]
  pointwise [nt]
  refine (sum_cat _).trans ?_
  refine congrArg₂ (fun a b : EReal => a + b) (congrArg₂ (fun a b : EReal => a + b) (congrArg₂ (fun a b : EReal => a + b)
    (congrArg₂ (fun a b : EReal => a + b) ?_ ?_) ?_) ?_) ?_
  · exact Finset.sum_congr (M := EReal) rfl fun k _ => congrArg₂ (fun a b : EReal => a * b)
      (cat0 x0 x1 x2 x3 x4 _ _ i0 k rfl (Nat.zero_add _).symm) (cat0 x5 x6 x7 x8 x9 _ _ i1 k rfl (Nat.zero_add _).symm)
  · exact Finset.sum_congr (M := EReal) rfl fun k _ => congrArg₂ (fun a b : EReal => a * b)
      (cat1 x0 x1 x2 x3 x4 _ _ i0 k rfl rfl) (cat1 x5 x6 x7 x8 x9 _ _ i1 k rfl rfl)
  · exact Finset.sum_congr (M := EReal) rfl fun k _ => congrArg₂ (fun a b : EReal => a * b)
      (cat2 x0 x1 x2 x3 x4 _ _ i0 k rfl rfl) (cat2 x5 x6 x7 x8 x9 _ _ i1 k rfl rfl)
  · exact Finset.sum_congr (M := EReal) rfl fun k _ => congrArg₂ (fun a b : EReal => a * b)
      (cat3 x0 x1 x2 x3 x4 _ _ i0 k rfl rfl) (cat3 x5 x6 x7 x8 x9 _ _ i1 k rfl rfl)
  · exact Finset.sum_congr (M := EReal) rfl fun k _ => congrArg₂ (fun a b : EReal => a * b)
      (cat4 x0 x1 x2 x3 x4 _ _ i0 k rfl rfl) (cat4 x5 x6 x7 x8 x9 _ _ i1 k rfl rfl)

/-- The whole program ends with the result holding the sum of the five products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) =
        (fun i => nt (m ((c : Thread nD τ).loc main_arg0)) (m ((c : Thread nD τ).loc main_arg5)) i + nt (m ((c : Thread nD τ).loc main_arg1)) (m ((c : Thread nD τ).loc main_arg6)) i + nt (m ((c : Thread nD τ).loc main_arg2)) (m ((c : Thread nD τ).loc main_arg7)) i + nt (m ((c : Thread nD τ).loc main_arg3)) (m ((c : Thread nD τ).loc main_arg8)) i + nt (m ((c : Thread nD τ).loc main_arg4)) (m ((c : Thread nD τ).loc main_arg9)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((val_main_v7_eq _ _ _ _ _ _ _ _ _ _).trans (ref _ _ _ _ _ _ _ _ _ _)),
    (h c).2⟩) (Cert.Reference7Ideal.Value.run (F := Ideal) m ρ)

end Cert.Reference7Ideal.InDx
end
-- ==== Proof.InDx.Claims.lean ====
/-
  The claims about the gradient of the input projection with respect to its input: the reference's frame, and that the kernel and the reference end holding the same array.
-/
module

public import proofs.«01_k».proof.Defs
public import proofs.«01_k».proof.Proof.InDx.Kernel
public import proofs.«01_k».proof.Proof.InDx.Reference
public import proofs.«01_k».proof.Proof.Gen.Kernel7Ideal
public import proofs.«01_k».proof.Proof.Gen.Reference7Ideal
public import Idealize.ShloMosaic.Lib.Claim

@[expose] public section

set_option maxRecDepth 16384

noncomputable section

namespace Cert.InDx

open Idealize.ShloMosaic Idealize.ShloMosaic.TcCoe Idealize.SL.Sem

/-- The reference terminates with its arguments unchanged; it declares no semaphore. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The kernel and the reference compute the same array. -/
theorem algebraic : Cert.algebraic_Kernel7Ideal_Reference7Ideal := by
  intro m g m' g' _ agree
  refine ⟨_, Cert.Kernel7Ideal.InDx.run m g,
    (θ_run Cert.Reference7Ideal.defs _ _).mono (fun r h c => ?_) (Cert.Reference7Ideal.InDx.run m' g')⟩
  obtain ⟨h0, h1, h2, h3, h4, h5, h6, h7, h8, h9⟩ := agree c
  have := h c
  rw [h0, h1, h2, h3, h4, h5, h6, h7, h8, h9] at this ⊢
  exact this

end Cert.InDx

end
-- ==== Proof.Product.Shards.lean ====
/-
  The transpose of one matrix times another, its columns laid out by the eight devices that own them.
-/
module

public import proofs.«01_k».proof.Proof.Product.Spec

@[expose] public section

noncomputable section

namespace Cert.Product

open Idealize.ShloMosaic

/-- An array of extended reals of eight matrices. -/
abbrev Stack (r k : ℕ) : Type := (⟨3, ![8, r, k]⟩ : Shape).Idx → EReal

/-- The column of the whole matrix that column `l` of device `j` is. -/
def colOf {n q : ℕ} (h : q = 8 * n) (j : Fin 8) (l : Fin n) : Fin q := ⟨j.val * n + l.val, by have := j.isLt; have := l.isLt; subst h; nlinarith⟩

/-- A matrix's columns by the eight devices that own them. -/
def shards {r n q : ℕ} (h : q = 8 * n) (x : Mat r q) : Stack r n := fun i => x (ix2 (i 1) (colOf h (i 0) (i 2)))

end Cert.Product

end
-- ==== Proof.Product.Joined.lean ====
/-
  Five matrices side by side as one, and its columns.
-/
module

public import proofs.«01_k».proof.Proof.Product.Concat
public import proofs.«01_k».proof.Proof.Product.Shards

@[expose] public section

noncomputable section

namespace Cert.Concat

open Idealize.ShloMosaic Idealize.ShloMosaic.TcCoe Cert.Product

theorem cat_shapes : Shape.Concatenates [⟨2, ![8192, 512]⟩, ⟨2, ![8192, 512]⟩, ⟨2, ![8192, 512]⟩, ⟨2, ![8192, 1024]⟩, ⟨2, ![8192, 1024]⟩]
    (⟨2, ![8192, 3584]⟩ : Shape) (1 : Fin 2) := by decide

/-- The five matrices side by side. -/
def joined (x1 x2 x3 : Mat 8192 512) (x4 x5 : Mat 8192 1024) : Mat 8192 3584 :=
  concatenate ⟨2, ![8192, 3584]⟩ 1 (cat 8192 x1 x2 x3 x4 x5) cat_shapes

/-- Pieces behind those that hold an index are not read there. -/
theorem canon_prefix {Val : EltTy → Type} [∀ e, Nonempty (Val e)] {s : Shape} {e : EltTy} :
    ∀ (A B : List (View.Piece Val s e)) (y : s.Idx), (∃ p ∈ A, y ∈ p.1.set) → View.canon (A ++ B) y = View.canon A y
  | [], _, _, h => by obtain ⟨p, hp, _⟩ := h; simp at hp
  | p :: A, B, y, h => by
    by_cases hm : y ∈ p.1.set
    · obtain ⟨x, rfl⟩ := p.1.exists_idx_of_mem hm
      rw [show p.1.idx x = p.1.emb x from rfl, List.cons_append, View.canon_cons_emb, View.canon_cons_emb]
    · obtain ⟨q, hq, hy⟩ := h
      rcases List.mem_cons.mp hq with rfl | hq
      · exact absurd hy hm
      · rw [List.cons_append, View.canon_cons_of_not_mem _ _ hm, View.canon_cons_of_not_mem _ _ hm]
        exact canon_prefix A B y ⟨q, hq, hy⟩

end Cert.Concat

end
-- ==== Proof.InDw.Kernel.lean ====
/-
  The gradient of a branch's product with respect to its weights, the columns laid out by the eight devices that own
  them: the sixteen blocks of rows are summed in the scratch, and the last point copies the scratch out, device by device.
-/
module

public import proofs.«01_k».proof.Proof.Product.Joined
public import proofs.«01_k».proof.Proof.Gen.Kernel8Ideal.Value
public import Idealize.ShloMosaic.Lib.Pipeline.ValueKit
public import Idealize.ShloMosaic.Lib.Pointwise

@[expose] public section

set_option maxRecDepth 16384

noncomputable section

namespace Cert.Kernel8Ideal.InDw

open Cert.Kernel8Ideal Cert.Kernel8Ideal.Gen Idealize.ShloMosaic Idealize.ShloMosaic.TcCoe Idealize.SL.Sem Cert.Product Cert.Concat
open Idealize.ShloMosaic.Pipeline (Dat)

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![t.val, 0] ∧
    win0_3.index t = ![t.val, 0] ∧
    win0_4.index t = ![t.val, 0] ∧
    win0_5.index t = ![t.val, 0] ∧ win0_6.index t = ![0, 0, 0] :=
  (by decide +kernel : ∀ t : Fin grid0.N, _)

/-- The row of the whole arrays that row `r` of the blocks at point `t` is. -/
def row (t : Fin cfg0.N) (r : Fin 512) : Fin 8192 :=
  ⟨t.val * 512 + r.val, by have := r.isLt; have := t.isLt; have h : cfg0.N = 16 := N_0; omega⟩

/-- What one point adds to entry `j` of the scratch. -/
def term (x : Mat 8192 1024) (y : Mat 8192 3584) (t : Fin cfg0.N) (j : S1024x3584.Idx) : EReal :=
  ∑ r : Fin 512, x (ix2 (row t r) (j 0)) * y (ix2 (row t r) (j 1))

/-- The sixteen points add up to the entry of the product. -/
theorem sum_term (x : Mat 8192 1024) (y : Mat 8192 3584) (t : Fin cfg0.N) (h : t.val % 16 = 16 - 1) (j : S1024x3584.Idx) :
    (0 : EReal) + ∑ s : Fin 16, term x y ⟨16 * (t.val / 16) + s.val, Pipeline.run_point_lt_of_flush t h s⟩ j = tn x y j := by
  rw [zero_add]
  refine Fin.sum_mul_add_congr (n := 512) (f := fun l => x (ix2 l (j 0)) * y (ix2 l (j 1))) (fun s k hl => ?_) rfl
  have hr : row ⟨16 * (t.val / 16) + s.val, Pipeline.run_point_lt_of_flush t h s⟩ k = ⟨s.val * 512 + k.val, hl⟩ :=
    Fin.ext (by
      show (16 * (t.val / 16) + s.val) * 512 + k.val = s.val * 512 + k.val
      have := t.isLt; have h : cfg0.N = 16 := N_0; omega)
  rw [hr]

/-- A load through a box of what stores left reads what they left there. -/
theorem readAt {Val : EltTy → Type} [∀ e, Nonempty (Val e)] {sg : RefSig} {κ : Kind} {sp : Space} {S : Shape} {e : EltTy}
    (v : View sg κ sp S e) (p : List (View.Piece Val S e)) (B : LoadRect S) (x : B.shape.Idx) (i : S.Idx) (hi : ∀ a, (i a : ℕ) = B.idx x a) :
    v.readCov p B x = View.canon p i := by
  rw [View.readCov_eq_canon']
  exact congrArg (View.canon p) (funext fun a => Fin.ext (hi a).symm)

/-- A store of other columns is not read. -/
theorem skip {off n : ℕ} (inb : ∀ a, (![0, off] : Fin 2 → ℕ) a + (![1024, n] : Fin 2 → ℕ) a ≤ S1024x3584.size a)
    (w : (Rect.unit (s := S1024x3584) ![0, off] ![1024, n] inb).shape.Idx → Elt Ideal .f32) (p : List (View.Piece (Elt Ideal) S1024x3584 .f32)) (j0 : Fin 1024) (j1 : Fin 3584)
    (h : j1.val < off ∨ off + n ≤ j1.val) :
    View.canon ((⟨Rect.unit ![0, off] ![1024, n] inb, w⟩ : View.Piece (Elt Ideal) S1024x3584 .f32) :: p) (ix2 j0 j1) = View.canon p (ix2 j0 j1) :=
  View.canon_cons_of_not_mem _ _ fun hm => by
    have hm' : ix2 j0 j1 ∈ (Rect.unit (s := S1024x3584) ![0, off] ![1024, n] inb).set := hm
    have h' : off ≤ j1.val ∧ j1.val < off + n := Rect.mem_set_unit.mp hm' 1
    omega

/-- The first store leaves zero. -/
theorem base (inb : ∀ a, (![0, 0] : Fin 2 → ℕ) a + (![1024, 3584] : Fin 2 → ℕ) a ≤ S1024x3584.size a) (j : S1024x3584.Idx) :
    View.canon [(⟨Rect.unit ![0, 0] ![1024, 3584] inb, k0_pay12 (F := Ideal)⟩ : View.Piece (Elt Ideal) S1024x3584 .f32)] j = (0 : EReal) := by
  have h := View.canon_unit_zero (Val := Elt Ideal) (e := .f32) (S := S1024x3584) (off := ![0, 0]) (by decide) inb (k0_pay12 (F := Ideal))
  refine (congrFun h j).trans ?_
  unfold k0_pay12
  idx_vars j
  pointwise []

/-- The last point leaves in the output what it leaves in the scratch, device by device. -/
theorem copied (c : Dev nD) (t : Fin cfg0.N) (h : t.val % 16 = 15) :
    (outsAt0 m c t.val t.isLt).1 = shards (n := 448) rfl (outsAt0 m c t.val t.isLt).2 := by
  rw [outsAt0_C m c t (by omega) h]
  funext j
  idx_vars j
  frame_out
  canon_tiles x h
  all_goals
    open_payloads
    idx_vars x
    pointwise [shards]
    refine readAt _ _ _ _ _ fun a => ?_
    fin_cases a <;> simp [colOf] at * <;> omega

/-- A store of the columns of `k` is read there. -/
theorem hit {off n : ℕ} (inb : ∀ a, (![0, off] : Fin 2 → ℕ) a + (![1024, n] : Fin 2 → ℕ) a ≤ S1024x3584.size a)
    (w : Mat 1024 n) (p : List (View.Piece (Elt Ideal) S1024x3584 .f32)) (j0 : Fin 1024) (j1 : Fin 3584)
    (k : Fin n) (h : j1.val = off + k.val) :
    View.canon ((⟨Rect.unit ![0, off] ![1024, n] inb, w⟩ : View.Piece (Elt Ideal) S1024x3584 .f32) :: p) (ix2 j0 j1) = w (ix2 j0 k) := by
  have e : ix2 j0 j1 = (Rect.unit (s := S1024x3584) ![0, off] ![1024, n] inb).emb (ix2 j0 k) :=
    funext fun a => Fin.ext (by
      match a with
      | ⟨0, _⟩ => show j0.val = 0 + 1 * j0.val; omega
      | ⟨1, _⟩ => show j1.val = off + 1 * k.val; omega)
  rw [e, View.canon_cons_emb]

/-- Stores of the columns of the five matrices: at every column the one that holds it is read. -/
theorem five (inb0 : ∀ a, (![0, 0] : Fin 2 → ℕ) a + (![1024, 512] : Fin 2 → ℕ) a ≤ S1024x3584.size a) (inb1 : ∀ a, (![0, 512] : Fin 2 → ℕ) a + (![1024, 512] : Fin 2 → ℕ) a ≤ S1024x3584.size a) (inb2 : ∀ a, (![0, 1024] : Fin 2 → ℕ) a + (![1024, 512] : Fin 2 → ℕ) a ≤ S1024x3584.size a) (inb3 : ∀ a, (![0, 1536] : Fin 2 → ℕ) a + (![1024, 1024] : Fin 2 → ℕ) a ≤ S1024x3584.size a) (inb4 : ∀ a, (![0, 2560] : Fin 2 → ℕ) a + (![1024, 1024] : Fin 2 → ℕ) a ≤ S1024x3584.size a)
    (w0 : Mat 1024 512) (w1 : Mat 1024 512) (w2 : Mat 1024 512) (w3 : Mat 1024 1024) (w4 : Mat 1024 1024) (p : List (View.Piece (Elt Ideal) S1024x3584 .f32)) (j0 : Fin 1024) (j1 : Fin 3584) (G : EReal)
    (h0 : ∀ k : Fin 512, j1.val = 0 + k.val → w0 (ix2 j0 k) = G)
    (h1 : ∀ k : Fin 512, j1.val = 512 + k.val → w1 (ix2 j0 k) = G)
    (h2 : ∀ k : Fin 512, j1.val = 1024 + k.val → w2 (ix2 j0 k) = G)
    (h3 : ∀ k : Fin 1024, j1.val = 1536 + k.val → w3 (ix2 j0 k) = G)
    (h4 : ∀ k : Fin 1024, j1.val = 2560 + k.val → w4 (ix2 j0 k) = G) :
    View.canon ((⟨Rect.unit ![0, 2560] ![1024, 1024] inb4, w4⟩ : View.Piece (Elt Ideal) S1024x3584 .f32) :: (⟨Rect.unit ![0, 1536] ![1024, 1024] inb3, w3⟩ : View.Piece (Elt Ideal) S1024x3584 .f32) :: (⟨Rect.unit ![0, 1024] ![1024, 512] inb2, w2⟩ : View.Piece (Elt Ideal) S1024x3584 .f32) :: (⟨Rect.unit ![0, 512] ![1024, 512] inb1, w1⟩ : View.Piece (Elt Ideal) S1024x3584 .f32) :: (⟨Rect.unit ![0, 0] ![1024, 512] inb0, w0⟩ : View.Piece (Elt Ideal) S1024x3584 .f32) :: p) (ix2 j0 j1) = G := by
  have hj := j1.isLt
  by_cases c4 : 2560 ≤ j1.val
  · exact (hit _ _ _ _ _ ⟨j1.val - 2560, by omega⟩ (by show _ = 2560 + (j1.val - 2560); omega)).trans (h4 _ (by show _ = 2560 + (j1.val - 2560); omega))
  by_cases c3 : 1536 ≤ j1.val
  · exact (skip _ _ _ _ _ (by omega)).trans <| (hit _ _ _ _ _ ⟨j1.val - 1536, by omega⟩ (by show _ = 1536 + (j1.val - 1536); omega)).trans (h3 _ (by show _ = 1536 + (j1.val - 1536); omega))
  by_cases c2 : 1024 ≤ j1.val
  · exact (skip _ _ _ _ _ (by omega)).trans <| (skip _ _ _ _ _ (by omega)).trans <| (hit _ _ _ _ _ ⟨j1.val - 1024, by omega⟩ (by show _ = 1024 + (j1.val - 1024); omega)).trans (h2 _ (by show _ = 1024 + (j1.val - 1024); omega))
  by_cases c1 : 512 ≤ j1.val
  · exact (skip _ _ _ _ _ (by omega)).trans <| (skip _ _ _ _ _ (by omega)).trans <| (skip _ _ _ _ _ (by omega)).trans <| (hit _ _ _ _ _ ⟨j1.val - 512, by omega⟩ (by show _ = 512 + (j1.val - 512); omega)).trans (h1 _ (by show _ = 512 + (j1.val - 512); omega))
  exact (skip _ _ _ _ _ (by omega)).trans <| (skip _ _ _ _ _ (by omega)).trans <| (skip _ _ _ _ _ (by omega)).trans <| (skip _ _ _ _ _ (by omega)).trans <| (hit _ _ _ _ _ ⟨j1.val - 0, by omega⟩ (by show _ = 0 + (j1.val - 0); omega)).trans (h0 _ (by show _ = 0 + (j1.val - 0); omega))

/-- A block of one product. -/
def prodAt {n : ℕ} (x : Mat 512 1024) (y : Mat 512 n) (a : Fin 1024) (b : Fin n) : EReal := ∑ k : Fin 512, x (ix2 k a) * y (ix2 k b)

/-- What the store of matrix 0's columns holds. -/
theorem pay0 (x : Mat 512 1024) (o : Mat 1024 512) (y : Mat 512 512) (a : Fin 1024) (b : Fin 512) :
    k0_pay13 (F := Ideal) x o y (ix2 a b) = o (ix2 a b) + prodAt x y a b := by
  unfold k0_pay13
  pointwise [prodAt]

/-- What the store of matrix 1's columns holds. -/
theorem pay1 (x : Mat 512 1024) (o : Mat 1024 512) (y : Mat 512 512) (a : Fin 1024) (b : Fin 512) :
    k0_pay14 (F := Ideal) x o y (ix2 a b) = o (ix2 a b) + prodAt x y a b := by
  unfold k0_pay14
  pointwise [prodAt]

/-- What the store of matrix 2's columns holds. -/
theorem pay2 (x : Mat 512 1024) (o : Mat 1024 512) (y : Mat 512 512) (a : Fin 1024) (b : Fin 512) :
    k0_pay15 (F := Ideal) x o y (ix2 a b) = o (ix2 a b) + prodAt x y a b := by
  unfold k0_pay15
  pointwise [prodAt]

/-- What the store of matrix 3's columns holds. -/
theorem pay3 (x : Mat 512 1024) (o : Mat 1024 1024) (y : Mat 512 1024) (a : Fin 1024) (b : Fin 1024) :
    k0_pay1 (F := Ideal) x o y (ix2 a b) = o (ix2 a b) + prodAt x y a b := by
  unfold k0_pay1
  pointwise [prodAt]

/-- What the store of matrix 4's columns holds. -/
theorem pay4 (x : Mat 512 1024) (o : Mat 1024 1024) (y : Mat 512 1024) (a : Fin 1024) (b : Fin 1024) :
    k0_pay2 (F := Ideal) x o y (ix2 a b) = o (ix2 a b) + prodAt x y a b := by
  unfold k0_pay2
  pointwise [prodAt]

/-- The block of matrix 0's product is what the point adds. -/
theorem add0 (c : Dev nD) (t : Fin cfg0.N) (j0 : Fin 1024) (j1 : Fin 3584) (k : Fin 512) (h : j1.val = 0 + k.val) :
    prodAt (iblk m c 0 t) (iblk m c 1 t) j0 k = term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))) t (ix2 j0 j1) := by
  refine Finset.sum_congr (M := EReal) rfl fun r _ => congrArg₂ (fun a b : EReal => a * b) (?_ : _ = (m ((c : Thread nD τ).loc main_arg0)) (ix2 (row t r) j0))
    (Eq.trans ?_ (cat0 (m ((c : Thread nD τ).loc main_arg1)) (m ((c : Thread nD τ).loc main_arg2)) (m ((c : Thread nD τ).loc main_arg3)) (m ((c : Thread nD τ).loc main_arg4)) (m ((c : Thread nD τ).loc main_arg5)) cat_shapes (ix2 (row t r) j1) (row t r) k rfl h).symm)
  · blk_point [iblk, V, idx t, row]
  · blk_point [iblk, V, idx t, row]

/-- The block of matrix 1's product is what the point adds. -/
theorem add1 (c : Dev nD) (t : Fin cfg0.N) (j0 : Fin 1024) (j1 : Fin 3584) (k : Fin 512) (h : j1.val = 512 + k.val) :
    prodAt (iblk m c 0 t) (iblk m c 2 t) j0 k = term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))) t (ix2 j0 j1) := by
  refine Finset.sum_congr (M := EReal) rfl fun r _ => congrArg₂ (fun a b : EReal => a * b) (?_ : _ = (m ((c : Thread nD τ).loc main_arg0)) (ix2 (row t r) j0))
    (Eq.trans ?_ (cat1 (m ((c : Thread nD τ).loc main_arg1)) (m ((c : Thread nD τ).loc main_arg2)) (m ((c : Thread nD τ).loc main_arg3)) (m ((c : Thread nD τ).loc main_arg4)) (m ((c : Thread nD τ).loc main_arg5)) cat_shapes (ix2 (row t r) j1) (row t r) k rfl h).symm)
  · blk_point [iblk, V, idx t, row]
  · blk_point [iblk, V, idx t, row]

/-- The block of matrix 2's product is what the point adds. -/
theorem add2 (c : Dev nD) (t : Fin cfg0.N) (j0 : Fin 1024) (j1 : Fin 3584) (k : Fin 512) (h : j1.val = 1024 + k.val) :
    prodAt (iblk m c 0 t) (iblk m c 3 t) j0 k = term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))) t (ix2 j0 j1) := by
  refine Finset.sum_congr (M := EReal) rfl fun r _ => congrArg₂ (fun a b : EReal => a * b) (?_ : _ = (m ((c : Thread nD τ).loc main_arg0)) (ix2 (row t r) j0))
    (Eq.trans ?_ (cat2 (m ((c : Thread nD τ).loc main_arg1)) (m ((c : Thread nD τ).loc main_arg2)) (m ((c : Thread nD τ).loc main_arg3)) (m ((c : Thread nD τ).loc main_arg4)) (m ((c : Thread nD τ).loc main_arg5)) cat_shapes (ix2 (row t r) j1) (row t r) k rfl h).symm)
  · blk_point [iblk, V, idx t, row]
  · blk_point [iblk, V, idx t, row]

/-- The block of matrix 3's product is what the point adds. -/
theorem add3 (c : Dev nD) (t : Fin cfg0.N) (j0 : Fin 1024) (j1 : Fin 3584) (k : Fin 1024) (h : j1.val = 1536 + k.val) :
    prodAt (iblk m c 0 t) (iblk m c 4 t) j0 k = term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))) t (ix2 j0 j1) := by
  refine Finset.sum_congr (M := EReal) rfl fun r _ => congrArg₂ (fun a b : EReal => a * b) (?_ : _ = (m ((c : Thread nD τ).loc main_arg0)) (ix2 (row t r) j0))
    (Eq.trans ?_ (cat3 (m ((c : Thread nD τ).loc main_arg1)) (m ((c : Thread nD τ).loc main_arg2)) (m ((c : Thread nD τ).loc main_arg3)) (m ((c : Thread nD τ).loc main_arg4)) (m ((c : Thread nD τ).loc main_arg5)) cat_shapes (ix2 (row t r) j1) (row t r) k rfl h).symm)
  · blk_point [iblk, V, idx t, row]
  · blk_point [iblk, V, idx t, row]

/-- The block of matrix 4's product is what the point adds. -/
theorem add4 (c : Dev nD) (t : Fin cfg0.N) (j0 : Fin 1024) (j1 : Fin 3584) (k : Fin 1024) (h : j1.val = 2560 + k.val) :
    prodAt (iblk m c 0 t) (iblk m c 5 t) j0 k = term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))) t (ix2 j0 j1) := by
  refine Finset.sum_congr (M := EReal) rfl fun r _ => congrArg₂ (fun a b : EReal => a * b) (?_ : _ = (m ((c : Thread nD τ).loc main_arg0)) (ix2 (row t r) j0))
    (Eq.trans ?_ (cat4 (m ((c : Thread nD τ).loc main_arg1)) (m ((c : Thread nD τ).loc main_arg2)) (m ((c : Thread nD τ).loc main_arg3)) (m ((c : Thread nD τ).loc main_arg4)) (m ((c : Thread nD τ).loc main_arg5)) cat_shapes (ix2 (row t r) j1) (row t r) k rfl h).symm)
  · blk_point [iblk, V, idx t, row]
  · blk_point [iblk, V, idx t, row]

set_option maxHeartbeats 2000000 in
/-- At the last point the scratch holds the sum of the sixteen points. -/
theorem scratch (c : Dev nD) (t : Fin cfg0.N) (ht : t.val % 16 = 16 - 1) (j : S1024x3584.Idx) :
    (outsAt0 m c t.val t.isLt).2 j = (0 : EReal) + ∑ s : Fin 16,
      term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5)))
        ⟨16 * (t.val / 16) + s.val, Pipeline.run_point_lt_of_flush t ht s⟩ j := by
  refine Pipeline.eq_sum_fin_of_reset_step_apply_of_flush (fun n h => (outsAt0 m c n h).2) 16 (fun _ => (0 : EReal))
    (term (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))))
    (fun t h j => ?_) (fun t h j => ?_) t ht j
  · rw [outsAt0_A m c t h (by omega)]
    idx_vars j
    frame_out
    refine five _ _ _ _ _ _ _ _ _ _ _ j0 j1 _ (fun k hk => ?_) (fun k hk => ?_) (fun k hk => ?_) (fun k hk => ?_) (fun k hk => ?_)
    · have hk' := k.isLt
      refine (pay0 _ _ _ _ _).trans (congrArg₂ (fun a b : EReal => a + b) ?_ (add0 m c t j0 j1 k hk))
      refine (readAt _ _ _ _ (ix2 j0 j1) fun a => ?_).trans <| base _ _
      match a with
      | ⟨0, _⟩ => show j0.val = 0 + 1 * j0.val; omega
      | ⟨1, _⟩ => show j1.val = 0 + 1 * k.val; omega
    · have hk' := k.isLt
      refine (pay1 _ _ _ _ _).trans (congrArg₂ (fun a b : EReal => a + b) ?_ (add1 m c t j0 j1 k hk))
      refine (readAt _ _ _ _ (ix2 j0 j1) fun a => ?_).trans <| (skip _ _ _ _ _ (by omega)).trans <| base _ _
      match a with
      | ⟨0, _⟩ => show j0.val = 0 + 1 * j0.val; omega
      | ⟨1, _⟩ => show j1.val = 512 + 1 * k.val; omega
    · have hk' := k.isLt
      refine (pay2 _ _ _ _ _).trans (congrArg₂ (fun a b : EReal => a + b) ?_ (add2 m c t j0 j1 k hk))
      refine (readAt _ _ _ _ (ix2 j0 j1) fun a => ?_).trans <| (skip _ _ _ _ _ (by omega)).trans <| (skip _ _ _ _ _ (by omega)).trans <| base _ _
      match a with
      | ⟨0, _⟩ => show j0.val = 0 + 1 * j0.val; omega
      | ⟨1, _⟩ => show j1.val = 1024 + 1 * k.val; omega
    · have hk' := k.isLt
      refine (pay3 _ _ _ _ _).trans (congrArg₂ (fun a b : EReal => a + b) ?_ (add3 m c t j0 j1 k hk))
      refine (readAt _ _ _ _ (ix2 j0 j1) fun a => ?_).trans <| (skip _ _ _ _ _ (by omega)).trans <| (skip _ _ _ _ _ (by omega)).trans <| (skip _ _ _ _ _ (by omega)).trans <| base _ _
      match a with
      | ⟨0, _⟩ => show j0.val = 0 + 1 * j0.val; omega
      | ⟨1, _⟩ => show j1.val = 1536 + 1 * k.val; omega
    · have hk' := k.isLt
      refine (pay4 _ _ _ _ _).trans (congrArg₂ (fun a b : EReal => a + b) ?_ (add4 m c t j0 j1 k hk))
      refine (readAt _ _ _ _ (ix2 j0 j1) fun a => ?_).trans <| (skip _ _ _ _ _ (by omega)).trans <| (skip _ _ _ _ _ (by omega)).trans <| (skip _ _ _ _ _ (by omega)).trans <| (skip _ _ _ _ _ (by omega)).trans <| base _ _
      match a with
      | ⟨0, _⟩ => show j0.val = 0 + 1 * j0.val; omega
      | ⟨1, _⟩ => show j1.val = 2560 + 1 * k.val; omega
  · by_cases h1 : t.val % 16 = 15
    · rw [outsAt0_C m c t h h1]
      idx_vars j
      frame_out
      refine five _ _ _ _ _ _ _ _ _ _ _ j0 j1 _ (fun k hk => ?_) (fun k hk => ?_) (fun k hk => ?_) (fun k hk => ?_) (fun k hk => ?_)
      · have hk' := k.isLt
        refine (pay0 _ _ _ _ _).trans (congrArg₂ (fun a b : EReal => a + b) ?_ (add0 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 0 + 1 * k.val = j1.val; omega
      · have hk' := k.isLt
        refine (pay1 _ _ _ _ _).trans (congrArg₂ (fun a b : EReal => a + b) ?_ (add1 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 512 + 1 * k.val = j1.val; omega
      · have hk' := k.isLt
        refine (pay2 _ _ _ _ _).trans (congrArg₂ (fun a b : EReal => a + b) ?_ (add2 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 1024 + 1 * k.val = j1.val; omega
      · have hk' := k.isLt
        refine (pay3 _ _ _ _ _).trans (congrArg₂ (fun a b : EReal => a + b) ?_ (add3 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 1536 + 1 * k.val = j1.val; omega
      · have hk' := k.isLt
        refine (pay4 _ _ _ _ _).trans (congrArg₂ (fun a b : EReal => a + b) ?_ (add4 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 2560 + 1 * k.val = j1.val; omega
    · rw [outsAt0_B m c t h h1]
      idx_vars j
      frame_out
      refine five _ _ _ _ _ _ _ _ _ _ _ j0 j1 _ (fun k hk => ?_) (fun k hk => ?_) (fun k hk => ?_) (fun k hk => ?_) (fun k hk => ?_)
      · have hk' := k.isLt
        refine (pay0 _ _ _ _ _).trans (congrArg₂ (fun a b : EReal => a + b) ?_ (add0 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 0 + 1 * k.val = j1.val; omega
      · have hk' := k.isLt
        refine (pay1 _ _ _ _ _).trans (congrArg₂ (fun a b : EReal => a + b) ?_ (add1 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 512 + 1 * k.val = j1.val; omega
      · have hk' := k.isLt
        refine (pay2 _ _ _ _ _).trans (congrArg₂ (fun a b : EReal => a + b) ?_ (add2 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 1024 + 1 * k.val = j1.val; omega
      · have hk' := k.isLt
        refine (pay3 _ _ _ _ _).trans (congrArg₂ (fun a b : EReal => a + b) ?_ (add3 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 1536 + 1 * k.val = j1.val; omega
      · have hk' := k.isLt
        refine (pay4 _ _ _ _ _).trans (congrArg₂ (fun a b : EReal => a + b) ?_ (add4 m c t j0 j1 k hk))
        refine (congrFun (Memref.IsWhole.read_unread _ _) _).trans (congrArg _ (funext fun a => Fin.ext ?_))
        match a with
        | ⟨0, _⟩ => show 0 + 1 * j0.val = j0.val; omega
        | ⟨1, _⟩ => show 2560 + 1 * k.val = j1.val; omega

/-- The last point leaves in the output the product's columns by device. -/
theorem last (c : Dev nD) (t : Fin cfg0.N) (ht : t.val % 16 = 15) : (outsAt0 m c t.val t.isLt).1 =
    shards (n := 448) rfl (tn (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5)))) := by
  rw [copied m c t ht]
  exact congrArg (shards rfl) (funext fun j => (scratch m c t ht j).trans (sum_term _ _ t ht j))

/-- The result array holds the product's columns by device. -/
theorem out (c : Dev nD) : (dats m 0 c).arrAt 6 cfg0.N =
    shards (n := 448) rfl (tn (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5)))) := by
  refine (dats m 0 c).arrAt_eq_of_covers 6 _ (by decide +kernel) fun t hf y => ?_
  have ht := (flush0_6 t).mp hf
  blk_simp
  rw [after0_6, last m c t ht]
  idx_vars y
  blk_point [idx t]

/-- The whole program ends with the result holding the product's columns by device, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        shards (n := 448) rfl (tn (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out m c),
    (h c).2⟩) (Cert.Kernel8Ideal.Value.run_blocks m ρ)

end Cert.Kernel8Ideal.InDw
end
-- ==== Proof.InDw.Reference.lean ====
/-
  The reference's gradient with respect to the input projection's weights.
-/
module

public import proofs.«01_k».proof.Proof.Product.Joined
public import proofs.«01_k».proof.Proof.Product.Shards
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Reference8Ideal.InDw

open Cert.Reference8Ideal Cert.Reference8Ideal.Gen Cert.Reference8Ideal.Read Idealize.ShloMosaic Idealize.ShloMosaic.TcCoe Idealize.SL.Sem Cert.Product Cert.Concat

/-- The reference's result is the product's columns by device. -/
theorem ref (x0 : Mat 8192 1024) (x1 x2 x3 : Mat 8192 512) (x4 x5 : Mat 8192 1024) : val_main_v9 (F := Ideal) x0 x1 x2 x3 x4 x5 = shards (n := 448) rfl (tn x0 (joined x1 x2 x3 x4 x5)) := by
  funext i
  idx_vars i
  simp only [val_main_v9_apply, val_main_v8_apply, val_main_v7_apply, val_main_v6_apply, val_main_v5_apply, val_main_v4_apply,
      val_main_v2_apply]
  pointwise [shards, tn]
  have h0 := i0.isLt
  have h1 := i1.isLt
  have h2 := i2.isLt
  exact Finset.sum_congr (M := EReal) rfl fun k _ => (mul_comm _ _).trans (congrArg₂ (fun a b : EReal => a * b)
    (read2 _ rfl (Fin.ext (show ((i1.val * 8 + i0.val) * 448 + i2.val) / 3584 = i1.val by omega)))
    ((read2 (joined x1 x2 x3 x4 x5) rfl (Fin.ext (show ((i1.val * 8 + i0.val) * 448 + i2.val) % 3584 = i0.val * 448 + i2.val by omega)))))

/-- The whole program ends with the result holding the product's columns by device, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9) =
        shards (n := 448) rfl (tn (m ((c : Thread nD τ).loc main_arg0)) (joined (m ((c : Thread nD τ).loc main_arg1)) (m ((c : Thread nD τ).loc main_arg2)) (m ((c : Thread nD τ).loc main_arg3)) (m ((c : Thread nD τ).loc main_arg4)) (m ((c : Thread nD τ).loc main_arg5))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((val_main_v9_eq _ _ _ _ _ _).trans (ref _ _ _ _ _ _)),
    (h c).2⟩) (Cert.Reference8Ideal.Value.run (F := Ideal) m ρ)

end Cert.Reference8Ideal.InDw
end
-- ==== Proof.InDw.Claims.lean ====
/-
  The claims about the gradient with respect to the input projection's weights: the reference's frame, and that the kernel and the reference end holding the same array.
-/
module

public import proofs.«01_k».proof.Defs
public import proofs.«01_k».proof.Proof.InDw.Kernel
public import proofs.«01_k».proof.Proof.InDw.Reference
public import proofs.«01_k».proof.Proof.Gen.Kernel8Ideal
public import proofs.«01_k».proof.Proof.Gen.Reference8Ideal
public import Idealize.ShloMosaic.Lib.Claim

@[expose] public section

set_option maxRecDepth 16384

noncomputable section

namespace Cert.InDw

open Idealize.ShloMosaic Idealize.ShloMosaic.TcCoe Idealize.SL.Sem

/-- The reference terminates with its arguments unchanged; it declares no semaphore. -/
theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The kernel and the reference compute the same array. -/
theorem algebraic : Cert.algebraic_Kernel8Ideal_Reference8Ideal := by
  intro m g m' g' _ agree
  refine ⟨_, Cert.Kernel8Ideal.InDw.run m g,
    (θ_run Cert.Reference8Ideal.defs _ _).mono (fun r h c => ?_) (Cert.Reference8Ideal.InDw.run m' g')⟩
  obtain ⟨h0, h1, h2, h3, h4, h5⟩ := agree c
  have := h c
  rw [h0, h1, h2, h3, h4, h5] at this ⊢
  exact this

end Cert.InDw

end
-- ==== Proof.OutDx.Kernel.lean ====
/-
  The gradient of the output projection with respect to its input, block by block: every point computes one block of
  rows of `do · w_oᵀ`.
-/
module

public import proofs.«01_k».proof.Proof.Product.Spec
public import proofs.«01_k».proof.Proof.Gen.Kernel9Ideal.Value
public import Idealize.ShloMosaic.Lib.Pipeline.ValueKit
public import Idealize.ShloMosaic.Lib.Pointwise

@[expose] public section

set_option maxRecDepth 16384

noncomputable section

namespace Cert.Kernel9Ideal.OutDx

open Cert.Kernel9Ideal Cert.Kernel9Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val, 0] ∧
    win0_1.index t = ![0, 0] ∧
    win0_2.index t = ![t.val, 0] :=
  (by decide +kernel : ∀ t : Fin grid0.N, _)

/-- The result array holds the first argument times the transpose of the second. -/
theorem out (c : Dev nD) : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  frame_out
  unfold_payloads
  pointwise [nt]
  refine Finset.sum_congr (M := EReal) rfl fun k _ => ?_
  blk_point [iblk, V, idx t]

/-- The whole program ends with the result holding the first argument times the transpose of the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        nt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel9Ideal.Value.run_blocks m ρ)

end Cert.Kernel9Ideal.OutDx
end
-- ==== Proof.OutDx.Reference.lean ====
/-
  The reference of the gradient of the output projection with respect to its input.
-/
module

public import proofs.«01_k».proof.Proof.Product.Spec
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Reference9Ideal.OutDx

open Cert.Reference9Ideal Cert.Reference9Ideal.Gen Cert.Reference9Ideal.Read Idealize.ShloMosaic Idealize.ShloMosaic.TcCoe Idealize.SL.Sem Cert.Product

/-- The reference's result is the first argument times the transpose of the second. -/
theorem ref (x0 : Mat 8192 1024) (x1 : Mat 1024 1024) : val_main_v5 (F := Ideal) x0 x1 = nt x0 x1 := by
  funext i
  idx_vars i
  simp only [val_main_v5_apply, val_main_v4_apply, val_main_v3_apply, val_main_v1_apply]
  pointwise [nt]
  exact Finset.sum_congr (M := EReal) rfl fun k _ => congrArg₂ (fun a b : EReal => a * b) (read2 _ rfl rfl) (read2 _ rfl rfl)

/-- The whole program ends with the result holding the first argument times the transpose of the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) =
        nt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v5_eq _ _).trans (ref _ _)),
    (h c).2⟩) (Cert.Reference9Ideal.Value.run (F := Ideal) m ρ)

end Cert.Reference9Ideal.OutDx
end
-- ==== Proof.OutDx.Claims.lean ====
/-
  The claims about the gradient of the output projection with respect to its input: the reference's frame, and that the kernel and the reference end holding the same array.
-/
module

public import proofs.«01_k».proof.Defs
public import proofs.«01_k».proof.Proof.OutDx.Kernel
public import proofs.«01_k».proof.Proof.OutDx.Reference
public import proofs.«01_k».proof.Proof.Gen.Kernel9Ideal
public import proofs.«01_k».proof.Proof.Gen.Reference9Ideal
public import Idealize.ShloMosaic.Lib.Claim

@[expose] public section

set_option maxRecDepth 16384

noncomputable section

namespace Cert.OutDx

open Idealize.ShloMosaic Idealize.ShloMosaic.TcCoe Idealize.SL.Sem

/-- The reference terminates with its arguments unchanged; it declares no semaphore. -/
theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- The kernel and the reference compute the same array. -/
theorem algebraic : Cert.algebraic_Kernel9Ideal_Reference9Ideal := by
  intro m g m' g' _ agree
  refine ⟨_, Cert.Kernel9Ideal.OutDx.run m g,
    (θ_run Cert.Reference9Ideal.defs _ _).mono (fun r h c => ?_) (Cert.Reference9Ideal.OutDx.run m' g')⟩
  obtain ⟨h0, h1⟩ := agree c
  have := h c
  rw [h0, h1] at this ⊢
  exact this

end Cert.OutDx

end
-- ==== Proof.OutDw.Kernel.lean ====
/-
  The gradient of the output projection with respect to its weights: the product is summed over the eight blocks of rows in
  the scratch, and the last point copies the scratch out.
-/
module

public import proofs.«01_k».proof.Proof.Product.Spec
public import proofs.«01_k».proof.Proof.Gen.Kernel10Ideal.Value
public import Idealize.ShloMosaic.Lib.Pipeline.ValueKit
public import Idealize.ShloMosaic.Lib.Pointwise

@[expose] public section

set_option maxRecDepth 16384

noncomputable section

namespace Cert.Kernel10Ideal.OutDw

open Cert.Kernel10Ideal Cert.Kernel10Ideal.Gen Idealize.ShloMosaic Idealize.ShloMosaic.TcCoe Idealize.SL.Sem Cert.Product
open Idealize.ShloMosaic.Pipeline (Dat)

variable (m : (ℓ : Loc nD τ sig) → Buf (Elt Ideal) ℓ)

/-- The blocks of the three arrays at point `t`. -/
theorem idx : ∀ t : Fin cfg0.N, win0_0.index t = ![t.val % 8, 0] ∧ win0_1.index t = ![t.val % 8, t.val / 8] ∧
    win0_2.index t = ![0, t.val / 8] :=
  (by decide +kernel : ∀ t : Fin grid0.N, _)

/-- The row of the whole arrays that row `r` of the blocks at point `t` is. -/
def row (t : Fin cfg0.N) (r : Fin 1024) : Fin 8192 := ⟨t.val % 8 * 1024 + r.val, by have := r.isLt; omega⟩

/-- The column of the second array that column `k` of its block at point `t` is. -/
def col (t : Fin cfg0.N) (k : Fin 1024) : Fin 1024 :=
  ⟨t.val / 8 * 1024 + k.val, by have := k.isLt; have := t.isLt; have h : cfg0.N = 8 := N_0; omega⟩

/-- What one point adds to entry `j` of its output block. -/
def term (x : Mat 8192 1024) (y : Mat 8192 1024) (t : Fin cfg0.N) (j : S1024x1024.Idx) : EReal :=
  ∑ r : Fin 1024, x (ix2 (row t r) (j 0)) * y (ix2 (row t r) (col t (j 1)))

/-- The eight points of one output block add up to its entry of the product. -/
theorem sum_term (x : Mat 8192 1024) (y : Mat 8192 1024) (t : Fin cfg0.N) (h : t.val % 8 = 8 - 1) (j : S1024x1024.Idx) :
    (0 : EReal) + ∑ s : Fin 8, term x y ⟨8 * (t.val / 8) + s.val, Pipeline.run_point_lt_of_flush t h s⟩ j =
      tn x y (ix2 (j 0) (col t (j 1))) := by
  rw [zero_add]
  refine Fin.sum_mul_add_congr (n := 1024) (f := fun l => x (ix2 l (j 0)) * y (ix2 l (col t (j 1)))) (fun s k hl => ?_) rfl
  have hr : row ⟨8 * (t.val / 8) + s.val, Pipeline.run_point_lt_of_flush t h s⟩ k = ⟨s.val * 1024 + k.val, hl⟩ :=
    Fin.ext (by show (8 * (t.val / 8) + s.val) % 8 * 1024 + k.val = s.val * 1024 + k.val; have := s.isLt; omega)
  have hc : col ⟨8 * (t.val / 8) + s.val, Pipeline.run_point_lt_of_flush t h s⟩ (j 1) = col t (j 1) :=
    Fin.ext (by show (8 * (t.val / 8) + s.val) / 8 * 1024 + _ = t.val / 8 * 1024 + _; have := s.isLt; omega)
  rw [hr, hc]

/-- The last point of an output block leaves in it what it leaves in the scratch. -/
theorem copied (c : Dev nD) (t : Fin cfg0.N) (h : t.val % 8 = 7) :
    (outsAt0 m c t.val t.isLt).1 = (outsAt0 m c t.val t.isLt).2 := by
  rw [outsAt0_C m c t (by omega) h]
  funext j
  frame_out
  unfold_payloads
  pointwise []

/-- At the last point of an output block the scratch holds the sum of the eight points. -/
theorem scratch (c : Dev nD) (t : Fin cfg0.N) (ht : t.val % 8 = 8 - 1) (j : S1024x1024.Idx) :
    (outsAt0 m c t.val t.isLt).2 j = (0 : EReal) + ∑ s : Fin 8,
      term (m ((c : Thread nD τ).loc main_arg0)) (m ((c : Thread nD τ).loc main_arg1))
        ⟨8 * (t.val / 8) + s.val, Pipeline.run_point_lt_of_flush t ht s⟩ j := by
  refine Pipeline.eq_sum_fin_of_reset_step_apply_of_flush (fun n h => (outsAt0 m c n h).2) 8 (fun _ => (0 : EReal))
    (term (m ((c : Thread nD τ).loc main_arg0)) (m ((c : Thread nD τ).loc main_arg1)))
    (fun t h j => ?_) (fun t h j => ?_) t ht j
  · rw [outsAt0_A m c t h (by omega)]; frame_out
    unfold_payloads
    idx_vars j
    pointwise []
    refine Finset.sum_congr (M := EReal) rfl fun r _ => ?_
    blk_point [iblk, V, idx t, row, col]
  · by_cases h1 : t.val % 8 = 7
    · rw [outsAt0_C m c t h h1]; frame_out
      unfold_payloads
      idx_vars j
      pointwise []
      refine congrArg₂ (fun a b : EReal => a + b) (congrFun (Memref.IsWhole.read_unread _ _) _) (Finset.sum_congr (M := EReal) rfl fun r _ => ?_)
      blk_point [iblk, V, idx t, row, col]
    · rw [outsAt0_B m c t h h1]; frame_out
      unfold_payloads
      idx_vars j
      pointwise []
      refine congrArg₂ (fun a b : EReal => a + b) (congrFun (Memref.IsWhole.read_unread _ _) _) (Finset.sum_congr (M := EReal) rfl fun r _ => ?_)
      blk_point [iblk, V, idx t, row, col]

/-- The result array holds the transpose of the first argument times the second. -/
theorem out (c : Dev nD) : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  rw [copied m c t ht]
  refine (scratch m c t ht y).trans ((sum_term _ _ t ht y).trans ?_)
  idx_vars y
  blk_point [idx t, col]

/-- The whole program ends with the result holding the transpose of the first argument times the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        tn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel10Ideal.Value.run_blocks m ρ)

end Cert.Kernel10Ideal.OutDw
end
-- ==== Proof.OutDw.Reference.lean ====
/-
  The reference's gradient of the output projection with respect to its weights.
-/
module

public import proofs.«01_k».proof.Proof.Product.Spec
public import proofs.«01_k».proof.Proof.Gen.Reference10Ideal.Run
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.Reference10Ideal.OutDw

open Cert.Reference10Ideal Cert.Reference10Ideal.Gen Cert.Reference10Ideal.Read Idealize.ShloMosaic Idealize.ShloMosaic.TcCoe Idealize.SL.Sem Cert.Product

/-- The reference's result is the transpose of the first argument times the second. -/
theorem ref (x0 : Mat 8192 1024) (x1 : Mat 8192 1024) : val_main_v6 (F := Ideal) x0 x1 = tn x0 x1 := by
  funext i
  idx_vars i
  simp only [val_main_v6_apply, val_main_v5_apply, val_main_v4_apply, val_main_v3_apply, val_main_v1_apply]
  pointwise [tn]
  exact Finset.sum_congr (M := EReal) rfl fun k _ => (mul_comm _ _).trans (congrArg₂ (fun a b : EReal => a * b) (read2 _ rfl rfl) (read2 _ rfl rfl))

/-- The whole program ends with the result holding the transpose of the first argument times the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) =
        tn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v6_eq _ _).trans (ref _ _)),
    (h c).2⟩) (Cert.Reference10Ideal.Value.run (F := Ideal) m ρ)

end Cert.Reference10Ideal.OutDw
end
-- ==== Proof.OutDw.Claims.lean ====
/-
  The claims about the gradient of the output projection with respect to its weights: the reference's frame, and that the kernel and the reference end holding the same array.
-/
module

public import proofs.«01_k».proof.Defs
public import proofs.«01_k».proof.Proof.OutDw.Kernel
public import proofs.«01_k».proof.Proof.OutDw.Reference
public import proofs.«01_k».proof.Proof.Gen.Kernel10Ideal
public import proofs.«01_k».proof.Proof.Gen.Reference10Ideal
public import Idealize.ShloMosaic.Lib.Claim

@[expose] public section

set_option maxRecDepth 16384

noncomputable section

namespace Cert.OutDw

open Idealize.ShloMosaic Idealize.ShloMosaic.TcCoe Idealize.SL.Sem

/-- The reference terminates with its arguments unchanged; it declares no semaphore. -/
theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- The kernel and the reference compute the same array. -/
theorem algebraic : Cert.algebraic_Kernel10Ideal_Reference10Ideal := by
  intro m g m' g' _ agree
  refine ⟨_, Cert.Kernel10Ideal.OutDw.run m g,
    (θ_run Cert.Reference10Ideal.defs _ _).mono (fun r h c => ?_) (Cert.Reference10Ideal.OutDw.run m' g')⟩
  obtain ⟨h0, h1⟩ := agree c
  have := h c
  rw [h0, h1] at this ⊢
  exact this

end Cert.OutDw

end
-- ==== Proof.GluDx.Kernel.lean ====
/-
  The gradient of the two products after the state-space layer with respect to their input, block by block: every
  point computes one block of rows of `dy_a · w_aᵀ + dy_b · w_bᵀ`.
-/
module

public import proofs.«01_k».proof.Proof.Product.Spec
public import proofs.«01_k».proof.Proof.Gen.Kernel11Ideal.Value
public import Idealize.ShloMosaic.Lib.Pipeline.ValueKit
public import Idealize.ShloMosaic.Lib.Pointwise

@[expose] public section

set_option maxRecDepth 16384

noncomputable section

namespace Cert.Kernel11Ideal.GluDx

open Cert.Kernel11Ideal Cert.Kernel11Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![0, 0] ∧
    win0_3.index t = ![0, 0] ∧
    win0_4.index t = ![t.val, 0] :=
  (by decide +kernel : ∀ t : Fin grid0.N, _)

/-- The result array holds the sum of the two products. -/
theorem out (c : Dev nD) : (dats m 0 c).arrAt 4 cfg0.N =
    (fun i => nt (m ((c : Thread nD τ).loc main_arg0)) (m ((c : Thread nD τ).loc main_arg2)) i + nt (m ((c : Thread nD τ).loc main_arg1)) (m ((c : Thread nD τ).loc main_arg3)) i) := by
  refine (dats m 0 c).arrAt_eq_of_covers 4 _ (by decide +kernel) fun t hf y => ?_
  blk_simp
  rw [after0_4]
  idx_vars y
  frame_out
  unfold_payloads
  pointwise [nt]
  refine congrArg₂ (fun a b : EReal => a + b) ?_ ?_
  · refine Finset.sum_congr (M := EReal) rfl fun k _ => ?_
    blk_point [iblk, V, idx t]
  · refine Finset.sum_congr (M := EReal) rfl fun k _ => ?_
    blk_point [iblk, V, idx t]

/-- The whole program ends with the result holding the sum of the two products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        (fun i => nt (m ((c : Thread nD τ).loc main_arg0)) (m ((c : Thread nD τ).loc main_arg2)) i + nt (m ((c : Thread nD τ).loc main_arg1)) (m ((c : Thread nD τ).loc main_arg3)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out m c),
    (h c).2⟩) (Cert.Kernel11Ideal.Value.run_blocks m ρ)

end Cert.Kernel11Ideal.GluDx
end
-- ==== Proof.GluDx.Reference.lean ====
/-
  The reference of the gradient of the two products after the state-space layer.
-/
module

public import proofs.«01_k».proof.Proof.Product.Spec
public import proofs.«01_k».proof.Proof.Gen.Reference11Ideal.Run
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.Reference11Ideal.GluDx

open Cert.Reference11Ideal Cert.Reference11Ideal.Gen Cert.Reference11Ideal.Read Idealize.ShloMosaic Idealize.ShloMosaic.TcCoe Idealize.SL.Sem Cert.Product

/-- The reference's result is the sum of the two products. -/
theorem ref (x0 x1 : Mat 8192 1024) (x2 x3 : Mat 512 1024) : val_main_v10 (F := Ideal) x0 x1 x2 x3 = (fun i => nt x0 x2 i + nt x1 x3 i) := by
  funext i
  idx_vars i
  simp only [val_main_v10_apply, val_main_v9_apply, val_main_v7_apply, val_main_v6_apply, val_main_v3_apply, val_main_v8_apply,
      val_main_v5_apply, val_main_v1_apply]
  pointwise [nt]
  refine (add_comm _ _).trans (congrArg₂ (fun a b : EReal => a + b) ?_ ?_)
  · exact Finset.sum_congr (M := EReal) rfl fun k _ => congrArg₂ (fun a b : EReal => a * b) (read2 _ rfl rfl) (read2 _ rfl rfl)
  · exact Finset.sum_congr (M := EReal) rfl fun k _ => congrArg₂ (fun a b : EReal => a * b) (read2 _ rfl rfl) (read2 _ rfl rfl)

/-- The whole program ends with the result holding the sum of the two products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10) =
        (fun i => nt (m ((c : Thread nD τ).loc main_arg0)) (m ((c : Thread nD τ).loc main_arg2)) i + nt (m ((c : Thread nD τ).loc main_arg1)) (m ((c : Thread nD τ).loc main_arg3)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v10_eq _ _ _ _).trans (ref _ _ _ _)),
    (h c).2⟩) (Cert.Reference11Ideal.Value.run (F := Ideal) m ρ)

end Cert.Reference11Ideal.GluDx
end
-- ==== Proof.GluDx.Claims.lean ====
/-
  The claims about the gradient of the two products after the state-space layer with respect to their input: the reference's frame, and that the kernel and the reference end holding the same array.
-/
module

public import proofs.«01_k».proof.Defs
public import proofs.«01_k».proof.Proof.GluDx.Kernel
public import proofs.«01_k».proof.Proof.GluDx.Reference
public import proofs.«01_k».proof.Proof.Gen.Kernel11Ideal
public import proofs.«01_k».proof.Proof.Gen.Reference11Ideal
public import Idealize.ShloMosaic.Lib.Claim

@[expose] public section

set_option maxRecDepth 16384

noncomputable section

namespace Cert.GluDx

open Idealize.ShloMosaic Idealize.ShloMosaic.TcCoe Idealize.SL.Sem

/-- The reference terminates with its arguments unchanged; it declares no semaphore. -/
theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- The kernel and the reference compute the same array. -/
theorem algebraic : Cert.algebraic_Kernel11Ideal_Reference11Ideal := by
  intro m g m' g' _ agree
  refine ⟨_, Cert.Kernel11Ideal.GluDx.run m g,
    (θ_run Cert.Reference11Ideal.defs _ _).mono (fun r h c => ?_) (Cert.Reference11Ideal.GluDx.run m' g')⟩
  obtain ⟨h0, h1, h2, h3⟩ := agree c
  have := h c
  rw [h0, h1, h2, h3] at this ⊢
  exact this

end Cert.GluDx

end
-- ==== Proof.ShardDw.Kernel.lean ====
/-
  The gradient of a branch's product with respect to its weights, the columns laid out by the eight devices that own
  them: the sixteen blocks of rows are summed in the scratch, and the last point copies the scratch out, device by device.
-/
module

public import proofs.«01_k».proof.Proof.Product.Shards
public import proofs.«01_k».proof.Proof.Gen.Kernel12Ideal.Value
public import Idealize.ShloMosaic.Lib.Pipeline.ValueKit
public import Idealize.ShloMosaic.Lib.Pointwise

@[expose] public section

set_option maxRecDepth 16384

noncomputable section

namespace Cert.Kernel12Ideal.ShardDw

open Cert.Kernel12Ideal Cert.Kernel12Ideal.Gen Idealize.ShloMosaic Idealize.ShloMosaic.TcCoe Idealize.SL.Sem Cert.Product
open Idealize.ShloMosaic.Pipeline (Dat)

variable (m : (ℓ : Loc nD τ sig) → Buf (Elt Ideal) ℓ)

/-- The blocks of the three arrays at point `t`. -/
theorem idx : ∀ t : Fin cfg0.N, win0_0.index t = ![t.val, 0] ∧ win0_1.index t = ![t.val, 0] ∧ win0_2.index t = ![0, 0, 0] :=
  (by decide +kernel : ∀ t : Fin grid0.N, _)

/-- The row of the whole arrays that row `r` of the blocks at point `t` is. -/
def row (t : Fin cfg0.N) (r : Fin 512) : Fin 8192 :=
  ⟨t.val * 512 + r.val, by have := r.isLt; have := t.isLt; have h : cfg0.N = 16 := N_0; omega⟩

/-- What one point adds to entry `j` of the scratch. -/
def term (x : Mat 8192 512) (y : Mat 8192 1024) (t : Fin cfg0.N) (j : S512x1024.Idx) : EReal :=
  ∑ r : Fin 512, x (ix2 (row t r) (j 0)) * y (ix2 (row t r) (j 1))

/-- The sixteen points add up to the entry of the product. -/
theorem sum_term (x : Mat 8192 512) (y : Mat 8192 1024) (t : Fin cfg0.N) (h : t.val % 16 = 16 - 1) (j : S512x1024.Idx) :
    (0 : EReal) + ∑ s : Fin 16, term x y ⟨16 * (t.val / 16) + s.val, Pipeline.run_point_lt_of_flush t h s⟩ j = tn x y j := by
  rw [zero_add]
  refine Fin.sum_mul_add_congr (n := 512) (f := fun l => x (ix2 l (j 0)) * y (ix2 l (j 1))) (fun s k hl => ?_) rfl
  have hr : row ⟨16 * (t.val / 16) + s.val, Pipeline.run_point_lt_of_flush t h s⟩ k = ⟨s.val * 512 + k.val, hl⟩ :=
    Fin.ext (by
      show (16 * (t.val / 16) + s.val) * 512 + k.val = s.val * 512 + k.val
      have := t.isLt; have h : cfg0.N = 16 := N_0; omega)
  rw [hr]

/-- A load through a box of what one store of the whole shape left reads the stored array. -/
theorem readCov_box {Val : EltTy → Type} [∀ e, Nonempty (Val e)] {sg : RefSig} {κ : Kind} {sp : Space} {S : Shape} {e : EltTy}
    (v : View sg κ sp S e) (off : Fin S.rank → ℕ) (h : off = fun _ => 0) (inb : ∀ a, off a + S.size a ≤ S.size a) (w : S.Idx → Val e)
    (B : LoadRect S) (x : B.shape.Idx) (i : S.Idx) (hi : ∀ a, (i a : ℕ) = B.idx x a) :
    v.readCov [(⟨Rect.unit off S.size inb, w⟩ : View.Piece Val S e)] B x = w i := by
  rw [View.readCov_eq_canon', View.canon_unit_zero h]
  exact congrArg w (funext fun a => Fin.ext (hi a).symm)

/-- The last point leaves in the output what it leaves in the scratch, device by device. -/
theorem copied (c : Dev nD) (t : Fin cfg0.N) (h : t.val % 16 = 15) :
    (outsAt0 m c t.val t.isLt).1 = shards (n := 128) rfl (outsAt0 m c t.val t.isLt).2 := by
  rw [outsAt0_C m c t (by omega) h]
  funext j
  idx_vars j
  frame_out
  canon_tiles x h
  all_goals
    open_payloads
    idx_vars x
    pointwise [shards]
    refine readCov_box _ _ (by decide) _ _ _ _ _ fun a => ?_
    fin_cases a <;> simp [colOf] at * <;> omega

/-- At the last point the scratch holds the sum of the sixteen points. -/
theorem scratch (c : Dev nD) (t : Fin cfg0.N) (ht : t.val % 16 = 16 - 1) (j : S512x1024.Idx) :
    (outsAt0 m c t.val t.isLt).2 j = (0 : EReal) + ∑ s : Fin 16,
      term (m ((c : Thread nD τ).loc main_arg0)) (m ((c : Thread nD τ).loc main_arg1))
        ⟨16 * (t.val / 16) + s.val, Pipeline.run_point_lt_of_flush t ht s⟩ j := by
  refine Pipeline.eq_sum_fin_of_reset_step_apply_of_flush (fun n h => (outsAt0 m c n h).2) 16 (fun _ => (0 : EReal))
    (term (m ((c : Thread nD τ).loc main_arg0)) (m ((c : Thread nD τ).loc main_arg1)))
    (fun t h j => ?_) (fun t h j => ?_) t ht j
  · rw [outsAt0_A m c t h (by omega)]; frame_out
    unfold_payloads
    idx_vars j
    pointwise []
    refine Finset.sum_congr (M := EReal) rfl fun r _ => ?_
    blk_point [iblk, V, idx t, row]
  · by_cases h1 : t.val % 16 = 15
    · rw [outsAt0_C m c t h h1]; frame_out
      unfold_payloads
      idx_vars j
      pointwise []
      refine congrArg₂ (fun a b : EReal => a + b) (congrFun (Memref.IsWhole.read_unread _ _) _) (Finset.sum_congr (M := EReal) rfl fun r _ => ?_)
      blk_point [iblk, V, idx t, row]
    · rw [outsAt0_B m c t h h1]; frame_out
      unfold_payloads
      idx_vars j
      pointwise []
      refine congrArg₂ (fun a b : EReal => a + b) (congrFun (Memref.IsWhole.read_unread _ _) _) (Finset.sum_congr (M := EReal) rfl fun r _ => ?_)
      blk_point [iblk, V, idx t, row]

/-- The last point leaves in the output the product's columns by device. -/
theorem last (c : Dev nD) (t : Fin cfg0.N) (ht : t.val % 16 = 15) : (outsAt0 m c t.val t.isLt).1 =
    shards (n := 128) rfl (tn (m ((c : Thread nD τ).loc main_arg0)) (m ((c : Thread nD τ).loc main_arg1))) := by
  rw [copied m c t ht]
  exact congrArg (shards rfl) (funext fun j => (scratch m c t ht j).trans (sum_term _ _ t ht j))

/-- The result array holds the product's columns by device. -/
theorem out (c : Dev nD) : (dats m 0 c).arrAt 2 cfg0.N =
    shards (n := 128) rfl (tn (m ((c : Thread nD τ).loc main_arg0)) (m ((c : Thread nD τ).loc main_arg1))) := by
  refine (dats m 0 c).arrAt_eq_of_covers 2 _ (by decide +kernel) fun t hf y => ?_
  have ht := (flush0_2 t).mp hf
  blk_simp
  rw [after0_2, last m c t ht]
  idx_vars y
  blk_point [idx t]

/-- The whole program ends with the result holding the product's columns by device, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        shards (n := 128) rfl (tn (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel12Ideal.Value.run_blocks m ρ)

end Cert.Kernel12Ideal.ShardDw
end
-- ==== Proof.ShardDw.Reference.lean ====
/-
  The reference's gradient of a branch's product with respect to its weights.
-/
module

public import proofs.«01_k».proof.Proof.Product.Shards
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

@[expose] public section

set_option maxRecDepth 16384

noncomputable section

namespace Cert.Reference12Ideal.ShardDw

open Cert.Reference12Ideal Cert.Reference12Ideal.Gen Cert.Reference12Ideal.Read Idealize.ShloMosaic Idealize.ShloMosaic.TcCoe Idealize.SL.Sem Cert.Product

/-- The reference's result is the product's columns by device. -/
theorem ref (x0 : Mat 8192 512) (x1 : Mat 8192 1024) : val_main_v8 (F := Ideal) x0 x1 = shards (n := 128) rfl (tn x0 x1) := by
  funext i
  idx_vars i
  simp only [val_main_v8_apply, val_main_v7_apply, val_main_v6_apply, val_main_v5_apply, val_main_v4_apply, val_main_v3_apply,
      val_main_v1_apply]
  pointwise [shards, tn]
  have h0 := i0.isLt
  have h1 := i1.isLt
  have h2 := i2.isLt
  exact Finset.sum_congr (M := EReal) rfl fun k _ => (mul_comm _ _).trans (congrArg₂ (fun a b : EReal => a * b)
    (read2 _ rfl (Fin.ext (show ((i1.val * 8 + i0.val) * 128 + i2.val) / 1024 = i1.val by omega)))
    (read2 _ rfl (Fin.ext (show ((i1.val * 8 + i0.val) * 128 + i2.val) % 1024 = i0.val * 128 + i2.val by omega))))

/-- The whole program ends with the result holding the product's columns by device, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) =
        shards (n := 128) rfl (tn (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v8_eq _ _).trans (ref _ _)),
    (h c).2⟩) (Cert.Reference12Ideal.Value.run (F := Ideal) m ρ)

end Cert.Reference12Ideal.ShardDw
end
-- ==== Proof.ShardDw.Claims.lean ====
/-
  The claims about the gradient of a branch's product with respect to its weights: the reference's frame, and that the kernel and the reference end holding the same array.
-/
module

public import proofs.«01_k».proof.Defs
public import proofs.«01_k».proof.Proof.ShardDw.Kernel
public import proofs.«01_k».proof.Proof.ShardDw.Reference
public import proofs.«01_k».proof.Proof.Gen.Kernel12Ideal
public import proofs.«01_k».proof.Proof.Gen.Reference12Ideal
public import Idealize.ShloMosaic.Lib.Claim

@[expose] public section

set_option maxRecDepth 16384

noncomputable section

namespace Cert.ShardDw

open Idealize.ShloMosaic Idealize.ShloMosaic.TcCoe Idealize.SL.Sem

/-- The reference terminates with its arguments unchanged; it declares no semaphore. -/
theorem frame_reference : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

/-- The kernel and the reference compute the same array. -/
theorem algebraic : Cert.algebraic_Kernel12Ideal_Reference12Ideal := by
  intro m g m' g' _ agree
  refine ⟨_, Cert.Kernel12Ideal.ShardDw.run m g,
    (θ_run Cert.Reference12Ideal.defs _ _).mono (fun r h c => ?_) (Cert.Reference12Ideal.ShardDw.run m' g')⟩
  obtain ⟨h0, h1⟩ := agree c
  have := h c
  rw [h0, h1] at this ⊢
  exact this

end Cert.ShardDw

end
-- ==== Proof.ConvPwDx.Kernel.lean ====
/-
  The gradient of the convolution branch's last product with respect to its input, block by block: every point
  computes one block of rows of `dy_cv · w_pwᵀ`.
-/
module

public import proofs.«01_k».proof.Proof.Product.Spec
public import proofs.«01_k».proof.Proof.Gen.Kernel13Ideal.Value
public import Idealize.ShloMosaic.Lib.Pipeline.ValueKit
public import Idealize.ShloMosaic.Lib.Pointwise

@[expose] public section

set_option maxRecDepth 16384

noncomputable section

namespace Cert.Kernel13Ideal.ConvPwDx

open Cert.Kernel13Ideal Cert.Kernel13Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val, 0] ∧
    win0_1.index t = ![0, 0] ∧
    win0_2.index t = ![t.val, 0] :=
  (by decide +kernel : ∀ t : Fin grid0.N, _)

/-- The result array holds the first argument times the transpose of the second. -/
theorem out (c : Dev nD) : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  frame_out
  unfold_payloads
  pointwise [nt]
  refine Finset.sum_congr (M := EReal) rfl fun k _ => ?_
  blk_point [iblk, V, idx t]

/-- The whole program ends with the result holding the first argument times the transpose of the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        nt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel13Ideal.Value.run_blocks m ρ)

end Cert.Kernel13Ideal.ConvPwDx
end
-- ==== Proof.ConvPwDx.Reference.lean ====
/-
  The reference of the gradient of the convolution branch's last product with respect to its input.
-/
module

public import proofs.«01_k».proof.Proof.Product.Spec
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

namespace Cert.Reference13Ideal.ConvPwDx

open Cert.Reference13Ideal Cert.Reference13Ideal.Gen Cert.Reference13Ideal.Read Idealize.ShloMosaic Idealize.ShloMosaic.TcCoe Idealize.SL.Sem Cert.Product

/-- The reference's result is the first argument times the transpose of the second. -/
theorem ref (x0 : Mat 8192 1024) (x1 : Mat 512 1024) : val_main_v5 (F := Ideal) x0 x1 = nt x0 x1 := by
  funext i
  idx_vars i
  simp only [val_main_v5_apply, val_main_v4_apply, val_main_v3_apply, val_main_v1_apply]
  pointwise [nt]
  exact Finset.sum_congr (M := EReal) rfl fun k _ => congrArg₂ (fun a b : EReal => a * b) (read2 _ rfl rfl) (read2 _ rfl rfl)

/-- The whole program ends with the result holding the first argument times the transpose of the second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) =
        nt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v5_eq _ _).trans (ref _ _)),
    (h c).2⟩) (Cert.Reference13Ideal.Value.run (F := Ideal) m ρ)

end Cert.Reference13Ideal.ConvPwDx
end
-- ==== Proof.ConvPwDx.Claims.lean ====
/-
  The claims about the gradient of the convolution branch's last product with respect to its input: the reference's frame, and that the kernel and the reference end holding the same array.
-/
module

public import proofs.«01_k».proof.Defs
public import proofs.«01_k».proof.Proof.ConvPwDx.Kernel
public import proofs.«01_k».proof.Proof.ConvPwDx.Reference
public import proofs.«01_k».proof.Proof.Gen.Kernel13Ideal
public import proofs.«01_k».proof.Proof.Gen.Reference13Ideal
public import Idealize.ShloMosaic.Lib.Claim

@[expose] public section

set_option maxRecDepth 16384

noncomputable section

namespace Cert.ConvPwDx

open Idealize.ShloMosaic Idealize.ShloMosaic.TcCoe Idealize.SL.Sem

/-- The reference terminates with its arguments unchanged; it declares no semaphore. -/
theorem frame_reference : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

/-- The kernel and the reference compute the same array. -/
theorem algebraic : Cert.algebraic_Kernel13Ideal_Reference13Ideal := by
  intro m g m' g' _ agree
  refine ⟨_, Cert.Kernel13Ideal.ConvPwDx.run m g,
    (θ_run Cert.Reference13Ideal.defs _ _).mono (fun r h c => ?_) (Cert.Reference13Ideal.ConvPwDx.run m' g')⟩
  obtain ⟨h0, h1⟩ := agree c
  have := h c
  rw [h0, h1] at this ⊢
  exact this

end Cert.ConvPwDx

end
-- ==== Proof.Glu.Kernel.lean ====
/-
  The two products after the state-space layer, block by block.
-/
module

public import proofs.«01_k».proof.Proof.Product.Spec
public import proofs.«01_k».proof.Proof.Gen.Kernel14Ideal.Value
public import Idealize.ShloMosaic.Lib.Pipeline.ValueKit
public import Idealize.ShloMosaic.Lib.Pointwise

@[expose] public section

set_option maxRecDepth 16384

noncomputable section

namespace Cert.Kernel14Ideal.Glu

open Cert.Kernel14Ideal Cert.Kernel14Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val, 0] ∧
    win0_1.index t = ![0, 0] ∧
    win0_2.index t = ![0, 0] ∧
    win0_3.index t = ![t.val, 0] ∧
    win0_4.index t = ![t.val, 0] :=
  (by decide +kernel : ∀ t : Fin grid0.N, _)

/-- The first result array holds the product with the first weights. -/
theorem out3 (c : Dev nD) : (dats m 0 c).arrAt 3 cfg0.N =
    nn (m ((c : Thread nD τ).loc main_arg0)) (m ((c : Thread nD τ).loc main_arg1)) := by
  refine (dats m 0 c).arrAt_eq_of_covers 3 _ (by decide +kernel) fun t hf y => ?_
  blk_simp
  rw [after0_3]
  idx_vars y
  frame_out
  unfold_payloads
  pointwise [nn]
  refine Finset.sum_congr (M := EReal) rfl fun k _ => ?_
  blk_point [iblk, V, idx t]

/-- The second result array holds the product with the second weights. -/
theorem out4 (c : Dev nD) : (dats m 0 c).arrAt 4 cfg0.N =
    nn (m ((c : Thread nD τ).loc main_arg0)) (m ((c : Thread nD τ).loc main_arg2)) := by
  refine (dats m 0 c).arrAt_eq_of_covers 4 _ (by decide +kernel) fun t hf y => ?_
  blk_simp
  rw [after0_4]
  idx_vars y
  frame_out
  unfold_payloads
  pointwise [nn]
  refine Finset.sum_congr (M := EReal) rfl fun k _ => ?_
  blk_point [iblk, V, idx t]

/-- The whole program ends with the two results holding the two products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        nn (m ((c : Thread nD τ).loc main_arg0)) (m ((c : Thread nD τ).loc main_arg1))
      ∧ r.2.mem ((c : Thread nD τ).loc main_v0_1) =
        nn (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out3 m c),
    (h c).2.1.trans (out4 m c),
    (h c).2.2⟩) (Cert.Kernel14Ideal.Value.run_blocks m ρ)

end Cert.Kernel14Ideal.Glu
end
-- ==== Proof.Glu.Reference.lean ====
/-
  The reference of the two products after the state-space layer.
-/
module

public import proofs.«01_k».proof.Proof.Product.Spec
public import proofs.«01_k».proof.Proof.Gen.Reference14Ideal.Run
public import proofs.«01_k».proof.Proof.Gen.Reference14Ideal.Read
public import Idealize.ShloMosaic.Lib.Pipeline.ValueKit
public import Idealize.ShloMosaic.Lib.Pointwise

@[expose] public section

set_option maxRecDepth 16384

noncomputable section

namespace Cert.Reference14Ideal.Glu

open Cert.Reference14Ideal Cert.Reference14Ideal.Gen Cert.Reference14Ideal.Read Idealize.ShloMosaic Idealize.ShloMosaic.TcCoe Idealize.SL.Sem Cert.Product

/-- The first result of the reference. -/
theorem ref0 (x0 : Mat 8192 512) (x1 : Mat 512 1024) : val_main_v3 (F := Ideal) x0 x1 = nn x0 x1 := by
  funext i
  idx_vars i
  simp only [val_main_v3_apply, val_main_v2_apply, val_main_v0_apply, val_main_v1_apply]
  pointwise [nn]
  exact Finset.sum_congr (M := EReal) rfl fun k _ => congrArg₂ (fun a b : EReal => a * b) (read2 _ rfl rfl) (read2 _ rfl rfl)

/-- The second result of the reference. -/
theorem ref1 (x0 : Mat 8192 512) (x2 : Mat 512 1024) : val_main_v7 (F := Ideal) x0 x2 = nn x0 x2 := by
  funext i
  idx_vars i
  simp only [val_main_v7_apply, val_main_v6_apply, val_main_v4_apply, val_main_v5_apply]
  pointwise [nn]
  exact Finset.sum_congr (M := EReal) rfl fun k _ => congrArg₂ (fun a b : EReal => a * b) (read2 _ rfl rfl) (read2 _ rfl rfl)

/-- The whole program ends with the two results holding the two products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) =
        nn (m ((c : Thread nD τ).loc main_arg0)) (m ((c : Thread nD τ).loc main_arg1))
      ∧ r.2.mem ((c : Thread nD τ).loc main_v7) =
        nn (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v3_eq _ _).trans (ref0 _ _)),
    (h c).2.1.trans ((val_main_v7_eq _ _).trans (ref1 _ _)),
    (h c).2.2⟩) (Cert.Reference14Ideal.Value.run (F := Ideal) m ρ)

end Cert.Reference14Ideal.Glu
end
-- ==== Proof.Glu.Claims.lean ====
/-
  The claims about the two products after the state-space layer: the reference's frame, and that the kernel and the reference end holding the same arrays.
-/
module

public import proofs.«01_k».proof.Defs
public import proofs.«01_k».proof.Proof.Glu.Kernel
public import proofs.«01_k».proof.Proof.Glu.Reference
public import proofs.«01_k».proof.Proof.Gen.Kernel14Ideal
public import proofs.«01_k».proof.Proof.Gen.Reference14Ideal
public import Idealize.ShloMosaic.Lib.Claim

@[expose] public section

set_option maxRecDepth 16384

noncomputable section

namespace Cert.Glu

open Idealize.ShloMosaic Idealize.ShloMosaic.TcCoe Idealize.SL.Sem

/-- The reference terminates with its arguments unchanged; it declares no semaphore. -/
theorem frame_reference : Cert.quiescent_Reference14Ideal := fun m ρ _ =>
  (θ_run Cert.Reference14Ideal.defs _ _).mono
    (fun r h => ⟨fun c => (h c).2.2, sem_eq_zero_of_no_sems (by decide) r.2⟩)
    (Cert.Reference14Ideal.Value.run (F := Ideal) m ρ)

/-- The kernel and the reference compute the same arrays. -/
theorem algebraic : Cert.algebraic_Kernel14Ideal_Reference14Ideal := by
  intro m g m' g' _ agree
  refine ⟨_, _, Cert.Kernel14Ideal.Glu.run m g,
    (θ_run Cert.Reference14Ideal.defs _ _).mono (fun r h c => ?_) (Cert.Reference14Ideal.Glu.run m' g')⟩
  obtain ⟨h0, h1, h2⟩ := agree c
  have := h c
  rw [h0, h1, h2] at this ⊢
  exact this

end Cert.Glu

end
-- ==== Proof.ConvPw.Kernel.lean ====
/-
  The convolution branch's last product, block by block: every point computes one block of rows of `v · w_pw`.
-/
module

public import proofs.«01_k».proof.Proof.Product.Spec
public import proofs.«01_k».proof.Proof.Gen.Kernel15Ideal.Value
public import Idealize.ShloMosaic.Lib.Pipeline.ValueKit
public import Idealize.ShloMosaic.Lib.Pointwise

@[expose] public section

set_option maxRecDepth 16384

noncomputable section

namespace Cert.Kernel15Ideal.ConvPw

open Cert.Kernel15Ideal Cert.Kernel15Ideal.Gen Idealize.ShloMosaic Idealize.ShloMosaic.TcCoe Idealize.SL.Sem Cert.Product

variable (m : (ℓ : Loc nD τ sig) → Buf (Elt Ideal) ℓ)

/-- The blocks of the arrays at point `t`. -/
theorem idx : ∀ t : Fin cfg0.N, win0_0.index t = ![t.val, 0] ∧
    win0_1.index t = ![0, 0] ∧
    win0_2.index t = ![t.val, 0] :=
  (by decide +kernel : ∀ t : Fin grid0.N, _)

/-- The result array holds the product of the two arguments. -/
theorem out (c : Dev nD) : (dats m 0 c).arrAt 2 cfg0.N =
    nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  frame_out
  unfold_payloads
  pointwise [nn]
  refine Finset.sum_congr (M := EReal) rfl fun k _ => ?_
  blk_point [iblk, V, idx t]

/-- The whole program ends with the result holding the product of the two arguments, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        nn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out m c),
    (h c).2⟩) (Cert.Kernel15Ideal.Value.run_blocks m ρ)

end Cert.Kernel15Ideal.ConvPw
end
-- ==== Proof.ConvPw.Reference.lean ====
/-
  The reference of the convolution branch's last product.
-/
module

public import proofs.«01_k».proof.Proof.Product.Spec
public import proofs.«01_k».proof.Proof.Gen.Reference15Ideal.Run
public import proofs.«01_k».proof.Proof.Gen.Reference15Ideal.Read
public import Idealize.ShloMosaic.Lib.Pipeline.ValueKit
public import Idealize.ShloMosaic.Lib.Pointwise

@[expose] public section

set_option maxRecDepth 16384

noncomputable section

namespace Cert.Reference15Ideal.ConvPw

open Cert.Reference15Ideal Cert.Reference15Ideal.Gen Cert.Reference15Ideal.Read Idealize.ShloMosaic Idealize.ShloMosaic.TcCoe Idealize.SL.Sem Cert.Product

/-- The reference's result is the product of the two arguments. -/
theorem ref (x0 : Mat 8192 512) (x1 : Mat 512 1024) : val_main_v3 (F := Ideal) x0 x1 = nn x0 x1 := by
  funext i
  idx_vars i
  simp only [val_main_v3_apply, val_main_v2_apply, val_main_v0_apply, val_main_v1_apply]
  pointwise [nn]
  exact Finset.sum_congr (M := EReal) rfl fun k _ => congrArg₂ (fun a b : EReal => a * b) (read2 _ rfl rfl) (read2 _ rfl rfl)

/-- The whole program ends with the result holding the product of the two arguments, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) =
        nn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v3_eq _ _).trans (ref _ _)),
    (h c).2⟩) (Cert.Reference15Ideal.Value.run (F := Ideal) m ρ)

end Cert.Reference15Ideal.ConvPw
end
-- ==== Proof.ConvPw.Claims.lean ====
/-
  The claims about the convolution branch's last product: the reference's frame, and that the kernel and the reference end holding the same array.
-/
module

public import proofs.«01_k».proof.Defs
public import proofs.«01_k».proof.Proof.ConvPw.Kernel
public import proofs.«01_k».proof.Proof.ConvPw.Reference
public import proofs.«01_k».proof.Proof.Gen.Kernel15Ideal
public import proofs.«01_k».proof.Proof.Gen.Reference15Ideal
public import Idealize.ShloMosaic.Lib.Claim

@[expose] public section

set_option maxRecDepth 16384

noncomputable section

namespace Cert.ConvPw

open Idealize.ShloMosaic Idealize.ShloMosaic.TcCoe Idealize.SL.Sem

/-- The reference terminates with its arguments unchanged; it declares no semaphore. -/
theorem frame_reference : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

/-- The kernel and the reference compute the same array. -/
theorem algebraic : Cert.algebraic_Kernel15Ideal_Reference15Ideal := by
  intro m g m' g' _ agree
  refine ⟨_, Cert.Kernel15Ideal.ConvPw.run m g,
    (θ_run Cert.Reference15Ideal.defs _ _).mono (fun r h c => ?_) (Cert.Reference15Ideal.ConvPw.run m' g')⟩
  obtain ⟨h0, h1⟩ := agree c
  have := h c
  rw [h0, h1] at this ⊢
  exact this

end Cert.ConvPw

end
-- ==== Proof.Norm.Spec.lean ====
/-
  The layer norm of one row of extended reals: its mean, the inverse of its standard deviation, the normalised row, and
  the gradient of the normalised row with respect to the row.
-/
module

public import proofs.«01_k».proof.Proof.Product.Spec
public import Idealize.ShloMosaic.Lib.Pointwise

@[expose] public section

noncomputable section

namespace Cert.Norm

open Idealize.ShloMosaic Cert.Product

/-- The value of a word of 32 bits read as a float. -/
abbrev lit (b : BitVec 32) : EReal := Ideal.ofBits .f32 b

/-- Row `r` of a matrix. -/
abbrev row {a b : ℕ} (x : Mat a b) (r : Fin a) : Fin b → EReal := fun k => x (ix2 r k)

/-- The mean of a row whose length the word `L` holds. -/
def mean (L : BitVec 32) {n : ℕ} (f : Fin n → EReal) : EReal := Ideal.div (∑ k, f k) (lit L)

/-- The mean of the squared distances from the mean. -/
def var (L : BitVec 32) {n : ℕ} (f : Fin n → EReal) : EReal := mean L fun k => (f k - mean L f) * (f k - mean L f)

/-- The inverse of the standard deviation, its square having the program's small number added. -/
def rstd (L : BitVec 32) {n : ℕ} (f : Fin n → EReal) : EReal := Ideal.rsqrt (var L f + lit 0x3727C5AC#32)

/-- The normalised row. -/
def hat (L : BitVec 32) {n : ℕ} (f : Fin n → EReal) (k : Fin n) : EReal := (f k - mean L f) * rstd L f

/-- The gradient of the row when `d` is that of the normalised row. -/
def back (L : BitVec 32) {n : ℕ} (d f : Fin n → EReal) (k : Fin n) : EReal :=
  rstd L f * (d k - mean L d - hat L f k * mean L fun j => d j * hat L f j)

/-- A row normalised, scaled by `1 + scale` and shifted. -/
def modRow (L : BitVec 32) {n : ℕ} (f : Fin n → EReal) (sc sh : Mat 1 n) (k : Fin n) : EReal :=
  hat L f k * (1 + sc (ix2 0 k)) + sh (ix2 0 k)

/-- A row normalised, scaled and shifted. -/
def affRow (L : BitVec 32) {n : ℕ} (f : Fin n → EReal) (g b : Mat 1 n) (k : Fin n) : EReal :=
  hat L f k * g (ix2 0 k) + b (ix2 0 k)

/-- Every row normalised, scaled by `1 + scale` and shifted. -/
def modulated (x : Mat 8192 1024) (sc sh : Mat 1 1024) : Mat 8192 1024 := fun i => modRow 0x44800000#32 (row x (i 0)) sc sh (i 1)

/-- The residual sum of one row: the input by the fourth root of two, and the branch by its gate. -/
def resid (x : Fin 1024 → EReal) (o : Fin 1024 → EReal) (g : Mat 1 1024) (k : Fin 1024) : EReal :=
  lit 0x3F9837F0#32 * x k + g (ix2 0 k) * o k

/-- The first residual sum, every row normalised, scaled and shifted. -/
def residNorm (x o : Mat 8192 1024) (g lg lb : Mat 1 1024) : Mat 8192 1024 := fun i =>
  affRow 0x44800000#32 (resid (row x (i 0)) (row o (i 0)) g) lg lb (i 1)

theorem modRow_congr {L : BitVec 32} {n : ℕ} {f f' : Fin n → EReal} {s s' h h' : Mat 1 n} (hf : ∀ k, f k = f' k)
    (hs : ∀ k, s (ix2 0 k) = s' (ix2 0 k)) (hh : ∀ k, h (ix2 0 k) = h' (ix2 0 k)) {k k' : Fin n} (hk : k = k') :
    modRow L f s h k = modRow L f' s' h' k' := by
  obtain rfl : f = f' := funext hf
  subst hk
  rw [modRow, modRow, hs, hh]

theorem affRow_congr {L : BitVec 32} {n : ℕ} {f f' : Fin n → EReal} {s s' h h' : Mat 1 n} (hf : ∀ k, f k = f' k)
    (hs : ∀ k, s (ix2 0 k) = s' (ix2 0 k)) (hh : ∀ k, h (ix2 0 k) = h' (ix2 0 k)) {k k' : Fin n} (hk : k = k') :
    affRow L f s h k = affRow L f' s' h' k' := by
  obtain rfl : f = f' := funext hf
  subst hk
  rw [affRow, affRow, hs, hh]

theorem resid_congr {f f' o o' : Fin 1024 → EReal} {g g' : Mat 1 1024} (hf : ∀ k, f k = f' k) (ho : ∀ k, o k = o' k)
    (hg : ∀ k, g (ix2 0 k) = g' (ix2 0 k)) {k k' : Fin 1024} (hk : k = k') : resid f o g k = resid f' o' g' k' := by
  subst hk
  rw [resid, resid, hf, ho, hg]

end Cert.Norm

end
-- ==== Proof.InProj.Kernel.lean ====
/-
  The first norm with its modulation and the input projection, block by block of rows.
-/
module

public import proofs.«01_k».proof.Proof.Product.Spec
public import proofs.«01_k».proof.Proof.Norm.Spec
public import proofs.«01_k».proof.Proof.Gen.Kernel16Ideal.Value
public import Idealize.ShloMosaic.Lib.Pipeline.ValueKit
public import Idealize.ShloMosaic.Lib.Pointwise

@[expose] public section

set_option maxRecDepth 16384

noncomputable section

namespace Cert.Kernel16Ideal.InProj

open Cert.Kernel16Ideal Cert.Kernel16Ideal.Gen Idealize.ShloMosaic Idealize.ShloMosaic.TcCoe Idealize.SL.Sem Cert.Product Cert.Norm

variable (m : (ℓ : Loc nD τ sig) → Buf (Elt Ideal) ℓ)

/-- The blocks of the arrays at point `t`. -/
theorem idx : ∀ t : Fin cfg0.N, win0_0.index t = ![t.val, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![0, 0] ∧
    win0_12.index t = ![0, 0] ∧
    win0_13.index t = ![t.val, 0] ∧
    win0_14.index t = ![t.val, 0] ∧
    win0_15.index t = ![t.val, 0] ∧
    win0_16.index t = ![t.val, 0] ∧
    win0_17.index t = ![t.val, 0] ∧
    win0_18.index t = ![t.val, 0] :=
  (by decide +kernel : ∀ t : Fin grid0.N, _)

/-- The row of the whole arrays that row `r` of the blocks at point `t` is. -/
def rowOf (t : Fin cfg0.N) (r : Fin 512) : Fin 8192 :=
  ⟨t.val * 512 + r.val, by have := r.isLt; have := t.isLt; have h : cfg0.N = 16 := N_0; omega⟩

/-- A row of the block, normalised and modulated. -/
theorem normed (v0 : Mat 512 1024) (v17 v22 : Mat 1 1024) (r : Fin 512) (k : Fin 1024) :
    k0_pay5 (F := Ideal) v0 v17 v22 (ix2 r k) = modRow 0x44800000#32 (row v0 r) v17 v22 k := by
  unfold k0_pay5
  pointwise [modRow, hat, rstd, var, mean, row]

/-- A block's product and bias. -/
theorem prod1 (v : Mat 512 1024) (w : Mat 1024 512) (b : Mat 1 512) (r : Fin 512) (j : Fin 512) :
    k0_pay1 (F := Ideal) v w b (ix2 r j) = (∑ k : Fin 1024, v (ix2 r k) * w (ix2 k j)) + b (ix2 0 j) := by
  unfold k0_pay1
  pointwise []

/-- A block's product and bias. -/
theorem prod2 (v : Mat 512 1024) (w : Mat 1024 512) (b : Mat 1 512) (r : Fin 512) (j : Fin 512) :
    k0_pay2 (F := Ideal) v w b (ix2 r j) = (∑ k : Fin 1024, v (ix2 r k) * w (ix2 k j)) + b (ix2 0 j) := by
  unfold k0_pay2
  pointwise []

/-- A block's product and bias. -/
theorem prod3 (v : Mat 512 1024) (w : Mat 1024 1024) (b : Mat 1 1024) (r : Fin 512) (j : Fin 1024) :
    k0_pay3 (F := Ideal) v w b (ix2 r j) = (∑ k : Fin 1024, v (ix2 r k) * w (ix2 k j)) + b (ix2 0 j) := by
  unfold k0_pay3
  pointwise []

/-- A block's product and bias. -/
theorem prod4 (v : Mat 512 1024) (w : Mat 1024 1024) (b : Mat 1 1024) (r : Fin 512) (j : Fin 1024) :
    k0_pay4 (F := Ideal) v w b (ix2 r j) = (∑ k : Fin 1024, v (ix2 r k) * w (ix2 k j)) + b (ix2 0 j) := by
  unfold k0_pay4
  pointwise []

/-- The first branch's product and bias. -/
theorem prod6 (v0 : Mat 512 1024) (v17 v22 : Mat 1 1024) (w : Mat 1024 512) (b : Mat 1 512) (r : Fin 512) (j : Fin 512) :
    k0_pay6 (F := Ideal) v0 v17 v22 w b (ix2 r j) = (∑ k : Fin 1024, k0_pay5 (F := Ideal) v0 v17 v22 (ix2 r k) * w (ix2 k j)) + b (ix2 0 j) := by
  unfold k0_pay6
  pointwise []

/-- The first result array holds the modulated norm. -/
theorem out13 (c : Dev nD) : (dats m 0 c).arrAt 13 cfg0.N =
    modulated (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  idx_vars y
  have e : (win0_13.blk t).view.emb (ix2 y0 y1) = ix2 (rowOf t y0) y1 := by blk_ext [idx t, rowOf]
  rw [e]
  frame_out
  refine (normed _ _ _ _ _).trans ?_
  pointwise [modulated]
  refine modRow_congr (fun k => ?_) (fun k => ?_) (fun k => ?_) rfl <;> (try simp only [row]) <;> blk_point [iblk, V, idx t, rowOf]

/-- The result array of branch 0 holds its product and bias. -/
theorem out14 (c : Dev nD) : (dats m 0 c).arrAt 14 cfg0.N =
    (fun i => nn (modulated (m ((c : Thread nD τ).loc main_arg0)) (m ((c : Thread nD τ).loc main_arg1)) (m ((c : Thread nD τ).loc main_arg2))) (m ((c : Thread nD τ).loc main_arg3)) i + (m ((c : Thread nD τ).loc main_arg8)) (ix2 0 (i 1))) := by
  refine (dats m 0 c).arrAt_eq_of_covers 14 _ (by decide +kernel) fun t hf y => ?_
  blk_simp
  rw [after0_14]
  idx_vars y
  have e : (win0_14.blk t).view.emb (ix2 y0 y1) = ix2 (rowOf t y0) y1 := by blk_ext [idx t, rowOf]
  rw [e]
  frame_out
  refine (prod6 _ _ _ _ _ _ _ ).trans ?_
  pointwise [nn]
  refine congrArg₂ (fun a b : EReal => a + b) (Finset.sum_congr (M := EReal) rfl fun q _ => congrArg₂ (fun a b : EReal => a * b) ((normed _ _ _ _ _).trans ?_) ?_) ?_
  · pointwise [modulated]
    refine modRow_congr (fun k => ?_) (fun k => ?_) (fun k => ?_) rfl <;> (try simp only [row]) <;> blk_point [iblk, V, idx t, rowOf]
  · (try simp only [row]) <;> blk_point [iblk, V, idx t, rowOf]
  · (try simp only [row]) <;> blk_point [iblk, V, idx t, rowOf]

/-- The result array of branch 1 holds its product and bias. -/
theorem out15 (c : Dev nD) : (dats m 0 c).arrAt 15 cfg0.N =
    (fun i => nn (modulated (m ((c : Thread nD τ).loc main_arg0)) (m ((c : Thread nD τ).loc main_arg1)) (m ((c : Thread nD τ).loc main_arg2))) (m ((c : Thread nD τ).loc main_arg4)) i + (m ((c : Thread nD τ).loc main_arg9)) (ix2 0 (i 1))) := by
  refine (dats m 0 c).arrAt_eq_of_covers 15 _ (by decide +kernel) fun t hf y => ?_
  blk_simp
  rw [after0_15]
  idx_vars y
  have e : (win0_15.blk t).view.emb (ix2 y0 y1) = ix2 (rowOf t y0) y1 := by blk_ext [idx t, rowOf]
  rw [e]
  frame_out
  refine (prod1 _ _ _ _ _ ).trans ?_
  pointwise [nn]
  refine congrArg₂ (fun a b : EReal => a + b) (Finset.sum_congr (M := EReal) rfl fun q _ => congrArg₂ (fun a b : EReal => a * b) ((normed _ _ _ _ _).trans ?_) ?_) ?_
  · pointwise [modulated]
    refine modRow_congr (fun k => ?_) (fun k => ?_) (fun k => ?_) rfl <;> (try simp only [row]) <;> blk_point [iblk, V, idx t, rowOf]
  · (try simp only [row]) <;> blk_point [iblk, V, idx t, rowOf]
  · (try simp only [row]) <;> blk_point [iblk, V, idx t, rowOf]

/-- The result array of branch 2 holds its product and bias. -/
theorem out16 (c : Dev nD) : (dats m 0 c).arrAt 16 cfg0.N =
    (fun i => nn (modulated (m ((c : Thread nD τ).loc main_arg0)) (m ((c : Thread nD τ).loc main_arg1)) (m ((c : Thread nD τ).loc main_arg2))) (m ((c : Thread nD τ).loc main_arg5)) i + (m ((c : Thread nD τ).loc main_arg10)) (ix2 0 (i 1))) := by
  refine (dats m 0 c).arrAt_eq_of_covers 16 _ (by decide +kernel) fun t hf y => ?_
  blk_simp
  rw [after0_16]
  idx_vars y
  have e : (win0_16.blk t).view.emb (ix2 y0 y1) = ix2 (rowOf t y0) y1 := by blk_ext [idx t, rowOf]
  rw [e]
  frame_out
  refine (prod2 _ _ _ _ _ ).trans ?_
  pointwise [nn]
  refine congrArg₂ (fun a b : EReal => a + b) (Finset.sum_congr (M := EReal) rfl fun q _ => congrArg₂ (fun a b : EReal => a * b) ((normed _ _ _ _ _).trans ?_) ?_) ?_
  · pointwise [modulated]
    refine modRow_congr (fun k => ?_) (fun k => ?_) (fun k => ?_) rfl <;> (try simp only [row]) <;> blk_point [iblk, V, idx t, rowOf]
  · (try simp only [row]) <;> blk_point [iblk, V, idx t, rowOf]
  · (try simp only [row]) <;> blk_point [iblk, V, idx t, rowOf]

/-- The result array of branch 3 holds its product and bias. -/
theorem out17 (c : Dev nD) : (dats m 0 c).arrAt 17 cfg0.N =
    (fun i => nn (modulated (m ((c : Thread nD τ).loc main_arg0)) (m ((c : Thread nD τ).loc main_arg1)) (m ((c : Thread nD τ).loc main_arg2))) (m ((c : Thread nD τ).loc main_arg6)) i + (m ((c : Thread nD τ).loc main_arg11)) (ix2 0 (i 1))) := by
  refine (dats m 0 c).arrAt_eq_of_covers 17 _ (by decide +kernel) fun t hf y => ?_
  blk_simp
  rw [after0_17]
  idx_vars y
  have e : (win0_17.blk t).view.emb (ix2 y0 y1) = ix2 (rowOf t y0) y1 := by blk_ext [idx t, rowOf]
  rw [e]
  frame_out
  refine (prod3 _ _ _ _ _ ).trans ?_
  pointwise [nn]
  refine congrArg₂ (fun a b : EReal => a + b) (Finset.sum_congr (M := EReal) rfl fun q _ => congrArg₂ (fun a b : EReal => a * b) ((normed _ _ _ _ _).trans ?_) ?_) ?_
  · pointwise [modulated]
    refine modRow_congr (fun k => ?_) (fun k => ?_) (fun k => ?_) rfl <;> (try simp only [row]) <;> blk_point [iblk, V, idx t, rowOf]
  · (try simp only [row]) <;> blk_point [iblk, V, idx t, rowOf]
  · (try simp only [row]) <;> blk_point [iblk, V, idx t, rowOf]

/-- The result array of branch 4 holds its product and bias. -/
theorem out18 (c : Dev nD) : (dats m 0 c).arrAt 18 cfg0.N =
    (fun i => nn (modulated (m ((c : Thread nD τ).loc main_arg0)) (m ((c : Thread nD τ).loc main_arg1)) (m ((c : Thread nD τ).loc main_arg2))) (m ((c : Thread nD τ).loc main_arg7)) i + (m ((c : Thread nD τ).loc main_arg12)) (ix2 0 (i 1))) := by
  refine (dats m 0 c).arrAt_eq_of_covers 18 _ (by decide +kernel) fun t hf y => ?_
  blk_simp
  rw [after0_18]
  idx_vars y
  have e : (win0_18.blk t).view.emb (ix2 y0 y1) = ix2 (rowOf t y0) y1 := by blk_ext [idx t, rowOf]
  rw [e]
  frame_out
  refine (prod4 _ _ _ _ _ ).trans ?_
  pointwise [nn]
  refine congrArg₂ (fun a b : EReal => a + b) (Finset.sum_congr (M := EReal) rfl fun q _ => congrArg₂ (fun a b : EReal => a * b) ((normed _ _ _ _ _).trans ?_) ?_) ?_
  · pointwise [modulated]
    refine modRow_congr (fun k => ?_) (fun k => ?_) (fun k => ?_) rfl <;> (try simp only [row]) <;> blk_point [iblk, V, idx t, rowOf]
  · (try simp only [row]) <;> blk_point [iblk, V, idx t, rowOf]
  · (try simp only [row]) <;> blk_point [iblk, V, idx t, rowOf]

/-- The whole program ends with the six results holding the modulated norm and the five products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        modulated (m ((c : Thread nD τ).loc main_arg0)) (m ((c : Thread nD τ).loc main_arg1)) (m ((c : Thread nD τ).loc main_arg2))
      ∧ r.2.mem ((c : Thread nD τ).loc main_v0_1) =
        (fun i => nn (modulated (m ((c : Thread nD τ).loc main_arg0)) (m ((c : Thread nD τ).loc main_arg1)) (m ((c : Thread nD τ).loc main_arg2))) (m ((c : Thread nD τ).loc main_arg3)) i + (m ((c : Thread nD τ).loc main_arg8)) (ix2 0 (i 1)))
      ∧ r.2.mem ((c : Thread nD τ).loc main_v0_2) =
        (fun i => nn (modulated (m ((c : Thread nD τ).loc main_arg0)) (m ((c : Thread nD τ).loc main_arg1)) (m ((c : Thread nD τ).loc main_arg2))) (m ((c : Thread nD τ).loc main_arg4)) i + (m ((c : Thread nD τ).loc main_arg9)) (ix2 0 (i 1)))
      ∧ r.2.mem ((c : Thread nD τ).loc main_v0_3) =
        (fun i => nn (modulated (m ((c : Thread nD τ).loc main_arg0)) (m ((c : Thread nD τ).loc main_arg1)) (m ((c : Thread nD τ).loc main_arg2))) (m ((c : Thread nD τ).loc main_arg5)) i + (m ((c : Thread nD τ).loc main_arg10)) (ix2 0 (i 1)))
      ∧ r.2.mem ((c : Thread nD τ).loc main_v0_4) =
        (fun i => nn (modulated (m ((c : Thread nD τ).loc main_arg0)) (m ((c : Thread nD τ).loc main_arg1)) (m ((c : Thread nD τ).loc main_arg2))) (m ((c : Thread nD τ).loc main_arg6)) i + (m ((c : Thread nD τ).loc main_arg11)) (ix2 0 (i 1)))
      ∧ r.2.mem ((c : Thread nD τ).loc main_v0_5) =
        (fun i => nn (modulated (m ((c : Thread nD τ).loc main_arg0)) (m ((c : Thread nD τ).loc main_arg1)) (m ((c : Thread nD τ).loc main_arg2))) (m ((c : Thread nD τ).loc main_arg7)) i + (m ((c : Thread nD τ).loc main_arg12)) (ix2 0 (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (out13 m c),
    (h c).2.1.trans (out14 m c),
    (h c).2.2.1.trans (out15 m c),
    (h c).2.2.2.1.trans (out16 m c),
    (h c).2.2.2.2.1.trans (out17 m c),
    (h c).2.2.2.2.2.1.trans (out18 m c),
    (h c).2.2.2.2.2.2⟩) (Cert.Kernel16Ideal.Value.run_blocks m ρ)

end Cert.Kernel16Ideal.InProj
end
-- ==== Proof.InProj.Reference.lean ====
/-
  The reference of the first norm with its modulation and the input projection.
-/
module

public import proofs.«01_k».proof.Proof.Product.Spec
public import proofs.«01_k».proof.Proof.Norm.Spec
public import proofs.«01_k».proof.Proof.Gen.Reference16Ideal.Run
public import proofs.«01_k».proof.Proof.Gen.Reference16Ideal.Read
public import Idealize.ShloMosaic.Lib.Pipeline.ValueKit
public import Idealize.ShloMosaic.Lib.Pointwise

@[expose] public section

set_option maxRecDepth 16384

noncomputable section

namespace Cert.Reference16Ideal.InProj

open Cert.Reference16Ideal Cert.Reference16Ideal.Gen Cert.Reference16Ideal.Read Idealize.ShloMosaic Idealize.ShloMosaic.TcCoe Idealize.SL.Sem Cert.Product Cert.Norm

/-! How the reference's index maps read at a row and a column. -/

theorem ix_main_v0 (i0 : Fin 8192) (k : Fin 1024) : idx_main_v0 (ix1 i0) k = ix2 i0 k :=
  funext fun a => match a with
    | ⟨0, _⟩ => rfl
    | ⟨1, _⟩ => rfl

theorem ix_main_v1 (i0 : Fin 8192) (i1 : Fin 1) : idx_main_v1 (ix2 i0 i1) = ix1 i0 :=
  funext fun a => match a with
    | ⟨0, _⟩ => rfl

theorem ix_main_v4 (i0 : Fin 8192) (i1 : Fin 1024) : idx_main_v4 (ix2 i0 i1) = ix2 i0 0 :=
  funext fun a => match a with
    | ⟨0, _⟩ => rfl
    | ⟨1, _⟩ => rfl

theorem ix_main_v7 (i0 : Fin 8192) (k : Fin 1024) : idx_main_v7 (ix1 i0) k = ix2 i0 k :=
  funext fun a => match a with
    | ⟨0, _⟩ => rfl
    | ⟨1, _⟩ => rfl

theorem ix_main_v8 (i0 : Fin 8192) (i1 : Fin 1) : idx_main_v8 (ix2 i0 i1) = ix1 i0 :=
  funext fun a => match a with
    | ⟨0, _⟩ => rfl

theorem ix_main_v11 (i0 : Fin 8192) (i1 : Fin 1024) : idx_main_v11 (ix2 i0 i1) = ix2 i0 0 :=
  funext fun a => match a with
    | ⟨0, _⟩ => rfl
    | ⟨1, _⟩ => rfl

theorem ix_main_v16 (i0 : Fin 8192) (i1 : Fin 1024) : idx_main_v16 (ix2 i0 i1) = ix2 i0 0 :=
  funext fun a => match a with
    | ⟨0, _⟩ => rfl
    | ⟨1, _⟩ => rfl

theorem ix_main_v20 (i0 : Fin 8192) (i1 : Fin 1024) : idx_main_v20 (ix2 i0 i1) = ix2 0 i1 :=
  funext fun a => match a with
    | ⟨0, _⟩ => rfl
    | ⟨1, _⟩ => rfl

theorem ix_main_v22 (i0 : Fin 8192) (i1 : Fin 1024) : idx_main_v22 (ix2 i0 i1) = ix2 0 i1 :=
  funext fun a => match a with
    | ⟨0, _⟩ => rfl
    | ⟨1, _⟩ => rfl

/-- The modulated norm before its rounding. -/
theorem normed (x0 : Mat 8192 1024) (x1 x2 : Mat 1 1024) : val_main_v23 (F := Ideal) x0 x1 x2 = modulated x0 x1 x2 := by
  funext i
  idx_vars i
  simp only [val_main_v23_apply, val_main_v21_apply, val_main_v17_apply, val_main_v12_apply, val_main_v11_apply,
    val_main_v3_apply, val_main_v1_apply, val_main_v0_apply, val_main_cst_apply, val_main_v2_apply, val_main_cst_0_apply,
    val_main_v16_apply, val_main_v15_apply, val_main_v14_apply, val_main_v10_apply, val_main_v8_apply, val_main_v7_apply,
    val_main_v6_apply, val_main_v5_apply, val_main_v4_apply, val_main_cst_1_apply, val_main_v9_apply,
    val_main_cst_2_apply, val_main_v13_apply, val_main_cst_3_apply, val_main_v20_apply, val_main_v19_apply,
    val_main_v18_apply, val_main_cst_4_apply, val_main_v22_apply, ix_main_v11, ix_main_v1, ix_main_v0, ix_main_v16,
    ix_main_v8, ix_main_v7, ix_main_v4, ix_main_v20, ix_main_v22]
  pointwise [modulated, modRow, hat, rstd, var, mean, row]

/-- Result 0 of the reference. -/
theorem ref0 (x0 : Mat 8192 1024) (x1 : Mat 1 1024) (x2 : Mat 1 1024) : val_main_v44 (F := Ideal) x0 x1 x2 = modulated x0 x1 x2 := by
  funext i
  simp only [val_main_v44_apply, normed]
  pointwise []

/-- Result 1 of the reference. -/
theorem ref1 (x0 : Mat 8192 1024) (x1 : Mat 1 1024) (x2 : Mat 1 1024) (x3 : Mat 1024 512) (x8 : Mat 1 512) : val_main_v27 (F := Ideal) x0 x1 x2 x3 x8 = (fun i => nn (modulated x0 x1 x2) x3 i + x8 (ix2 0 (i 1))) := by
  funext i
  idx_vars i
  simp only [val_main_v27_apply, val_main_v25_apply, val_main_v24_apply, val_main_v26_apply, normed]
  pointwise [nn]
  exact congrArg₂ (fun a b : EReal => a + b) (Finset.sum_congr (M := EReal) rfl fun k _ => congrArg₂ (fun a b : EReal => a * b) (read2 _ rfl rfl) (read2 _ rfl rfl))
    (read2 _ rfl rfl)

/-- Result 2 of the reference. -/
theorem ref2 (x0 : Mat 8192 1024) (x1 : Mat 1 1024) (x2 : Mat 1 1024) (x4 : Mat 1024 512) (x9 : Mat 1 512) : val_main_v31 (F := Ideal) x0 x1 x2 x4 x9 = (fun i => nn (modulated x0 x1 x2) x4 i + x9 (ix2 0 (i 1))) := by
  funext i
  idx_vars i
  simp only [val_main_v31_apply, val_main_v29_apply, val_main_v28_apply, val_main_v30_apply, normed]
  pointwise [nn]
  exact congrArg₂ (fun a b : EReal => a + b) (Finset.sum_congr (M := EReal) rfl fun k _ => congrArg₂ (fun a b : EReal => a * b) (read2 _ rfl rfl) (read2 _ rfl rfl))
    (read2 _ rfl rfl)

/-- Result 3 of the reference. -/
theorem ref3 (x0 : Mat 8192 1024) (x1 : Mat 1 1024) (x2 : Mat 1 1024) (x5 : Mat 1024 512) (x10 : Mat 1 512) : val_main_v35 (F := Ideal) x0 x1 x2 x5 x10 = (fun i => nn (modulated x0 x1 x2) x5 i + x10 (ix2 0 (i 1))) := by
  funext i
  idx_vars i
  simp only [val_main_v35_apply, val_main_v33_apply, val_main_v32_apply, val_main_v34_apply, normed]
  pointwise [nn]
  exact congrArg₂ (fun a b : EReal => a + b) (Finset.sum_congr (M := EReal) rfl fun k _ => congrArg₂ (fun a b : EReal => a * b) (read2 _ rfl rfl) (read2 _ rfl rfl))
    (read2 _ rfl rfl)

/-- Result 4 of the reference. -/
theorem ref4 (x0 : Mat 8192 1024) (x1 : Mat 1 1024) (x2 : Mat 1 1024) (x6 : Mat 1024 1024) (x11 : Mat 1 1024) : val_main_v45 (F := Ideal) x0 x1 x2 x6 x11 = (fun i => nn (modulated x0 x1 x2) x6 i + x11 (ix2 0 (i 1))) := by
  funext i
  idx_vars i
  simp only [val_main_v45_apply, val_main_v39_apply, val_main_v37_apply, val_main_v36_apply, val_main_v38_apply, normed]
  pointwise [nn]
  exact congrArg₂ (fun a b : EReal => a + b) (Finset.sum_congr (M := EReal) rfl fun k _ => congrArg₂ (fun a b : EReal => a * b) (read2 _ rfl rfl) (read2 _ rfl rfl))
    (read2 _ rfl rfl)

/-- Result 5 of the reference. -/
theorem ref5 (x0 : Mat 8192 1024) (x1 : Mat 1 1024) (x2 : Mat 1 1024) (x7 : Mat 1024 1024) (x12 : Mat 1 1024) : val_main_v46 (F := Ideal) x0 x1 x2 x7 x12 = (fun i => nn (modulated x0 x1 x2) x7 i + x12 (ix2 0 (i 1))) := by
  funext i
  idx_vars i
  simp only [val_main_v46_apply, val_main_v43_apply, val_main_v41_apply, val_main_v40_apply, val_main_v42_apply, normed]
  pointwise [nn]
  exact congrArg₂ (fun a b : EReal => a + b) (Finset.sum_congr (M := EReal) rfl fun k _ => congrArg₂ (fun a b : EReal => a * b) (read2 _ rfl rfl) (read2 _ rfl rfl))
    (read2 _ rfl rfl)

/-- The whole program ends with the six results holding the modulated norm and the five products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v44) =
        modulated (m ((c : Thread nD τ).loc main_arg0)) (m ((c : Thread nD τ).loc main_arg1)) (m ((c : Thread nD τ).loc main_arg2))
      ∧ r.2.mem ((c : Thread nD τ).loc main_v27) =
        (fun i => nn (modulated (m ((c : Thread nD τ).loc main_arg0)) (m ((c : Thread nD τ).loc main_arg1)) (m ((c : Thread nD τ).loc main_arg2))) (m ((c : Thread nD τ).loc main_arg3)) i + (m ((c : Thread nD τ).loc main_arg8)) (ix2 0 (i 1)))
      ∧ r.2.mem ((c : Thread nD τ).loc main_v31) =
        (fun i => nn (modulated (m ((c : Thread nD τ).loc main_arg0)) (m ((c : Thread nD τ).loc main_arg1)) (m ((c : Thread nD τ).loc main_arg2))) (m ((c : Thread nD τ).loc main_arg4)) i + (m ((c : Thread nD τ).loc main_arg9)) (ix2 0 (i 1)))
      ∧ r.2.mem ((c : Thread nD τ).loc main_v35) =
        (fun i => nn (modulated (m ((c : Thread nD τ).loc main_arg0)) (m ((c : Thread nD τ).loc main_arg1)) (m ((c : Thread nD τ).loc main_arg2))) (m ((c : Thread nD τ).loc main_arg5)) i + (m ((c : Thread nD τ).loc main_arg10)) (ix2 0 (i 1)))
      ∧ r.2.mem ((c : Thread nD τ).loc main_v45) =
        (fun i => nn (modulated (m ((c : Thread nD τ).loc main_arg0)) (m ((c : Thread nD τ).loc main_arg1)) (m ((c : Thread nD τ).loc main_arg2))) (m ((c : Thread nD τ).loc main_arg6)) i + (m ((c : Thread nD τ).loc main_arg11)) (ix2 0 (i 1)))
      ∧ r.2.mem ((c : Thread nD τ).loc main_v46) =
        (fun i => nn (modulated (m ((c : Thread nD τ).loc main_arg0)) (m ((c : Thread nD τ).loc main_arg1)) (m ((c : Thread nD τ).loc main_arg2))) (m ((c : Thread nD τ).loc main_arg7)) i + (m ((c : Thread nD τ).loc main_arg12)) (ix2 0 (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((val_main_v44_eq _ _ _).trans (ref0 _ _ _)),
    (h c).2.1.trans ((val_main_v27_eq _ _ _ _ _).trans (ref1 _ _ _ _ _)),
    (h c).2.2.1.trans ((val_main_v31_eq _ _ _ _ _).trans (ref2 _ _ _ _ _)),
    (h c).2.2.2.1.trans ((val_main_v35_eq _ _ _ _ _).trans (ref3 _ _ _ _ _)),
    (h c).2.2.2.2.1.trans ((val_main_v45_eq _ _ _ _ _).trans (ref4 _ _ _ _ _)),
    (h c).2.2.2.2.2.1.trans ((val_main_v46_eq _ _ _ _ _).trans (ref5 _ _ _ _ _)),
    (h c).2.2.2.2.2.2⟩) (Cert.Reference16Ideal.Value.run (F := Ideal) m ρ)

end Cert.Reference16Ideal.InProj
end
-- ==== Proof.InProj.Claims.lean ====
/-
  The claims about the first norm with its modulation and the input projection: the reference's frame, and that the kernel and the reference end holding the same arrays.
-/
module

public import proofs.«01_k».proof.Defs
public import proofs.«01_k».proof.Proof.InProj.Kernel
public import proofs.«01_k».proof.Proof.InProj.Reference
public import proofs.«01_k».proof.Proof.Gen.Kernel16Ideal
public import proofs.«01_k».proof.Proof.Gen.Reference16Ideal
public import Idealize.ShloMosaic.Lib.Claim

@[expose] public section

set_option maxRecDepth 16384

noncomputable section

namespace Cert.InProj

open Idealize.ShloMosaic Idealize.ShloMosaic.TcCoe Idealize.SL.Sem

/-- The reference terminates with its arguments unchanged; it declares no semaphore. -/
theorem frame_reference : Cert.quiescent_Reference16Ideal := fun m ρ _ =>
  (θ_run Cert.Reference16Ideal.defs _ _).mono
    (fun r h => ⟨fun c => (h c).2.2.2.2.2.2, sem_eq_zero_of_no_sems (by decide) r.2⟩)
    (Cert.Reference16Ideal.Value.run (F := Ideal) m ρ)

/-- The kernel and the reference compute the same arrays. -/
theorem algebraic : Cert.algebraic_Kernel16Ideal_Reference16Ideal := by
  intro m g m' g' _ agree
  refine ⟨_, _, _, _, _, _, Cert.Kernel16Ideal.InProj.run m g,
    (θ_run Cert.Reference16Ideal.defs _ _).mono (fun r h c => ?_) (Cert.Reference16Ideal.InProj.run m' g')⟩
  obtain ⟨h0, h1, h2, h3, h4, h5, h6, h7, h8, h9, h10, h11, h12⟩ := agree c
  have := h c
  rw [h0, h1, h2, h3, h4, h5, h6, h7, h8, h9, h10, h11, h12] at this ⊢
  exact this

end Cert.InProj

end
-- ==== Proof.Merge.Gate.lean ====
/-
  The gated merge of the two branches: the state-space branch by its inner gate and its outer gate, and the convolution
  branch by its gate.
-/
module

public import proofs.«01_k».proof.Proof.Product.Spec
public import Idealize.ShloMosaic.Lib.Pointwise

@[expose] public section

noncomputable section

namespace Cert.Gate

open Idealize.ShloMosaic Cert.Product

/-- The logistic function `1 / (1 + exp (-x))`. -/
def sg (x : EReal) : EReal := Ideal.div 1 (1 + Ideal.exp (-x))

/-- One entry of the gated merge. -/
def merge1 (ya yb yc gs gc : EReal) : EReal := sg gs * (ya * sg yb) + sg gc * yc

/-- The gated merge. -/
def gatedMerge (ya yb yc gs gc : Mat 8192 1024) : Mat 8192 1024 := fun i => merge1 (ya i) (yb i) (yc i) (gs i) (gc i)

end Cert.Gate

end
-- ==== Proof.MergeOut.Kernel.lean ====
/-
  The gated merge and the output projection, block by block of rows.
-/
module

public import proofs.«01_k».proof.Proof.Merge.Gate
public import proofs.«01_k».proof.Proof.Gen.Kernel17Ideal.Value
public import Idealize.ShloMosaic.Lib.Pipeline.ValueKit
public import Idealize.ShloMosaic.Lib.Pointwise

@[expose] public section

set_option maxRecDepth 16384

noncomputable section

namespace Cert.Kernel17Ideal.MergeOut

open Cert.Kernel17Ideal Cert.Kernel17Ideal.Gen Idealize.ShloMosaic Idealize.ShloMosaic.TcCoe Idealize.SL.Sem Cert.Product Cert.Gate

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![t.val, 0] ∧
    win0_3.index t = ![t.val, 0] ∧
    win0_4.index t = ![t.val, 0] ∧
    win0_5.index t = ![0, 0] ∧
    win0_6.index t = ![t.val, 0] ∧
    win0_7.index t = ![t.val, 0] :=
  (by decide +kernel : ∀ t : Fin grid0.N, _)

/-- An entry of the block's merge. -/
theorem merged (v0 v2 v12 v22 v31 : Mat 512 1024) (r : Fin 512) (k : Fin 1024) : k0_pay2 (F := Ideal) v0 v2 v12 v22 v31 (ix2 r k) =
    merge1 (v0 (ix2 r k)) (v2 (ix2 r k)) (v31 (ix2 r k)) (v12 (ix2 r k)) (v22 (ix2 r k)) := by
  unfold k0_pay2
  pointwise [merge1, sg]
  simp only [zero_sub]

/-- Equal entries have equal merges. -/
theorem merge_congr {a a' b b' c c' d d' e e' : EReal} (ha : a = a') (hb : b = b') (hc : c = c') (hd : d = d') (he : e = e') :
    merge1 a b c d e = merge1 a' b' c' d' e' := by
  rw [ha, hb, hc, hd, he]

/-- The first result array holds the gated merge. -/
theorem out6 (c : Dev nD) : (dats m 0 c).arrAt 6 cfg0.N =
    gatedMerge (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  frame_out
  refine (merged _ _ _ _ _ _ _).trans ?_
  pointwise [gatedMerge]
  refine merge_congr ?_ ?_ ?_ ?_ ?_ <;> blk_point [iblk, V, idx t]

/-- The second result array holds the merge's product. -/
theorem out7 (c : Dev nD) : (dats m 0 c).arrAt 7 cfg0.N =
    nn (gatedMerge (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (dats m 0 c).arrAt_eq_of_covers 7 _ (by decide +kernel) fun t hf y => ?_
  blk_simp
  rw [after0_7]
  idx_vars y
  frame_out
  unfold k0_pay1
  pointwise [nn, merged]
  refine Finset.sum_congr (M := EReal) rfl fun q _ => congrArg₂ (fun a b : EReal => a * b) ?_ ?_
  · pointwise [gatedMerge]
    refine merge_congr ?_ ?_ ?_ ?_ ?_ <;> blk_point [iblk, V, idx t]
  · blk_point [iblk, V, idx t]

/-- The whole program ends with the two results holding the merge and its product, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        gatedMerge (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) =
        nn (gatedMerge (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out6 m c),
    (h c).2.1.trans (out7 m c),
    (h c).2.2⟩) (Cert.Kernel17Ideal.Value.run_blocks m ρ)

end Cert.Kernel17Ideal.MergeOut
end
-- ==== Proof.MergeOut.Reference.lean ====
/-
  The reference of the gated merge and the output projection.
-/
module

public import proofs.«01_k».proof.Proof.Merge.Gate
public import proofs.«01_k».proof.Proof.Gen.Reference17Ideal.Run
public import proofs.«01_k».proof.Proof.Gen.Reference17Ideal.Read
public import Idealize.ShloMosaic.Lib.Pipeline.ValueKit
public import Idealize.ShloMosaic.Lib.Pointwise

@[expose] public section

set_option maxRecDepth 16384

noncomputable section

namespace Cert.Reference17Ideal.MergeOut

open Cert.Reference17Ideal Cert.Reference17Ideal.Gen Cert.Reference17Ideal.Read Idealize.ShloMosaic Idealize.ShloMosaic.TcCoe Idealize.SL.Sem Cert.Product Cert.Gate

/-- The merge before its rounding. -/
theorem merged (x0 x1 x2 x3 x4 : Mat 8192 1024) : val_main_v26 (F := Ideal) x0 x1 x2 x3 x4 = gatedMerge x0 x1 x2 x3 x4 := by
  funext i
  simp only [val_main_v26_apply, val_main_v18_apply, val_main_v10_apply, val_main_v9_apply, val_main_cst_0_apply,
    val_main_v8_apply, val_main_v7_apply, val_main_cst_apply, val_main_v6_apply, val_main_v5_apply, val_main_v3_apply,
    val_main_v17_apply, val_main_v0_apply, val_main_v16_apply, val_main_v15_apply, val_main_cst_2_apply,
    val_main_v14_apply, val_main_v13_apply, val_main_cst_1_apply, val_main_v12_apply, val_main_v11_apply,
    val_main_v1_apply, val_main_v25_apply, val_main_v24_apply, val_main_v23_apply, val_main_cst_4_apply,
    val_main_v22_apply, val_main_v21_apply, val_main_cst_3_apply, val_main_v20_apply, val_main_v19_apply,
    val_main_v4_apply, val_main_v2_apply]
  pointwise [gatedMerge, merge1, sg]

/-- The first result of the reference. -/
theorem ref0 (x0 x1 x2 x3 x4 : Mat 8192 1024) : val_main_v27 (F := Ideal) x0 x1 x2 x3 x4 = gatedMerge x0 x1 x2 x3 x4 := by
  funext i
  simp only [val_main_v27_apply, merged]
  rfl

/-- The second result of the reference. -/
theorem ref1 (x0 x1 x2 x3 x4 : Mat 8192 1024) (x5 : Mat 1024 1024) : val_main_v30 (F := Ideal) x0 x1 x2 x3 x4 x5 = nn (gatedMerge x0 x1 x2 x3 x4) x5 := by
  funext i
  idx_vars i
  simp only [val_main_v30_apply, val_main_v29_apply, val_main_v28_apply, merged]
  pointwise [nn]
  exact Finset.sum_congr (M := EReal) rfl fun k _ => congrArg₂ (fun a b : EReal => a * b) (read2 _ rfl rfl) (read2 _ rfl rfl)

/-- The whole program ends with the two results holding the merge and its product, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v27) =
        gatedMerge (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v30) =
        nn (gatedMerge (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((val_main_v27_eq _ _ _ _ _).trans (ref0 _ _ _ _ _)),
    (h c).2.1.trans ((val_main_v30_eq _ _ _ _ _ _).trans (ref1 _ _ _ _ _ _)),
    (h c).2.2⟩) (Cert.Reference17Ideal.Value.run (F := Ideal) m ρ)

end Cert.Reference17Ideal.MergeOut
end
-- ==== Proof.MergeOut.Claims.lean ====
/-
  The claims about the gated merge and the output projection: the reference's frame, and that the kernel and the reference end holding the same arrays.
-/
module

public import proofs.«01_k».proof.Defs
public import proofs.«01_k».proof.Proof.MergeOut.Kernel
public import proofs.«01_k».proof.Proof.MergeOut.Reference
public import proofs.«01_k».proof.Proof.Gen.Kernel17Ideal
public import proofs.«01_k».proof.Proof.Gen.Reference17Ideal
public import Idealize.ShloMosaic.Lib.Claim

@[expose] public section

set_option maxRecDepth 16384

noncomputable section

namespace Cert.MergeOut

open Idealize.ShloMosaic Idealize.ShloMosaic.TcCoe Idealize.SL.Sem

/-- The reference terminates with its arguments unchanged; it declares no semaphore. -/
theorem frame_reference : Cert.quiescent_Reference17Ideal := fun m ρ _ =>
  (θ_run Cert.Reference17Ideal.defs _ _).mono
    (fun r h => ⟨fun c => (h c).2.2, sem_eq_zero_of_no_sems (by decide) r.2⟩)
    (Cert.Reference17Ideal.Value.run (F := Ideal) m ρ)

/-- The kernel and the reference compute the same arrays. -/
theorem algebraic : Cert.algebraic_Kernel17Ideal_Reference17Ideal := by
  intro m g m' g' _ agree
  refine ⟨_, _, Cert.Kernel17Ideal.MergeOut.run m g,
    (θ_run Cert.Reference17Ideal.defs _ _).mono (fun r h c => ?_) (Cert.Reference17Ideal.MergeOut.run m' g')⟩
  obtain ⟨h0, h1, h2, h3, h4, h5⟩ := agree c
  have := h c
  rw [h0, h1, h2, h3, h4, h5] at this ⊢
  exact this

end Cert.MergeOut

end
-- ==== Proof.Resid.Kernel.lean ====
/-
  The first residual sum with its norm and the second sub-layer's norm with its modulation, block by block of rows.
-/
module

public import proofs.«01_k».proof.Proof.Norm.Spec
public import proofs.«01_k».proof.Proof.Gen.Kernel18Ideal.Value
public import Idealize.ShloMosaic.Lib.Pipeline.ValueKit
public import Idealize.ShloMosaic.Lib.Pointwise

@[expose] public section

set_option maxRecDepth 16384

noncomputable section

namespace Cert.Kernel18Ideal.Resid

open Cert.Kernel18Ideal Cert.Kernel18Ideal.Gen Idealize.ShloMosaic Idealize.ShloMosaic.TcCoe Idealize.SL.Sem Cert.Product Cert.Norm

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![0, 0] ∧
    win0_3.index t = ![0, 0] ∧
    win0_4.index t = ![0, 0] ∧
    win0_5.index t = ![0, 0] ∧
    win0_6.index t = ![0, 0] ∧
    win0_7.index t = ![t.val, 0] ∧
    win0_8.index t = ![t.val, 0] :=
  (by decide +kernel : ∀ t : Fin grid0.N, _)

/-- The row of the whole arrays that row `r` of the blocks at point `t` is. -/
def rowOf (t : Fin cfg0.N) (r : Fin 1024) : Fin 8192 :=
  ⟨t.val * 1024 + r.val, by have := r.isLt; have := t.isLt; have h : cfg0.N = 8 := N_0; omega⟩

/-- The first residual sum's row, normalised, scaled and shifted. -/
theorem first (v0 : Mat 1024 1024) (v3 : Mat 1 1024) (v4 : Mat 1024 1024) (v25 v28 : Mat 1 1024) (r k : Fin 1024) :
    k0_pay2 (F := Ideal) v0 v3 v4 v25 v28 (ix2 r k) = affRow 0x44800000#32 (resid (row v0 r) (row v4 r) v3) v25 v28 k := by
  unfold k0_pay2
  pointwise [modRow, affRow, hat, rstd, var, mean, resid, row]

/-- The second norm's row, from the first's. -/
theorem second (v0 : Mat 1024 1024) (v3 : Mat 1 1024) (v4 : Mat 1024 1024) (v25 v28 : Mat 1 1024) (v48 v53 : Mat 1 1024) (r k : Fin 1024) :
    k0_pay1 (F := Ideal) (k0_pay3 v0 v3 v4 v25 v28) v48 v53 (ix2 r k) =
      modRow 0x44800000#32 (affRow 0x44800000#32 (resid (row v0 r) (row v4 r) v3) v25 v28) v48 v53 k := by
  unfold k0_pay1 k0_pay3
  pointwise [first, modRow, hat, rstd, var, mean]

/-- The first result array holds the first residual sum's norm. -/
theorem out7 (c : Dev nD) : (dats m 0 c).arrAt 7 cfg0.N =
    residNorm (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  idx_vars y
  have e : (win0_7.blk t).view.emb (ix2 y0 y1) = ix2 (rowOf t y0) y1 := by blk_ext [idx t, rowOf]
  rw [e]
  frame_out
  refine (first _ _ _ _ _ _ _).trans ?_
  pointwise [residNorm]
  refine affRow_congr (fun k => resid_congr (fun k => ?_) (fun k => ?_) (fun k => ?_) rfl) (fun k => ?_) (fun k => ?_) rfl <;> (try simp only [row]) <;> blk_point [iblk, V, idx t, rowOf]

/-- The second result array holds the modulated norm of the first. -/
theorem out8 (c : Dev nD) : (dats m 0 c).arrAt 8 cfg0.N =
    modulated (residNorm (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t hf y => ?_
  blk_simp
  rw [after0_8]
  idx_vars y
  have e : (win0_8.blk t).view.emb (ix2 y0 y1) = ix2 (rowOf t y0) y1 := by blk_ext [idx t, rowOf]
  rw [e]
  frame_out
  refine (second _ _ _ _ _ _ _ _ _).trans ?_
  pointwise [modulated, residNorm]
  refine modRow_congr (fun k => affRow_congr (fun k => resid_congr (fun k => ?_) (fun k => ?_) (fun k => ?_) rfl) (fun k => ?_) (fun k => ?_) rfl) (fun k => ?_) (fun k => ?_) rfl <;>
    (try simp only [row]) <;> blk_point [iblk, V, idx t, rowOf]

/-- The whole program ends with the two results holding the two norms, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        residNorm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) =
        modulated (residNorm (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (out7 m c),
    (h c).2.1.trans (out8 m c),
    (h c).2.2⟩) (Cert.Kernel18Ideal.Value.run_blocks m ρ)

end Cert.Kernel18Ideal.Resid
end
-- ==== Proof.Resid.Reference.lean ====
/-
  The reference of the first residual sum with its norm and of the second norm with its modulation.
-/
module

public import proofs.«01_k».proof.Proof.Norm.Spec
public import proofs.«01_k».proof.Proof.Gen.Reference18Ideal.Run
public import proofs.«01_k».proof.Proof.Gen.Reference18Ideal.Read
public import Idealize.ShloMosaic.Lib.Pipeline.ValueKit
public import Idealize.ShloMosaic.Lib.Pointwise

@[expose] public section

set_option maxRecDepth 16384

noncomputable section

namespace Cert.Reference18Ideal.Resid

open Cert.Reference18Ideal Cert.Reference18Ideal.Gen Cert.Reference18Ideal.Read Idealize.ShloMosaic Idealize.ShloMosaic.TcCoe Idealize.SL.Sem Cert.Product Cert.Norm

/-! How the reference's index maps read at a row and a column. -/

theorem ix_main_v3 (i0 : Fin 8192) (i1 : Fin 1024) : idx_main_v3 (ix2 i0 i1) = ix2 0 i1 :=
  funext fun a => match a with
    | ⟨0, _⟩ => rfl
    | ⟨1, _⟩ => rfl

theorem ix_main_v6 (i0 : Fin 8192) (k : Fin 1024) : idx_main_v6 (ix1 i0) k = ix2 i0 k :=
  funext fun a => match a with
    | ⟨0, _⟩ => rfl
    | ⟨1, _⟩ => rfl

theorem ix_main_v7 (i0 : Fin 8192) (i1 : Fin 1) : idx_main_v7 (ix2 i0 i1) = ix1 i0 :=
  funext fun a => match a with
    | ⟨0, _⟩ => rfl

theorem ix_main_v10 (i0 : Fin 8192) (i1 : Fin 1024) : idx_main_v10 (ix2 i0 i1) = ix2 i0 0 :=
  funext fun a => match a with
    | ⟨0, _⟩ => rfl
    | ⟨1, _⟩ => rfl

theorem ix_main_v13 (i0 : Fin 8192) (k : Fin 1024) : idx_main_v13 (ix1 i0) k = ix2 i0 k :=
  funext fun a => match a with
    | ⟨0, _⟩ => rfl
    | ⟨1, _⟩ => rfl

theorem ix_main_v14 (i0 : Fin 8192) (i1 : Fin 1) : idx_main_v14 (ix2 i0 i1) = ix1 i0 :=
  funext fun a => match a with
    | ⟨0, _⟩ => rfl

theorem ix_main_v17 (i0 : Fin 8192) (i1 : Fin 1024) : idx_main_v17 (ix2 i0 i1) = ix2 i0 0 :=
  funext fun a => match a with
    | ⟨0, _⟩ => rfl
    | ⟨1, _⟩ => rfl

theorem ix_main_v22 (i0 : Fin 8192) (i1 : Fin 1024) : idx_main_v22 (ix2 i0 i1) = ix2 i0 0 :=
  funext fun a => match a with
    | ⟨0, _⟩ => rfl
    | ⟨1, _⟩ => rfl

theorem ix_main_v24 (i0 : Fin 8192) (i1 : Fin 1024) : idx_main_v24 (ix2 i0 i1) = ix2 0 i1 :=
  funext fun a => match a with
    | ⟨0, _⟩ => rfl
    | ⟨1, _⟩ => rfl

theorem ix_main_v26 (i0 : Fin 8192) (i1 : Fin 1024) : idx_main_v26 (ix2 i0 i1) = ix2 0 i1 :=
  funext fun a => match a with
    | ⟨0, _⟩ => rfl
    | ⟨1, _⟩ => rfl

theorem ix_main_v28 (i0 : Fin 8192) (k : Fin 1024) : idx_main_v28 (ix1 i0) k = ix2 i0 k :=
  funext fun a => match a with
    | ⟨0, _⟩ => rfl
    | ⟨1, _⟩ => rfl

theorem ix_main_v29 (i0 : Fin 8192) (i1 : Fin 1) : idx_main_v29 (ix2 i0 i1) = ix1 i0 :=
  funext fun a => match a with
    | ⟨0, _⟩ => rfl

theorem ix_main_v32 (i0 : Fin 8192) (i1 : Fin 1024) : idx_main_v32 (ix2 i0 i1) = ix2 i0 0 :=
  funext fun a => match a with
    | ⟨0, _⟩ => rfl
    | ⟨1, _⟩ => rfl

theorem ix_main_v35 (i0 : Fin 8192) (k : Fin 1024) : idx_main_v35 (ix1 i0) k = ix2 i0 k :=
  funext fun a => match a with
    | ⟨0, _⟩ => rfl
    | ⟨1, _⟩ => rfl

theorem ix_main_v36 (i0 : Fin 8192) (i1 : Fin 1) : idx_main_v36 (ix2 i0 i1) = ix1 i0 :=
  funext fun a => match a with
    | ⟨0, _⟩ => rfl

theorem ix_main_v39 (i0 : Fin 8192) (i1 : Fin 1024) : idx_main_v39 (ix2 i0 i1) = ix2 i0 0 :=
  funext fun a => match a with
    | ⟨0, _⟩ => rfl
    | ⟨1, _⟩ => rfl

theorem ix_main_v44 (i0 : Fin 8192) (i1 : Fin 1024) : idx_main_v44 (ix2 i0 i1) = ix2 i0 0 :=
  funext fun a => match a with
    | ⟨0, _⟩ => rfl
    | ⟨1, _⟩ => rfl

theorem ix_main_v48 (i0 : Fin 8192) (i1 : Fin 1024) : idx_main_v48 (ix2 i0 i1) = ix2 0 i1 :=
  funext fun a => match a with
    | ⟨0, _⟩ => rfl
    | ⟨1, _⟩ => rfl

theorem ix_main_v50 (i0 : Fin 8192) (i1 : Fin 1024) : idx_main_v50 (ix2 i0 i1) = ix2 0 i1 :=
  funext fun a => match a with
    | ⟨0, _⟩ => rfl
    | ⟨1, _⟩ => rfl

/-- The first residual sum. -/
theorem residual (x0 x1 : Mat 8192 1024) (x2 : Mat 1 1024) (i0 : Fin 8192) (k : Fin 1024) :
    val_main_v5 (F := Ideal) x0 x1 x2 (ix2 i0 k) = resid (row x0 i0) (row x1 i0) x2 k := by
  simp only [val_main_v5_apply, val_main_v1_apply, val_main_v0_apply, val_main_cst_apply, val_main_v4_apply, val_main_v3_apply,
    val_main_v2_apply, ix_main_v3]
  pointwise [resid, row]

/-- The first result of the reference. -/
theorem ref0 (x0 x1 : Mat 8192 1024) (x2 x3 x4 : Mat 1 1024) : val_main_v27 (F := Ideal) x0 x1 x2 x3 x4 = residNorm x0 x1 x2 x3 x4 := by
  funext i
  idx_vars i
  simp only [val_main_v27_apply, val_main_v25_apply, val_main_v23_apply, val_main_v18_apply, val_main_v17_apply,
      val_main_v9_apply, val_main_v7_apply, val_main_v6_apply, val_main_cst_0_apply, val_main_v8_apply,
      val_main_cst_1_apply, val_main_v22_apply, val_main_v21_apply, val_main_v20_apply, val_main_v16_apply,
      val_main_v14_apply, val_main_v13_apply, val_main_v12_apply, val_main_v11_apply, val_main_v10_apply,
      val_main_cst_2_apply, val_main_v15_apply, val_main_cst_3_apply, val_main_v19_apply, val_main_cst_4_apply,
      val_main_v24_apply, val_main_v26_apply, residual, ix_main_v3, ix_main_v17, ix_main_v7, ix_main_v6, ix_main_v22, ix_main_v14, ix_main_v13, ix_main_v10, ix_main_v24, ix_main_v26, ix_main_v39, ix_main_v29, ix_main_v28, ix_main_v44, ix_main_v36, ix_main_v35, ix_main_v32, ix_main_v48, ix_main_v50]
  pointwise [modulated, residNorm, modRow, affRow, hat, rstd, var, mean, row]

/-- The second result of the reference. -/
theorem ref1 (x0 x1 : Mat 8192 1024) (x2 x3 x4 x5 x6 : Mat 1 1024) : val_main_v52 (F := Ideal) x0 x1 x2 x3 x4 x5 x6 = modulated (residNorm x0 x1 x2 x3 x4) x5 x6 := by
  funext i
  idx_vars i
  simp only [val_main_v52_apply, val_main_v51_apply, val_main_v49_apply, val_main_v45_apply, val_main_v40_apply,
      val_main_v39_apply, val_main_v31_apply, val_main_v29_apply, val_main_v28_apply, val_main_cst_5_apply,
      val_main_v30_apply, val_main_cst_6_apply, val_main_v44_apply, val_main_v43_apply, val_main_v42_apply,
      val_main_v38_apply, val_main_v36_apply, val_main_v35_apply, val_main_v34_apply, val_main_v33_apply,
      val_main_v32_apply, val_main_cst_7_apply, val_main_v37_apply, val_main_cst_8_apply, val_main_v41_apply,
      val_main_cst_9_apply, val_main_v48_apply, val_main_v47_apply, val_main_v46_apply, val_main_cst_10_apply,
      val_main_v50_apply, ref0, ix_main_v3, ix_main_v17, ix_main_v7, ix_main_v6, ix_main_v22, ix_main_v14, ix_main_v13, ix_main_v10, ix_main_v24, ix_main_v26, ix_main_v39, ix_main_v29, ix_main_v28, ix_main_v44, ix_main_v36, ix_main_v35, ix_main_v32, ix_main_v48, ix_main_v50]
  pointwise [modulated, modRow, hat, rstd, var, mean, row]

/-- The whole program ends with the two results holding the two norms, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v27) =
        residNorm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v52) =
        modulated (residNorm (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((val_main_v27_eq _ _ _ _ _).trans (ref0 _ _ _ _ _)),
    (h c).2.1.trans ((val_main_v52_eq _ _).trans (ref1 _ _ _ _ _ _ _)),
    (h c).2.2⟩) (Cert.Reference18Ideal.Value.run (F := Ideal) m ρ)

end Cert.Reference18Ideal.Resid
end
-- ==== Proof.Resid.Claims.lean ====
/-
  The claims about the first residual sum with its norm and the second norm with its modulation: the reference's frame, and that the kernel and the reference end holding the same arrays.
-/
module

public import proofs.«01_k».proof.Defs
public import proofs.«01_k».proof.Proof.Resid.Kernel
public import proofs.«01_k».proof.Proof.Resid.Reference
public import proofs.«01_k».proof.Proof.Gen.Kernel18Ideal
public import proofs.«01_k».proof.Proof.Gen.Reference18Ideal
public import Idealize.ShloMosaic.Lib.Claim

@[expose] public section

set_option maxRecDepth 16384

noncomputable section

namespace Cert.Resid

open Idealize.ShloMosaic Idealize.ShloMosaic.TcCoe Idealize.SL.Sem

/-- The reference terminates with its arguments unchanged; it declares no semaphore. -/
theorem frame_reference : Cert.quiescent_Reference18Ideal := fun m ρ _ =>
  (θ_run Cert.Reference18Ideal.defs _ _).mono
    (fun r h => ⟨fun c => (h c).2.2, sem_eq_zero_of_no_sems (by decide) r.2⟩)
    (Cert.Reference18Ideal.Value.run (F := Ideal) m ρ)

/-- The kernel and the reference compute the same arrays. -/
theorem algebraic : Cert.algebraic_Kernel18Ideal_Reference18Ideal := by
  intro m g m' g' _ agree
  refine ⟨_, _, Cert.Kernel18Ideal.Resid.run m g,
    (θ_run Cert.Reference18Ideal.defs _ _).mono (fun r h c => ?_) (Cert.Reference18Ideal.Resid.run m' g')⟩
  obtain ⟨h0, h1, h2, h3, h4, h5, h6⟩ := agree c
  have := h c
  rw [h0, h1, h2, h3, h4, h5, h6] at this ⊢
  exact this

end Cert.Resid

end
-- ==== Proof.Adam.Spec.lean ====
/-
  One step of the optimiser, entry by entry over the extended reals: the new first moment, the new second moment and the
  change of the weight, with the constants of the program's float words.
-/
module

public import proofs.«01_k».proof.Proof.Product.Spec
public import Idealize.ShloMosaic.Lib.Pointwise

@[expose] public section

noncomputable section

namespace Cert.Adam

open Idealize.ShloMosaic Cert.Product

/-- The value of a word of 32 bits read as a float. -/
abbrev lit (b : BitVec 32) : EReal := Ideal.ofBits .f32 b

/-- The new first moment `0.9 m + 0.1 g`. -/
def newM (g m : EReal) : EReal := lit 0x3F666666#32 * m + lit 0x3DCCCCCD#32 * g

/-- The new second moment `0.999 v + 0.001 g²`. -/
def newV (g v : EReal) : EReal := lit 0x3F7FBE77#32 * v + lit 0x3A83126F#32 * (g * g)

/-- The change of the weight: `-0.001 (m̂ / (√v̂ + 1e-8) + 0.01 w)` with the moments corrected for the tenth step. -/
def delta (w g m v : EReal) : EReal := lit 0xBA83126F#32 *
  (Ideal.div (Ideal.div (newM g m) (lit 0x3F26BD02#32)) (Ideal.sqrt (Ideal.div (newV g v) (lit 0x3C231ACC#32)) + lit 0x322BCC77#32) +
    lit 0x3C23D70A#32 * w)

/-- The new first moments of an array of weights. -/
def newMs {s : Shape} (g m : s.Idx → EReal) : s.Idx → EReal := fun i => newM (g i) (m i)

/-- The new second moments of an array of weights. -/
def newVs {s : Shape} (g v : s.Idx → EReal) : s.Idx → EReal := fun i => newV (g i) (v i)

/-- The changes of an array of weights. -/
def deltas {s : Shape} (w g m v : s.Idx → EReal) : s.Idx → EReal := fun i => delta (w i) (g i) (m i) (v i)

/-- An array of extended reals of eight matrices. -/
abbrev Parts (r k : ℕ) : Type := (⟨3, ![8, r, k]⟩ : Shape).Idx → EReal

/-- The sum of the eight matrices. -/
def sumParts {r k : ℕ} (p : Parts r k) : Mat r k := fun i => ∑ d : Fin 8, p (ix3 d (i 0) (i 1))

end Cert.Adam

end
-- ==== Proof.SumIn.Kernel.lean ====
/-
  The sum of the eight devices' parts of a gradient and the optimiser's step, block by block.
-/
module

public import proofs.«01_k».proof.Proof.Adam.Spec
public import proofs.«01_k».proof.Proof.Gen.Kernel19Ideal.Value
public import Idealize.ShloMosaic.Lib.Pipeline.ValueKit
public import Idealize.ShloMosaic.Lib.Pointwise

@[expose] public section

set_option maxRecDepth 16384

noncomputable section

namespace Cert.Kernel19Ideal.SumIn

open Cert.Kernel19Ideal Cert.Kernel19Ideal.Gen Idealize.ShloMosaic Idealize.ShloMosaic.TcCoe Idealize.SL.Sem Cert.Product Cert.Adam

variable (m : (ℓ : Loc nD τ sig) → Buf (Elt Ideal) ℓ)

/-- The blocks of the arrays at point `t`. -/
theorem idx : ∀ t : Fin cfg0.N, win0_0.index t = ![0, t.val, 0] ∧
    win0_1.index t = ![t.val, 0] ∧
    win0_2.index t = ![t.val, 0] ∧
    win0_3.index t = ![t.val, 0] ∧
    win0_4.index t = ![t.val, 0] ∧
    win0_5.index t = ![t.val, 0] ∧
    win0_6.index t = ![t.val, 0] ∧
    win0_7.index t = ![t.val, 0] :=
  (by decide +kernel : ∀ t : Fin grid0.N, _)

/-- The result array holds the sum of the eight parts. -/
theorem out4 (c : Dev nD) : (dats m 0 c).arrAt 4 cfg0.N =
    sumParts (m ((c : Thread nD τ).loc main_arg0)) := by
  refine (dats m 0 c).arrAt_eq_of_covers 4 _ (by decide +kernel) fun t hf y => ?_
  blk_simp
  rw [after0_4]
  idx_vars y
  frame_out
  unfold_payloads
  pointwise [delta, newM, newV, sumParts, Fin.sum_univ_eight]
  blk_point [iblk, V, idx t]

/-- The result array holds the change of the weights. -/
theorem out5 (c : Dev nD) : (dats m 0 c).arrAt 5 cfg0.N =
    (fun i => delta ((m ((c : Thread nD τ).loc main_arg1)) i) (sumParts (m ((c : Thread nD τ).loc main_arg0)) i) ((m ((c : Thread nD τ).loc main_arg2)) i) ((m ((c : Thread nD τ).loc main_arg3)) i)) := by
  refine (dats m 0 c).arrAt_eq_of_covers 5 _ (by decide +kernel) fun t hf y => ?_
  blk_simp
  rw [after0_5]
  idx_vars y
  frame_out
  unfold_payloads
  pointwise [delta, newM, newV, sumParts, Fin.sum_univ_eight]
  blk_point [iblk, V, idx t]

/-- The result array holds the new first moment. -/
theorem out6 (c : Dev nD) : (dats m 0 c).arrAt 6 cfg0.N =
    (fun i => newM (sumParts (m ((c : Thread nD τ).loc main_arg0)) i) ((m ((c : Thread nD τ).loc main_arg2)) i)) := by
  refine (dats m 0 c).arrAt_eq_of_covers 6 _ (by decide +kernel) fun t hf y => ?_
  blk_simp
  rw [after0_6]
  idx_vars y
  frame_out
  unfold_payloads
  pointwise [delta, newM, newV, sumParts, Fin.sum_univ_eight]
  blk_point [iblk, V, idx t]

/-- The result array holds the new second moment. -/
theorem out7 (c : Dev nD) : (dats m 0 c).arrAt 7 cfg0.N =
    (fun i => newV (sumParts (m ((c : Thread nD τ).loc main_arg0)) i) ((m ((c : Thread nD τ).loc main_arg3)) i)) := by
  refine (dats m 0 c).arrAt_eq_of_covers 7 _ (by decide +kernel) fun t hf y => ?_
  blk_simp
  rw [after0_7]
  idx_vars y
  frame_out
  unfold_payloads
  pointwise [delta, newM, newV, sumParts, Fin.sum_univ_eight]
  blk_point [iblk, V, idx t]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        sumParts (m ((c : Thread nD τ).loc main_arg0))
      ∧ r.2.mem ((c : Thread nD τ).loc main_v0_1) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v0_2) =
        (fun i => newM (sumParts (m ((c : Thread nD τ).loc main_arg0)) i) ((m ((c : Thread nD τ).loc main_arg2)) i))
      ∧ r.2.mem ((c : Thread nD τ).loc main_v0_3) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2.1.trans (out7 m c),
    (h c).2.2.2.2⟩) (Cert.Kernel19Ideal.Value.run_blocks m ρ)

end Cert.Kernel19Ideal.SumIn
end
-- ==== Proof.SumIn.Reference.lean ====
/-
  The reference of the sum and the optimiser's step.
-/
module

public import proofs.«01_k».proof.Proof.Adam.Spec
public import proofs.«01_k».proof.Proof.Gen.Reference19Ideal.Run
public import proofs.«01_k».proof.Proof.Gen.Reference19Ideal.Read
public import Idealize.ShloMosaic.Lib.Pipeline.ValueKit
public import Idealize.ShloMosaic.Lib.Pointwise

@[expose] public section

set_option maxRecDepth 16384

noncomputable section

namespace Cert.Reference19Ideal.SumIn

open Cert.Reference19Ideal Cert.Reference19Ideal.Gen Cert.Reference19Ideal.Read Idealize.ShloMosaic Idealize.ShloMosaic.TcCoe Idealize.SL.Sem Cert.Product Cert.Adam

/-- The reference's result is the sum of the eight parts. -/
theorem ref0 (x0 : Parts 1024 448) : val_main_v1 (F := Ideal) x0 = sumParts x0 := by
  funext i
  idx_vars i
  simp only [val_main_v1_apply, val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The reference's result is the change of the weights. -/
theorem ref1 (x0 : Parts 1024 448) (x1 : Mat 1024 448) (x2 : Mat 1024 448) (x3 : Mat 1024 448) : val_main_v25 (F := Ideal) x0 x1 x2 x3 = (fun i => delta (x1 i) (sumParts x0 i) (x2 i) (x3 i)) := by
  funext i
  have h := congrFun (ref0 x0) i
  idx_vars i
  simp only [val_main_v25_apply, val_main_v24_apply, val_main_cst_8_apply, val_main_v23_apply, val_main_v20_apply,
      val_main_v14_apply, val_main_v6_apply, val_main_v3_apply, val_main_v2_apply, val_main_cst_0_apply, val_main_v5_apply,
      val_main_v4_apply, val_main_cst_1_apply, val_main_v13_apply, val_main_cst_4_apply, val_main_v19_apply,
      val_main_v17_apply, val_main_v16_apply, val_main_v12_apply, val_main_v8_apply, val_main_v7_apply,
      val_main_cst_2_apply, val_main_v11_apply, val_main_v10_apply, val_main_cst_3_apply, val_main_v9_apply,
      val_main_v15_apply, val_main_cst_5_apply, val_main_v18_apply, val_main_cst_6_apply, val_main_v22_apply,
      val_main_v21_apply, val_main_cst_7_apply, h]
  pointwise [delta, newM, newV]

/-- The reference's result is the new first moment. -/
theorem ref2 (x0 : Parts 1024 448) (x2 : Mat 1024 448) : val_main_v6 (F := Ideal) x0 x2 = (fun i => newM (sumParts x0 i) (x2 i)) := by
  funext i
  have h := congrFun (ref0 x0) i
  idx_vars i
  simp only [val_main_v6_apply, val_main_v3_apply, val_main_v2_apply, val_main_cst_0_apply, val_main_v5_apply, val_main_v4_apply,
      val_main_cst_1_apply, h]
  pointwise [delta, newM, newV]

/-- The reference's result is the new second moment. -/
theorem ref3 (x0 : Parts 1024 448) (x3 : Mat 1024 448) : val_main_v12 (F := Ideal) x0 x3 = (fun i => newV (sumParts x0 i) (x3 i)) := by
  funext i
  have h := congrFun (ref0 x0) i
  idx_vars i
  simp only [val_main_v12_apply, val_main_v8_apply, val_main_v7_apply, val_main_cst_2_apply, val_main_v11_apply,
      val_main_v10_apply, val_main_cst_3_apply, val_main_v9_apply, h]
  pointwise [delta, newM, newV]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) =
        sumParts (m ((c : Thread nD τ).loc main_arg0))
      ∧ r.2.mem ((c : Thread nD τ).loc main_v25) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v6) =
        (fun i => newM (sumParts (m ((c : Thread nD τ).loc main_arg0)) i) ((m ((c : Thread nD τ).loc main_arg2)) i))
      ∧ r.2.mem ((c : Thread nD τ).loc main_v12) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v1_eq _).trans (ref0 _)),
    (h c).2.1.trans ((val_main_v25_eq _ _ _ _).trans (ref1 _ _ _ _)),
    (h c).2.2.1.trans ((val_main_v6_eq _ _).trans (ref2 _ _)),
    (h c).2.2.2.1.trans ((val_main_v12_eq _ _).trans (ref3 _ _)),
    (h c).2.2.2.2⟩) (Cert.Reference19Ideal.Value.run (F := Ideal) m ρ)

end Cert.Reference19Ideal.SumIn
end
-- ==== Proof.SumIn.Claims.lean ====
/-
  The claims about the sum of the eight devices' parts of a gradient and the optimiser's step: the reference's frame, and that the kernel and the reference end holding the same arrays.
-/
module

public import proofs.«01_k».proof.Defs
public import proofs.«01_k».proof.Proof.SumIn.Kernel
public import proofs.«01_k».proof.Proof.SumIn.Reference
public import proofs.«01_k».proof.Proof.Gen.Kernel19Ideal
public import proofs.«01_k».proof.Proof.Gen.Reference19Ideal
public import Idealize.ShloMosaic.Lib.Claim

@[expose] public section

set_option maxRecDepth 16384

noncomputable section

namespace Cert.SumIn

open Idealize.ShloMosaic Idealize.ShloMosaic.TcCoe Idealize.SL.Sem

/-- The reference terminates with its arguments unchanged; it declares no semaphore. -/
theorem frame_reference : Cert.quiescent_Reference19Ideal := fun m ρ _ =>
  (θ_run Cert.Reference19Ideal.defs _ _).mono
    (fun r h => ⟨fun c => (h c).2.2.2.2, sem_eq_zero_of_no_sems (by decide) r.2⟩)
    (Cert.Reference19Ideal.Value.run (F := Ideal) m ρ)

/-- The kernel and the reference compute the same arrays. -/
theorem algebraic : Cert.algebraic_Kernel19Ideal_Reference19Ideal := by
  intro m g m' g' _ agree
  refine ⟨_, _, _, _, Cert.Kernel19Ideal.SumIn.run m g,
    (θ_run Cert.Reference19Ideal.defs _ _).mono (fun r h c => ?_) (Cert.Reference19Ideal.SumIn.run m' g')⟩
  obtain ⟨h0, h1, h2, h3⟩ := agree c
  have := h c
  rw [h0, h1, h2, h3] at this ⊢
  exact this

end Cert.SumIn

end
-- ==== Proof.SumUp.Kernel.lean ====
/-
  The sum of the eight devices' parts of a gradient and the optimiser's step, block by block.
-/
module

public import proofs.«01_k».proof.Proof.Adam.Spec
public import proofs.«01_k».proof.Proof.Gen.Kernel20Ideal.Value
public import Idealize.ShloMosaic.Lib.Pipeline.ValueKit
public import Idealize.ShloMosaic.Lib.Pointwise

@[expose] public section

set_option maxRecDepth 16384

noncomputable section

namespace Cert.Kernel20Ideal.SumUp

open Cert.Kernel20Ideal Cert.Kernel20Ideal.Gen Idealize.ShloMosaic Idealize.ShloMosaic.TcCoe Idealize.SL.Sem Cert.Product Cert.Adam

variable (m : (ℓ : Loc nD τ sig) → Buf (Elt Ideal) ℓ)

/-- The blocks of the arrays at point `t`. -/
theorem idx : ∀ t : Fin cfg0.N, win0_0.index t = ![0, t.val, 0] ∧
    win0_1.index t = ![t.val, 0] ∧
    win0_2.index t = ![t.val, 0] ∧
    win0_3.index t = ![t.val, 0] ∧
    win0_4.index t = ![t.val, 0] ∧
    win0_5.index t = ![t.val, 0] ∧
    win0_6.index t = ![t.val, 0] ∧
    win0_7.index t = ![t.val, 0] :=
  (by decide +kernel : ∀ t : Fin grid0.N, _)

/-- The result array holds the sum of the eight parts. -/
theorem out4 (c : Dev nD) : (dats m 0 c).arrAt 4 cfg0.N =
    sumParts (m ((c : Thread nD τ).loc main_arg0)) := by
  refine (dats m 0 c).arrAt_eq_of_covers 4 _ (by decide +kernel) fun t hf y => ?_
  blk_simp
  rw [after0_4]
  idx_vars y
  frame_out
  unfold_payloads
  pointwise [delta, newM, newV, sumParts, Fin.sum_univ_eight]
  blk_point [iblk, V, idx t]

/-- The result array holds the change of the weights. -/
theorem out5 (c : Dev nD) : (dats m 0 c).arrAt 5 cfg0.N =
    (fun i => delta ((m ((c : Thread nD τ).loc main_arg1)) i) (sumParts (m ((c : Thread nD τ).loc main_arg0)) i) ((m ((c : Thread nD τ).loc main_arg2)) i) ((m ((c : Thread nD τ).loc main_arg3)) i)) := by
  refine (dats m 0 c).arrAt_eq_of_covers 5 _ (by decide +kernel) fun t hf y => ?_
  blk_simp
  rw [after0_5]
  idx_vars y
  frame_out
  unfold_payloads
  pointwise [delta, newM, newV, sumParts, Fin.sum_univ_eight]
  blk_point [iblk, V, idx t]

/-- The result array holds the new first moment. -/
theorem out6 (c : Dev nD) : (dats m 0 c).arrAt 6 cfg0.N =
    (fun i => newM (sumParts (m ((c : Thread nD τ).loc main_arg0)) i) ((m ((c : Thread nD τ).loc main_arg2)) i)) := by
  refine (dats m 0 c).arrAt_eq_of_covers 6 _ (by decide +kernel) fun t hf y => ?_
  blk_simp
  rw [after0_6]
  idx_vars y
  frame_out
  unfold_payloads
  pointwise [delta, newM, newV, sumParts, Fin.sum_univ_eight]
  blk_point [iblk, V, idx t]

/-- The result array holds the new second moment. -/
theorem out7 (c : Dev nD) : (dats m 0 c).arrAt 7 cfg0.N =
    (fun i => newV (sumParts (m ((c : Thread nD τ).loc main_arg0)) i) ((m ((c : Thread nD τ).loc main_arg3)) i)) := by
  refine (dats m 0 c).arrAt_eq_of_covers 7 _ (by decide +kernel) fun t hf y => ?_
  blk_simp
  rw [after0_7]
  idx_vars y
  frame_out
  unfold_payloads
  pointwise [delta, newM, newV, sumParts, Fin.sum_univ_eight]
  blk_point [iblk, V, idx t]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        sumParts (m ((c : Thread nD τ).loc main_arg0))
      ∧ r.2.mem ((c : Thread nD τ).loc main_v0_1) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v0_2) =
        (fun i => newM (sumParts (m ((c : Thread nD τ).loc main_arg0)) i) ((m ((c : Thread nD τ).loc main_arg2)) i))
      ∧ r.2.mem ((c : Thread nD τ).loc main_v0_3) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2.1.trans (out7 m c),
    (h c).2.2.2.2⟩) (Cert.Kernel20Ideal.Value.run_blocks m ρ)

end Cert.Kernel20Ideal.SumUp
end
-- ==== Proof.SumUp.Reference.lean ====
/-
  The reference of the sum and the optimiser's step.
-/
module

public import proofs.«01_k».proof.Proof.Adam.Spec
public import proofs.«01_k».proof.Proof.Gen.Reference20Ideal.Run
public import proofs.«01_k».proof.Proof.Gen.Reference20Ideal.Read
public import Idealize.ShloMosaic.Lib.Pipeline.ValueKit
public import Idealize.ShloMosaic.Lib.Pointwise

@[expose] public section

set_option maxRecDepth 16384

noncomputable section

namespace Cert.Reference20Ideal.SumUp

open Cert.Reference20Ideal Cert.Reference20Ideal.Gen Cert.Reference20Ideal.Read Idealize.ShloMosaic Idealize.ShloMosaic.TcCoe Idealize.SL.Sem Cert.Product Cert.Adam

/-- The reference's result is the sum of the eight parts. -/
theorem ref0 (x0 : Parts 1024 704) : val_main_v1 (F := Ideal) x0 = sumParts x0 := by
  funext i
  idx_vars i
  simp only [val_main_v1_apply, val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The reference's result is the change of the weights. -/
theorem ref1 (x0 : Parts 1024 704) (x1 : Mat 1024 704) (x2 : Mat 1024 704) (x3 : Mat 1024 704) : val_main_v25 (F := Ideal) x0 x1 x2 x3 = (fun i => delta (x1 i) (sumParts x0 i) (x2 i) (x3 i)) := by
  funext i
  have h := congrFun (ref0 x0) i
  idx_vars i
  simp only [val_main_v25_apply, val_main_v24_apply, val_main_cst_8_apply, val_main_v23_apply, val_main_v20_apply,
      val_main_v14_apply, val_main_v6_apply, val_main_v3_apply, val_main_v2_apply, val_main_cst_0_apply, val_main_v5_apply,
      val_main_v4_apply, val_main_cst_1_apply, val_main_v13_apply, val_main_cst_4_apply, val_main_v19_apply,
      val_main_v17_apply, val_main_v16_apply, val_main_v12_apply, val_main_v8_apply, val_main_v7_apply,
      val_main_cst_2_apply, val_main_v11_apply, val_main_v10_apply, val_main_cst_3_apply, val_main_v9_apply,
      val_main_v15_apply, val_main_cst_5_apply, val_main_v18_apply, val_main_cst_6_apply, val_main_v22_apply,
      val_main_v21_apply, val_main_cst_7_apply, h]
  pointwise [delta, newM, newV]

/-- The reference's result is the new first moment. -/
theorem ref2 (x0 : Parts 1024 704) (x2 : Mat 1024 704) : val_main_v6 (F := Ideal) x0 x2 = (fun i => newM (sumParts x0 i) (x2 i)) := by
  funext i
  have h := congrFun (ref0 x0) i
  idx_vars i
  simp only [val_main_v6_apply, val_main_v3_apply, val_main_v2_apply, val_main_cst_0_apply, val_main_v5_apply, val_main_v4_apply,
      val_main_cst_1_apply, h]
  pointwise [delta, newM, newV]

/-- The reference's result is the new second moment. -/
theorem ref3 (x0 : Parts 1024 704) (x3 : Mat 1024 704) : val_main_v12 (F := Ideal) x0 x3 = (fun i => newV (sumParts x0 i) (x3 i)) := by
  funext i
  have h := congrFun (ref0 x0) i
  idx_vars i
  simp only [val_main_v12_apply, val_main_v8_apply, val_main_v7_apply, val_main_cst_2_apply, val_main_v11_apply,
      val_main_v10_apply, val_main_cst_3_apply, val_main_v9_apply, h]
  pointwise [delta, newM, newV]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) =
        sumParts (m ((c : Thread nD τ).loc main_arg0))
      ∧ r.2.mem ((c : Thread nD τ).loc main_v25) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v6) =
        (fun i => newM (sumParts (m ((c : Thread nD τ).loc main_arg0)) i) ((m ((c : Thread nD τ).loc main_arg2)) i))
      ∧ r.2.mem ((c : Thread nD τ).loc main_v12) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v1_eq _).trans (ref0 _)),
    (h c).2.1.trans ((val_main_v25_eq _ _ _ _).trans (ref1 _ _ _ _)),
    (h c).2.2.1.trans ((val_main_v6_eq _ _).trans (ref2 _ _)),
    (h c).2.2.2.1.trans ((val_main_v12_eq _ _).trans (ref3 _ _)),
    (h c).2.2.2.2⟩) (Cert.Reference20Ideal.Value.run (F := Ideal) m ρ)

end Cert.Reference20Ideal.SumUp
end
-- ==== Proof.SumUp.Claims.lean ====
/-
  The claims about the sum of the eight devices' parts of a gradient and the optimiser's step: the reference's frame, and that the kernel and the reference end holding the same arrays.
-/
module

public import proofs.«01_k».proof.Defs
public import proofs.«01_k».proof.Proof.SumUp.Kernel
public import proofs.«01_k».proof.Proof.SumUp.Reference
public import proofs.«01_k».proof.Proof.Gen.Kernel20Ideal
public import proofs.«01_k».proof.Proof.Gen.Reference20Ideal
public import Idealize.ShloMosaic.Lib.Claim

@[expose] public section

set_option maxRecDepth 16384

noncomputable section

namespace Cert.SumUp

open Idealize.ShloMosaic Idealize.ShloMosaic.TcCoe Idealize.SL.Sem

/-- The reference terminates with its arguments unchanged; it declares no semaphore. -/
theorem frame_reference : Cert.quiescent_Reference20Ideal := fun m ρ _ =>
  (θ_run Cert.Reference20Ideal.defs _ _).mono
    (fun r h => ⟨fun c => (h c).2.2.2.2, sem_eq_zero_of_no_sems (by decide) r.2⟩)
    (Cert.Reference20Ideal.Value.run (F := Ideal) m ρ)

/-- The kernel and the reference compute the same arrays. -/
theorem algebraic : Cert.algebraic_Kernel20Ideal_Reference20Ideal := by
  intro m g m' g' _ agree
  refine ⟨_, _, _, _, Cert.Kernel20Ideal.SumUp.run m g,
    (θ_run Cert.Reference20Ideal.defs _ _).mono (fun r h c => ?_) (Cert.Reference20Ideal.SumUp.run m' g')⟩
  obtain ⟨h0, h1, h2, h3⟩ := agree c
  have := h c
  rw [h0, h1, h2, h3] at this ⊢
  exact this

end Cert.SumUp

end
-- ==== Proof.SumBranch.Kernel.lean ====
/-
  The sum of the eight devices' parts of a gradient and the optimiser's step, block by block.
-/
module

public import proofs.«01_k».proof.Proof.Adam.Spec
public import proofs.«01_k».proof.Proof.Gen.Kernel21Ideal.Value
public import Idealize.ShloMosaic.Lib.Pipeline.ValueKit
public import Idealize.ShloMosaic.Lib.Pointwise

@[expose] public section

set_option maxRecDepth 16384

noncomputable section

namespace Cert.Kernel21Ideal.SumBranch

open Cert.Kernel21Ideal Cert.Kernel21Ideal.Gen Idealize.ShloMosaic Idealize.ShloMosaic.TcCoe Idealize.SL.Sem Cert.Product Cert.Adam

variable (m : (ℓ : Loc nD τ sig) → Buf (Elt Ideal) ℓ)

/-- The blocks of the arrays at point `t`. -/
theorem idx : ∀ t : Fin cfg0.N, win0_0.index t = ![0, 0, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] :=
  (by decide +kernel : ∀ t : Fin grid0.N, _)

/-- The result array holds the sum of the eight parts. -/
theorem out4 (c : Dev nD) : (dats m 0 c).arrAt 4 cfg0.N =
    sumParts (m ((c : Thread nD τ).loc main_arg0)) := by
  refine (dats m 0 c).arrAt_eq_of_covers 4 _ (by decide +kernel) fun t hf y => ?_
  blk_simp
  rw [after0_4]
  idx_vars y
  frame_out
  unfold_payloads
  pointwise [delta, newM, newV, sumParts, Fin.sum_univ_eight]
  blk_point [iblk, V, idx t]

/-- The result array holds the change of the weights. -/
theorem out5 (c : Dev nD) : (dats m 0 c).arrAt 5 cfg0.N =
    (fun i => delta ((m ((c : Thread nD τ).loc main_arg1)) i) (sumParts (m ((c : Thread nD τ).loc main_arg0)) i) ((m ((c : Thread nD τ).loc main_arg2)) i) ((m ((c : Thread nD τ).loc main_arg3)) i)) := by
  refine (dats m 0 c).arrAt_eq_of_covers 5 _ (by decide +kernel) fun t hf y => ?_
  blk_simp
  rw [after0_5]
  idx_vars y
  frame_out
  unfold_payloads
  pointwise [delta, newM, newV, sumParts, Fin.sum_univ_eight]
  blk_point [iblk, V, idx t]

/-- The result array holds the new first moment. -/
theorem out6 (c : Dev nD) : (dats m 0 c).arrAt 6 cfg0.N =
    (fun i => newM (sumParts (m ((c : Thread nD τ).loc main_arg0)) i) ((m ((c : Thread nD τ).loc main_arg2)) i)) := by
  refine (dats m 0 c).arrAt_eq_of_covers 6 _ (by decide +kernel) fun t hf y => ?_
  blk_simp
  rw [after0_6]
  idx_vars y
  frame_out
  unfold_payloads
  pointwise [delta, newM, newV, sumParts, Fin.sum_univ_eight]
  blk_point [iblk, V, idx t]

/-- The result array holds the new second moment. -/
theorem out7 (c : Dev nD) : (dats m 0 c).arrAt 7 cfg0.N =
    (fun i => newV (sumParts (m ((c : Thread nD τ).loc main_arg0)) i) ((m ((c : Thread nD τ).loc main_arg3)) i)) := by
  refine (dats m 0 c).arrAt_eq_of_covers 7 _ (by decide +kernel) fun t hf y => ?_
  blk_simp
  rw [after0_7]
  idx_vars y
  frame_out
  unfold_payloads
  pointwise [delta, newM, newV, sumParts, Fin.sum_univ_eight]
  blk_point [iblk, V, idx t]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        sumParts (m ((c : Thread nD τ).loc main_arg0))
      ∧ r.2.mem ((c : Thread nD τ).loc main_v0_1) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v0_2) =
        (fun i => newM (sumParts (m ((c : Thread nD τ).loc main_arg0)) i) ((m ((c : Thread nD τ).loc main_arg2)) i))
      ∧ r.2.mem ((c : Thread nD τ).loc main_v0_3) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2.1.trans (out7 m c),
    (h c).2.2.2.2⟩) (Cert.Kernel21Ideal.Value.run_blocks m ρ)

end Cert.Kernel21Ideal.SumBranch
end
-- ==== Proof.SumBranch.Reference.lean ====
/-
  The reference of the sum and the optimiser's step.
-/
module

public import proofs.«01_k».proof.Proof.Adam.Spec
public import proofs.«01_k».proof.Proof.Gen.Reference21Ideal.Run
public import proofs.«01_k».proof.Proof.Gen.Reference21Ideal.Read
public import Idealize.ShloMosaic.Lib.Pipeline.ValueKit
public import Idealize.ShloMosaic.Lib.Pointwise

@[expose] public section

set_option maxRecDepth 16384

noncomputable section

namespace Cert.Reference21Ideal.SumBranch

open Cert.Reference21Ideal Cert.Reference21Ideal.Gen Cert.Reference21Ideal.Read Idealize.ShloMosaic Idealize.ShloMosaic.TcCoe Idealize.SL.Sem Cert.Product Cert.Adam

/-- The reference's result is the sum of the eight parts. -/
theorem ref0 (x0 : Parts 512 128) : val_main_v1 (F := Ideal) x0 = sumParts x0 := by
  funext i
  idx_vars i
  simp only [val_main_v1_apply, val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The reference's result is the change of the weights. -/
theorem ref1 (x0 : Parts 512 128) (x1 : Mat 512 128) (x2 : Mat 512 128) (x3 : Mat 512 128) : val_main_v25 (F := Ideal) x0 x1 x2 x3 = (fun i => delta (x1 i) (sumParts x0 i) (x2 i) (x3 i)) := by
  funext i
  have h := congrFun (ref0 x0) i
  idx_vars i
  simp only [val_main_v25_apply, val_main_v24_apply, val_main_cst_8_apply, val_main_v23_apply, val_main_v20_apply,
      val_main_v14_apply, val_main_v6_apply, val_main_v3_apply, val_main_v2_apply, val_main_cst_0_apply, val_main_v5_apply,
      val_main_v4_apply, val_main_cst_1_apply, val_main_v13_apply, val_main_cst_4_apply, val_main_v19_apply,
      val_main_v17_apply, val_main_v16_apply, val_main_v12_apply, val_main_v8_apply, val_main_v7_apply,
      val_main_cst_2_apply, val_main_v11_apply, val_main_v10_apply, val_main_cst_3_apply, val_main_v9_apply,
      val_main_v15_apply, val_main_cst_5_apply, val_main_v18_apply, val_main_cst_6_apply, val_main_v22_apply,
      val_main_v21_apply, val_main_cst_7_apply, h]
  pointwise [delta, newM, newV]

/-- The reference's result is the new first moment. -/
theorem ref2 (x0 : Parts 512 128) (x2 : Mat 512 128) : val_main_v6 (F := Ideal) x0 x2 = (fun i => newM (sumParts x0 i) (x2 i)) := by
  funext i
  have h := congrFun (ref0 x0) i
  idx_vars i
  simp only [val_main_v6_apply, val_main_v3_apply, val_main_v2_apply, val_main_cst_0_apply, val_main_v5_apply, val_main_v4_apply,
      val_main_cst_1_apply, h]
  pointwise [delta, newM, newV]

/-- The reference's result is the new second moment. -/
theorem ref3 (x0 : Parts 512 128) (x3 : Mat 512 128) : val_main_v12 (F := Ideal) x0 x3 = (fun i => newV (sumParts x0 i) (x3 i)) := by
  funext i
  have h := congrFun (ref0 x0) i
  idx_vars i
  simp only [val_main_v12_apply, val_main_v8_apply, val_main_v7_apply, val_main_cst_2_apply, val_main_v11_apply,
      val_main_v10_apply, val_main_cst_3_apply, val_main_v9_apply, h]
  pointwise [delta, newM, newV]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) =
        sumParts (m ((c : Thread nD τ).loc main_arg0))
      ∧ r.2.mem ((c : Thread nD τ).loc main_v25) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v6) =
        (fun i => newM (sumParts (m ((c : Thread nD τ).loc main_arg0)) i) ((m ((c : Thread nD τ).loc main_arg2)) i))
      ∧ r.2.mem ((c : Thread nD τ).loc main_v12) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v1_eq _).trans (ref0 _)),
    (h c).2.1.trans ((val_main_v25_eq _ _ _ _).trans (ref1 _ _ _ _)),
    (h c).2.2.1.trans ((val_main_v6_eq _ _).trans (ref2 _ _)),
    (h c).2.2.2.1.trans ((val_main_v12_eq _ _).trans (ref3 _ _)),
    (h c).2.2.2.2⟩) (Cert.Reference21Ideal.Value.run (F := Ideal) m ρ)

end Cert.Reference21Ideal.SumBranch
end
-- ==== Proof.SumBranch.Claims.lean ====
/-
  The claims about the sum of the eight devices' parts of a gradient and the optimiser's step: the reference's frame, and that the kernel and the reference end holding the same arrays.
-/
module

public import proofs.«01_k».proof.Defs
public import proofs.«01_k».proof.Proof.SumBranch.Kernel
public import proofs.«01_k».proof.Proof.SumBranch.Reference
public import proofs.«01_k».proof.Proof.Gen.Kernel21Ideal
public import proofs.«01_k».proof.Proof.Gen.Reference21Ideal
public import Idealize.ShloMosaic.Lib.Claim

@[expose] public section

set_option maxRecDepth 16384

noncomputable section

namespace Cert.SumBranch

open Idealize.ShloMosaic Idealize.ShloMosaic.TcCoe Idealize.SL.Sem

/-- The reference terminates with its arguments unchanged; it declares no semaphore. -/
theorem frame_reference : Cert.quiescent_Reference21Ideal := fun m ρ _ =>
  (θ_run Cert.Reference21Ideal.defs _ _).mono
    (fun r h => ⟨fun c => (h c).2.2.2.2, sem_eq_zero_of_no_sems (by decide) r.2⟩)
    (Cert.Reference21Ideal.Value.run (F := Ideal) m ρ)

/-- The kernel and the reference compute the same arrays. -/
theorem algebraic : Cert.algebraic_Kernel21Ideal_Reference21Ideal := by
  intro m g m' g' _ agree
  refine ⟨_, _, _, _, Cert.Kernel21Ideal.SumBranch.run m g,
    (θ_run Cert.Reference21Ideal.defs _ _).mono (fun r h c => ?_) (Cert.Reference21Ideal.SumBranch.run m' g')⟩
  obtain ⟨h0, h1, h2, h3⟩ := agree c
  have := h c
  rw [h0, h1, h2, h3] at this ⊢
  exact this

end Cert.SumBranch

end
-- ==== Proof.SumOut.Kernel.lean ====
/-
  The sum of the eight devices' parts of a gradient and the optimiser's step, block by block.
-/
module

public import proofs.«01_k».proof.Proof.Adam.Spec
public import proofs.«01_k».proof.Proof.Gen.Kernel22Ideal.Value
public import Idealize.ShloMosaic.Lib.Pipeline.ValueKit
public import Idealize.ShloMosaic.Lib.Pointwise

@[expose] public section

set_option maxRecDepth 16384

noncomputable section

namespace Cert.Kernel22Ideal.SumOut

open Cert.Kernel22Ideal Cert.Kernel22Ideal.Gen Idealize.ShloMosaic Idealize.ShloMosaic.TcCoe Idealize.SL.Sem Cert.Product Cert.Adam

variable (m : (ℓ : Loc nD τ sig) → Buf (Elt Ideal) ℓ)

/-- The blocks of the arrays at point `t`. -/
theorem idx : ∀ t : Fin cfg0.N, win0_0.index t = ![0, t.val, 0] ∧
    win0_1.index t = ![t.val, 0] ∧
    win0_2.index t = ![t.val, 0] ∧
    win0_3.index t = ![t.val, 0] ∧
    win0_4.index t = ![t.val, 0] ∧
    win0_5.index t = ![t.val, 0] ∧
    win0_6.index t = ![t.val, 0] ∧
    win0_7.index t = ![t.val, 0] :=
  (by decide +kernel : ∀ t : Fin grid0.N, _)

/-- The result array holds the sum of the eight parts. -/
theorem out4 (c : Dev nD) : (dats m 0 c).arrAt 4 cfg0.N =
    sumParts (m ((c : Thread nD τ).loc main_arg0)) := by
  refine (dats m 0 c).arrAt_eq_of_covers 4 _ (by decide +kernel) fun t hf y => ?_
  blk_simp
  rw [after0_4]
  idx_vars y
  frame_out
  unfold_payloads
  pointwise [delta, newM, newV, sumParts, Fin.sum_univ_eight]
  blk_point [iblk, V, idx t]

/-- The result array holds the change of the weights. -/
theorem out5 (c : Dev nD) : (dats m 0 c).arrAt 5 cfg0.N =
    (fun i => delta ((m ((c : Thread nD τ).loc main_arg1)) i) (sumParts (m ((c : Thread nD τ).loc main_arg0)) i) ((m ((c : Thread nD τ).loc main_arg2)) i) ((m ((c : Thread nD τ).loc main_arg3)) i)) := by
  refine (dats m 0 c).arrAt_eq_of_covers 5 _ (by decide +kernel) fun t hf y => ?_
  blk_simp
  rw [after0_5]
  idx_vars y
  frame_out
  unfold_payloads
  pointwise [delta, newM, newV, sumParts, Fin.sum_univ_eight]
  blk_point [iblk, V, idx t]

/-- The result array holds the new first moment. -/
theorem out6 (c : Dev nD) : (dats m 0 c).arrAt 6 cfg0.N =
    (fun i => newM (sumParts (m ((c : Thread nD τ).loc main_arg0)) i) ((m ((c : Thread nD τ).loc main_arg2)) i)) := by
  refine (dats m 0 c).arrAt_eq_of_covers 6 _ (by decide +kernel) fun t hf y => ?_
  blk_simp
  rw [after0_6]
  idx_vars y
  frame_out
  unfold_payloads
  pointwise [delta, newM, newV, sumParts, Fin.sum_univ_eight]
  blk_point [iblk, V, idx t]

/-- The result array holds the new second moment. -/
theorem out7 (c : Dev nD) : (dats m 0 c).arrAt 7 cfg0.N =
    (fun i => newV (sumParts (m ((c : Thread nD τ).loc main_arg0)) i) ((m ((c : Thread nD τ).loc main_arg3)) i)) := by
  refine (dats m 0 c).arrAt_eq_of_covers 7 _ (by decide +kernel) fun t hf y => ?_
  blk_simp
  rw [after0_7]
  idx_vars y
  frame_out
  unfold_payloads
  pointwise [delta, newM, newV, sumParts, Fin.sum_univ_eight]
  blk_point [iblk, V, idx t]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        sumParts (m ((c : Thread nD τ).loc main_arg0))
      ∧ r.2.mem ((c : Thread nD τ).loc main_v0_1) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v0_2) =
        (fun i => newM (sumParts (m ((c : Thread nD τ).loc main_arg0)) i) ((m ((c : Thread nD τ).loc main_arg2)) i))
      ∧ r.2.mem ((c : Thread nD τ).loc main_v0_3) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2.1.trans (out7 m c),
    (h c).2.2.2.2⟩) (Cert.Kernel22Ideal.Value.run_blocks m ρ)

end Cert.Kernel22Ideal.SumOut
end
-- ==== Proof.SumOut.Reference.lean ====
/-
  The reference of the sum and the optimiser's step.
-/
module

public import proofs.«01_k».proof.Proof.Adam.Spec
public import proofs.«01_k».proof.Proof.Gen.Reference22Ideal.Run
public import proofs.«01_k».proof.Proof.Gen.Reference22Ideal.Read
public import Idealize.ShloMosaic.Lib.Pipeline.ValueKit
public import Idealize.ShloMosaic.Lib.Pointwise

@[expose] public section

set_option maxRecDepth 16384

noncomputable section

namespace Cert.Reference22Ideal.SumOut

open Cert.Reference22Ideal Cert.Reference22Ideal.Gen Cert.Reference22Ideal.Read Idealize.ShloMosaic Idealize.ShloMosaic.TcCoe Idealize.SL.Sem Cert.Product Cert.Adam

/-- The reference's result is the sum of the eight parts. -/
theorem ref0 (x0 : Parts 128 1024) : val_main_v1 (F := Ideal) x0 = sumParts x0 := by
  funext i
  idx_vars i
  simp only [val_main_v1_apply, val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The reference's result is the change of the weights. -/
theorem ref1 (x0 : Parts 128 1024) (x1 : Mat 128 1024) (x2 : Mat 128 1024) (x3 : Mat 128 1024) : val_main_v25 (F := Ideal) x0 x1 x2 x3 = (fun i => delta (x1 i) (sumParts x0 i) (x2 i) (x3 i)) := by
  funext i
  have h := congrFun (ref0 x0) i
  idx_vars i
  simp only [val_main_v25_apply, val_main_v24_apply, val_main_cst_8_apply, val_main_v23_apply, val_main_v20_apply,
      val_main_v14_apply, val_main_v6_apply, val_main_v3_apply, val_main_v2_apply, val_main_cst_0_apply, val_main_v5_apply,
      val_main_v4_apply, val_main_cst_1_apply, val_main_v13_apply, val_main_cst_4_apply, val_main_v19_apply,
      val_main_v17_apply, val_main_v16_apply, val_main_v12_apply, val_main_v8_apply, val_main_v7_apply,
      val_main_cst_2_apply, val_main_v11_apply, val_main_v10_apply, val_main_cst_3_apply, val_main_v9_apply,
      val_main_v15_apply, val_main_cst_5_apply, val_main_v18_apply, val_main_cst_6_apply, val_main_v22_apply,
      val_main_v21_apply, val_main_cst_7_apply, h]
  pointwise [delta, newM, newV]

/-- The reference's result is the new first moment. -/
theorem ref2 (x0 : Parts 128 1024) (x2 : Mat 128 1024) : val_main_v6 (F := Ideal) x0 x2 = (fun i => newM (sumParts x0 i) (x2 i)) := by
  funext i
  have h := congrFun (ref0 x0) i
  idx_vars i
  simp only [val_main_v6_apply, val_main_v3_apply, val_main_v2_apply, val_main_cst_0_apply, val_main_v5_apply, val_main_v4_apply,
      val_main_cst_1_apply, h]
  pointwise [delta, newM, newV]

/-- The reference's result is the new second moment. -/
theorem ref3 (x0 : Parts 128 1024) (x3 : Mat 128 1024) : val_main_v12 (F := Ideal) x0 x3 = (fun i => newV (sumParts x0 i) (x3 i)) := by
  funext i
  have h := congrFun (ref0 x0) i
  idx_vars i
  simp only [val_main_v12_apply, val_main_v8_apply, val_main_v7_apply, val_main_cst_2_apply, val_main_v11_apply,
      val_main_v10_apply, val_main_cst_3_apply, val_main_v9_apply, h]
  pointwise [delta, newM, newV]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) =
        sumParts (m ((c : Thread nD τ).loc main_arg0))
      ∧ r.2.mem ((c : Thread nD τ).loc main_v25) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v6) =
        (fun i => newM (sumParts (m ((c : Thread nD τ).loc main_arg0)) i) ((m ((c : Thread nD τ).loc main_arg2)) i))
      ∧ r.2.mem ((c : Thread nD τ).loc main_v12) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v1_eq _).trans (ref0 _)),
    (h c).2.1.trans ((val_main_v25_eq _ _ _ _).trans (ref1 _ _ _ _)),
    (h c).2.2.1.trans ((val_main_v6_eq _ _).trans (ref2 _ _)),
    (h c).2.2.2.1.trans ((val_main_v12_eq _ _).trans (ref3 _ _)),
    (h c).2.2.2.2⟩) (Cert.Reference22Ideal.Value.run (F := Ideal) m ρ)

end Cert.Reference22Ideal.SumOut
end
-- ==== Proof.SumOut.Claims.lean ====
/-
  The claims about the sum of the eight devices' parts of a gradient and the optimiser's step: the reference's frame, and that the kernel and the reference end holding the same arrays.
-/
module

public import proofs.«01_k».proof.Defs
public import proofs.«01_k».proof.Proof.SumOut.Kernel
public import proofs.«01_k».proof.Proof.SumOut.Reference
public import proofs.«01_k».proof.Proof.Gen.Kernel22Ideal
public import proofs.«01_k».proof.Proof.Gen.Reference22Ideal
public import Idealize.ShloMosaic.Lib.Claim

@[expose] public section

set_option maxRecDepth 16384

noncomputable section

namespace Cert.SumOut

open Idealize.ShloMosaic Idealize.ShloMosaic.TcCoe Idealize.SL.Sem

/-- The reference terminates with its arguments unchanged; it declares no semaphore. -/
theorem frame_reference : Cert.quiescent_Reference22Ideal := fun m ρ _ =>
  (θ_run Cert.Reference22Ideal.defs _ _).mono
    (fun r h => ⟨fun c => (h c).2.2.2.2, sem_eq_zero_of_no_sems (by decide) r.2⟩)
    (Cert.Reference22Ideal.Value.run (F := Ideal) m ρ)

/-- The kernel and the reference compute the same arrays. -/
theorem algebraic : Cert.algebraic_Kernel22Ideal_Reference22Ideal := by
  intro m g m' g' _ agree
  refine ⟨_, _, _, _, Cert.Kernel22Ideal.SumOut.run m g,
    (θ_run Cert.Reference22Ideal.defs _ _).mono (fun r h c => ?_) (Cert.Reference22Ideal.SumOut.run m' g')⟩
  obtain ⟨h0, h1, h2, h3⟩ := agree c
  have := h c
  rw [h0, h1, h2, h3] at this ⊢
  exact this

end Cert.SumOut

end
-- ==== Proof.SumDown.Kernel.lean ====
/-
  The sum of the eight devices' parts of a gradient and the optimiser's step, block by block.
-/
module

public import proofs.«01_k».proof.Proof.Adam.Spec
public import proofs.«01_k».proof.Proof.Gen.Kernel23Ideal.Value
public import Idealize.ShloMosaic.Lib.Pipeline.ValueKit
public import Idealize.ShloMosaic.Lib.Pointwise

@[expose] public section

set_option maxRecDepth 16384

noncomputable section

namespace Cert.Kernel23Ideal.SumDown

open Cert.Kernel23Ideal Cert.Kernel23Ideal.Gen Idealize.ShloMosaic Idealize.ShloMosaic.TcCoe Idealize.SL.Sem Cert.Product Cert.Adam

variable (m : (ℓ : Loc nD τ sig) → Buf (Elt Ideal) ℓ)

/-- The blocks of the arrays at point `t`. -/
theorem idx : ∀ t : Fin cfg0.N, win0_0.index t = ![0, t.val, 0] ∧
    win0_1.index t = ![t.val, 0] ∧
    win0_2.index t = ![t.val, 0] ∧
    win0_3.index t = ![t.val, 0] ∧
    win0_4.index t = ![t.val, 0] ∧
    win0_5.index t = ![t.val, 0] ∧
    win0_6.index t = ![t.val, 0] ∧
    win0_7.index t = ![t.val, 0] :=
  (by decide +kernel : ∀ t : Fin grid0.N, _)

/-- The result array holds the sum of the eight parts. -/
theorem out4 (c : Dev nD) : (dats m 0 c).arrAt 4 cfg0.N =
    sumParts (m ((c : Thread nD τ).loc main_arg0)) := by
  refine (dats m 0 c).arrAt_eq_of_covers 4 _ (by decide +kernel) fun t hf y => ?_
  blk_simp
  rw [after0_4]
  idx_vars y
  frame_out
  unfold_payloads
  pointwise [delta, newM, newV, sumParts, Fin.sum_univ_eight]
  blk_point [iblk, V, idx t]

/-- The result array holds the change of the weights. -/
theorem out5 (c : Dev nD) : (dats m 0 c).arrAt 5 cfg0.N =
    (fun i => delta ((m ((c : Thread nD τ).loc main_arg1)) i) (sumParts (m ((c : Thread nD τ).loc main_arg0)) i) ((m ((c : Thread nD τ).loc main_arg2)) i) ((m ((c : Thread nD τ).loc main_arg3)) i)) := by
  refine (dats m 0 c).arrAt_eq_of_covers 5 _ (by decide +kernel) fun t hf y => ?_
  blk_simp
  rw [after0_5]
  idx_vars y
  frame_out
  unfold_payloads
  pointwise [delta, newM, newV, sumParts, Fin.sum_univ_eight]
  blk_point [iblk, V, idx t]

/-- The result array holds the new first moment. -/
theorem out6 (c : Dev nD) : (dats m 0 c).arrAt 6 cfg0.N =
    (fun i => newM (sumParts (m ((c : Thread nD τ).loc main_arg0)) i) ((m ((c : Thread nD τ).loc main_arg2)) i)) := by
  refine (dats m 0 c).arrAt_eq_of_covers 6 _ (by decide +kernel) fun t hf y => ?_
  blk_simp
  rw [after0_6]
  idx_vars y
  frame_out
  unfold_payloads
  pointwise [delta, newM, newV, sumParts, Fin.sum_univ_eight]
  blk_point [iblk, V, idx t]

/-- The result array holds the new second moment. -/
theorem out7 (c : Dev nD) : (dats m 0 c).arrAt 7 cfg0.N =
    (fun i => newV (sumParts (m ((c : Thread nD τ).loc main_arg0)) i) ((m ((c : Thread nD τ).loc main_arg3)) i)) := by
  refine (dats m 0 c).arrAt_eq_of_covers 7 _ (by decide +kernel) fun t hf y => ?_
  blk_simp
  rw [after0_7]
  idx_vars y
  frame_out
  unfold_payloads
  pointwise [delta, newM, newV, sumParts, Fin.sum_univ_eight]
  blk_point [iblk, V, idx t]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        sumParts (m ((c : Thread nD τ).loc main_arg0))
      ∧ r.2.mem ((c : Thread nD τ).loc main_v0_1) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v0_2) =
        (fun i => newM (sumParts (m ((c : Thread nD τ).loc main_arg0)) i) ((m ((c : Thread nD τ).loc main_arg2)) i))
      ∧ r.2.mem ((c : Thread nD τ).loc main_v0_3) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2.1.trans (out7 m c),
    (h c).2.2.2.2⟩) (Cert.Kernel23Ideal.Value.run_blocks m ρ)

end Cert.Kernel23Ideal.SumDown
end
-- ==== Proof.SumDown.Reference.lean ====
/-
  The reference of the sum and the optimiser's step.
-/
module

public import proofs.«01_k».proof.Proof.Adam.Spec
public import proofs.«01_k».proof.Proof.Gen.Reference23Ideal.Run
public import proofs.«01_k».proof.Proof.Gen.Reference23Ideal.Read
public import Idealize.ShloMosaic.Lib.Pipeline.ValueKit
public import Idealize.ShloMosaic.Lib.Pointwise

@[expose] public section

set_option maxRecDepth 16384

noncomputable section

namespace Cert.Reference23Ideal.SumDown

open Cert.Reference23Ideal Cert.Reference23Ideal.Gen Cert.Reference23Ideal.Read Idealize.ShloMosaic Idealize.ShloMosaic.TcCoe Idealize.SL.Sem Cert.Product Cert.Adam

/-- The reference's result is the sum of the eight parts. -/
theorem ref0 (x0 : Parts 352 1024) : val_main_v1 (F := Ideal) x0 = sumParts x0 := by
  funext i
  idx_vars i
  simp only [val_main_v1_apply, val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The reference's result is the change of the weights. -/
theorem ref1 (x0 : Parts 352 1024) (x1 : Mat 352 1024) (x2 : Mat 352 1024) (x3 : Mat 352 1024) : val_main_v25 (F := Ideal) x0 x1 x2 x3 = (fun i => delta (x1 i) (sumParts x0 i) (x2 i) (x3 i)) := by
  funext i
  have h := congrFun (ref0 x0) i
  idx_vars i
  simp only [val_main_v25_apply, val_main_v24_apply, val_main_cst_8_apply, val_main_v23_apply, val_main_v20_apply,
      val_main_v14_apply, val_main_v6_apply, val_main_v3_apply, val_main_v2_apply, val_main_cst_0_apply, val_main_v5_apply,
      val_main_v4_apply, val_main_cst_1_apply, val_main_v13_apply, val_main_cst_4_apply, val_main_v19_apply,
      val_main_v17_apply, val_main_v16_apply, val_main_v12_apply, val_main_v8_apply, val_main_v7_apply,
      val_main_cst_2_apply, val_main_v11_apply, val_main_v10_apply, val_main_cst_3_apply, val_main_v9_apply,
      val_main_v15_apply, val_main_cst_5_apply, val_main_v18_apply, val_main_cst_6_apply, val_main_v22_apply,
      val_main_v21_apply, val_main_cst_7_apply, h]
  pointwise [delta, newM, newV]

/-- The reference's result is the new first moment. -/
theorem ref2 (x0 : Parts 352 1024) (x2 : Mat 352 1024) : val_main_v6 (F := Ideal) x0 x2 = (fun i => newM (sumParts x0 i) (x2 i)) := by
  funext i
  have h := congrFun (ref0 x0) i
  idx_vars i
  simp only [val_main_v6_apply, val_main_v3_apply, val_main_v2_apply, val_main_cst_0_apply, val_main_v5_apply, val_main_v4_apply,
      val_main_cst_1_apply, h]
  pointwise [delta, newM, newV]

/-- The reference's result is the new second moment. -/
theorem ref3 (x0 : Parts 352 1024) (x3 : Mat 352 1024) : val_main_v12 (F := Ideal) x0 x3 = (fun i => newV (sumParts x0 i) (x3 i)) := by
  funext i
  have h := congrFun (ref0 x0) i
  idx_vars i
  simp only [val_main_v12_apply, val_main_v8_apply, val_main_v7_apply, val_main_cst_2_apply, val_main_v11_apply,
      val_main_v10_apply, val_main_cst_3_apply, val_main_v9_apply, h]
  pointwise [delta, newM, newV]

/-- The whole program ends with the four results holding the sum and the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) =
        sumParts (m ((c : Thread nD τ).loc main_arg0))
      ∧ r.2.mem ((c : Thread nD τ).loc main_v25) =
        (fun i => delta ((m ((c : Thread nD τ).loc main_arg1)) i) (sumParts (m ((c : Thread nD τ).loc main_arg0)) i) ((m ((c : Thread nD τ).loc main_arg2)) i) ((m ((c : Thread nD τ).loc main_arg3)) i))
      ∧ r.2.mem ((c : Thread nD τ).loc main_v6) =
        (fun i => newM (sumParts (m ((c : Thread nD τ).loc main_arg0)) i) ((m ((c : Thread nD τ).loc main_arg2)) i))
      ∧ r.2.mem ((c : Thread nD τ).loc main_v12) =
        (fun i => newV (sumParts (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v1_eq _).trans (ref0 _)),
    (h c).2.1.trans ((val_main_v25_eq _ _ _ _).trans (ref1 _ _ _ _)),
    (h c).2.2.1.trans ((val_main_v6_eq _ _).trans (ref2 _ _)),
    (h c).2.2.2.1.trans ((val_main_v12_eq _ _).trans (ref3 _ _)),
    (h c).2.2.2.2⟩) (Cert.Reference23Ideal.Value.run (F := Ideal) m ρ)

end Cert.Reference23Ideal.SumDown
end
-- ==== Proof.SumDown.Claims.lean ====
/-
  The claims about the sum of the eight devices' parts of a gradient and the optimiser's step: the reference's frame, and that the kernel and the reference end holding the same arrays.
-/
module

public import proofs.«01_k».proof.Defs
public import proofs.«01_k».proof.Proof.SumDown.Kernel
public import proofs.«01_k».proof.Proof.SumDown.Reference
public import proofs.«01_k».proof.Proof.Gen.Kernel23Ideal
public import proofs.«01_k».proof.Proof.Gen.Reference23Ideal
public import Idealize.ShloMosaic.Lib.Claim

@[expose] public section

set_option maxRecDepth 16384

noncomputable section

namespace Cert.SumDown

open Idealize.ShloMosaic Idealize.ShloMosaic.TcCoe Idealize.SL.Sem

/-- The reference terminates with its arguments unchanged; it declares no semaphore. -/
theorem frame_reference : Cert.quiescent_Reference23Ideal := fun m ρ _ =>
  (θ_run Cert.Reference23Ideal.defs _ _).mono
    (fun r h => ⟨fun c => (h c).2.2.2.2, sem_eq_zero_of_no_sems (by decide) r.2⟩)
    (Cert.Reference23Ideal.Value.run (F := Ideal) m ρ)

/-- The kernel and the reference compute the same arrays. -/
theorem algebraic : Cert.algebraic_Kernel23Ideal_Reference23Ideal := by
  intro m g m' g' _ agree
  refine ⟨_, _, _, _, Cert.Kernel23Ideal.SumDown.run m g,
    (θ_run Cert.Reference23Ideal.defs _ _).mono (fun r h c => ?_) (Cert.Reference23Ideal.SumDown.run m' g')⟩
  obtain ⟨h0, h1, h2, h3⟩ := agree c
  have := h c
  rw [h0, h1, h2, h3] at this ⊢
  exact this

end Cert.SumDown

end
-- ==== Proof.AdamCond.Kernel.lean ====
/-
  The optimiser's step of one weight, block by block.
-/
module

public import proofs.«01_k».proof.Proof.Adam.Spec
public import proofs.«01_k».proof.Proof.Gen.Kernel24Ideal.Value
public import Idealize.ShloMosaic.Lib.Pipeline.ValueKit
public import Idealize.ShloMosaic.Lib.Pointwise

@[expose] public section

set_option maxRecDepth 16384

noncomputable section

namespace Cert.Kernel24Ideal.AdamCond

open Cert.Kernel24Ideal Cert.Kernel24Ideal.Gen Idealize.ShloMosaic Idealize.ShloMosaic.TcCoe Idealize.SL.Sem Cert.Product Cert.Adam

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![t.val, 0] ∧
    win0_3.index t = ![t.val, 0] ∧
    win0_4.index t = ![t.val, 0] ∧
    win0_5.index t = ![t.val, 0] ∧
    win0_6.index t = ![t.val, 0] :=
  (by decide +kernel : ∀ t : Fin grid0.N, _)

/-- The result array holds the change of the weights. -/
theorem out4 (c : Dev nD) : (dats m 0 c).arrAt 4 cfg0.N =
    (fun i => delta ((m ((c : Thread nD τ).loc main_arg0)) i) ((m ((c : Thread nD τ).loc main_arg1)) i) ((m ((c : Thread nD τ).loc main_arg2)) i) ((m ((c : Thread nD τ).loc main_arg3)) i)) := by
  refine (dats m 0 c).arrAt_eq_of_covers 4 _ (by decide +kernel) fun t hf y => ?_
  blk_simp
  rw [after0_4]
  idx_vars y
  frame_out
  unfold_payloads
  pointwise [delta, newM, newV]
  blk_point [iblk, V, idx t]

/-- The result array holds the new first moment. -/
theorem out5 (c : Dev nD) : (dats m 0 c).arrAt 5 cfg0.N =
    (fun i => newM ((m ((c : Thread nD τ).loc main_arg1)) i) ((m ((c : Thread nD τ).loc main_arg2)) i)) := by
  refine (dats m 0 c).arrAt_eq_of_covers 5 _ (by decide +kernel) fun t hf y => ?_
  blk_simp
  rw [after0_5]
  idx_vars y
  frame_out
  unfold_payloads
  pointwise [delta, newM, newV]
  blk_point [iblk, V, idx t]

/-- The result array holds the new second moment. -/
theorem out6 (c : Dev nD) : (dats m 0 c).arrAt 6 cfg0.N =
    (fun i => newV ((m ((c : Thread nD τ).loc main_arg1)) i) ((m ((c : Thread nD τ).loc main_arg3)) i)) := by
  refine (dats m 0 c).arrAt_eq_of_covers 6 _ (by decide +kernel) fun t hf y => ?_
  blk_simp
  rw [after0_6]
  idx_vars y
  frame_out
  unfold_payloads
  pointwise [delta, newM, newV]
  blk_point [iblk, V, idx t]

/-- The whole program ends with the three results holding the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        (fun i => delta ((m ((c : Thread nD τ).loc main_arg0)) i) ((m ((c : Thread nD τ).loc main_arg1)) i) ((m ((c : Thread nD τ).loc main_arg2)) i) ((m ((c : Thread nD τ).loc main_arg3)) i))
      ∧ r.2.mem ((c : Thread nD τ).loc main_v0_1) =
        (fun i => newM ((m ((c : Thread nD τ).loc main_arg1)) i) ((m ((c : Thread nD τ).loc main_arg2)) i))
      ∧ r.2.mem ((c : Thread nD τ).loc main_v0_2) =
        (fun i => newV ((m ((c : Thread nD τ).loc main_arg1)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2⟩) (Cert.Kernel24Ideal.Value.run_blocks m ρ)

end Cert.Kernel24Ideal.AdamCond
end
-- ==== Proof.AdamCond.Reference.lean ====
/-
  The reference of the optimiser's step.
-/
module

public import proofs.«01_k».proof.Proof.Adam.Spec
public import proofs.«01_k».proof.Proof.Gen.Reference24Ideal.Run
public import proofs.«01_k».proof.Proof.Gen.Reference24Ideal.Read
public import Idealize.ShloMosaic.Lib.Pipeline.ValueKit
public import Idealize.ShloMosaic.Lib.Pointwise

@[expose] public section

set_option maxRecDepth 16384

noncomputable section

namespace Cert.Reference24Ideal.AdamCond

open Cert.Reference24Ideal Cert.Reference24Ideal.Gen Cert.Reference24Ideal.Read Idealize.ShloMosaic Idealize.ShloMosaic.TcCoe Idealize.SL.Sem Cert.Product Cert.Adam

/-- The reference's result is the change of the weights. -/
theorem ref0 (x0 x1 x2 x3 : Mat 1024 768) : val_main_v23 (F := Ideal) x0 x1 x2 x3 = (fun i => delta (x0 i) (x1 i) (x2 i) (x3 i)) := by
  funext i
  idx_vars i
  simp only [val_main_v23_apply, val_main_v22_apply, val_main_cst_7_apply, val_main_v21_apply, val_main_v18_apply,
      val_main_v12_apply, val_main_v4_apply, val_main_v1_apply, val_main_v0_apply, val_main_cst_apply, val_main_v3_apply,
      val_main_v2_apply, val_main_cst_0_apply, val_main_v11_apply, val_main_cst_3_apply, val_main_v17_apply,
      val_main_v15_apply, val_main_v14_apply, val_main_v10_apply, val_main_v6_apply, val_main_v5_apply,
      val_main_cst_1_apply, val_main_v9_apply, val_main_v8_apply, val_main_cst_2_apply, val_main_v7_apply,
      val_main_v13_apply, val_main_cst_4_apply, val_main_v16_apply, val_main_cst_5_apply, val_main_v20_apply,
      val_main_v19_apply, val_main_cst_6_apply]
  pointwise [delta, newM, newV]

/-- The reference's result is the new first moment. -/
theorem ref1 (x1 x2 : Mat 1024 768) : val_main_v4 (F := Ideal) x1 x2 = (fun i => newM (x1 i) (x2 i)) := by
  funext i
  idx_vars i
  simp only [val_main_v4_apply, val_main_v1_apply, val_main_v0_apply, val_main_cst_apply, val_main_v3_apply, val_main_v2_apply,
      val_main_cst_0_apply]
  pointwise [delta, newM, newV]

/-- The reference's result is the new second moment. -/
theorem ref2 (x1 x3 : Mat 1024 768) : val_main_v10 (F := Ideal) x1 x3 = (fun i => newV (x1 i) (x3 i)) := by
  funext i
  idx_vars i
  simp only [val_main_v10_apply, val_main_v6_apply, val_main_v5_apply, val_main_cst_1_apply, val_main_v9_apply, val_main_v8_apply,
      val_main_cst_2_apply, val_main_v7_apply]
  pointwise [delta, newM, newV]

/-- The whole program ends with the three results holding the step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) =
        (fun i => delta ((m ((c : Thread nD τ).loc main_arg0)) i) ((m ((c : Thread nD τ).loc main_arg1)) i) ((m ((c : Thread nD τ).loc main_arg2)) i) ((m ((c : Thread nD τ).loc main_arg3)) i))
      ∧ r.2.mem ((c : Thread nD τ).loc main_v4) =
        (fun i => newM ((m ((c : Thread nD τ).loc main_arg1)) i) ((m ((c : Thread nD τ).loc main_arg2)) i))
      ∧ r.2.mem ((c : Thread nD τ).loc main_v10) =
        (fun i => newV ((m ((c : Thread nD τ).loc main_arg1)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v23_eq _ _ _ _).trans (ref0 _ _ _ _)),
    (h c).2.1.trans ((val_main_v4_eq _ _).trans (ref1 _ _)),
    (h c).2.2.1.trans ((val_main_v10_eq _ _).trans (ref2 _ _)),
    (h c).2.2.2⟩) (Cert.Reference24Ideal.Value.run (F := Ideal) m ρ)

end Cert.Reference24Ideal.AdamCond
end
-- ==== Proof.AdamCond.Claims.lean ====
/-
  The claims about the optimiser's step of one weight: the reference's frame, and that the kernel and the reference end holding the same arrays.
-/
module

public import proofs.«01_k».proof.Defs
public import proofs.«01_k».proof.Proof.AdamCond.Kernel
public import proofs.«01_k».proof.Proof.AdamCond.Reference
public import proofs.«01_k».proof.Proof.Gen.Kernel24Ideal
public import proofs.«01_k».proof.Proof.Gen.Reference24Ideal
public import Idealize.ShloMosaic.Lib.Claim

@[expose] public section

set_option maxRecDepth 16384

noncomputable section

namespace Cert.AdamCond

open Idealize.ShloMosaic Idealize.ShloMosaic.TcCoe Idealize.SL.Sem

/-- The reference terminates with its arguments unchanged; it declares no semaphore. -/
theorem frame_reference : Cert.quiescent_Reference24Ideal := fun m ρ _ =>
  (θ_run Cert.Reference24Ideal.defs _ _).mono
    (fun r h => ⟨fun c => (h c).2.2.2, sem_eq_zero_of_no_sems (by decide) r.2⟩)
    (Cert.Reference24Ideal.Value.run (F := Ideal) m ρ)

/-- The kernel and the reference compute the same arrays. -/
theorem algebraic : Cert.algebraic_Kernel24Ideal_Reference24Ideal := by
  intro m g m' g' _ agree
  refine ⟨_, _, _, Cert.Kernel24Ideal.AdamCond.run m g,
    (θ_run Cert.Reference24Ideal.defs _ _).mono (fun r h c => ?_) (Cert.Reference24Ideal.AdamCond.run m' g')⟩
  obtain ⟨h0, h1, h2, h3⟩ := agree c
  have := h c
  rw [h0, h1, h2, h3] at this ⊢
  exact this

end Cert.AdamCond

end
-- ==== Proof.Product.Silu.lean ====
/-
  The activation `x · 1 / (1 + exp (-x))` of one extended real, entry by entry.
-/
module

public import proofs.«01_k».proof.Proof.Product.Spec
public import Idealize.ShloMosaic.Lib.Pointwise

@[expose] public section

noncomputable section

namespace Cert.Product

open Idealize.ShloMosaic

/-- `x · 1 / (1 + exp (-x))`. -/
def silu1 (x : EReal) : EReal := x * Ideal.div 1 (1 + Ideal.exp (-x))

/-- The activation of every entry. -/
def silu {r k : ℕ} (x : Mat r k) : Mat r k := fun i => silu1 (x i)

end Cert.Product

end
-- ==== Proof.CondDw.Kernel.lean ====
/-
  The gradient with respect to the conditioning's weights: the transpose of the activated conditioning times the cotangent.
-/
module

public import proofs.«01_k».proof.Proof.Product.Silu
public import proofs.«01_k».proof.Proof.Gen.Kernel26Ideal.Value
public import Idealize.ShloMosaic.Lib.Pipeline.ValueKit
public import Idealize.ShloMosaic.Lib.Pointwise

@[expose] public section

set_option maxRecDepth 16384

noncomputable section

namespace Cert.Kernel26Ideal.CondDw

open Cert.Kernel26Ideal Cert.Kernel26Ideal.Gen Cert.Kernel26Ideal.Value Idealize.ShloMosaic Idealize.ShloMosaic.TcCoe Idealize.SL.Sem Cert.Product

/-- What the kernel stores. -/
theorem out (x0 : Mat 8 1024) (x1 : Mat 8 768) : k0_pay1 (F := Ideal) x0 x1 =
    tn (silu x0) x1 := by
  funext i
  idx_vars i
  unfold k0_pay1
  pointwise [tn, silu, silu1]
  simp only [zero_sub]

/-- The whole program ends with the result holding the product, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        tn (silu (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out _ _),
    (h c).2⟩) (Cert.Kernel26Ideal.Value.run (F := Ideal) m ρ)

end Cert.Kernel26Ideal.CondDw
end
-- ==== Proof.CondDw.Reference.lean ====
/-
  The reference's gradient with respect to the conditioning's weights.
-/
module

public import proofs.«01_k».proof.Proof.Product.Silu
public import proofs.«01_k».proof.Proof.Gen.Reference26Ideal.Run
public import proofs.«01_k».proof.Proof.Gen.Reference26Ideal.Read
public import Idealize.ShloMosaic.Lib.Pipeline.ValueKit
public import Idealize.ShloMosaic.Lib.Pointwise

@[expose] public section

set_option maxRecDepth 16384

noncomputable section

namespace Cert.Reference26Ideal.CondDw

open Cert.Reference26Ideal Cert.Reference26Ideal.Gen Cert.Reference26Ideal.Read Idealize.ShloMosaic Idealize.ShloMosaic.TcCoe Idealize.SL.Sem Cert.Product

/-- The reference's result. -/
theorem ref (x0 : Mat 8 1024) (x1 : Mat 8 768) : val_main_v4 (F := Ideal) x0 x1 = tn (silu x0) x1 := by
  funext i
  idx_vars i
  simp only [val_main_v4_apply, val_main_v3_apply, val_main_v1_apply, val_main_call0_v5_apply, val_main_call0_v4_apply,
      val_main_call0_cst_0_apply, val_main_call0_v3_apply, val_main_call0_v2_apply, val_main_call0_cst_apply,
      val_main_call0_v1_apply, val_main_call0_v0_apply]
  pointwise [tn, silu, silu1]
  exact Finset.sum_congr (M := EReal) rfl fun k _ => by
    have e0 : ridx_main_v3 (idx_main_v4 (ix2 i0 i1)) k = ix2 k i0 := funext fun a => match a with
      | ⟨0, _⟩ => rfl
      | ⟨1, _⟩ => rfl
    have e1 : lidx_main_v3 (idx_main_v4 (ix2 i0 i1)) k = ix2 k i1 := funext fun a => match a with
      | ⟨0, _⟩ => rfl
      | ⟨1, _⟩ => rfl
    rw [e0, e1, mul_comm]

/-- The whole program ends with the result holding the product, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) =
        tn (silu (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v4_eq _ _).trans (ref _ _)),
    (h c).2⟩) (Cert.Reference26Ideal.Value.run (F := Ideal) m ρ)

end Cert.Reference26Ideal.CondDw
end
-- ==== Proof.CondDw.Claims.lean ====
/-
  The claims about the gradient with respect to the conditioning's weights: the reference's frame, and that the kernel and the reference end holding the same array.
-/
module

public import proofs.«01_k».proof.Defs
public import proofs.«01_k».proof.Proof.CondDw.Kernel
public import proofs.«01_k».proof.Proof.CondDw.Reference
public import proofs.«01_k».proof.Proof.Gen.Kernel26Ideal
public import proofs.«01_k».proof.Proof.Gen.Reference26Ideal
public import Idealize.ShloMosaic.Lib.Claim

@[expose] public section

set_option maxRecDepth 16384

noncomputable section

namespace Cert.CondDw

open Idealize.ShloMosaic Idealize.ShloMosaic.TcCoe Idealize.SL.Sem

/-- The reference terminates with its arguments unchanged; it declares no semaphore. -/
theorem frame_reference : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

/-- The kernel and the reference compute the same array. -/
theorem algebraic : Cert.algebraic_Kernel26Ideal_Reference26Ideal := by
  intro m g m' g' _ agree
  refine ⟨_, Cert.Kernel26Ideal.CondDw.run m g,
    (θ_run Cert.Reference26Ideal.defs _ _).mono (fun r h c => ?_) (Cert.Reference26Ideal.CondDw.run m' g')⟩
  obtain ⟨h0, h1⟩ := agree c
  have := h c
  rw [h0, h1] at this ⊢
  exact this

end Cert.CondDw

end
-- ==== Proof.Norm.Back.lean ====
/-
  The gradient of a layer norm of one row, two ways. Automatic differentiation writes it with the derivative of the
  inverse square root; the short form subtracts from the cotangent its mean and its part along the normalised row. On
  rows of real numbers the two are equal: the distances from the mean sum to zero and the inverse deviation's square is
  the inverse of the variance plus the small number.
-/
module

public import proofs.«01_k».proof.Proof.Norm.Spec

@[expose] public section

noncomputable section

namespace Cert.Norm

open Idealize.ShloMosaic Cert.Product

/-- The gradient as automatic differentiation writes it. -/
def autoBack (L : BitVec 32) {n : ℕ} (d f : Fin n → EReal) (k : Fin n) : EReal :=
  d k * rstd L f +
      Ideal.div ((∑ j, (f j - mean L f) * d j) * (lit 0xBF000000#32 * Ideal.div (rstd L f) (var L f + lit 0x3727C5AC#32))) (lit L) *
        (lit 0x40000000#32 * (f k - mean L f)) +
    Ideal.div ((∑ j, -(d j * rstd L f)) + ∑ i, -(Ideal.div ((∑ j, (f j - mean L f) * d j) *
      (lit 0xBF000000#32 * Ideal.div (rstd L f) (var L f + lit 0x3727C5AC#32))) (lit L) * (lit 0x40000000#32 * (f i - mean L f)))) (lit L)

theorem lit_half : lit 0xBF000000#32 = ((-(1 / 2) : ℝ) : EReal) := by simp [lit, Ideal.ofBits, Ideal.ieee, -EReal.coe_mul]; norm_num
theorem lit_two : lit 0x40000000#32 = ((2 : ℝ) : EReal) := by simp [lit, Ideal.ofBits, Ideal.ieee, -EReal.coe_mul]; norm_num
theorem lit_1024 : lit 0x44800000#32 = ((1024 : ℝ) : EReal) := by simp [lit, Ideal.ofBits, Ideal.ieee, -EReal.coe_mul]; norm_num
theorem lit_512 : lit 0x44000000#32 = ((512 : ℝ) : EReal) := by simp [lit, Ideal.ofBits, Ideal.ieee, -EReal.coe_mul]; norm_num
/-- The program's small number is a positive real number. -/
theorem lit_eps : ∃ e : ℝ, 0 < e ∧ lit 0x3727C5AC#32 = (e : EReal) :=
  ⟨(2 ^ 23 + 2606508 : ℕ) * (2 : ℝ) ^ (-40 : ℤ), by positivity, by simp [lit, Ideal.ofBits, Ideal.ieee, -EReal.coe_mul]⟩

/-- A sum of reals is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two reals, the second not zero. -/
theorem div_real (x : ℝ) {y : ℝ} (h : y ≠ 0) : Ideal.div (x : EReal) (y : EReal) = ((x / y : ℝ) : EReal) := by
  rw [Ideal.div_coe h, ← EReal.coe_mul]
  congr 1
  field_simp

/-- The inverse square root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ### The same functions of rows of real numbers -/

section real
variable {n : ℕ}

def rmean (f : Fin n → ℝ) : ℝ := (∑ k, f k) / n
def rvar (f : Fin n → ℝ) : ℝ := rmean fun k => (f k - rmean f) * (f k - rmean f)
def rrstd (e : ℝ) (f : Fin n → ℝ) : ℝ := (Real.sqrt (rvar f + e))⁻¹
def rhat (e : ℝ) (f : Fin n → ℝ) (k : Fin n) : ℝ := (f k - rmean f) * rrstd e f
def rback (e : ℝ) (d f : Fin n → ℝ) (k : Fin n) : ℝ := rrstd e f * (d k - rmean d - rhat e f k * rmean fun j => d j * rhat e f j)

theorem rvar_nonneg (f : Fin n → ℝ) : 0 ≤ rvar f :=
  div_nonneg (Finset.sum_nonneg fun k _ => mul_self_nonneg _) (Nat.cast_nonneg n)

/-- The distances from the mean sum to zero. -/
theorem sum_dist (hn : n ≠ 0) (f : Fin n → ℝ) : ∑ k, (f k - rmean f) = 0 := by
  rw [Finset.sum_sub_distrib, Finset.sum_const, Finset.card_univ, Fintype.card_fin, nsmul_eq_mul, rmean]
  have : (n : ℝ) ≠ 0 := Nat.cast_ne_zero.mpr hn
  field_simp
  ring

/-- The square of the inverse deviation. -/
theorem rrstd_sq {e : ℝ} (he : 0 < e) (f : Fin n → ℝ) : rrstd e f / (rvar f + e) = rrstd e f * (rrstd e f * rrstd e f) := by
  have h : 0 < rvar f + e := add_pos_of_nonneg_of_pos (rvar_nonneg f) he
  have hs : rrstd e f * rrstd e f = (rvar f + e)⁻¹ := by
    rw [rrstd, ← mul_inv, Real.mul_self_sqrt h.le]
  rw [hs, div_eq_mul_inv]

/-- The two forms of the gradient over the reals. -/
theorem rauto_eq (hn : n ≠ 0) {e : ℝ} (he : 0 < e) (d f : Fin n → ℝ) (k : Fin n) :
    d k * rrstd e f + (∑ j, (f j - rmean f) * d j) * (-(1 / 2) * (rrstd e f / (rvar f + e))) / n * (2 * (f k - rmean f)) +
      ((∑ j, -(d j * rrstd e f)) + ∑ i, -((∑ j, (f j - rmean f) * d j) * (-(1 / 2) * (rrstd e f / (rvar f + e))) / n * (2 * (f i - rmean f)))) / n =
    rback e d f k := by
  have hn' : (n : ℝ) ≠ 0 := Nat.cast_ne_zero.mpr hn
  have h1 : ∑ i, -((∑ j, (f j - rmean f) * d j) * (-(1 / 2) * (rrstd e f / (rvar f + e))) / n * (2 * (f i - rmean f))) = 0 := by
    rw [Finset.sum_neg_distrib, ← Finset.mul_sum, ← Finset.mul_sum, sum_dist hn]
    ring
  have h2 : ∑ j, -(d j * rrstd e f) = -((∑ j, d j) * rrstd e f) := by
    rw [Finset.sum_neg_distrib, ← Finset.sum_mul]
  have h3 : ∑ j, d j * rhat e f j = (∑ j, (f j - rmean f) * d j) * rrstd e f := by
    rw [Finset.sum_mul]
    exact Finset.sum_congr rfl fun j _ => by rw [rhat]; ring
  have h4 : rmean d = (∑ j, d j) / n := rfl
  have h5 : (rmean fun j => d j * rhat e f j) = (∑ j, (f j - rmean f) * d j) * rrstd e f / n := congrArg (· / (n : ℝ)) h3
  rw [h1, h2, rrstd_sq he, rback, h4, h5, rhat]
  field_simp
  ring

end real

/-! ### The functions of extended reals on rows of real numbers -/

section coe
variable {L : BitVec 32} {n : ℕ} (hn : n ≠ 0) (hL : lit L = ((n : ℝ) : EReal))
include hn hL

theorem mean_coe (f : Fin n → ℝ) : mean L (fun k => (f k : EReal)) = (rmean f : EReal) := by
  rw [mean, coe_sum, hL, div_real _ (Nat.cast_ne_zero.mpr hn), rmean]

theorem var_coe (f : Fin n → ℝ) : var L (fun k => (f k : EReal)) = (rvar f : EReal) := by
  rw [var, mean_coe hn hL]
  simp only [← EReal.coe_sub, ← EReal.coe_mul]
  exact mean_coe hn hL _

theorem rstd_coe {e : ℝ} (he : 0 < e) (hE : lit 0x3727C5AC#32 = (e : EReal)) (f : Fin n → ℝ) :
    rstd L (fun k => (f k : EReal)) = (rrstd e f : EReal) := by
  rw [rstd, var_coe hn hL, hE, ← EReal.coe_add, rsqrt_real (add_pos_of_nonneg_of_pos (rvar_nonneg f) he), rrstd]

theorem hat_coe {e : ℝ} (he : 0 < e) (hE : lit 0x3727C5AC#32 = (e : EReal)) (f : Fin n → ℝ) (k : Fin n) :
    hat L (fun k => (f k : EReal)) k = (rhat e f k : EReal) := by
  rw [hat, mean_coe hn hL, rstd_coe hn hL he hE, ← EReal.coe_sub, ← EReal.coe_mul, rhat]

theorem back_coe {e : ℝ} (he : 0 < e) (hE : lit 0x3727C5AC#32 = (e : EReal)) (d f : Fin n → ℝ) (k : Fin n) :
    back L (fun k => (d k : EReal)) (fun k => (f k : EReal)) k = (rback e d f k : EReal) := by
  simp only [back, hat_coe hn hL he hE, ← EReal.coe_mul, mean_coe hn hL, rstd_coe hn hL he hE, ← EReal.coe_sub]
  rfl

theorem autoBack_coe {e : ℝ} (he : 0 < e) (hE : lit 0x3727C5AC#32 = (e : EReal)) (d f : Fin n → ℝ) (k : Fin n) :
    autoBack L (fun k => (d k : EReal)) (fun k => (f k : EReal)) k = (rback e d f k : EReal) := by
  have hv : rvar f + e ≠ 0 := (add_pos_of_nonneg_of_pos (rvar_nonneg f) he).ne'
  have hn' : (n : ℝ) ≠ 0 := Nat.cast_ne_zero.mpr hn
  simp only [autoBack, mean_coe hn hL, rstd_coe hn hL he hE, var_coe hn hL, hE, lit_half, lit_two, hL, ← EReal.coe_sub, ← EReal.coe_mul,
    ← EReal.coe_add, ← EReal.coe_neg, coe_sum, div_real _ hv, div_real _ hn']
  rw [rauto_eq hn he]

end coe

/-- An extended real that is a real number. -/
def Fin1 (x : EReal) : Prop := ∃ r : ℝ, x = (r : EReal)

theorem Fin1.mul {x y : EReal} (hx : Fin1 x) (hy : Fin1 y) : Fin1 (x * y) := by
  obtain ⟨a, rfl⟩ := hx; obtain ⟨b, rfl⟩ := hy; exact ⟨a * b, (EReal.coe_mul a b).symm⟩
theorem Fin1.add {x y : EReal} (hx : Fin1 x) (hy : Fin1 y) : Fin1 (x + y) := by
  obtain ⟨a, rfl⟩ := hx; obtain ⟨b, rfl⟩ := hy; exact ⟨a + b, (EReal.coe_add a b).symm⟩
theorem Fin1.sub {x y : EReal} (hx : Fin1 x) (hy : Fin1 y) : Fin1 (x - y) := by
  obtain ⟨a, rfl⟩ := hx; obtain ⟨b, rfl⟩ := hy; exact ⟨a - b, (EReal.coe_sub a b).symm⟩
theorem Fin1.sum {ι : Type} {s : Finset ι} {f : ι → EReal} (h : ∀ k, Fin1 (f k)) : Fin1 (∑ k ∈ s, f k) := by
  choose g hg using h
  obtain rfl : f = fun k => (g k : EReal) := funext hg
  exact ⟨_, coe_sum s g⟩
theorem Fin1.one : Fin1 1 := ⟨1, rfl⟩
theorem Fin1.alpha : Fin1 (lit 0x3F9837F0#32) := ⟨_, by simp only [lit, Ideal.ofBits, Ideal.ieee]; norm_num; rfl⟩

/-- On rows of real numbers the gradient is a real number. -/
theorem Fin1.back {L : BitVec 32} {n : ℕ} (hn : n ≠ 0) (hL : lit L = ((n : ℝ) : EReal)) {d f : Fin n → EReal} (hd : ∀ k, Fin1 (d k)) (hf : ∀ k, Fin1 (f k)) (k : Fin n) :
    Fin1 (Norm.back L d f k) := by
  obtain ⟨e, he, hE⟩ := lit_eps
  choose d' hd' using hd
  choose f' hf' using hf
  obtain rfl : d = fun k => (d' k : EReal) := funext hd'
  obtain rfl : f = fun k => (f' k : EReal) := funext hf'
  exact ⟨_, back_coe hn hL he hE d' f' k⟩

/-- On rows of real numbers the normalised row is real. -/
theorem Fin1.hat {L : BitVec 32} {n : ℕ} (hn : n ≠ 0) (hL : lit L = ((n : ℝ) : EReal)) {f : Fin n → EReal} (hf : ∀ k, Fin1 (f k)) (k : Fin n) :
    Fin1 (Norm.hat L f k) := by
  obtain ⟨e, he, hE⟩ := lit_eps
  choose f' hf' using hf
  obtain rfl : f = fun k => (f' k : EReal) := funext hf'
  exact ⟨_, hat_coe hn hL he hE f' k⟩

/-- On rows of real numbers the two forms of the gradient agree. -/
theorem autoBack_eq {L : BitVec 32} {n : ℕ} (hn : n ≠ 0) (hL : lit L = ((n : ℝ) : EReal)) {d f : Fin n → EReal} (hd : ∀ k, Fin1 (d k)) (hf : ∀ k, Fin1 (f k)) (k : Fin n) :
    autoBack L d f k = Norm.back L d f k := by
  obtain ⟨e, he, hE⟩ := lit_eps
  choose d' hd' using hd
  choose f' hf' using hf
  obtain rfl : d = fun k => (d' k : EReal) := funext hd'
  obtain rfl : f = fun k => (f' k : EReal) := funext hf'
  rw [autoBack_coe hn hL he hE, back_coe hn hL he hE]

end Cert.Norm

end
-- ==== Proof.Norm.Grad.lean ====
/-
  The gradients of the norms of whole arrays: of the array, in the short form and as automatic differentiation writes it,
  and of the scale and the shift.
-/
module

public import proofs.«01_k».proof.Proof.Norm.Back
public import Idealize.ShloMosaic.Lib.Pointwise.Select

@[expose] public section

noncomputable section

namespace Cert.Norm

open Idealize.ShloMosaic Cert.Product

/-- The cotangent of the normalised row under a modulation. -/
def modCot {n : ℕ} (d : Fin n → EReal) (sc : Mat 1 n) (k : Fin n) : EReal := d k * (1 + sc (ix2 0 k))

/-- The cotangent of the normalised row under a scale. -/
def affCot {n : ℕ} (d : Fin n → EReal) (g : Mat 1 n) (k : Fin n) : EReal := d k * g (ix2 0 k)

/-- The gradient of one row from its modulated norm and from its residual sum. -/
def modBack {n : ℕ} (d f dr : Fin n → EReal) (sc : Mat 1 n) (k : Fin n) : EReal :=
  lit 0x3F9837F0#32 * dr k + back 0x44800000#32 (modCot d sc) f k

/-- The same as automatic differentiation writes it. -/
def autoMod {n : ℕ} (d f dr : Fin n → EReal) (sc : Mat 1 n) (k : Fin n) : EReal :=
  autoBack 0x44800000#32 (modCot d sc) f k + lit 0x3F9837F0#32 * dr k

/-- The gradient of the array from its modulated norm and from its residual sum. -/
def modDx (d x dr : Mat 8192 1024) (sc : Mat 1 1024) : Mat 8192 1024 := fun i => modBack (row d (i 0)) (row x (i 0)) (row dr (i 0)) sc (i 1)

/-- The same as automatic differentiation writes it. -/
def autoModDx (d x dr : Mat 8192 1024) (sc : Mat 1 1024) : Mat 8192 1024 := fun i => autoMod (row d (i 0)) (row x (i 0)) (row dr (i 0)) sc (i 1)

/-- The sum of every column. -/
def colSum {a b : ℕ} (G : Mat a b) : Mat 1 b := fun j => ∑ r : Fin a, G (ix2 r (j 1))

/-- The cotangent by the normalised array. -/
def byHat (L : BitVec 32) {a b : ℕ} (d x : Mat a b) : Mat a b := fun i => d i * hat L (row x (i 0)) (i 1)

theorem hat_congr {L : BitVec 32} {n : ℕ} {f f' : Fin n → EReal} (hf : ∀ k, f k = f' k) {k k' : Fin n} (hk : k = k') : hat L f k = hat L f' k' := by
  obtain rfl : f = f' := funext hf
  rw [hk]

theorem modBack_congr {n : ℕ} {d d' f f' r r' : Fin n → EReal} {s s' : Mat 1 n} (hd : ∀ k, d k = d' k) (hf : ∀ k, f k = f' k)
    (hr : ∀ k, r k = r' k) (hs : ∀ k, s (ix2 0 k) = s' (ix2 0 k)) {k k' : Fin n} (hk : k = k') : modBack d f r s k = modBack d' f' r' s' k' := by
  obtain rfl : d = d' := funext hd
  obtain rfl : f = f' := funext hf
  subst hk
  have h : modCot d s = modCot d s' := funext fun k => by rw [modCot, modCot, hs]
  rw [modBack, modBack, h, hr]

/-- An extended real whose difference from itself is zero is a real number. -/
theorem fin1_of_cmp {x : EReal} (h : Ideal.cmp .oeq (x - x) (lit 0x00000000#32) = 1#1) : Fin1 x := by
  have z : lit 0x00000000#32 = 0 := by simp [lit, Ideal.ofBits, Ideal.ieee]
  have e : x - x = 0 := by
    rw [z] at h
    exact (Ideal.cmp_oeq_eq_one _ _).mp h
  induction x using EReal.rec with
  | bot => simp at e
  | top => simp at e
  | coe r => exact ⟨r, rfl⟩

theorem Fin1.modCot {n : ℕ} {d : Fin n → EReal} {sc : Mat 1 n} (hd : ∀ k, Fin1 (d k)) (hs : ∀ k, Fin1 (sc (ix2 0 k))) (k : Fin n) : Fin1 (modCot d sc k) :=
  (hd k).mul (Fin1.one.add (hs k))

theorem Fin1.affCot {n : ℕ} {d : Fin n → EReal} {g : Mat 1 n} (hd : ∀ k, Fin1 (d k)) (hg : ∀ k, Fin1 (g (ix2 0 k))) (k : Fin n) : Fin1 (affCot d g k) :=
  (hd k).mul (hg k)

/-- On real numbers the two forms of the array's gradient agree. -/
theorem autoModDx_eq {d x dr : Mat 8192 1024} {sc : Mat 1 1024} (hd : ∀ i, Fin1 (d i)) (hx : ∀ i, Fin1 (x i)) (hs : ∀ i, Fin1 (sc i)) :
    autoModDx d x dr sc = modDx d x dr sc := by
  funext i
  have h := autoBack_eq (d := modCot (row d (i 0)) sc) (f := row x (i 0)) (by decide) (lit_1024.trans (by norm_num))
    (Fin1.modCot (fun _ => hd _) fun _ => hs _) (fun _ => hx _) (i 1)
  exact (congrArg (· + lit 0x3F9837F0#32 * row dr (i 0) (i 1)) h).trans (add_comm _ _)

end Cert.Norm

end
-- ==== Proof.Final.Kernel.lean ====
/-
  The gradient of the first norm with its modulation and of the input: a block of rows at every point, and two column sums
  accumulated over the points.
-/
module

public import proofs.«01_k».proof.Proof.Norm.Grad
public import proofs.«01_k».proof.Proof.Gen.Kernel28Ideal.Value
public import Idealize.ShloMosaic.Lib.Pipeline.ValueKit
public import Idealize.ShloMosaic.Lib.Pointwise

@[expose] public section

set_option maxRecDepth 16384

noncomputable section

namespace Cert.Kernel28Ideal.Final

open Cert.Kernel28Ideal Cert.Kernel28Ideal.Gen Idealize.ShloMosaic Idealize.ShloMosaic.TcCoe Idealize.SL.Sem Cert.Product Cert.Norm

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![t.val, 0] ∧
    win0_3.index t = ![0, 0] ∧
    win0_4.index t = ![t.val, 0] ∧
    win0_5.index t = ![0, 0] ∧
    win0_6.index t = ![0, 0] :=
  (by decide +kernel : ∀ t : Fin grid0.N, _)

/-- The row of the whole arrays that row `r` of the blocks at point `t` is. -/
def rowOf (t : Fin cfg0.N) (r : Fin 1024) : Fin 8192 :=
  ⟨t.val * 1024 + r.val, by have := r.isLt; have := t.isLt; have h : cfg0.N = 8 := N_0; omega⟩

/-- A row of the block, its mean subtracted. -/
theorem dist (v : Mat 1024 1024) (r : Fin 1024) (k : Fin 1024) : k0_pay5 (F := Ideal) v (ix2 r k) = row v r k - mean 0x44800000#32 (row v r) := by
  unfold k0_pay5
  pointwise [mean, row]

/-- The inverse deviation of a row of the block. -/
theorem dev (v : Mat 1024 1024) (r : Fin 1024) (z : Fin 1) : k0_pay6 (F := Ideal) v (ix2 r z) = rstd 0x44800000#32 (row v r) := by
  unfold k0_pay6
  pointwise [dist]
  rfl

/-- A row of the block, normalised. -/
theorem normed (v : Mat 1024 1024) (r : Fin 1024) (k : Fin 1024) : k0_pay7 (F := Ideal) v (ix2 r k) = hat 0x44800000#32 (row v r) k := by
  unfold k0_pay7
  pointwise [dist, dev]
  rfl

/-- A row of the block's gradient. -/
theorem grad (v3 v5 v35 : Mat 1024 1024) (v38 : Mat 1 1024) (r k : Fin 1024) :
    k0_pay1 (F := Ideal) (k0_pay4 v3) (k0_pay6 v5) (k0_pay7 v5) v35 v38 (ix2 r k) = modBack (row v3 r) (row v5 r) (row v35 r) v38 k := by
  unfold k0_pay1 k0_pay4
  pointwise [normed, dev]
  rfl

/-- The sum over one block's rows. -/
def blkSum (G : Mat 8192 1024) (t : Fin cfg0.N) (j : S1x1024.Idx) : EReal := ∑ r : Fin 1024, G (ix2 (rowOf t r) (j 1))

/-- The blocks' sums add up to the sum of the whole column. -/
theorem sum_blkSum (G : Mat 8192 1024) (j : S1x1024.Idx) : (0 : EReal) + ∑ t, blkSum G t j = colSum G j := by
  rw [zero_add]
  have h : cfg0.N = 8 := N_0
  exact Fin.sum_mul_add_congr (F := fun t r => G (ix2 (rowOf t r) (j 1))) (f := fun l => G (ix2 l (j 1)))
    (fun s k hl => rfl) (by rw [h])

/-- The first result array holds the gradient of the input. -/
theorem out4 (c : Dev nD) : (dats m 0 c).arrAt 4 cfg0.N =
    modDx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  have e : (win0_4.blk t).view.emb (ix2 y0 y1) = ix2 (rowOf t y0) y1 := by blk_ext [idx t, rowOf]
  rw [e]
  by_cases h : t.val % 8 = 0
  · rw [outsAt0_A m c t h]
    frame_out
    refine (grad _ _ _ _ _ _).trans ?_
    pointwise [modDx]
    refine modBack_congr (fun k => ?_) (fun k => ?_) (fun k => ?_) (fun k => ?_) rfl <;> (try simp only [row]) <;> blk_point [iblk, V, idx t, rowOf]
  · rw [outsAt0_B m c t h]
    frame_out
    refine (grad _ _ _ _ _ _).trans ?_
    pointwise [modDx]
    refine modBack_congr (fun k => ?_) (fun k => ?_) (fun k => ?_) (fun k => ?_) rfl <;> (try simp only [row]) <;> blk_point [iblk, V, idx t, rowOf]

/-- The gradient of the scale. -/
theorem out5 (c : Dev nD) : (dats m 0 c).arrAt 5 cfg0.N =
    colSum (byHat 0x44800000#32 (m ((c : Thread nD τ).loc main_arg0)) (m ((c : Thread nD τ).loc main_arg1))) := by
  refine (dats m 0 c).arrAt_eq_of_after_last 5 t0_7 (by decide +kernel) _ fun j => ?_
  blk_simp
  rw [after0_5]
  refine (Pipeline.eq_sum_fin_of_reset_step_apply_last (fun n h => (outsAt0 m c n h).2.1) 8 (fun _ => (0 : EReal))
    (blkSum (byHat 0x44800000#32 (m ((c : Thread nD τ).loc main_arg0)) (m ((c : Thread nD τ).loc main_arg1))))
    (fun t h j => ?_) (fun t h j => ?_) N_0.le t0_7 rfl _).trans (sum_blkSum _ _)
  · rw [outsAt0_A m c t h]
    idx_vars j
    frame_out
    unfold k0_pay8 k0_pay4 k0_pay2
    pointwise [normed]
    refine Finset.sum_congr rfl fun x _ => ?_
    simp only [byHat]
    refine congrArg₂ (fun a b : EReal => a * b) ?_ (hat_congr (fun k => ?_) ?_) <;> (try simp only [row]) <;> first | blk_point [iblk, V, idx t, rowOf] | rfl
  · rw [outsAt0_B m c t h]
    idx_vars j
    frame_out
    unfold k0_pay8 k0_pay4
    pointwise [normed]
    refine congrArg (_ + ·) (Finset.sum_congr rfl fun x _ => ?_)
    simp only [byHat]
    refine congrArg₂ (fun a b : EReal => a * b) ?_ (hat_congr (fun k => ?_) ?_) <;> (try simp only [row]) <;> first | blk_point [iblk, V, idx t, rowOf] | rfl

/-- The gradient of the shift. -/
theorem out6 (c : Dev nD) : (dats m 0 c).arrAt 6 cfg0.N =
    colSum ((m ((c : Thread nD τ).loc main_arg0))) := by
  refine (dats m 0 c).arrAt_eq_of_after_last 6 t0_7 (by decide +kernel) _ fun j => ?_
  blk_simp
  rw [after0_6]
  refine (Pipeline.eq_sum_fin_of_reset_step_apply_last (fun n h => (outsAt0 m c n h).2.2) 8 (fun _ => (0 : EReal))
    (blkSum ((m ((c : Thread nD τ).loc main_arg0))))
    (fun t h j => ?_) (fun t h j => ?_) N_0.le t0_7 rfl _).trans (sum_blkSum _ _)
  · rw [outsAt0_A m c t h]
    idx_vars j
    frame_out
    unfold k0_pay9 k0_pay4 k0_pay3
    pointwise [row]
    refine Finset.sum_congr rfl fun x _ => ?_
    (try simp only [row]) <;> blk_point [iblk, V, idx t, rowOf]
  · rw [outsAt0_B m c t h]
    idx_vars j
    frame_out
    unfold k0_pay9 k0_pay4
    pointwise [row]
    refine congrArg (_ + ·) (Finset.sum_congr rfl fun x _ => ?_)
    (try simp only [row]) <;> blk_point [iblk, V, idx t, rowOf]

/-- The whole program ends with the three results holding the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        modDx (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        colSum (byHat 0x44800000#32 (m ((c : Thread nD τ).loc main_arg0)) (m ((c : Thread nD τ).loc main_arg1)))
      ∧ r.2.mem ((c : Thread nD τ).loc main_v0_2) =
        colSum ((m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2⟩) (Cert.Kernel28Ideal.Value.run_blocks m ρ)

end Cert.Kernel28Ideal.Final
end
-- ==== Proof.Final.Reference.lean ====
/-
  The reference of the gradient of the first norm with its modulation and of the input.
-/
module

public import proofs.«01_k».proof.Proof.Norm.Grad
public import proofs.«01_k».proof.Proof.Gen.Reference28Ideal.Run
public import proofs.«01_k».proof.Proof.Gen.Reference28Ideal.Read
public import Idealize.ShloMosaic.Lib.Pipeline.ValueKit
public import Idealize.ShloMosaic.Lib.Pointwise

@[expose] public section

set_option maxRecDepth 16384

noncomputable section

namespace Cert.Reference28Ideal.Final

open Cert.Reference28Ideal Cert.Reference28Ideal.Gen Cert.Reference28Ideal.Read Idealize.ShloMosaic Idealize.ShloMosaic.TcCoe Idealize.SL.Sem Cert.Product Cert.Norm

/-! How the reference's index maps read at a row and a column. -/

theorem ix_main_v3 (i0 : Fin 8192) (k : Fin 1024) : idx_main_v3 (ix1 i0) k = ix2 i0 k :=
  funext fun a => match a with
    | ⟨0, _⟩ => rfl
    | ⟨1, _⟩ => rfl

theorem ix_main_v4 (i0 : Fin 8192) (i1 : Fin 1) : idx_main_v4 (ix2 i0 i1) = ix1 i0 :=
  funext fun a => match a with
    | ⟨0, _⟩ => rfl

theorem ix_main_v7 (i0 : Fin 8192) (i1 : Fin 1024) : idx_main_v7 (ix2 i0 i1) = ix2 i0 0 :=
  funext fun a => match a with
    | ⟨0, _⟩ => rfl
    | ⟨1, _⟩ => rfl

theorem ix_main_v12 (i0 : Fin 8192) (k : Fin 1024) : idx_main_v12 (ix1 i0) k = ix2 i0 k :=
  funext fun a => match a with
    | ⟨0, _⟩ => rfl
    | ⟨1, _⟩ => rfl

theorem ix_main_v13 (i0 : Fin 8192) (i1 : Fin 1) : idx_main_v13 (ix2 i0 i1) = ix1 i0 :=
  funext fun a => match a with
    | ⟨0, _⟩ => rfl

theorem ix_main_v16 (i0 : Fin 8192) (i1 : Fin 1024) : idx_main_v16 (ix2 i0 i1) = ix2 i0 0 :=
  funext fun a => match a with
    | ⟨0, _⟩ => rfl
    | ⟨1, _⟩ => rfl

theorem ix_main_v24 (i0 : Fin 8192) (i1 : Fin 1024) : idx_main_v24 (ix2 i0 i1) = ix2 i0 0 :=
  funext fun a => match a with
    | ⟨0, _⟩ => rfl
    | ⟨1, _⟩ => rfl

theorem ix_main_v33 (i0 : Fin 1024) (k : Fin 8192) : idx_main_v33 (ix1 i0) k = ix2 k i0 :=
  funext fun a => match a with
    | ⟨0, _⟩ => rfl
    | ⟨1, _⟩ => rfl

theorem ix_main_v34 (i0 : Fin 1) (i1 : Fin 1024) : idx_main_v34 (ix2 i0 i1) = ix1 i1 :=
  funext fun a => match a with
    | ⟨0, _⟩ => Fin.ext (show i0.val * 1024 + i1.val = i1.val by omega)

theorem ix_main_v36 (i0 : Fin 1024) (k : Fin 8192) : idx_main_v36 (ix1 i0) k = ix2 k i0 :=
  funext fun a => match a with
    | ⟨0, _⟩ => rfl
    | ⟨1, _⟩ => rfl

theorem ix_main_v37 (i0 : Fin 1) (i1 : Fin 1024) : idx_main_v37 (ix2 i0 i1) = ix1 i1 :=
  funext fun a => match a with
    | ⟨0, _⟩ => Fin.ext (show i0.val * 1024 + i1.val = i1.val by omega)

theorem ix_main_v38 (i0 : Fin 8192) (i1 : Fin 1024) : idx_main_v38 (ix2 i0 i1) = ix2 0 i1 :=
  funext fun a => match a with
    | ⟨0, _⟩ => rfl
    | ⟨1, _⟩ => rfl

theorem ix_main_v41 (i0 : Fin 8192) (k : Fin 1024) : idx_main_v41 (ix1 i0) k = ix2 i0 k :=
  funext fun a => match a with
    | ⟨0, _⟩ => rfl
    | ⟨1, _⟩ => rfl

theorem ix_main_v42 (i0 : Fin 8192) (i1 : Fin 1) : idx_main_v42 (ix2 i0 i1) = ix1 i0 :=
  funext fun a => match a with
    | ⟨0, _⟩ => Fin.ext (show i0.val * 1 + i1.val = i0.val by omega)

theorem ix_main_v43 (i0 : Fin 8192) (i1 : Fin 1024) : idx_main_v43 (ix2 i0 i1) = ix2 i0 0 :=
  funext fun a => match a with
    | ⟨0, _⟩ => rfl
    | ⟨1, _⟩ => rfl

theorem ix_main_v47 (i0 : Fin 8192) (k : Fin 1024) : idx_main_v47 (ix1 i0) k = ix2 i0 k :=
  funext fun a => match a with
    | ⟨0, _⟩ => rfl
    | ⟨1, _⟩ => rfl

theorem ix_main_v48 (i0 : Fin 8192) (i1 : Fin 1) : idx_main_v48 (ix2 i0 i1) = ix1 i0 :=
  funext fun a => match a with
    | ⟨0, _⟩ => Fin.ext (show i0.val * 1 + i1.val = i0.val by omega)

theorem ix_main_v51 (i0 : Fin 8192) (k : Fin 1) : idx_main_v51 (ix1 i0) k = ix2 i0 k :=
  funext fun a => match a with
    | ⟨0, _⟩ => rfl
    | ⟨1, _⟩ => rfl

theorem ix_main_v52 (i0 : Fin 8192) (i1 : Fin 1024) : idx_main_v52 (ix2 i0 i1) = ix1 i0 :=
  funext fun a => match a with
    | ⟨0, _⟩ => rfl

theorem ix_main_v55 (i0 : Fin 8192) (k : Fin 1024) : idx_main_v55 (ix1 i0) k = ix2 i0 k :=
  funext fun a => match a with
    | ⟨0, _⟩ => rfl
    | ⟨1, _⟩ => rfl

theorem ix_main_v56 (i0 : Fin 8192) (i1 : Fin 1) : idx_main_v56 (ix2 i0 i1) = ix1 i0 :=
  funext fun a => match a with
    | ⟨0, _⟩ => Fin.ext (show i0.val * 1 + i1.val = i0.val by omega)

theorem ix_main_v61 (i0 : Fin 8192) (k : Fin 1) : idx_main_v61 (ix1 i0) k = ix2 i0 k :=
  funext fun a => match a with
    | ⟨0, _⟩ => rfl
    | ⟨1, _⟩ => rfl

theorem ix_main_v62 (i0 : Fin 8192) (i1 : Fin 1024) : idx_main_v62 (ix2 i0 i1) = ix1 i0 :=
  funext fun a => match a with
    | ⟨0, _⟩ => rfl

/-- The distances from the mean. -/
theorem dist (x1 : Mat 8192 1024) (i0 : Fin 8192) (i1 : Fin 1024) : val_main_v8 (F := Ideal) x1 (ix2 i0 i1) = row x1 i0 i1 - mean 0x44800000#32 (row x1 i0) := by
  simp only [val_main_v8_apply, val_main_v7_apply, val_main_v6_apply, val_main_v4_apply, val_main_v3_apply, val_main_cst_1_apply,
    val_main_v5_apply, val_main_cst_2_apply, ix_main_v3, ix_main_v4, ix_main_v7]
  pointwise [mean, row]

/-- The same, written a second time. -/
theorem dist2 (x1 : Mat 8192 1024) (i0 : Fin 8192) (i1 : Fin 1024) : val_main_v17 (F := Ideal) x1 (ix2 i0 i1) = row x1 i0 i1 - mean 0x44800000#32 (row x1 i0) := by
  simp only [val_main_v17_apply, val_main_v16_apply, val_main_v6_apply, val_main_v4_apply, val_main_v3_apply,
    val_main_cst_1_apply, val_main_v5_apply, val_main_cst_2_apply, ix_main_v16, ix_main_v3, ix_main_v4]
  pointwise [mean, row]

/-- The variance and the small number. -/
theorem vard (x1 : Mat 8192 1024) (i0 : Fin 8192) (z : Fin 1) : val_main_v19 (F := Ideal) x1 (ix2 i0 z) = var 0x44800000#32 (row x1 i0) + lit 0x3727C5AC#32 := by
  simp only [val_main_v19_apply, val_main_v15_apply, val_main_v13_apply, val_main_v12_apply, val_main_v9_apply,
    val_main_cst_4_apply, val_main_v14_apply, val_main_cst_5_apply, val_main_v18_apply, val_main_cst_6_apply,
    ix_main_v13, ix_main_v12, dist]
  pointwise []
  try simp only [Fin.sum_univ_one]
  try rfl

/-- The inverse deviation. -/
theorem dev (x1 : Mat 8192 1024) (i0 : Fin 8192) (z : Fin 1) : val_main_v20 (F := Ideal) x1 (ix2 i0 z) = rstd 0x44800000#32 (row x1 i0) := by
  simp only [val_main_v20_apply, vard]
  pointwise []
  try simp only [Fin.sum_univ_one]
  try rfl

/-- The cotangent of the normalised array. -/
theorem cot (x0 : Mat 8192 1024) (x3 : Mat 1 1024) (i0 : Fin 8192) (i1 : Fin 1024) : val_main_v39 (F := Ideal) x0 x3 (ix2 i0 i1) = modCot (row x0 i0) x3 i1 := by
  simp only [val_main_v39_apply, val_main_v32_apply, val_main_v38_apply, val_main_v27_apply, val_main_v26_apply,
    val_main_cst_8_apply, ix_main_v38]
  pointwise [modCot, row]

/-- The gradient of the variance's mean. -/
theorem part (x0 x1 : Mat 8192 1024) (x3 : Mat 1 1024) (i0 : Fin 8192) : val_main_v51 (F := Ideal) x0 x1 x3 (ix1 i0) = Ideal.div ((∑ j, (row x1 i0 j - mean 0x44800000#32 (row x1 i0)) * modCot (row x0 i0) x3 j) *
      (lit 0xBF000000#32 * Ideal.div (rstd 0x44800000#32 (row x1 i0)) (var 0x44800000#32 (row x1 i0) + lit 0x3727C5AC#32))) (lit 0x44800000#32) := by
  simp only [val_main_v51_apply, val_main_v50_apply, val_main_v45_apply, val_main_v42_apply, val_main_v41_apply,
    val_main_v40_apply, val_main_cst_11_apply, val_main_v23_apply, val_main_v22_apply, val_main_cst_7_apply,
    val_main_v21_apply, val_main_v49_apply, val_main_cst_13_apply, val_main_cst_14_apply, ix_main_v41, ix_main_v51,
    ix_main_v42, dist, dist2, vard, dev, cot]
  pointwise []
  try simp only [Fin.sum_univ_one]
  try rfl

/-- The gradient of the input. -/
theorem ref0 (x0 x1 x2 : Mat 8192 1024) (x3 : Mat 1 1024) : val_main_v66 (F := Ideal) x0 x1 x2 x3 = autoModDx x0 x1 x2 x3 := by
  funext i
  idx_vars i
  simp only [val_main_v66_apply, val_main_v63_apply, val_main_v57_apply, val_main_v44_apply, val_main_v43_apply,
      val_main_v53_apply, val_main_v52_apply, val_main_v11_apply, val_main_v10_apply, val_main_cst_3_apply,
      val_main_v62_apply, val_main_v61_apply, val_main_v60_apply, val_main_v58_apply, val_main_v48_apply,
      val_main_v47_apply, val_main_v46_apply, val_main_cst_12_apply, val_main_v56_apply, val_main_v55_apply,
      val_main_v54_apply, val_main_cst_15_apply, val_main_v59_apply, val_main_cst_16_apply, val_main_cst_17_apply,
      val_main_v65_apply, val_main_v64_apply, val_main_cst_18_apply, ix_main_v56, ix_main_v62, ix_main_v48, ix_main_v43,
      ix_main_v47, ix_main_v61, ix_main_v55, ix_main_v52, dist, dist2, vard, dev, cot, part]
  pointwise []
  try simp only [Fin.sum_univ_one]
  try rfl

/-- The gradient of the scale. -/
theorem ref1 (x0 x1 : Mat 8192 1024) : val_main_v37 (F := Ideal) x0 x1 = colSum (byHat 0x44800000#32 x0 x1) := by
  funext i
  idx_vars i
  simp only [val_main_v37_apply, val_main_v36_apply, val_main_v35_apply, val_main_v25_apply, val_main_v24_apply,
      val_main_v32_apply, val_main_cst_10_apply, ix_main_v36, ix_main_v37, ix_main_v24, dist, dist2, vard, dev]
  pointwise [colSum, byHat, hat]
  exact Finset.sum_congr rfl fun r _ => mul_comm _ _

/-- The gradient of the shift. -/
theorem ref2 (x0 : Mat 8192 1024) : val_main_v34 (F := Ideal) x0 = colSum x0 := by
  funext i
  idx_vars i
  simp only [val_main_v34_apply, val_main_v33_apply, val_main_v32_apply, val_main_cst_9_apply, ix_main_v34, ix_main_v33]
  pointwise [colSum]

/-- The whole program ends with the three results holding the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v66) =
        autoModDx (m ((c : Thread nD τ).loc main_arg0)) (m ((c : Thread nD τ).loc main_arg1)) (m ((c : Thread nD τ).loc main_arg2)) (m ((c : Thread nD τ).loc main_arg3))
      ∧ r.2.mem ((c : Thread nD τ).loc main_v37) =
        colSum (byHat 0x44800000#32 (m ((c : Thread nD τ).loc main_arg0)) (m ((c : Thread nD τ).loc main_arg1)))
      ∧ r.2.mem ((c : Thread nD τ).loc main_v34) =
        colSum (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v66_eq _ _).trans (ref0 _ _ _ _)),
    (h c).2.1.trans ((val_main_v37_eq _ _).trans (ref1 _ _)),
    (h c).2.2.1.trans ((val_main_v34_eq _).trans (ref2 _)),
    (h c).2.2.2⟩) (Cert.Reference28Ideal.Value.run (F := Ideal) m ρ)

end Cert.Reference28Ideal.Final
end
-- ==== Proof.Final.Claims.lean ====
/-
  The claims about the gradient of the first norm with its modulation: the reference's frame, and that the kernel and the reference end holding the same arrays.
-/
module

public import proofs.«01_k».proof.Defs
public import proofs.«01_k».proof.Proof.Final.Kernel
public import proofs.«01_k».proof.Proof.Final.Reference
public import proofs.«01_k».proof.Proof.Gen.Kernel28Ideal
public import proofs.«01_k».proof.Proof.Gen.Reference28Ideal
public import proofs.«01_k».proof.Proof.Gen.Pre_finite28
public import Idealize.ShloMosaic.Lib.Claim

@[expose] public section

set_option maxRecDepth 16384

noncomputable section

namespace Cert.Final

open Idealize.ShloMosaic Idealize.ShloMosaic.TcCoe Idealize.SL.Sem Cert.Product Cert.Norm

/-- The reference terminates with its arguments unchanged; it declares no semaphore. -/
theorem frame_reference : Cert.quiescent_Reference28Ideal := fun m ρ _ =>
  (θ_run Cert.Reference28Ideal.defs _ _).mono
    (fun r h => ⟨fun c => (h c).2.2.2, sem_eq_zero_of_no_sems (by decide) r.2⟩)
    (Cert.Reference28Ideal.Value.run (F := Ideal) m ρ)

/-- The kernel and the reference compute the same arrays. -/
theorem algebraic : Cert.algebraic_Kernel28Ideal_Reference28Ideal_pre_finite28 := by
  intro m g m' g' hp agree
  refine ⟨_, _, _, Cert.Kernel28Ideal.Final.run m g,
    (θ_run Cert.Reference28Ideal.defs _ _).mono (fun r h c => ?_) (Cert.Reference28Ideal.Final.run m' g')⟩
  have f0 : ∀ i, Fin1 ((m ((c.tc : Thread Cert.Kernel28Ideal.nD Cert.Kernel28Ideal.τ).loc Cert.Kernel28Ideal.main_arg0) : Mat 8192 1024) i) := fun i => fin1_of_cmp (congrFun (hp c).1 i)
  have f1 : ∀ i, Fin1 ((m ((c.tc : Thread Cert.Kernel28Ideal.nD Cert.Kernel28Ideal.τ).loc Cert.Kernel28Ideal.main_arg1) : Mat 8192 1024) i) := fun i => fin1_of_cmp (congrFun (hp c).2.1 i)
  have f3 : ∀ i, Fin1 ((m ((c.tc : Thread Cert.Kernel28Ideal.nD Cert.Kernel28Ideal.τ).loc Cert.Kernel28Ideal.main_arg3) : Mat 1 1024) i) := fun i => fin1_of_cmp (congrFun (hp c).2.2 i)
  obtain ⟨h0, h1, h2, h3⟩ := agree c
  have := h c
  rw [h0, h1, h2, h3] at this ⊢
  rw [autoModDx_eq f0 f1 f3] at this
  exact this
end Cert.Final

end
-- ==== Proof.Norm.Affine.lean ====
/-
  The gradients of a norm with a scale and a shift, of whole arrays, in the short form and as automatic differentiation
  writes it, and the residual sum they are taken of.
-/
module

public import proofs.«01_k».proof.Proof.Norm.Grad

@[expose] public section

noncomputable section

namespace Cert.Norm

open Idealize.ShloMosaic Cert.Product

/-- The gradient of the array from its norm with a scale. -/
def affDx (L : BitVec 32) {a n : ℕ} (d x : Mat a n) (g : Mat 1 n) : Mat a n := fun i =>
  back L (affCot (row d (i 0)) g) (row x (i 0)) (i 1)

/-- The same as automatic differentiation writes it. -/
def autoAffDx (L : BitVec 32) {a n : ℕ} (d x : Mat a n) (g : Mat 1 n) : Mat a n := fun i =>
  autoBack L (affCot (row d (i 0)) g) (row x (i 0)) (i 1)

/-- The residual sum of whole arrays. -/
def residArr (x o : Mat 8192 1024) (g : Mat 1 1024) : Mat 8192 1024 := fun i => resid (row x (i 0)) (row o (i 0)) g (i 1)

/-- Every row by the gate. -/
def gated {a n : ℕ} (g : Mat 1 n) (d : Mat a n) : Mat a n := fun i => g (ix2 0 (i 1)) * d i

/-- The products entry by entry. -/
def byEntry {a n : ℕ} (d o : Mat a n) : Mat a n := fun i => d i * o i

theorem back_congr {L : BitVec 32} {n : ℕ} {d d' f f' : Fin n → EReal} {g g' : Mat 1 n} (hd : ∀ k, d k = d' k) (hf : ∀ k, f k = f' k)
    (hg : ∀ k, g (ix2 0 k) = g' (ix2 0 k)) {k k' : Fin n} (hk : k = k') : back L (affCot d g) f k = back L (affCot d' g') f' k' := by
  obtain rfl : d = d' := funext hd
  obtain rfl : f = f' := funext hf
  subst hk
  have h : affCot d g = affCot d g' := funext fun k => by rw [affCot, affCot, hg]
  rw [h]

theorem lit_1024n : lit 0x44800000#32 = (((1024 : ℕ) : ℝ) : EReal) := by rw [lit_1024]; norm_num
theorem lit_512n : lit 0x44000000#32 = (((512 : ℕ) : ℝ) : EReal) := by rw [lit_512]; norm_num

/-- On real numbers the two forms agree. -/
theorem autoAffDx_eq {L : BitVec 32} {a n : ℕ} (hn : n ≠ 0) (hL : lit L = ((n : ℝ) : EReal)) {d x : Mat a n} {g : Mat 1 n}
    (hd : ∀ i, Fin1 (d i)) (hx : ∀ i, Fin1 (x i)) (hg : ∀ i, Fin1 (g i)) : autoAffDx L d x g = affDx L d x g := by
  funext i
  simp only [autoAffDx, affDx]
  exact autoBack_eq hn hL (Fin1.affCot (fun _ => hd _) fun _ => hg _) (fun _ => hx _) _

theorem Fin1.modDx {d x dr : Mat 8192 1024} {sc : Mat 1 1024} (hd : ∀ i, Fin1 (d i)) (hx : ∀ i, Fin1 (x i)) (hr : ∀ i, Fin1 (dr i))
    (hs : ∀ i, Fin1 (sc i)) (i : (⟨2, ![8192, 1024]⟩ : Shape).Idx) : Fin1 (Norm.modDx d x dr sc i) :=
  (Fin1.alpha.mul (hr _)).add (Fin1.back (by decide) lit_1024n (Fin1.modCot (fun _ => hd _) fun _ => hs _) (fun _ => hx _) _)

theorem Fin1.residArr {x o : Mat 8192 1024} {g : Mat 1 1024} (hx : ∀ i, Fin1 (x i)) (ho : ∀ i, Fin1 (o i)) (hg : ∀ i, Fin1 (g i))
    (i : (⟨2, ![8192, 1024]⟩ : Shape).Idx) : Fin1 (Norm.residArr x o g i) :=
  (Fin1.alpha.mul (hx _)).add ((hg _).mul (ho _))

end Cert.Norm

end
-- ==== Proof.Mid.Kernel.lean ====
/-
  The gradient of the first residual sum with its norm and of the second sub-layer's norm: a block of rows at every point,
  and five column sums accumulated over the points.
-/
module

public import proofs.«01_k».proof.Proof.Norm.Affine
public import proofs.«01_k».proof.Proof.Gen.Kernel29Ideal.Value
public import Idealize.ShloMosaic.Lib.Pipeline.ValueKit
public import Idealize.ShloMosaic.Lib.Pointwise

@[expose] public section

set_option maxRecDepth 16384

noncomputable section

namespace Cert.Kernel29Ideal.Mid

open Cert.Kernel29Ideal Cert.Kernel29Ideal.Gen Idealize.ShloMosaic Idealize.ShloMosaic.TcCoe Idealize.SL.Sem Cert.Product Cert.Norm

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![t.val, 0] ∧
    win0_3.index t = ![t.val, 0] ∧
    win0_4.index t = ![t.val, 0] ∧
    win0_5.index t = ![0, 0] ∧
    win0_6.index t = ![0, 0] ∧
    win0_7.index t = ![0, 0] ∧
    win0_8.index t = ![t.val, 0] ∧
    win0_9.index t = ![t.val, 0] ∧
    win0_10.index t = ![0, 0] ∧
    win0_11.index t = ![0, 0] ∧
    win0_12.index t = ![0, 0] ∧
    win0_13.index t = ![0, 0] ∧
    win0_14.index t = ![0, 0] :=
  (by decide +kernel : ∀ t : Fin grid0.N, _)

/-- The row of the whole arrays that row `r` of the blocks at point `t` is. -/
def rowOf (t : Fin cfg0.N) (r : Fin 512) : Fin 8192 :=
  ⟨t.val * 512 + r.val, by have := r.isLt; have := t.isLt; have h : cfg0.N = 16 := N_0; omega⟩

/-- A row of the block, its mean subtracted. -/
theorem dist (v : Mat 512 1024) (r : Fin 512) (k : Fin 1024) : k0_pay10 (F := Ideal) v (ix2 r k) = row v r k - mean 0x44800000#32 (row v r) := by
  unfold k0_pay10
  pointwise [mean, row]

/-- The inverse deviation of a row of the block. -/
theorem dev (v : Mat 512 1024) (r : Fin 512) (z : Fin 1) : k0_pay11 (F := Ideal) v (ix2 r z) = rstd 0x44800000#32 (row v r) := by
  unfold k0_pay11
  pointwise [dist]
  rfl

/-- A row of the block, normalised. -/
theorem normed (v : Mat 512 1024) (r : Fin 512) (k : Fin 1024) : k0_pay12 (F := Ideal) v (ix2 r k) = hat 0x44800000#32 (row v r) k := by
  unfold k0_pay12
  pointwise [dist, dev]
  rfl

/-- A row of the block's gradient of the second norm. -/
theorem grad (v3 v5 v35 : Mat 512 1024) (v38 : Mat 1 1024) (r : Fin 512) (k : Fin 1024) :
    k0_pay15 (F := Ideal) (k0_pay9 v3) (k0_pay11 v5) (k0_pay12 v5) v35 v38 (ix2 r k) =
      modBack (row v3 r) (row v5 r) (row v35 r) v38 k := by
  unfold k0_pay15 k0_pay9
  pointwise [normed, dev]
  rfl

/-- A row of the residual sum, its mean subtracted. -/
theorem rdist (v60 v62 : Mat 512 1024) (v65 : Mat 1 1024) (r : Fin 512) (k : Fin 1024) :
    k0_pay17 (F := Ideal) v60 v62 v65 (ix2 r k) =
      resid (row v62 r) (row v60 r) v65 k - mean 0x44800000#32 (resid (row v62 r) (row v60 r) v65) := by
  unfold k0_pay17 k0_pay16
  pointwise [mean, resid, row]

/-- Its square. -/
theorem rsq (v60 v62 : Mat 512 1024) (v65 : Mat 1 1024) (r : Fin 512) (k : Fin 1024) :
    k0_pay18 (F := Ideal) v60 v62 v65 (ix2 r k) =
      ((resid (row v62 r) (row v60 r) v65) k - mean 0x44800000#32 (resid (row v62 r) (row v60 r) v65)) * ((resid (row v62 r) (row v60 r) v65) k - mean 0x44800000#32 (resid (row v62 r) (row v60 r) v65)) := by
  unfold k0_pay18
  pointwise [rdist]

/-- The inverse deviation of a row of the residual sum. -/
theorem rdev (v60 v62 : Mat 512 1024) (v65 : Mat 1 1024) (r : Fin 512) (z : Fin 1) :
    k0_pay19 (F := Ideal) (k0_pay18 v60 v62 v65) (ix2 r z) =
      rstd 0x44800000#32 (resid (row v62 r) (row v60 r) v65) := by
  unfold k0_pay19
  pointwise [rsq]
  rfl

/-- A row of the residual sum, normalised. -/
theorem rnormed (v60 v62 : Mat 512 1024) (v65 : Mat 1 1024) (r : Fin 512) (k : Fin 1024) :
    k0_pay20 (F := Ideal) (k0_pay17 v60 v62 v65) (k0_pay18 v60 v62 v65) (ix2 r k) =
      hat 0x44800000#32 (resid (row v62 r) (row v60 r) v65) k := by
  unfold k0_pay20
  pointwise [rdist, rdev]
  rfl

/-- A row of the block's gradient of the residual sum. -/
theorem rgrad (v59 : Mat 512 1024) (v98 : Mat 1 1024) (v60 v62 : Mat 512 1024) (v65 : Mat 1 1024) (r : Fin 512) (k : Fin 1024) :
    k0_pay1 (F := Ideal) (k0_pay19 (k0_pay18 v60 v62 v65)) (k0_pay23 v59 (k0_pay17 v60 v62 v65) (k0_pay18 v60 v62 v65) v98) (ix2 r k) =
      back 0x44800000#32 (affCot (row v59 r) v98) (resid (row v62 r) (row v60 r) v65) k := by
  unfold k0_pay1 k0_pay23
  pointwise [rnormed, rdev]
  rfl

/-- The sum over one block's rows. -/
def blkSum (G : Mat 8192 1024) (t : Fin cfg0.N) (j : S1x1024.Idx) : EReal := ∑ r : Fin 512, G (ix2 (rowOf t r) (j 1))

/-- The blocks' sums add up to the sum of the whole column. -/
theorem sum_blkSum (G : Mat 8192 1024) (j : S1x1024.Idx) : (0 : EReal) + ∑ t, blkSum G t j = colSum G j := by
  rw [zero_add]
  have h : cfg0.N = 16 := N_0
  exact Fin.sum_mul_add_congr (F := fun t r => G (ix2 (rowOf t r) (j 1))) (f := fun l => G (ix2 l (j 1)))
    (fun s k hl => rfl) (by rw [h])

/-- The block's gradient of the second norm, in the whole array. -/
theorem atD (c : Dev nD) (t : Fin cfg0.N) (r : Fin 512) (k : Fin 1024) :
    k0_pay15 (F := Ideal) (k0_pay9 (iblk m c 0 t)) (k0_pay11 (iblk m c 1 t)) (k0_pay12 (iblk m c 1 t)) (iblk m c 2 t) (iblk m c 6 t) (ix2 r k) =
      (modDx (m ((c : Thread nD τ).loc main_arg0)) (m ((c : Thread nD τ).loc main_arg1)) (m ((c : Thread nD τ).loc main_arg2)) (m ((c : Thread nD τ).loc main_arg6))) (ix2 (rowOf t r) k) := by
  refine (grad _ _ _ _ _ _).trans ?_
  pointwise [modDx]
  refine modBack_congr (fun k => ?_) (fun k => ?_) (fun k => ?_) (fun k => ?_) rfl <;> (try simp only [row]) <;> blk_point [iblk, V, idx t, rowOf]

/-- The block's residual sum, in the whole array. -/
theorem atR (c : Dev nD) (t : Fin cfg0.N) (r : Fin 512) (k : Fin 1024) :
    resid (row (iblk m c 3 t) r) (row (iblk m c 4 t) r) (iblk m c 5 t) k =
      (residArr (m ((c : Thread nD τ).loc main_arg3)) (m ((c : Thread nD τ).loc main_arg4)) (m ((c : Thread nD τ).loc main_arg5))) (ix2 (rowOf t r) k) := by
  pointwise [residArr]
  refine resid_congr (fun k => ?_) (fun k => ?_) (fun k => ?_) rfl <;> (try simp only [row]) <;> blk_point [iblk, V, idx t, rowOf]

/-- The block's residual sum normalised, in the whole array. -/
theorem atH (c : Dev nD) (t : Fin cfg0.N) (r : Fin 512) (k : Fin 1024) :
    k0_pay20 (F := Ideal) (k0_pay17 (iblk m c 4 t) (iblk m c 3 t) (iblk m c 5 t)) (k0_pay18 (iblk m c 4 t) (iblk m c 3 t) (iblk m c 5 t)) (ix2 r k) =
      hat 0x44800000#32 (row (residArr (m ((c : Thread nD τ).loc main_arg3)) (m ((c : Thread nD τ).loc main_arg4)) (m ((c : Thread nD τ).loc main_arg5))) (rowOf t r)) k := by
  exact (rnormed _ _ _ _ _).trans (hat_congr (fun k => atR m c t r k) rfl)

/-- The block's gradient of the residual sum, in the whole array. -/
theorem atE (c : Dev nD) (t : Fin cfg0.N) (r : Fin 512) (k : Fin 1024) :
    k0_pay1 (F := Ideal) (k0_pay19 (k0_pay18 (iblk m c 4 t) (iblk m c 3 t) (iblk m c 5 t))) (k0_pay23 (k0_pay15 (k0_pay9 (iblk m c 0 t)) (k0_pay11 (iblk m c 1 t)) (k0_pay12 (iblk m c 1 t)) (iblk m c 2 t) (iblk m c 6 t)) (k0_pay17 (iblk m c 4 t) (iblk m c 3 t) (iblk m c 5 t)) (k0_pay18 (iblk m c 4 t) (iblk m c 3 t) (iblk m c 5 t)) (iblk m c 7 t)) (ix2 r k) =
      (affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))) (ix2 (rowOf t r) k) := by
  refine (rgrad _ _ _ _ _ _ _).trans ?_
  pointwise [affDx]
  refine back_congr (fun k => atD m c t r k) (fun k => atR m c t r k) (fun k => ?_) rfl
  (try simp only [row]) <;> blk_point [iblk, V, idx t, rowOf]

/-- The first result array holds the gradient of the residual sum. -/
theorem out8 (c : Dev nD) : (dats m 0 c).arrAt 8 cfg0.N =
    affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7)) := by
  refine (dats m 0 c).arrAt_eq_of_covers 8 _ (by decide +kernel) fun t hf y => ?_
  blk_simp
  rw [after0_8]
  idx_vars y
  have e : (win0_8.blk t).view.emb (ix2 y0 y1) = ix2 (rowOf t y0) y1 := by blk_ext [idx t, rowOf]
  rw [e]
  by_cases h : t.val % 16 = 0
  · rw [outsAt0_A m c t h]
    frame_out
    exact atE m c t y0 y1
  · rw [outsAt0_B m c t h]
    frame_out
    exact atE m c t y0 y1

/-- The second holds that of the branch. -/
theorem out9 (c : Dev nD) : (dats m 0 c).arrAt 9 cfg0.N =
    gated (m ((c : Thread nD τ).loc main_arg5)) (affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))) := by
  refine (dats m 0 c).arrAt_eq_of_covers 9 _ (by decide +kernel) fun t hf y => ?_
  blk_simp
  rw [after0_9]
  idx_vars y
  have e : (win0_9.blk t).view.emb (ix2 y0 y1) = ix2 (rowOf t y0) y1 := by blk_ext [idx t, rowOf]
  rw [e]
  by_cases h : t.val % 16 = 0
  · rw [outsAt0_A m c t h]
    frame_out
    unfold k0_pay3
    pointwise []
    exact congrArg₂ (fun a b : EReal => a * b) (by (try simp only [row]) <;> blk_point [iblk, V, idx t, rowOf]) (atE m c t y0 y1)
  · rw [outsAt0_B m c t h]
    frame_out
    unfold k0_pay3
    pointwise []
    exact congrArg₂ (fun a b : EReal => a * b) (by (try simp only [row]) <;> blk_point [iblk, V, idx t, rowOf]) (atE m c t y0 y1)

/-- The gradient of the second norm's scale. -/
theorem out10 (c : Dev nD) : (dats m 0 c).arrAt 10 cfg0.N =
    colSum (byHat 0x44800000#32 (m ((c : Thread nD τ).loc main_arg0)) (m ((c : Thread nD τ).loc main_arg1))) := by
  refine (dats m 0 c).arrAt_eq_of_after_last 10 t0_15 (by decide +kernel) _ fun j => ?_
  blk_simp
  rw [after0_10]
  refine (Pipeline.eq_sum_fin_of_reset_step_apply_last (fun n h => (outsAt0 m c n h).2.2.1) 16 (fun _ => (0 : EReal))
    (blkSum (byHat 0x44800000#32 (m ((c : Thread nD τ).loc main_arg0)) (m ((c : Thread nD τ).loc main_arg1))))
    (fun t h j => ?_) (fun t h j => ?_) N_0.le t0_15 rfl _).trans (sum_blkSum _ _)
  · rw [outsAt0_A m c t h]
    idx_vars j
    frame_out
    unfold k0_pay13 k0_pay9 k0_pay4
    pointwise [normed]
    refine Finset.sum_congr rfl fun x _ => ?_
    refine congrArg₂ (fun a b : EReal => a * b) ?_ (hat_congr (fun k => ?_) ?_) <;> (try simp only [row]) <;> first | blk_point [iblk, V, idx t, rowOf] | rfl
  · rw [outsAt0_B m c t h]
    idx_vars j
    frame_out
    unfold k0_pay13 k0_pay9
    pointwise [normed]
    refine congrArg (_ + ·) (Finset.sum_congr rfl fun x _ => ?_)
    refine congrArg₂ (fun a b : EReal => a * b) ?_ (hat_congr (fun k => ?_) ?_) <;> (try simp only [row]) <;> first | blk_point [iblk, V, idx t, rowOf] | rfl

/-- The gradient of the second norm's shift. -/
theorem out11 (c : Dev nD) : (dats m 0 c).arrAt 11 cfg0.N =
    colSum ((m ((c : Thread nD τ).loc main_arg0))) := by
  refine (dats m 0 c).arrAt_eq_of_after_last 11 t0_15 (by decide +kernel) _ fun j => ?_
  blk_simp
  rw [after0_11]
  refine (Pipeline.eq_sum_fin_of_reset_step_apply_last (fun n h => (outsAt0 m c n h).2.2.2.1) 16 (fun _ => (0 : EReal))
    (blkSum ((m ((c : Thread nD τ).loc main_arg0))))
    (fun t h j => ?_) (fun t h j => ?_) N_0.le t0_15 rfl _).trans (sum_blkSum _ _)
  · rw [outsAt0_A m c t h]
    idx_vars j
    frame_out
    unfold k0_pay14 k0_pay9 k0_pay5
    pointwise []
    refine Finset.sum_congr rfl fun x _ => ?_
    (try simp only [row]) <;> blk_point [iblk, V, idx t, rowOf]
  · rw [outsAt0_B m c t h]
    idx_vars j
    frame_out
    unfold k0_pay14 k0_pay9
    pointwise []
    refine congrArg (_ + ·) (Finset.sum_congr rfl fun x _ => ?_)
    (try simp only [row]) <;> blk_point [iblk, V, idx t, rowOf]

/-- The gradient of the first norm's scale. -/
theorem out12 (c : Dev nD) : (dats m 0 c).arrAt 12 cfg0.N =
    colSum (byHat 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5)))) := by
  refine (dats m 0 c).arrAt_eq_of_after_last 12 t0_15 (by decide +kernel) _ fun j => ?_
  blk_simp
  rw [after0_12]
  refine (Pipeline.eq_sum_fin_of_reset_step_apply_last (fun n h => (outsAt0 m c n h).2.2.2.2.1) 16 (fun _ => (0 : EReal))
    (blkSum (byHat 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5)))))
    (fun t h j => ?_) (fun t h j => ?_) N_0.le t0_15 rfl _).trans (sum_blkSum _ _)
  · rw [outsAt0_A m c t h]
    idx_vars j
    frame_out
    unfold k0_pay21 k0_pay6
    pointwise []
    refine Finset.sum_congr rfl fun x _ => ?_
    exact congrArg₂ (fun a b : EReal => a * b) (atD m c t x j1) (atH m c t x j1)
  · rw [outsAt0_B m c t h]
    idx_vars j
    frame_out
    unfold k0_pay21
    pointwise []
    refine congrArg (_ + ·) (Finset.sum_congr rfl fun x _ => ?_)
    exact congrArg₂ (fun a b : EReal => a * b) (atD m c t x j1) (atH m c t x j1)

/-- The gradient of the first norm's shift. -/
theorem out13 (c : Dev nD) : (dats m 0 c).arrAt 13 cfg0.N =
    colSum ((modDx (m ((c : Thread nD τ).loc main_arg0)) (m ((c : Thread nD τ).loc main_arg1)) (m ((c : Thread nD τ).loc main_arg2)) (m ((c : Thread nD τ).loc main_arg6)))) := by
  refine (dats m 0 c).arrAt_eq_of_after_last 13 t0_15 (by decide +kernel) _ fun j => ?_
  blk_simp
  rw [after0_13]
  refine (Pipeline.eq_sum_fin_of_reset_step_apply_last (fun n h => (outsAt0 m c n h).2.2.2.2.2.1) 16 (fun _ => (0 : EReal))
    (blkSum ((modDx (m ((c : Thread nD τ).loc main_arg0)) (m ((c : Thread nD τ).loc main_arg1)) (m ((c : Thread nD τ).loc main_arg2)) (m ((c : Thread nD τ).loc main_arg6)))))
    (fun t h j => ?_) (fun t h j => ?_) N_0.le t0_15 rfl _).trans (sum_blkSum _ _)
  · rw [outsAt0_A m c t h]
    idx_vars j
    frame_out
    unfold k0_pay22 k0_pay7
    pointwise []
    refine Finset.sum_congr rfl fun x _ => ?_
    exact atD m c t x j1
  · rw [outsAt0_B m c t h]
    idx_vars j
    frame_out
    unfold k0_pay22
    pointwise []
    refine congrArg (_ + ·) (Finset.sum_congr rfl fun x _ => ?_)
    exact atD m c t x j1

/-- The gradient of the gate. -/
theorem out14 (c : Dev nD) : (dats m 0 c).arrAt 14 cfg0.N =
    colSum (byEntry (affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))) (m ((c : Thread nD τ).loc main_arg4))) := by
  refine (dats m 0 c).arrAt_eq_of_after_last 14 t0_15 (by decide +kernel) _ fun j => ?_
  blk_simp
  rw [after0_14]
  refine (Pipeline.eq_sum_fin_of_reset_step_apply_last (fun n h => (outsAt0 m c n h).2.2.2.2.2.2) 16 (fun _ => (0 : EReal))
    (blkSum (byEntry (affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))) (m ((c : Thread nD τ).loc main_arg4))))
    (fun t h j => ?_) (fun t h j => ?_) N_0.le t0_15 rfl _).trans (sum_blkSum _ _)
  · rw [outsAt0_A m c t h]
    idx_vars j
    frame_out
    unfold k0_pay2 k0_pay16 k0_pay8
    pointwise []
    refine Finset.sum_congr rfl fun x _ => ?_
    exact congrArg₂ (fun a b : EReal => a * b) (atE m c t x j1) (by (try simp only [row]) <;> blk_point [iblk, V, idx t, rowOf])
  · rw [outsAt0_B m c t h]
    idx_vars j
    frame_out
    unfold k0_pay2 k0_pay16
    pointwise []
    refine congrArg (_ + ·) (Finset.sum_congr rfl fun x _ => ?_)
    exact congrArg₂ (fun a b : EReal => a * b) (atE m c t x j1) (by (try simp only [row]) <;> blk_point [iblk, V, idx t, rowOf])

/-- The whole program ends with the seven results holding the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))
      ∧ r.2.mem ((c : Thread nD τ).loc main_v0_1) =
        gated (m ((c : Thread nD τ).loc main_arg5)) (affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7)))
      ∧ r.2.mem ((c : Thread nD τ).loc main_v0_2) =
        colSum (byHat 0x44800000#32 (m ((c : Thread nD τ).loc main_arg0)) (m ((c : Thread nD τ).loc main_arg1)))
      ∧ r.2.mem ((c : Thread nD τ).loc main_v0_3) =
        colSum ((m ((c : Thread nD τ).loc main_arg0)))
      ∧ r.2.mem ((c : Thread nD τ).loc main_v0_4) =
        colSum (byHat 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))))
      ∧ r.2.mem ((c : Thread nD τ).loc main_v0_5) =
        colSum ((modDx (m ((c : Thread nD τ).loc main_arg0)) (m ((c : Thread nD τ).loc main_arg1)) (m ((c : Thread nD τ).loc main_arg2)) (m ((c : Thread nD τ).loc main_arg6))))
      ∧ r.2.mem ((c : Thread nD τ).loc main_v0_6) =
        colSum (byEntry (affDx 0x44800000#32 (modDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (out8 m c),
    (h c).2.1.trans (out9 m c),
    (h c).2.2.1.trans (out10 m c),
    (h c).2.2.2.1.trans (out11 m c),
    (h c).2.2.2.2.1.trans (out12 m c),
    (h c).2.2.2.2.2.1.trans (out13 m c),
    (h c).2.2.2.2.2.2.1.trans (out14 m c),
    (h c).2.2.2.2.2.2.2⟩) (Cert.Kernel29Ideal.Value.run_blocks m ρ)

end Cert.Kernel29Ideal.Mid
end
-- ==== Proof.Mid.Reference.lean ====
/-
  The reference of the gradient of the first residual sum with its norm and of the second sub-layer's norm.
-/
module

public import proofs.«01_k».proof.Proof.Norm.Affine
public import proofs.«01_k».proof.Proof.Gen.Reference29Ideal.Run
public import proofs.«01_k».proof.Proof.Gen.Reference29Ideal.Read
public import Idealize.ShloMosaic.Lib.Pipeline.ValueKit
public import Idealize.ShloMosaic.Lib.Pointwise

@[expose] public section

set_option maxRecDepth 16384

noncomputable section

namespace Cert.Reference29Ideal.Mid

open Cert.Reference29Ideal Cert.Reference29Ideal.Gen Cert.Reference29Ideal.Read Idealize.ShloMosaic Idealize.ShloMosaic.TcCoe Idealize.SL.Sem Cert.Product Cert.Norm

/-! How the reference's index maps read at a row and a column. -/

theorem ix_main_v4 (i0 : Fin 8192) (k : Fin 1024) : idx_main_v4 (ix1 i0) k = ix2 i0 k :=
  funext fun a => match a with
    | ⟨0, _⟩ => rfl
    | ⟨1, _⟩ => rfl

theorem ix_main_v5 (i0 : Fin 8192) (i1 : Fin 1) : idx_main_v5 (ix2 i0 i1) = ix1 i0 :=
  funext fun a => match a with
    | ⟨0, _⟩ => rfl

theorem ix_main_v8 (i0 : Fin 8192) (i1 : Fin 1024) : idx_main_v8 (ix2 i0 i1) = ix2 i0 0 :=
  funext fun a => match a with
    | ⟨0, _⟩ => rfl
    | ⟨1, _⟩ => rfl

theorem ix_main_v13 (i0 : Fin 8192) (k : Fin 1024) : idx_main_v13 (ix1 i0) k = ix2 i0 k :=
  funext fun a => match a with
    | ⟨0, _⟩ => rfl
    | ⟨1, _⟩ => rfl

theorem ix_main_v14 (i0 : Fin 8192) (i1 : Fin 1) : idx_main_v14 (ix2 i0 i1) = ix1 i0 :=
  funext fun a => match a with
    | ⟨0, _⟩ => rfl

theorem ix_main_v17 (i0 : Fin 8192) (i1 : Fin 1024) : idx_main_v17 (ix2 i0 i1) = ix2 i0 0 :=
  funext fun a => match a with
    | ⟨0, _⟩ => rfl
    | ⟨1, _⟩ => rfl

theorem ix_main_v25 (i0 : Fin 8192) (i1 : Fin 1024) : idx_main_v25 (ix2 i0 i1) = ix2 i0 0 :=
  funext fun a => match a with
    | ⟨0, _⟩ => rfl
    | ⟨1, _⟩ => rfl

theorem ix_main_v34 (i0 : Fin 1024) (k : Fin 8192) : idx_main_v34 (ix1 i0) k = ix2 k i0 :=
  funext fun a => match a with
    | ⟨0, _⟩ => rfl
    | ⟨1, _⟩ => rfl

theorem ix_main_v35 (i0 : Fin 1) (i1 : Fin 1024) : idx_main_v35 (ix2 i0 i1) = ix1 i1 :=
  funext fun a => match a with
    | ⟨0, _⟩ => Fin.ext (show i0.val * 1024 + i1.val = i1.val by omega)

theorem ix_main_v37 (i0 : Fin 1024) (k : Fin 8192) : idx_main_v37 (ix1 i0) k = ix2 k i0 :=
  funext fun a => match a with
    | ⟨0, _⟩ => rfl
    | ⟨1, _⟩ => rfl

theorem ix_main_v38 (i0 : Fin 1) (i1 : Fin 1024) : idx_main_v38 (ix2 i0 i1) = ix1 i1 :=
  funext fun a => match a with
    | ⟨0, _⟩ => Fin.ext (show i0.val * 1024 + i1.val = i1.val by omega)

theorem ix_main_v39 (i0 : Fin 8192) (i1 : Fin 1024) : idx_main_v39 (ix2 i0 i1) = ix2 0 i1 :=
  funext fun a => match a with
    | ⟨0, _⟩ => rfl
    | ⟨1, _⟩ => rfl

theorem ix_main_v42 (i0 : Fin 8192) (k : Fin 1024) : idx_main_v42 (ix1 i0) k = ix2 i0 k :=
  funext fun a => match a with
    | ⟨0, _⟩ => rfl
    | ⟨1, _⟩ => rfl

theorem ix_main_v43 (i0 : Fin 8192) (i1 : Fin 1) : idx_main_v43 (ix2 i0 i1) = ix1 i0 :=
  funext fun a => match a with
    | ⟨0, _⟩ => Fin.ext (show i0.val * 1 + i1.val = i0.val by omega)

theorem ix_main_v44 (i0 : Fin 8192) (i1 : Fin 1024) : idx_main_v44 (ix2 i0 i1) = ix2 i0 0 :=
  funext fun a => match a with
    | ⟨0, _⟩ => rfl
    | ⟨1, _⟩ => rfl

theorem ix_main_v48 (i0 : Fin 8192) (k : Fin 1024) : idx_main_v48 (ix1 i0) k = ix2 i0 k :=
  funext fun a => match a with
    | ⟨0, _⟩ => rfl
    | ⟨1, _⟩ => rfl

theorem ix_main_v49 (i0 : Fin 8192) (i1 : Fin 1) : idx_main_v49 (ix2 i0 i1) = ix1 i0 :=
  funext fun a => match a with
    | ⟨0, _⟩ => Fin.ext (show i0.val * 1 + i1.val = i0.val by omega)

theorem ix_main_v52 (i0 : Fin 8192) (k : Fin 1) : idx_main_v52 (ix1 i0) k = ix2 i0 k :=
  funext fun a => match a with
    | ⟨0, _⟩ => rfl
    | ⟨1, _⟩ => rfl

theorem ix_main_v53 (i0 : Fin 8192) (i1 : Fin 1024) : idx_main_v53 (ix2 i0 i1) = ix1 i0 :=
  funext fun a => match a with
    | ⟨0, _⟩ => rfl

theorem ix_main_v56 (i0 : Fin 8192) (k : Fin 1024) : idx_main_v56 (ix1 i0) k = ix2 i0 k :=
  funext fun a => match a with
    | ⟨0, _⟩ => rfl
    | ⟨1, _⟩ => rfl

theorem ix_main_v57 (i0 : Fin 8192) (i1 : Fin 1) : idx_main_v57 (ix2 i0 i1) = ix1 i0 :=
  funext fun a => match a with
    | ⟨0, _⟩ => Fin.ext (show i0.val * 1 + i1.val = i0.val by omega)

theorem ix_main_v62 (i0 : Fin 8192) (k : Fin 1) : idx_main_v62 (ix1 i0) k = ix2 i0 k :=
  funext fun a => match a with
    | ⟨0, _⟩ => rfl
    | ⟨1, _⟩ => rfl

theorem ix_main_v63 (i0 : Fin 8192) (i1 : Fin 1024) : idx_main_v63 (ix2 i0 i1) = ix1 i0 :=
  funext fun a => match a with
    | ⟨0, _⟩ => rfl

theorem ix_main_v70 (i0 : Fin 8192) (i1 : Fin 1024) : idx_main_v70 (ix2 i0 i1) = ix2 0 i1 :=
  funext fun a => match a with
    | ⟨0, _⟩ => rfl
    | ⟨1, _⟩ => rfl

theorem ix_main_v73 (i0 : Fin 8192) (k : Fin 1024) : idx_main_v73 (ix1 i0) k = ix2 i0 k :=
  funext fun a => match a with
    | ⟨0, _⟩ => rfl
    | ⟨1, _⟩ => rfl

theorem ix_main_v74 (i0 : Fin 8192) (i1 : Fin 1) : idx_main_v74 (ix2 i0 i1) = ix1 i0 :=
  funext fun a => match a with
    | ⟨0, _⟩ => rfl

theorem ix_main_v77 (i0 : Fin 8192) (i1 : Fin 1024) : idx_main_v77 (ix2 i0 i1) = ix2 i0 0 :=
  funext fun a => match a with
    | ⟨0, _⟩ => rfl
    | ⟨1, _⟩ => rfl

theorem ix_main_v82 (i0 : Fin 8192) (k : Fin 1024) : idx_main_v82 (ix1 i0) k = ix2 i0 k :=
  funext fun a => match a with
    | ⟨0, _⟩ => rfl
    | ⟨1, _⟩ => rfl

theorem ix_main_v83 (i0 : Fin 8192) (i1 : Fin 1) : idx_main_v83 (ix2 i0 i1) = ix1 i0 :=
  funext fun a => match a with
    | ⟨0, _⟩ => rfl

theorem ix_main_v86 (i0 : Fin 8192) (i1 : Fin 1024) : idx_main_v86 (ix2 i0 i1) = ix2 i0 0 :=
  funext fun a => match a with
    | ⟨0, _⟩ => rfl
    | ⟨1, _⟩ => rfl

theorem ix_main_v94 (i0 : Fin 8192) (i1 : Fin 1024) : idx_main_v94 (ix2 i0 i1) = ix2 i0 0 :=
  funext fun a => match a with
    | ⟨0, _⟩ => rfl
    | ⟨1, _⟩ => rfl

theorem ix_main_v100 (i0 : Fin 1024) (k : Fin 8192) : idx_main_v100 (ix1 i0) k = ix2 k i0 :=
  funext fun a => match a with
    | ⟨0, _⟩ => rfl
    | ⟨1, _⟩ => rfl

theorem ix_main_v101 (i0 : Fin 1) (i1 : Fin 1024) : idx_main_v101 (ix2 i0 i1) = ix1 i1 :=
  funext fun a => match a with
    | ⟨0, _⟩ => Fin.ext (show i0.val * 1024 + i1.val = i1.val by omega)

theorem ix_main_v103 (i0 : Fin 1024) (k : Fin 8192) : idx_main_v103 (ix1 i0) k = ix2 k i0 :=
  funext fun a => match a with
    | ⟨0, _⟩ => rfl
    | ⟨1, _⟩ => rfl

theorem ix_main_v104 (i0 : Fin 1) (i1 : Fin 1024) : idx_main_v104 (ix2 i0 i1) = ix1 i1 :=
  funext fun a => match a with
    | ⟨0, _⟩ => Fin.ext (show i0.val * 1024 + i1.val = i1.val by omega)

theorem ix_main_v105 (i0 : Fin 8192) (i1 : Fin 1024) : idx_main_v105 (ix2 i0 i1) = ix2 0 i1 :=
  funext fun a => match a with
    | ⟨0, _⟩ => rfl
    | ⟨1, _⟩ => rfl

theorem ix_main_v108 (i0 : Fin 8192) (k : Fin 1024) : idx_main_v108 (ix1 i0) k = ix2 i0 k :=
  funext fun a => match a with
    | ⟨0, _⟩ => rfl
    | ⟨1, _⟩ => rfl

theorem ix_main_v109 (i0 : Fin 8192) (i1 : Fin 1) : idx_main_v109 (ix2 i0 i1) = ix1 i0 :=
  funext fun a => match a with
    | ⟨0, _⟩ => Fin.ext (show i0.val * 1 + i1.val = i0.val by omega)

theorem ix_main_v110 (i0 : Fin 8192) (i1 : Fin 1024) : idx_main_v110 (ix2 i0 i1) = ix2 i0 0 :=
  funext fun a => match a with
    | ⟨0, _⟩ => rfl
    | ⟨1, _⟩ => rfl

theorem ix_main_v114 (i0 : Fin 8192) (k : Fin 1024) : idx_main_v114 (ix1 i0) k = ix2 i0 k :=
  funext fun a => match a with
    | ⟨0, _⟩ => rfl
    | ⟨1, _⟩ => rfl

theorem ix_main_v115 (i0 : Fin 8192) (i1 : Fin 1) : idx_main_v115 (ix2 i0 i1) = ix1 i0 :=
  funext fun a => match a with
    | ⟨0, _⟩ => Fin.ext (show i0.val * 1 + i1.val = i0.val by omega)

theorem ix_main_v118 (i0 : Fin 8192) (k : Fin 1) : idx_main_v118 (ix1 i0) k = ix2 i0 k :=
  funext fun a => match a with
    | ⟨0, _⟩ => rfl
    | ⟨1, _⟩ => rfl

theorem ix_main_v119 (i0 : Fin 8192) (i1 : Fin 1024) : idx_main_v119 (ix2 i0 i1) = ix1 i0 :=
  funext fun a => match a with
    | ⟨0, _⟩ => rfl

theorem ix_main_v122 (i0 : Fin 8192) (k : Fin 1024) : idx_main_v122 (ix1 i0) k = ix2 i0 k :=
  funext fun a => match a with
    | ⟨0, _⟩ => rfl
    | ⟨1, _⟩ => rfl

theorem ix_main_v123 (i0 : Fin 8192) (i1 : Fin 1) : idx_main_v123 (ix2 i0 i1) = ix1 i0 :=
  funext fun a => match a with
    | ⟨0, _⟩ => Fin.ext (show i0.val * 1 + i1.val = i0.val by omega)

theorem ix_main_v128 (i0 : Fin 8192) (k : Fin 1) : idx_main_v128 (ix1 i0) k = ix2 i0 k :=
  funext fun a => match a with
    | ⟨0, _⟩ => rfl
    | ⟨1, _⟩ => rfl

theorem ix_main_v129 (i0 : Fin 8192) (i1 : Fin 1024) : idx_main_v129 (ix2 i0 i1) = ix1 i0 :=
  funext fun a => match a with
    | ⟨0, _⟩ => rfl

theorem ix_main_v133 (i0 : Fin 8192) (i1 : Fin 1024) : idx_main_v133 (ix2 i0 i1) = ix2 0 i1 :=
  funext fun a => match a with
    | ⟨0, _⟩ => rfl
    | ⟨1, _⟩ => rfl

theorem ix_main_v136 (i0 : Fin 1024) (k : Fin 8192) : idx_main_v136 (ix1 i0) k = ix2 k i0 :=
  funext fun a => match a with
    | ⟨0, _⟩ => rfl
    | ⟨1, _⟩ => rfl

theorem ix_main_v137 (i0 : Fin 1) (i1 : Fin 1024) : idx_main_v137 (ix2 i0 i1) = ix1 i1 :=
  funext fun a => match a with
    | ⟨0, _⟩ => Fin.ext (show i0.val * 1024 + i1.val = i1.val by omega)

/-- The distances from the mean of the second norm's argument. -/
theorem adist (x1 : Mat 8192 1024) (i0 : Fin 8192) (i1 : Fin 1024) :
    val_main_v9 (F := Ideal) x1 (ix2 i0 i1) = row x1 i0 i1 - mean 0x44800000#32 (row x1 i0) := by
  simp only [val_main_v9_apply, val_main_v8_apply, val_main_v7_apply, val_main_v5_apply, val_main_v4_apply, val_main_cst_1_apply,
    val_main_v6_apply, val_main_cst_2_apply, ix_main_v5, ix_main_v8, ix_main_v4]
  pointwise [mean, row]
  try simp only [Fin.sum_univ_one]
  try rfl

/-- The same, written a second time. -/
theorem adist2 (x1 : Mat 8192 1024) (i0 : Fin 8192) (i1 : Fin 1024) :
    val_main_v18 (F := Ideal) x1 (ix2 i0 i1) = row x1 i0 i1 - mean 0x44800000#32 (row x1 i0) := by
  simp only [val_main_v18_apply, val_main_v17_apply, val_main_v7_apply, val_main_v5_apply, val_main_v4_apply,
    val_main_cst_1_apply, val_main_v6_apply, val_main_cst_2_apply, ix_main_v17, ix_main_v5, ix_main_v4]
  pointwise [mean, row]
  try simp only [Fin.sum_univ_one]
  try rfl

/-- The variance and the small number. -/
theorem avard (x1 : Mat 8192 1024) (i0 : Fin 8192) (z : Fin 1) :
    val_main_v20 (F := Ideal) x1 (ix2 i0 z) = var 0x44800000#32 (row x1 i0) + lit 0x3727C5AC#32 := by
  simp only [val_main_v20_apply, val_main_v16_apply, val_main_v14_apply, val_main_v13_apply, val_main_v10_apply,
    val_main_cst_4_apply, val_main_v15_apply, val_main_cst_5_apply, val_main_v19_apply, val_main_cst_6_apply,
    ix_main_v13, ix_main_v14, adist]
  pointwise []
  try simp only [Fin.sum_univ_one]
  try rfl

/-- The inverse deviation. -/
theorem adev (x1 : Mat 8192 1024) (i0 : Fin 8192) (z : Fin 1) :
    val_main_v21 (F := Ideal) x1 (ix2 i0 z) = rstd 0x44800000#32 (row x1 i0) := by
  simp only [val_main_v21_apply, avard]
  pointwise []
  try simp only [Fin.sum_univ_one]
  try rfl

/-- The cotangent of the normalised array. -/
theorem acot (x0 : Mat 8192 1024) (x6 : Mat 1 1024) (i0 : Fin 8192) (i1 : Fin 1024) :
    val_main_v40 (F := Ideal) x0 x6 (ix2 i0 i1) = modCot (row x0 i0) x6 i1 := by
  simp only [val_main_v40_apply, val_main_v33_apply, val_main_v39_apply, val_main_v28_apply, val_main_v27_apply,
    val_main_cst_8_apply, ix_main_v39]
  pointwise [modCot, row]
  try simp only [Fin.sum_univ_one]
  try rfl

/-- The gradient of the variance's mean. -/
theorem apart (x0 : Mat 8192 1024) (x1 : Mat 8192 1024) (x6 : Mat 1 1024) (i0 : Fin 8192) :
    val_main_v52 (F := Ideal) x0 x1 x6 (ix1 i0) = Ideal.div ((∑ j, (row x1 i0 j - mean 0x44800000#32 (row x1 i0)) * modCot (row x0 i0) x6 j) *
      (lit 0xBF000000#32 * Ideal.div (rstd 0x44800000#32 (row x1 i0)) (var 0x44800000#32 (row x1 i0) + lit 0x3727C5AC#32))) (lit 0x44800000#32) := by
  simp only [val_main_v52_apply, val_main_v51_apply, val_main_v46_apply, val_main_v43_apply, val_main_v42_apply,
    val_main_v41_apply, val_main_cst_11_apply, val_main_v24_apply, val_main_v23_apply, val_main_cst_7_apply,
    val_main_v22_apply, val_main_v50_apply, val_main_cst_13_apply, val_main_cst_14_apply, ix_main_v52, ix_main_v42,
    ix_main_v43, adist, adist2, avard, adev, acot]
  pointwise []
  try simp only [Fin.sum_univ_one]
  try rfl

/-- The gradient of the array. -/
theorem aback (x0 : Mat 8192 1024) (x1 : Mat 8192 1024) (x6 : Mat 1 1024) (i0 : Fin 8192) (i1 : Fin 1024) :
    val_main_v64 (F := Ideal) x0 x1 x6 (ix2 i0 i1) = autoBack 0x44800000#32 (modCot (row x0 i0) x6) (row x1 i0) i1 := by
  simp only [val_main_v64_apply, val_main_v58_apply, val_main_v45_apply, val_main_v44_apply, val_main_v54_apply,
    val_main_v53_apply, val_main_v12_apply, val_main_v11_apply, val_main_cst_3_apply, val_main_v63_apply,
    val_main_v62_apply, val_main_v61_apply, val_main_v59_apply, val_main_v49_apply, val_main_v48_apply,
    val_main_v47_apply, val_main_cst_12_apply, val_main_v57_apply, val_main_v56_apply, val_main_v55_apply,
    val_main_cst_15_apply, val_main_v60_apply, val_main_cst_16_apply, val_main_cst_17_apply, ix_main_v63, ix_main_v48,
    ix_main_v49, ix_main_v57, ix_main_v53, ix_main_v62, ix_main_v44, ix_main_v56, adist, adist2, avard, adev, acot,
    apart]
  pointwise []
  try simp only [Fin.sum_univ_one]
  try rfl

/-- The gradient of the second norm's argument and of the residual. -/
theorem first (x0 : Mat 8192 1024) (x1 : Mat 8192 1024) (x2 : Mat 8192 1024) (x6 : Mat 1 1024) (i0 : Fin 8192) (i1 : Fin 1024) :
    val_main_v67 (F := Ideal) x0 x1 x2 x6 (ix2 i0 i1) = autoModDx x0 x1 x2 x6 (ix2 i0 i1) := by
  simp only [val_main_v67_apply, val_main_v66_apply, val_main_v65_apply, val_main_cst_18_apply, aback]
  pointwise []
  try simp only [Fin.sum_univ_one]
  try rfl

/-- The residual sum. -/
theorem sum (x3 : Mat 8192 1024) (x4 : Mat 8192 1024) (x5 : Mat 1 1024) (i0 : Fin 8192) (i1 : Fin 1024) :
    val_main_v72 (F := Ideal) x3 x4 x5 (ix2 i0 i1) = residArr x3 x4 x5 (ix2 i0 i1) := by
  simp only [val_main_v72_apply, val_main_v69_apply, val_main_v68_apply, val_main_cst_19_apply, val_main_v71_apply,
    val_main_v70_apply, val_main_v0_apply, ix_main_v70]
  pointwise [residArr, resid, row]
  try simp only [Fin.sum_univ_one]
  try rfl

/-- The distances from the mean of the residual sum. -/
theorem bdist (x3 : Mat 8192 1024) (x4 : Mat 8192 1024) (x5 : Mat 1 1024) (i0 : Fin 8192) (i1 : Fin 1024) :
    val_main_v78 (F := Ideal) x3 x4 x5 (ix2 i0 i1) = row (residArr x3 x4 x5) i0 i1 - mean 0x44800000#32 (row (residArr x3 x4 x5) i0) := by
  simp only [val_main_v78_apply, val_main_v77_apply, val_main_v76_apply, val_main_v74_apply, val_main_v73_apply,
    val_main_cst_20_apply, val_main_v75_apply, val_main_cst_21_apply, ix_main_v73, ix_main_v74, ix_main_v77, sum]
  pointwise [mean, row]
  try simp only [Fin.sum_univ_one]
  try rfl

/-- The same, written a second time. -/
theorem bdist2 (x3 : Mat 8192 1024) (x4 : Mat 8192 1024) (x5 : Mat 1 1024) (i0 : Fin 8192) (i1 : Fin 1024) :
    val_main_v87 (F := Ideal) x3 x4 x5 (ix2 i0 i1) = row (residArr x3 x4 x5) i0 i1 - mean 0x44800000#32 (row (residArr x3 x4 x5) i0) := by
  simp only [val_main_v87_apply, val_main_v86_apply, val_main_v76_apply, val_main_v74_apply, val_main_v73_apply,
    val_main_cst_20_apply, val_main_v75_apply, val_main_cst_21_apply, ix_main_v73, ix_main_v86, ix_main_v74, sum]
  pointwise [mean, row]
  try simp only [Fin.sum_univ_one]
  try rfl

/-- The variance and the small number. -/
theorem bvard (x3 : Mat 8192 1024) (x4 : Mat 8192 1024) (x5 : Mat 1 1024) (i0 : Fin 8192) (z : Fin 1) :
    val_main_v89 (F := Ideal) x3 x4 x5 (ix2 i0 z) = var 0x44800000#32 (row (residArr x3 x4 x5) i0) + lit 0x3727C5AC#32 := by
  simp only [val_main_v89_apply, val_main_v85_apply, val_main_v83_apply, val_main_v82_apply, val_main_v79_apply,
    val_main_cst_23_apply, val_main_v84_apply, val_main_cst_24_apply, val_main_v88_apply, val_main_cst_25_apply,
    ix_main_v83, ix_main_v82, sum, bdist]
  pointwise []
  try simp only [Fin.sum_univ_one]
  try rfl

/-- The inverse deviation. -/
theorem bdev (x3 : Mat 8192 1024) (x4 : Mat 8192 1024) (x5 : Mat 1 1024) (i0 : Fin 8192) (z : Fin 1) :
    val_main_v90 (F := Ideal) x3 x4 x5 (ix2 i0 z) = rstd 0x44800000#32 (row (residArr x3 x4 x5) i0) := by
  simp only [val_main_v90_apply, sum, bvard]
  pointwise []
  try simp only [Fin.sum_univ_one]
  try rfl

/-- The cotangent of the normalised array. -/
theorem bcot (x0 : Mat 8192 1024) (x1 : Mat 8192 1024) (x2 : Mat 8192 1024) (x6 : Mat 1 1024) (x7 : Mat 1 1024) (i0 : Fin 8192) (i1 : Fin 1024) :
    val_main_v106 (F := Ideal) x0 x1 x2 x6 x7 (ix2 i0 i1) = affCot (row (autoModDx x0 x1 x2 x6) i0) x7 i1 := by
  simp only [val_main_v106_apply, val_main_v105_apply, ix_main_v105, first, sum]
  pointwise [affCot, row]
  try simp only [Fin.sum_univ_one]
  try rfl

/-- The gradient of the variance's mean. -/
theorem bpart (x0 : Mat 8192 1024) (x1 : Mat 8192 1024) (x2 : Mat 8192 1024) (x3 : Mat 8192 1024) (x4 : Mat 8192 1024) (x5 : Mat 1 1024) (x6 : Mat 1 1024) (x7 : Mat 1 1024) (i0 : Fin 8192) :
    val_main_v118 (F := Ideal) x0 x1 x2 x3 x4 x5 x6 x7 (ix1 i0) = Ideal.div ((∑ j, (row (residArr x3 x4 x5) i0 j - mean 0x44800000#32 (row (residArr x3 x4 x5) i0)) * affCot (row (autoModDx x0 x1 x2 x6) i0) x7 j) *
      (lit 0xBF000000#32 * Ideal.div (rstd 0x44800000#32 (row (residArr x3 x4 x5) i0)) (var 0x44800000#32 (row (residArr x3 x4 x5) i0) + lit 0x3727C5AC#32))) (lit 0x44800000#32) := by
  simp only [val_main_v118_apply, val_main_v117_apply, val_main_v112_apply, val_main_v109_apply, val_main_v108_apply,
    val_main_v107_apply, val_main_cst_29_apply, val_main_v93_apply, val_main_v92_apply, val_main_cst_26_apply,
    val_main_v91_apply, val_main_v116_apply, val_main_cst_31_apply, val_main_cst_32_apply, ix_main_v108, ix_main_v109,
    ix_main_v118, first, sum, bdist, bdist2, bvard, bdev, bcot]
  pointwise []
  try simp only [Fin.sum_univ_one]
  try rfl

/-- The gradient of the array. -/
theorem bback (x0 : Mat 8192 1024) (x1 : Mat 8192 1024) (x2 : Mat 8192 1024) (x3 : Mat 8192 1024) (x4 : Mat 8192 1024) (x5 : Mat 1 1024) (x6 : Mat 1 1024) (x7 : Mat 1 1024) (i0 : Fin 8192) (i1 : Fin 1024) :
    val_main_v130 (F := Ideal) x0 x1 x2 x3 x4 x5 x6 x7 (ix2 i0 i1) = autoBack 0x44800000#32 (affCot (row (autoModDx x0 x1 x2 x6) i0) x7) (row (residArr x3 x4 x5) i0) i1 := by
  simp only [val_main_v130_apply, val_main_v124_apply, val_main_v111_apply, val_main_v110_apply, val_main_v120_apply,
    val_main_v119_apply, val_main_v81_apply, val_main_v80_apply, val_main_cst_22_apply, val_main_v129_apply,
    val_main_v128_apply, val_main_v127_apply, val_main_v125_apply, val_main_v115_apply, val_main_v114_apply,
    val_main_v113_apply, val_main_cst_30_apply, val_main_v123_apply, val_main_v122_apply, val_main_v121_apply,
    val_main_cst_33_apply, val_main_v126_apply, val_main_cst_34_apply, val_main_cst_35_apply, ix_main_v110, ix_main_v114,
    ix_main_v115, ix_main_v128, ix_main_v119, ix_main_v122, ix_main_v123, ix_main_v129, first, sum, bdist, bdist2, bvard,
    bdev, bcot, bpart]
  pointwise []
  try simp only [Fin.sum_univ_one]
  try rfl

/-- The gradient of the residual sum. -/
theorem ref0 (x0 : Mat 8192 1024) (x1 : Mat 8192 1024) (x2 : Mat 8192 1024) (x3 : Mat 8192 1024) (x4 : Mat 8192 1024) (x5 : Mat 1 1024) (x6 : Mat 1 1024) (x7 : Mat 1 1024) : val_main_v130 (F := Ideal) x0 x1 x2 x3 x4 x5 x6 x7 = autoAffDx 0x44800000#32 (autoModDx x0 x1 x2 x6) (residArr x3 x4 x5) x7 := by
  funext i
  idx_vars i
  simp only [bback]
  pointwise [autoAffDx]
  try simp only [Fin.sum_univ_one]
  try rfl

/-- The gradient of the branch. -/
theorem ref1 (x0 : Mat 8192 1024) (x1 : Mat 8192 1024) (x2 : Mat 8192 1024) (x3 : Mat 8192 1024) (x4 : Mat 8192 1024) (x5 : Mat 1 1024) (x6 : Mat 1 1024) (x7 : Mat 1 1024) : val_main_v138 (F := Ideal) x0 x1 x2 x3 x4 x5 x6 x7 = gated x5 (autoAffDx 0x44800000#32 (autoModDx x0 x1 x2 x6) (residArr x3 x4 x5) x7) := by
  funext i
  idx_vars i
  simp only [val_main_v138_apply, val_main_v134_apply, val_main_v133_apply, ix_main_v133, bback]
  pointwise [gated, autoAffDx]
  try simp only [Fin.sum_univ_one]
  try rfl

/-- The gradient of the second norm's scale. -/
theorem ref2 (x0 : Mat 8192 1024) (x1 : Mat 8192 1024) : val_main_v38 (F := Ideal) x0 x1 = colSum (byHat 0x44800000#32 x0 x1) := by
  funext i
  idx_vars i
  simp only [val_main_v38_apply, val_main_v37_apply, val_main_v36_apply, val_main_v26_apply, val_main_v25_apply,
      val_main_v33_apply, val_main_cst_10_apply, ix_main_v25, ix_main_v38, ix_main_v37, adist2, adev]
  pointwise [colSum, byHat, hat]
  exact Finset.sum_congr rfl fun r _ => mul_comm _ _

/-- The gradient of the second norm's shift. -/
theorem ref3 (x0 : Mat 8192 1024) : val_main_v35 (F := Ideal) x0 = colSum x0 := by
  funext i
  idx_vars i
  simp only [val_main_v35_apply, val_main_v34_apply, val_main_v33_apply, val_main_cst_9_apply, ix_main_v35, ix_main_v34]
  pointwise [colSum]

/-- The gradient of the first norm's scale. -/
theorem ref4 (x0 : Mat 8192 1024) (x1 : Mat 8192 1024) (x2 : Mat 8192 1024) (x3 : Mat 8192 1024) (x4 : Mat 8192 1024) (x5 : Mat 1 1024) (x6 : Mat 1 1024) : val_main_v104 (F := Ideal) x0 x1 x2 x3 x4 x5 x6 = colSum (byHat 0x44800000#32 (autoModDx x0 x1 x2 x6) (residArr x3 x4 x5)) := by
  funext i
  idx_vars i
  simp only [val_main_v104_apply, val_main_v103_apply, val_main_v102_apply, val_main_v95_apply, val_main_v94_apply,
      val_main_cst_28_apply, ix_main_v103, ix_main_v94, ix_main_v104, bdist2, bdev, first]
  pointwise [colSum, byHat, hat]
  exact Finset.sum_congr rfl fun r _ => mul_comm _ _

/-- The gradient of the first norm's shift. -/
theorem ref5 (x0 : Mat 8192 1024) (x1 : Mat 8192 1024) (x2 : Mat 8192 1024) (x6 : Mat 1 1024) : val_main_v101 (F := Ideal) x0 x1 x2 x6 = colSum (autoModDx x0 x1 x2 x6) := by
  funext i
  idx_vars i
  simp only [val_main_v101_apply, val_main_v100_apply, val_main_cst_27_apply, ix_main_v101, ix_main_v100, first]
  pointwise [colSum]

/-- The gradient of the gate. -/
theorem ref6 (x0 : Mat 8192 1024) (x1 : Mat 8192 1024) (x2 : Mat 8192 1024) (x3 : Mat 8192 1024) (x4 : Mat 8192 1024) (x5 : Mat 1 1024) (x6 : Mat 1 1024) (x7 : Mat 1 1024) : val_main_v137 (F := Ideal) x0 x1 x2 x3 x4 x5 x6 x7 = colSum (byEntry (autoAffDx 0x44800000#32 (autoModDx x0 x1 x2 x6) (residArr x3 x4 x5) x7) x4) := by
  funext i
  idx_vars i
  simp only [val_main_v137_apply, val_main_v136_apply, val_main_v135_apply, val_main_v0_apply, val_main_cst_36_apply,
      ix_main_v137, ix_main_v136, bback]
  pointwise [colSum, byEntry, autoAffDx]
  try simp only [Fin.sum_univ_one]
  try rfl

/-- The whole program ends with the seven results holding the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v130) =
        autoAffDx 0x44800000#32 (autoModDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))
      ∧ r.2.mem ((c : Thread nD τ).loc main_v138) =
        gated (m ((c : Thread nD τ).loc main_arg5)) (autoAffDx 0x44800000#32 (autoModDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7)))
      ∧ r.2.mem ((c : Thread nD τ).loc main_v38) =
        colSum (byHat 0x44800000#32 (m ((c : Thread nD τ).loc main_arg0)) (m ((c : Thread nD τ).loc main_arg1)))
      ∧ r.2.mem ((c : Thread nD τ).loc main_v35) =
        colSum (m ((c : Thread nD τ).loc main_arg0))
      ∧ r.2.mem ((c : Thread nD τ).loc main_v104) =
        colSum (byHat 0x44800000#32 (autoModDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))))
      ∧ r.2.mem ((c : Thread nD τ).loc main_v101) =
        colSum (autoModDx (m ((c : Thread nD τ).loc main_arg0)) (m ((c : Thread nD τ).loc main_arg1)) (m ((c : Thread nD τ).loc main_arg2)) (m ((c : Thread nD τ).loc main_arg6)))
      ∧ r.2.mem ((c : Thread nD τ).loc main_v137) =
        colSum (byEntry (autoAffDx 0x44800000#32 (autoModDx (m ((c : Thread nD τ).loc main_arg0)) (m ((c : Thread nD τ).loc main_arg1)) (m ((c : Thread nD τ).loc main_arg2)) (m ((c : Thread nD τ).loc main_arg6))) (residArr (m ((c : Thread nD τ).loc main_arg3)) (m ((c : Thread nD τ).loc main_arg4)) (m ((c : Thread nD τ).loc main_arg5))) (m ((c : Thread nD τ).loc main_arg7))) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((val_main_v130_eq _ _).trans (ref0 _ _ _ _ _ _ _ _)),
    (h c).2.1.trans ((val_main_v138_eq _ _).trans (ref1 _ _ _ _ _ _ _ _)),
    (h c).2.2.1.trans ((val_main_v38_eq _ _).trans (ref2 _ _)),
    (h c).2.2.2.1.trans ((val_main_v35_eq _).trans (ref3 _)),
    (h c).2.2.2.2.1.trans ((val_main_v104_eq _ _).trans (ref4 _ _ _ _ _ _ _)),
    (h c).2.2.2.2.2.1.trans ((val_main_v101_eq _ _).trans (ref5 _ _ _ _)),
    (h c).2.2.2.2.2.2.1.trans ((val_main_v137_eq _ _).trans (ref6 _ _ _ _ _ _ _ _)),
    (h c).2.2.2.2.2.2.2⟩) (Cert.Reference29Ideal.Value.run (F := Ideal) m ρ)

end Cert.Reference29Ideal.Mid
end
-- ==== Proof.Mid.Claims.lean ====
/-
  The claims about the gradient of the first residual sum with its norm: the reference's frame, and that the kernel and the reference end holding the same arrays.
-/
module

public import proofs.«01_k».proof.Defs
public import proofs.«01_k».proof.Proof.Mid.Kernel
public import proofs.«01_k».proof.Proof.Mid.Reference
public import proofs.«01_k».proof.Proof.Gen.Kernel29Ideal
public import proofs.«01_k».proof.Proof.Gen.Reference29Ideal
public import proofs.«01_k».proof.Proof.Gen.Pre_finite29
public import Idealize.ShloMosaic.Lib.Claim

@[expose] public section

set_option maxRecDepth 16384

noncomputable section

namespace Cert.Mid

open Idealize.ShloMosaic Idealize.ShloMosaic.TcCoe Idealize.SL.Sem Cert.Product Cert.Norm

/-- The reference terminates with its arguments unchanged; it declares no semaphore. -/
theorem frame_reference : Cert.quiescent_Reference29Ideal := fun m ρ _ =>
  (θ_run Cert.Reference29Ideal.defs _ _).mono
    (fun r h => ⟨fun c => (h c).2.2.2.2.2.2.2, sem_eq_zero_of_no_sems (by decide) r.2⟩)
    (Cert.Reference29Ideal.Value.run (F := Ideal) m ρ)

/-- The kernel and the reference compute the same arrays. -/
theorem algebraic : Cert.algebraic_Kernel29Ideal_Reference29Ideal_pre_finite29 := by
  intro m g m' g' hp agree
  refine ⟨_, _, _, _, _, _, _, Cert.Kernel29Ideal.Mid.run m g,
    (θ_run Cert.Reference29Ideal.defs _ _).mono (fun r h c => ?_) (Cert.Reference29Ideal.Mid.run m' g')⟩
  have f0 : ∀ i, Fin1 ((m ((c.tc : Thread Cert.Kernel29Ideal.nD Cert.Kernel29Ideal.τ).loc Cert.Kernel29Ideal.main_arg0) : Mat 8192 1024) i) := fun i => fin1_of_cmp (congrFun (hp c).1 i)
  have f1 : ∀ i, Fin1 ((m ((c.tc : Thread Cert.Kernel29Ideal.nD Cert.Kernel29Ideal.τ).loc Cert.Kernel29Ideal.main_arg1) : Mat 8192 1024) i) := fun i => fin1_of_cmp (congrFun (hp c).2.1 i)
  have f2 : ∀ i, Fin1 ((m ((c.tc : Thread Cert.Kernel29Ideal.nD Cert.Kernel29Ideal.τ).loc Cert.Kernel29Ideal.main_arg2) : Mat 8192 1024) i) := fun i => fin1_of_cmp (congrFun (hp c).2.2.1 i)
  have f3 : ∀ i, Fin1 ((m ((c.tc : Thread Cert.Kernel29Ideal.nD Cert.Kernel29Ideal.τ).loc Cert.Kernel29Ideal.main_arg3) : Mat 8192 1024) i) := fun i => fin1_of_cmp (congrFun (hp c).2.2.2.1 i)
  have f4 : ∀ i, Fin1 ((m ((c.tc : Thread Cert.Kernel29Ideal.nD Cert.Kernel29Ideal.τ).loc Cert.Kernel29Ideal.main_arg4) : Mat 8192 1024) i) := fun i => fin1_of_cmp (congrFun (hp c).2.2.2.2.1 i)
  have f5 : ∀ i, Fin1 ((m ((c.tc : Thread Cert.Kernel29Ideal.nD Cert.Kernel29Ideal.τ).loc Cert.Kernel29Ideal.main_arg5) : Mat 1 1024) i) := fun i => fin1_of_cmp (congrFun (hp c).2.2.2.2.2.1 i)
  have f6 : ∀ i, Fin1 ((m ((c.tc : Thread Cert.Kernel29Ideal.nD Cert.Kernel29Ideal.τ).loc Cert.Kernel29Ideal.main_arg6) : Mat 1 1024) i) := fun i => fin1_of_cmp (congrFun (hp c).2.2.2.2.2.2.1 i)
  have f7 : ∀ i, Fin1 ((m ((c.tc : Thread Cert.Kernel29Ideal.nD Cert.Kernel29Ideal.τ).loc Cert.Kernel29Ideal.main_arg7) : Mat 1 1024) i) := fun i => fin1_of_cmp (congrFun (hp c).2.2.2.2.2.2.2 i)
  obtain ⟨h0, h1, h2, h3, h4, h5, h6, h7⟩ := agree c
  have := h c
  rw [h0, h1, h2, h3, h4, h5, h6, h7] at this ⊢
  rw [autoModDx_eq f0 f1 f6, autoAffDx_eq (by decide) lit_1024n (Fin1.modDx f0 f1 f2 f6) (Fin1.residArr f3 f4 f5) f7] at this
  exact this
end Cert.Mid

end
-- ==== Proof.Norm.Act.lean ====
/-
  The gradient of the activation of a norm with a scale and a shift.
-/
module

public import proofs.«01_k».proof.Proof.Norm.Affine

@[expose] public section

noncomputable section

namespace Cert.Norm

open Idealize.ShloMosaic Cert.Product

/-- The sigmoid. -/
def sig1 (x : EReal) : EReal := Ideal.div 1 (1 + Ideal.exp (-x))

/-- The cotangent of the activation's argument. -/
def siluBack (d a : EReal) : EReal := d * (sig1 a * (1 + a * (1 - sig1 a)))

/-- The cotangent of the norm. -/
def siluCot {n : ℕ} (d x : Mat n 512) (g b : Mat 1 512) : Mat n 512 := fun i => siluBack (d i) (affRow 0x44000000#32 (row x (i 0)) g b (i 1))

end Cert.Norm

end
-- ==== Proof.ConvLn.Kernel.lean ====
/-
  The gradient of the convolution branch's activation and norm: a block of rows at every point, and two column sums
  accumulated over the points.
-/
module

public import proofs.«01_k».proof.Proof.Norm.Act
public import proofs.«01_k».proof.Proof.Gen.Kernel30Ideal.Value
public import Idealize.ShloMosaic.Lib.Pipeline.ValueKit
public import Idealize.ShloMosaic.Lib.Pointwise

@[expose] public section

set_option maxRecDepth 16384

noncomputable section

namespace Cert.Kernel30Ideal.ConvLn

open Cert.Kernel30Ideal Cert.Kernel30Ideal.Gen Idealize.ShloMosaic Idealize.ShloMosaic.TcCoe Idealize.SL.Sem Cert.Product Cert.Norm

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![0, 0] ∧
    win0_3.index t = ![0, 0] ∧
    win0_4.index t = ![t.val, 0] ∧
    win0_5.index t = ![0, 0] ∧
    win0_6.index t = ![0, 0] :=
  (by decide +kernel : ∀ t : Fin grid0.N, _)

/-- The row of the whole arrays that row `r` of the blocks at point `t` is. -/
def rowOf (t : Fin cfg0.N) (r : Fin 256) : Fin 8192 :=
  ⟨t.val * 256 + r.val, by have := r.isLt; have := t.isLt; have h : cfg0.N = 32 := N_0; omega⟩

/-- A row of the block, its mean subtracted. -/
theorem dist (v : Mat 256 512) (r : Fin 256) (k : Fin 512) : k0_pay7 (F := Ideal) v (ix2 r k) = row v r k - mean 0x44000000#32 (row v r) := by
  unfold k0_pay7
  pointwise [mean, row]

/-- The inverse deviation of a row of the block. -/
theorem dev (v : Mat 256 512) (r : Fin 256) (z : Fin 1) : k0_pay8 (F := Ideal) v (ix2 r z) = rstd 0x44000000#32 (row v r) := by
  unfold k0_pay8
  pointwise [dist]
  rfl

/-- A row of the block, normalised. -/
theorem normed (v : Mat 256 512) (r : Fin 256) (k : Fin 512) : k0_pay9 (F := Ideal) v (ix2 r k) = hat 0x44000000#32 (row v r) k := by
  unfold k0_pay9
  pointwise [dist, dev]
  rfl

/-- A row of the block, normalised, scaled and shifted. -/
theorem aff (v3 : Mat 256 512) (v20 v23 : Mat 1 512) (r : Fin 256) (k : Fin 512) :
    k0_pay10 (F := Ideal) v3 v20 v23 (ix2 r k) =
      affRow 0x44000000#32 (row v3 r) v20 v23 k := by
  unfold k0_pay10
  pointwise [normed]
  rfl

/-- The sigmoid of it. -/
theorem sg (v3 : Mat 256 512) (v20 v23 : Mat 1 512) (r : Fin 256) (k : Fin 512) :
    k0_pay12 (F := Ideal) v3 v20 v23 (ix2 r k) =
      sig1 (affRow 0x44000000#32 (row v3 r) v20 v23 k) := by
  unfold k0_pay12
  pointwise [aff, sig1]
  simp only [zero_sub]

/-- The last factor of the activation's derivative. -/
theorem sl (v3 : Mat 256 512) (v20 v23 : Mat 1 512) (r : Fin 256) (k : Fin 512) :
    k0_pay13 (F := Ideal) v3 v20 v23 (ix2 r k) =
      (affRow 0x44000000#32 (row v3 r) v20 v23 k) * (1 - sig1 (affRow 0x44000000#32 (row v3 r) v20 v23 k)) := by
  unfold k0_pay13
  pointwise [aff, sg]

/-- The cotangent of the norm in the block. -/
theorem cot (v26 : Mat 256 512) (v3 : Mat 256 512) (v20 v23 : Mat 1 512) (r : Fin 256) (k : Fin 512) :
    k0_pay1 (F := Ideal) (k0_pay11 v26) (k0_pay12 v3 v20 v23) (k0_pay13 v3 v20 v23) (Scalar.ofBits .f32 0x3F800000#32) (ix2 r k) =
      siluBack (v26 (ix2 r k)) (affRow 0x44000000#32 (row v3 r) v20 v23 k) := by
  unfold k0_pay1 k0_pay11
  pointwise [sg, sl, siluBack]

/-- The same, the number one written as such. -/
theorem cotOne (v26 : Mat 256 512) (v3 : Mat 256 512) (v20 v23 : Mat 1 512) (r : Fin 256) (k : Fin 512) :
    k0_pay1 (F := Ideal) (k0_pay11 v26) (k0_pay12 v3 v20 v23) (k0_pay13 v3 v20 v23) (1 : EReal) (ix2 r k) =
      siluBack (v26 (ix2 r k)) (affRow 0x44000000#32 (row v3 r) v20 v23 k) := by
  unfold k0_pay1 k0_pay11
  pointwise [sg, sl, siluBack]

/-- The gradient of the block. -/
theorem grad (v26 : Mat 256 512) (v3 : Mat 256 512) (v20 v23 : Mat 1 512) (r : Fin 256) (k : Fin 512) :
    k0_pay4 (F := Ideal) (k0_pay8 v3) (k0_pay9 v3) (k0_pay11 v26) (k0_pay12 v3 v20 v23) (k0_pay13 v3 v20 v23) (Scalar.ofBits .f32 0x3F800000#32) v20 (ix2 r k) =
      back 0x44000000#32 (affCot (fun k => siluBack (v26 (ix2 r k)) (affRow 0x44000000#32 (row v3 r) v20 v23 k)) v20) (row v3 r) k := by
  unfold k0_pay4
  pointwise [normed, dev, cotOne]
  rfl

/-- The last point. -/
def tLast : Fin cfg0.N := ⟨31, by have h : cfg0.N = 32 := N_0; omega⟩

/-- The sum over one block's rows. -/
def blkSum (G : Mat 8192 512) (t : Fin cfg0.N) (j : S1x512.Idx) : EReal := ∑ r : Fin 256, G (ix2 (rowOf t r) (j 1))

/-- The blocks' sums add up to the sum of the whole column. -/
theorem sum_blkSum (G : Mat 8192 512) (j : S1x512.Idx) : (0 : EReal) + ∑ t, blkSum G t j = colSum G j := by
  rw [zero_add]
  have h : cfg0.N = 32 := N_0
  exact Fin.sum_mul_add_congr (F := fun t r => G (ix2 (rowOf t r) (j 1))) (f := fun l => G (ix2 l (j 1)))
    (fun s k hl => rfl) (by rw [h])

/-- The cotangent of the norm, in the whole array. -/
theorem atC0 (c : Dev nD) (t : Fin cfg0.N) (r : Fin 256) (k : Fin 512) :
    siluBack ((iblk m c 0 t) (ix2 r k)) (affRow 0x44000000#32 (row (iblk m c 1 t) r) (iblk m c 2 t) (iblk m c 3 t) k) =
      (siluCot (m ((c : Thread nD τ).loc main_arg0)) (m ((c : Thread nD τ).loc main_arg1)) (m ((c : Thread nD τ).loc main_arg2)) (m ((c : Thread nD τ).loc main_arg3))) (ix2 (rowOf t r) k) := by
  pointwise [siluCot]
  refine congrArg₂ siluBack ?_ (affRow_congr (fun k => ?_) (fun k => ?_) (fun k => ?_) rfl) <;> (try simp only [row]) <;> blk_point [iblk, V, idx t, rowOf]

/-- The same, as the kernel writes it. -/
theorem atC (c : Dev nD) (t : Fin cfg0.N) (r : Fin 256) (k : Fin 512) :
    k0_pay1 (F := Ideal) (k0_pay11 (iblk m c 0 t)) (k0_pay12 (iblk m c 1 t) (iblk m c 2 t) (iblk m c 3 t)) (k0_pay13 (iblk m c 1 t) (iblk m c 2 t) (iblk m c 3 t)) (1 : EReal) (ix2 r k) =
      (siluCot (m ((c : Thread nD τ).loc main_arg0)) (m ((c : Thread nD τ).loc main_arg1)) (m ((c : Thread nD τ).loc main_arg2)) (m ((c : Thread nD τ).loc main_arg3))) (ix2 (rowOf t r) k) := by
  exact (cotOne _ _ _ _ _ _).trans (atC0 m c t r k)

/-- The first result array holds the gradient of the normalised array. -/
theorem out4 (c : Dev nD) : (dats m 0 c).arrAt 4 cfg0.N =
    affDx 0x44000000#32 (siluCot (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  have e : (win0_4.blk t).view.emb (ix2 y0 y1) = ix2 (rowOf t y0) y1 := by blk_ext [idx t, rowOf]
  rw [e]
  by_cases h : t.val % 32 = 0
  · rw [outsAt0_A m c t h]
    frame_out
    refine (grad _ _ _ _ _ _).trans ?_
    pointwise [affDx]
    refine back_congr (fun k => atC0 m c t y0 k) (fun k => ?_) (fun k => ?_) rfl <;> (try simp only [row]) <;> blk_point [iblk, V, idx t, rowOf]
  · rw [outsAt0_B m c t h]
    frame_out
    refine (grad _ _ _ _ _ _).trans ?_
    pointwise [affDx]
    refine back_congr (fun k => atC0 m c t y0 k) (fun k => ?_) (fun k => ?_) rfl <;> (try simp only [row]) <;> blk_point [iblk, V, idx t, rowOf]

/-- The gradient of the scale. -/
theorem out5 (c : Dev nD) : (dats m 0 c).arrAt 5 cfg0.N =
    colSum (byHat 0x44000000#32 (siluCot (m ((c : Thread nD τ).loc main_arg0)) (m ((c : Thread nD τ).loc main_arg1)) (m ((c : Thread nD τ).loc main_arg2)) (m ((c : Thread nD τ).loc main_arg3))) (m ((c : Thread nD τ).loc main_arg1))) := by
  refine (dats m 0 c).arrAt_eq_of_after_last 5 tLast (by decide +kernel) _ fun j => ?_
  blk_simp
  rw [after0_5]
  refine (Pipeline.eq_sum_fin_of_reset_step_apply_last (fun n h => (outsAt0 m c n h).2.1) 32 (fun _ => (0 : EReal))
    (blkSum (byHat 0x44000000#32 (siluCot (m ((c : Thread nD τ).loc main_arg0)) (m ((c : Thread nD τ).loc main_arg1)) (m ((c : Thread nD τ).loc main_arg2)) (m ((c : Thread nD τ).loc main_arg3))) (m ((c : Thread nD τ).loc main_arg1))))
    (fun t h j => ?_) (fun t h j => ?_) N_0.le tLast rfl _).trans (sum_blkSum _ _)
  · rw [outsAt0_A m c t h]
    idx_vars j
    frame_out
    unfold k0_pay2 k0_pay5
    pointwise [normed]
    refine Finset.sum_congr rfl fun x _ => ?_
    refine congrArg₂ (fun a b : EReal => a * b) (atC m c t x j1) (hat_congr (fun k => ?_) ?_) <;> (try simp only [row]) <;> first | blk_point [iblk, V, idx t, rowOf] | rfl
  · rw [outsAt0_B m c t h]
    idx_vars j
    frame_out
    unfold k0_pay2
    pointwise [normed]
    refine congrArg (_ + ·) (Finset.sum_congr rfl fun x _ => ?_)
    refine congrArg₂ (fun a b : EReal => a * b) (atC m c t x j1) (hat_congr (fun k => ?_) ?_) <;> (try simp only [row]) <;> first | blk_point [iblk, V, idx t, rowOf] | rfl

/-- The gradient of the shift. -/
theorem out6 (c : Dev nD) : (dats m 0 c).arrAt 6 cfg0.N =
    colSum ((siluCot (m ((c : Thread nD τ).loc main_arg0)) (m ((c : Thread nD τ).loc main_arg1)) (m ((c : Thread nD τ).loc main_arg2)) (m ((c : Thread nD τ).loc main_arg3)))) := by
  refine (dats m 0 c).arrAt_eq_of_after_last 6 tLast (by decide +kernel) _ fun j => ?_
  blk_simp
  rw [after0_6]
  refine (Pipeline.eq_sum_fin_of_reset_step_apply_last (fun n h => (outsAt0 m c n h).2.2) 32 (fun _ => (0 : EReal))
    (blkSum ((siluCot (m ((c : Thread nD τ).loc main_arg0)) (m ((c : Thread nD τ).loc main_arg1)) (m ((c : Thread nD τ).loc main_arg2)) (m ((c : Thread nD τ).loc main_arg3)))))
    (fun t h j => ?_) (fun t h j => ?_) N_0.le tLast rfl _).trans (sum_blkSum _ _)
  · rw [outsAt0_A m c t h]
    idx_vars j
    frame_out
    unfold k0_pay3 k0_pay6
    pointwise []
    refine Finset.sum_congr rfl fun x _ => ?_
    exact atC m c t x j1
  · rw [outsAt0_B m c t h]
    idx_vars j
    frame_out
    unfold k0_pay3
    pointwise []
    refine congrArg (_ + ·) (Finset.sum_congr rfl fun x _ => ?_)
    exact atC m c t x j1

/-- The whole program ends with the three results holding the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        affDx 0x44000000#32 (siluCot (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2))
      ∧ r.2.mem ((c : Thread nD τ).loc main_v0_1) =
        colSum (byHat 0x44000000#32 (siluCot (m ((c : Thread nD τ).loc main_arg0)) (m ((c : Thread nD τ).loc main_arg1)) (m ((c : Thread nD τ).loc main_arg2)) (m ((c : Thread nD τ).loc main_arg3))) (m ((c : Thread nD τ).loc main_arg1)))
      ∧ r.2.mem ((c : Thread nD τ).loc main_v0_2) =
        colSum ((siluCot (m ((c : Thread nD τ).loc main_arg0)) (m ((c : Thread nD τ).loc main_arg1)) (m ((c : Thread nD τ).loc main_arg2)) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out4 m c),
    (h c).2.1.trans (out5 m c),
    (h c).2.2.1.trans (out6 m c),
    (h c).2.2.2⟩) (Cert.Kernel30Ideal.Value.run_blocks m ρ)

end Cert.Kernel30Ideal.ConvLn
end
-- ==== Proof.Norm.Loss.lean ====
/-
  The loss of the last norm against its target, and its cotangent.
-/
module

public import proofs.«01_k».proof.Proof.Norm.Affine

@[expose] public section

noncomputable section

namespace Cert.Norm

open Idealize.ShloMosaic Cert.Product

/-- The difference of the norm from the target. -/
def errArr (r : Mat 8192 1024) (g b : Mat 1 1024) (t : Mat 8192 1024) : Mat 8192 1024 := fun i =>
  affRow 0x44800000#32 (row r (i 0)) g b (i 1) - t i

/-- Every entry over the length of a row. -/
def divArr (e : Mat 8192 1024) : Mat 8192 1024 := fun i => Ideal.div (e i) (lit 0x44800000#32)

/-- What one row adds to the loss: half the mean of the squares. -/
def lossRow (e : Mat 8192 1024) (r : Fin 8192) : EReal :=
  lit 0x3F000000#32 * Ideal.div (∑ k : Fin 1024, e (ix2 r k) * e (ix2 r k)) (lit 0x44800000#32)

/-- The loss. -/
def lossArr (e : Mat 8192 1024) : Mat 1 1 := fun _ => ∑ r : Fin 8192, lossRow e r

theorem lit_half_pos : lit 0x3F000000#32 = ((1 / 2 : ℝ) : EReal) := by simp [lit, Ideal.ofBits, Ideal.ieee, -EReal.coe_mul]; norm_num

/-- Half of a sum is the sum of the halves. -/
theorem half_sum {ι : Type} (s : Finset ι) (f : ι → EReal) : lit 0x3F000000#32 * ∑ k ∈ s, f k = ∑ k ∈ s, lit 0x3F000000#32 * f k := by
  classical
  induction s using Finset.induction_on with
  | empty => simp
  | insert a s ha ih =>
    rw [Finset.sum_insert ha, Finset.sum_insert ha, lit_half_pos,
      EReal.left_distrib_of_nonneg_of_ne_top (EReal.coe_nonneg.mpr (by norm_num)) (EReal.coe_ne_top _), ← lit_half_pos, ih]

end Cert.Norm

end
-- ==== Proof.Norm.Auto.lean ====
/-
  The gradient of the activation and the loss as automatic differentiation writes them, and that on real numbers they are
  the short forms.
-/
module

public import proofs.«01_k».proof.Proof.Norm.Act
public import proofs.«01_k».proof.Proof.Norm.Loss

@[expose] public section

noncomputable section

namespace Cert.Norm

open Idealize.ShloMosaic Cert.Product

/-- The cotangent of the activation's argument as automatic differentiation writes it. -/
def autoSilu (d a : EReal) : EReal := d * sig1 a + a * d * (sig1 a * (1 - sig1 a))

/-- The cotangent of the norm as automatic differentiation writes it. -/
def autoSiluCot {n : ℕ} (d x : Mat n 512) (g b : Mat 1 512) : Mat n 512 := fun i => autoSilu (d i) (affRow 0x44000000#32 (row x (i 0)) g b (i 1))

/-- The sigmoid of a real number is real. -/
theorem sig1_coe (a : ℝ) : sig1 (a : EReal) = ((1 / (1 + Real.exp (-a)) : ℝ) : EReal) := by
  rw [sig1, ← EReal.coe_neg, Ideal.exp_coe, ← EReal.coe_one, ← EReal.coe_add]
  exact div_real 1 (by positivity)

theorem autoSilu_coe (d a : ℝ) : autoSilu (d : EReal) (a : EReal) = siluBack (d : EReal) (a : EReal) := by
  rw [autoSilu, siluBack, sig1_coe, ← EReal.coe_one]
  simp only [← EReal.coe_sub, ← EReal.coe_mul, ← EReal.coe_add]
  congr 1
  ring

/-- On real numbers the two forms agree. -/
theorem autoSilu_eq {d a : EReal} (hd : Fin1 d) (ha : Fin1 a) : autoSilu d a = siluBack d a := by
  obtain ⟨d, rfl⟩ := hd
  obtain ⟨a, rfl⟩ := ha
  exact autoSilu_coe d a

theorem Fin1.siluBack {d a : EReal} (hd : Fin1 d) (ha : Fin1 a) : Fin1 (Norm.siluBack d a) := by
  obtain ⟨a, rfl⟩ := ha
  have hs : Fin1 (sig1 (a : EReal)) := ⟨_, sig1_coe a⟩
  exact hd.mul (hs.mul (Fin1.one.add (Fin1.mul ⟨a, rfl⟩ (Fin1.one.sub hs))))

theorem Fin1.affRow {L : BitVec 32} {n : ℕ} (hn : n ≠ 0) (hL : lit L = ((n : ℝ) : EReal)) {f : Fin n → EReal} {g b : Mat 1 n}
    (hf : ∀ k, Fin1 (f k)) (hg : ∀ i, Fin1 (g i)) (hb : ∀ i, Fin1 (b i)) (k : Fin n) : Fin1 (Norm.affRow L f g b k) :=
  ((Fin1.hat hn hL hf k).mul (hg _)).add (hb _)

section act
variable {n : ℕ} {d x : Mat n 512} {g b : Mat 1 512} (hd : ∀ i, Fin1 (d i)) (hx : ∀ i, Fin1 (x i)) (hg : ∀ i, Fin1 (g i)) (hb : ∀ i, Fin1 (b i))
include hd hx hg hb

/-- On real numbers the two forms agree. -/
theorem autoSiluCot_eq : autoSiluCot d x g b = siluCot d x g b :=
  funext fun i => autoSilu_eq (hd i) (Fin1.affRow (by decide) lit_512n (fun _ => hx _) hg hb _)

theorem Fin1.siluCot (i : (⟨2, ![n, 512]⟩ : Shape).Idx) : Fin1 (Norm.siluCot d x g b i) :=
  Fin1.siluBack (hd i) (Fin1.affRow (by decide) lit_512n (fun _ => hx _) hg hb _)

end act

/-- Half of twice an entry over the length of a row. -/
theorem half_two (e : EReal) : Ideal.div (lit 0x3F000000#32) (lit 0x44800000#32) * (lit 0x40000000#32 * e) = Ideal.div e (lit 0x44800000#32) := by
  rw [lit_half_pos, lit_1024, lit_two, div_real _ (by norm_num), Ideal.div_coe (by norm_num), ← mul_assoc, ← EReal.coe_mul, mul_comm]
  congr 2
  norm_num

theorem Fin1.over {x : EReal} (h : Fin1 x) : Fin1 (Ideal.div x (lit 0x44800000#32)) := by
  obtain ⟨r, rfl⟩ := h
  rw [lit_1024, div_real _ (by norm_num)]
  exact ⟨_, rfl⟩

theorem Fin1.divArr {e : Mat 8192 1024} (he : ∀ i, Fin1 (e i)) (i : (⟨2, ![8192, 1024]⟩ : Shape).Idx) : Fin1 (Norm.divArr e i) := Fin1.over (he i)

theorem Fin1.errArr {r t : Mat 8192 1024} {g b : Mat 1 1024} (hr : ∀ i, Fin1 (r i)) (hg : ∀ i, Fin1 (g i)) (hb : ∀ i, Fin1 (b i)) (ht : ∀ i, Fin1 (t i))
    (i : (⟨2, ![8192, 1024]⟩ : Shape).Idx) : Fin1 (Norm.errArr r g b t i) :=
  (Fin1.affRow (by decide) lit_1024n (fun _ => hr _) hg hb _).sub (ht i)

theorem Fin1.nn {a b c : ℕ} {x : Mat a b} {y : Mat b c} (hx : ∀ i, Fin1 (x i)) (hy : ∀ i, Fin1 (y i)) (i : (⟨2, ![a, c]⟩ : Shape).Idx) :
    Fin1 (Product.nn x y i) := Fin1.sum fun _ => (hx _).mul (hy _)

end Cert.Norm

end
-- ==== Proof.ConvLn.Reference.lean ====
/-
  The reference of the gradient of the convolution branch's activation and norm.
-/
module

public import proofs.«01_k».proof.Proof.Norm.Auto
public import proofs.«01_k».proof.Proof.Gen.Reference30Ideal.Run
public import proofs.«01_k».proof.Proof.Gen.Reference30Ideal.Read
public import Idealize.ShloMosaic.Lib.Pipeline.ValueKit
public import Idealize.ShloMosaic.Lib.Pointwise

@[expose] public section

set_option maxRecDepth 16384

noncomputable section

namespace Cert.Reference30Ideal.ConvLn

open Cert.Reference30Ideal Cert.Reference30Ideal.Gen Cert.Reference30Ideal.Read Idealize.ShloMosaic Idealize.ShloMosaic.TcCoe Idealize.SL.Sem Cert.Product Cert.Norm

/-! How the reference's index maps read at a row and a column. -/

theorem ix_main_v0 (i0 : Fin 8192) (k : Fin 512) : idx_main_v0 (ix1 i0) k = ix2 i0 k :=
  funext fun a => match a with
    | ⟨0, _⟩ => rfl
    | ⟨1, _⟩ => rfl

theorem ix_main_v1 (i0 : Fin 8192) (i1 : Fin 1) : idx_main_v1 (ix2 i0 i1) = ix1 i0 :=
  funext fun a => match a with
    | ⟨0, _⟩ => rfl

theorem ix_main_v4 (i0 : Fin 8192) (i1 : Fin 512) : idx_main_v4 (ix2 i0 i1) = ix2 i0 0 :=
  funext fun a => match a with
    | ⟨0, _⟩ => rfl
    | ⟨1, _⟩ => rfl

theorem ix_main_v9 (i0 : Fin 8192) (k : Fin 512) : idx_main_v9 (ix1 i0) k = ix2 i0 k :=
  funext fun a => match a with
    | ⟨0, _⟩ => rfl
    | ⟨1, _⟩ => rfl

theorem ix_main_v10 (i0 : Fin 8192) (i1 : Fin 1) : idx_main_v10 (ix2 i0 i1) = ix1 i0 :=
  funext fun a => match a with
    | ⟨0, _⟩ => rfl

theorem ix_main_v13 (i0 : Fin 8192) (i1 : Fin 512) : idx_main_v13 (ix2 i0 i1) = ix2 i0 0 :=
  funext fun a => match a with
    | ⟨0, _⟩ => rfl
    | ⟨1, _⟩ => rfl

theorem ix_main_v21 (i0 : Fin 8192) (i1 : Fin 512) : idx_main_v21 (ix2 i0 i1) = ix2 i0 0 :=
  funext fun a => match a with
    | ⟨0, _⟩ => rfl
    | ⟨1, _⟩ => rfl

theorem ix_main_v23 (i0 : Fin 8192) (i1 : Fin 512) : idx_main_v23 (ix2 i0 i1) = ix2 0 i1 :=
  funext fun a => match a with
    | ⟨0, _⟩ => rfl
    | ⟨1, _⟩ => rfl

theorem ix_main_v25 (i0 : Fin 8192) (i1 : Fin 512) : idx_main_v25 (ix2 i0 i1) = ix2 0 i1 :=
  funext fun a => match a with
    | ⟨0, _⟩ => rfl
    | ⟨1, _⟩ => rfl

theorem ix_main_v30 (i0 : Fin 512) (k : Fin 8192) : idx_main_v30 (ix1 i0) k = ix2 k i0 :=
  funext fun a => match a with
    | ⟨0, _⟩ => rfl
    | ⟨1, _⟩ => rfl

theorem ix_main_v31 (i0 : Fin 1) (i1 : Fin 512) : idx_main_v31 (ix2 i0 i1) = ix1 i1 :=
  funext fun a => match a with
    | ⟨0, _⟩ => Fin.ext (show i0.val * 512 + i1.val = i1.val by omega)

theorem ix_main_v33 (i0 : Fin 512) (k : Fin 8192) : idx_main_v33 (ix1 i0) k = ix2 k i0 :=
  funext fun a => match a with
    | ⟨0, _⟩ => rfl
    | ⟨1, _⟩ => rfl

theorem ix_main_v34 (i0 : Fin 1) (i1 : Fin 512) : idx_main_v34 (ix2 i0 i1) = ix1 i1 :=
  funext fun a => match a with
    | ⟨0, _⟩ => Fin.ext (show i0.val * 512 + i1.val = i1.val by omega)

theorem ix_main_v35 (i0 : Fin 8192) (i1 : Fin 512) : idx_main_v35 (ix2 i0 i1) = ix2 0 i1 :=
  funext fun a => match a with
    | ⟨0, _⟩ => rfl
    | ⟨1, _⟩ => rfl

theorem ix_main_v38 (i0 : Fin 8192) (k : Fin 512) : idx_main_v38 (ix1 i0) k = ix2 i0 k :=
  funext fun a => match a with
    | ⟨0, _⟩ => rfl
    | ⟨1, _⟩ => rfl

theorem ix_main_v39 (i0 : Fin 8192) (i1 : Fin 1) : idx_main_v39 (ix2 i0 i1) = ix1 i0 :=
  funext fun a => match a with
    | ⟨0, _⟩ => Fin.ext (show i0.val * 1 + i1.val = i0.val by omega)

theorem ix_main_v40 (i0 : Fin 8192) (i1 : Fin 512) : idx_main_v40 (ix2 i0 i1) = ix2 i0 0 :=
  funext fun a => match a with
    | ⟨0, _⟩ => rfl
    | ⟨1, _⟩ => rfl

theorem ix_main_v44 (i0 : Fin 8192) (k : Fin 512) : idx_main_v44 (ix1 i0) k = ix2 i0 k :=
  funext fun a => match a with
    | ⟨0, _⟩ => rfl
    | ⟨1, _⟩ => rfl

theorem ix_main_v45 (i0 : Fin 8192) (i1 : Fin 1) : idx_main_v45 (ix2 i0 i1) = ix1 i0 :=
  funext fun a => match a with
    | ⟨0, _⟩ => Fin.ext (show i0.val * 1 + i1.val = i0.val by omega)

theorem ix_main_v48 (i0 : Fin 8192) (k : Fin 1) : idx_main_v48 (ix1 i0) k = ix2 i0 k :=
  funext fun a => match a with
    | ⟨0, _⟩ => rfl
    | ⟨1, _⟩ => rfl

theorem ix_main_v49 (i0 : Fin 8192) (i1 : Fin 512) : idx_main_v49 (ix2 i0 i1) = ix1 i0 :=
  funext fun a => match a with
    | ⟨0, _⟩ => rfl

theorem ix_main_v52 (i0 : Fin 8192) (k : Fin 512) : idx_main_v52 (ix1 i0) k = ix2 i0 k :=
  funext fun a => match a with
    | ⟨0, _⟩ => rfl
    | ⟨1, _⟩ => rfl

theorem ix_main_v53 (i0 : Fin 8192) (i1 : Fin 1) : idx_main_v53 (ix2 i0 i1) = ix1 i0 :=
  funext fun a => match a with
    | ⟨0, _⟩ => Fin.ext (show i0.val * 1 + i1.val = i0.val by omega)

theorem ix_main_v58 (i0 : Fin 8192) (k : Fin 1) : idx_main_v58 (ix1 i0) k = ix2 i0 k :=
  funext fun a => match a with
    | ⟨0, _⟩ => rfl
    | ⟨1, _⟩ => rfl

theorem ix_main_v59 (i0 : Fin 8192) (i1 : Fin 512) : idx_main_v59 (ix2 i0 i1) = ix1 i0 :=
  funext fun a => match a with
    | ⟨0, _⟩ => rfl

/-- The distances from the mean of the norm's argument. -/
theorem adist (x1 : Mat 8192 512) (i0 : Fin 8192) (i1 : Fin 512) :
    val_main_v5 (F := Ideal) x1 (ix2 i0 i1) = row x1 i0 i1 - mean 0x44000000#32 (row x1 i0) := by
  simp only [val_main_v5_apply, val_main_v4_apply, val_main_v3_apply, val_main_v1_apply, val_main_v0_apply, val_main_cst_apply,
    val_main_v2_apply, val_main_cst_0_apply, ix_main_v4, ix_main_v0, ix_main_v1]
  pointwise [mean, row]
  try simp only [Fin.sum_univ_one]
  try rfl

/-- The same, written a second time. -/
theorem adist2 (x1 : Mat 8192 512) (i0 : Fin 8192) (i1 : Fin 512) :
    val_main_v14 (F := Ideal) x1 (ix2 i0 i1) = row x1 i0 i1 - mean 0x44000000#32 (row x1 i0) := by
  simp only [val_main_v14_apply, val_main_v13_apply, val_main_v3_apply, val_main_v1_apply, val_main_v0_apply, val_main_cst_apply,
    val_main_v2_apply, val_main_cst_0_apply, ix_main_v13, ix_main_v0, ix_main_v1]
  pointwise [mean, row]
  try simp only [Fin.sum_univ_one]
  try rfl

/-- The variance and the small number. -/
theorem avard (x1 : Mat 8192 512) (i0 : Fin 8192) (z : Fin 1) :
    val_main_v16 (F := Ideal) x1 (ix2 i0 z) = var 0x44000000#32 (row x1 i0) + lit 0x3727C5AC#32 := by
  simp only [val_main_v16_apply, val_main_v12_apply, val_main_v10_apply, val_main_v9_apply, val_main_v6_apply,
    val_main_cst_2_apply, val_main_v11_apply, val_main_cst_3_apply, val_main_v15_apply, val_main_cst_4_apply, ix_main_v9,
    ix_main_v10, adist]
  pointwise []
  try simp only [Fin.sum_univ_one]
  try rfl

/-- The inverse deviation. -/
theorem adev (x1 : Mat 8192 512) (i0 : Fin 8192) (z : Fin 1) :
    val_main_v17 (F := Ideal) x1 (ix2 i0 z) = rstd 0x44000000#32 (row x1 i0) := by
  simp only [val_main_v17_apply, avard]
  pointwise []
  try simp only [Fin.sum_univ_one]
  try rfl

/-- The norm. -/
theorem aff (x1 : Mat 8192 512) (x2 : Mat 1 512) (x3 : Mat 1 512) (i0 : Fin 8192) (i1 : Fin 512) :
    val_main_v26 (F := Ideal) x1 x2 x3 (ix2 i0 i1) = affRow 0x44000000#32 (row x1 i0) x2 x3 i1 := by
  simp only [val_main_v26_apply, val_main_v24_apply, val_main_v22_apply, val_main_v21_apply, val_main_v23_apply,
    val_main_v25_apply, ix_main_v23, ix_main_v25, ix_main_v21, adist2, adev]
  pointwise [affRow, hat]
  try simp only [Fin.sum_univ_one]
  try rfl

/-- The sigmoid of it. -/
theorem sg (x1 : Mat 8192 512) (x2 : Mat 1 512) (x3 : Mat 1 512) (i0 : Fin 8192) (i1 : Fin 512) :
    val_main_v27_2 (F := Ideal) x1 x2 x3 (ix2 i0 i1) = sig1 (affRow 0x44000000#32 (row x1 i0) x2 x3 i1) := by
  simp only [val_main_v27_2_apply, val_main_call0_v4_apply, val_main_call0_cst_0_apply, val_main_call0_v3_apply,
    val_main_call0_v2_apply, val_main_call0_cst_apply, val_main_call0_v1_apply, val_main_call0_v0_apply, aff]
  pointwise [sig1]
  try simp only [Fin.sum_univ_one]
  try rfl

/-- The cotangent of the norm. -/
theorem act (x0 : Mat 8192 512) (x1 : Mat 8192 512) (x2 : Mat 1 512) (x3 : Mat 1 512) (i0 : Fin 8192) (i1 : Fin 512) :
    val_main_v29 (F := Ideal) x0 x1 x2 x3 (ix2 i0 i1) = autoSiluCot x0 x1 x2 x3 (ix2 i0 i1) := by
  simp only [val_main_v29_apply, val_main_call1_v1_apply, val_main_v28_apply, val_main_call1_v2_apply, val_main_call1_v0_apply,
    val_main_v27_1_apply, val_main_call0_v7_apply, val_main_call0_v6_apply, val_main_call0_cst_1_apply, aff, sg]
  pointwise [autoSiluCot, autoSilu]
  try simp only [Fin.sum_univ_one]
  try rfl

/-- The cotangent of the normalised array. -/
theorem acot (x0 : Mat 8192 512) (x1 : Mat 8192 512) (x2 : Mat 1 512) (x3 : Mat 1 512) (i0 : Fin 8192) (i1 : Fin 512) :
    val_main_v36 (F := Ideal) x0 x1 x2 x3 (ix2 i0 i1) = affCot (row (autoSiluCot x0 x1 x2 x3) i0) x2 i1 := by
  simp only [val_main_v36_apply, val_main_v35_apply, ix_main_v35, act]
  pointwise [affCot, row]
  try simp only [Fin.sum_univ_one]
  try rfl

/-- The gradient of the variance's mean. -/
theorem apart (x0 : Mat 8192 512) (x1 : Mat 8192 512) (x2 : Mat 1 512) (x3 : Mat 1 512) (i0 : Fin 8192) :
    val_main_v48 (F := Ideal) x0 x1 x2 x3 (ix1 i0) = Ideal.div ((∑ j, (row x1 i0 j - mean 0x44000000#32 (row x1 i0)) * affCot (row (autoSiluCot x0 x1 x2 x3) i0) x2 j) *
      (lit 0xBF000000#32 * Ideal.div (rstd 0x44000000#32 (row x1 i0)) (var 0x44000000#32 (row x1 i0) + lit 0x3727C5AC#32))) (lit 0x44000000#32) := by
  simp only [val_main_v48_apply, val_main_v47_apply, val_main_v42_apply, val_main_v39_apply, val_main_v38_apply,
    val_main_v37_apply, val_main_cst_8_apply, val_main_v20_apply, val_main_v19_apply, val_main_cst_5_apply,
    val_main_v18_apply, val_main_v46_apply, val_main_cst_10_apply, val_main_cst_11_apply, ix_main_v48, ix_main_v38,
    ix_main_v39, act, adist, adist2, avard, adev, acot]
  pointwise []
  try simp only [Fin.sum_univ_one]
  try rfl

/-- The gradient of the array. -/
theorem aback (x0 : Mat 8192 512) (x1 : Mat 8192 512) (x2 : Mat 1 512) (x3 : Mat 1 512) (i0 : Fin 8192) (i1 : Fin 512) :
    val_main_v60 (F := Ideal) x0 x1 x2 x3 (ix2 i0 i1) = autoBack 0x44000000#32 (affCot (row (autoSiluCot x0 x1 x2 x3) i0) x2) (row x1 i0) i1 := by
  simp only [val_main_v60_apply, val_main_v54_apply, val_main_v41_apply, val_main_v40_apply, val_main_v50_apply,
    val_main_v49_apply, val_main_v8_apply, val_main_v7_apply, val_main_cst_1_apply, val_main_v59_apply,
    val_main_v58_apply, val_main_v57_apply, val_main_v55_apply, val_main_v45_apply, val_main_v44_apply,
    val_main_v43_apply, val_main_cst_9_apply, val_main_v53_apply, val_main_v52_apply, val_main_v51_apply,
    val_main_cst_12_apply, val_main_v56_apply, val_main_cst_13_apply, val_main_cst_14_apply, ix_main_v53, ix_main_v52,
    ix_main_v40, ix_main_v49, ix_main_v59, ix_main_v58, ix_main_v44, ix_main_v45, act, adist, adist2, avard, adev, acot,
    apart]
  pointwise []
  try simp only [Fin.sum_univ_one]
  try rfl

/-- The gradient of the normalised array. -/
theorem ref0 (x0 : Mat 8192 512) (x1 : Mat 8192 512) (x2 : Mat 1 512) (x3 : Mat 1 512) : val_main_v60 (F := Ideal) x0 x1 x2 x3 = autoAffDx 0x44000000#32 (autoSiluCot x0 x1 x2 x3) x1 x2 := by
  funext i
  idx_vars i
  simp only [aback]
  pointwise [autoAffDx]
  try simp only [Fin.sum_univ_one]
  try rfl

/-- The gradient of the scale. -/
theorem ref1 (x0 : Mat 8192 512) (x1 : Mat 8192 512) (x2 : Mat 1 512) (x3 : Mat 1 512) : val_main_v34 (F := Ideal) x0 x1 x2 x3 = colSum (byHat 0x44000000#32 (autoSiluCot x0 x1 x2 x3) x1) := by
  funext i
  idx_vars i
  simp only [val_main_v34_apply, val_main_v33_apply, val_main_v32_apply, val_main_v22_apply, val_main_v21_apply,
      val_main_cst_7_apply, ix_main_v34, ix_main_v33, ix_main_v21, adist2, adev, act]
  pointwise [colSum, byHat, hat]
  exact Finset.sum_congr rfl fun r _ => mul_comm _ _

/-- The gradient of the shift. -/
theorem ref2 (x0 : Mat 8192 512) (x1 : Mat 8192 512) (x2 : Mat 1 512) (x3 : Mat 1 512) : val_main_v31 (F := Ideal) x0 x1 x2 x3 = colSum (autoSiluCot x0 x1 x2 x3) := by
  funext i
  idx_vars i
  simp only [val_main_v31_apply, val_main_v30_apply, val_main_cst_6_apply, ix_main_v30, ix_main_v31, act]
  pointwise [colSum]

/-- The whole program ends with the three results holding the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v60) =
        autoAffDx 0x44000000#32 (autoSiluCot (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2))
      ∧ r.2.mem ((c : Thread nD τ).loc main_v34) =
        colSum (byHat 0x44000000#32 (autoSiluCot (m ((c : Thread nD τ).loc main_arg0)) (m ((c : Thread nD τ).loc main_arg1)) (m ((c : Thread nD τ).loc main_arg2)) (m ((c : Thread nD τ).loc main_arg3))) (m ((c : Thread nD τ).loc main_arg1)))
      ∧ r.2.mem ((c : Thread nD τ).loc main_v31) =
        colSum (autoSiluCot (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v60_eq _ _).trans (ref0 _ _ _ _)),
    (h c).2.1.trans ((val_main_v34_eq _ _).trans (ref1 _ _ _ _)),
    (h c).2.2.1.trans ((val_main_v31_eq _ _).trans (ref2 _ _ _ _)),
    (h c).2.2.2⟩) (Cert.Reference30Ideal.Value.run (F := Ideal) m ρ)

end Cert.Reference30Ideal.ConvLn
end
-- ==== Proof.ConvLn.Claims.lean ====
/-
  The claims about the gradient of the convolution branch's activation and norm: the reference's frame, and that the kernel and the reference end holding the same arrays.
-/
module

public import proofs.«01_k».proof.Defs
public import proofs.«01_k».proof.Proof.ConvLn.Kernel
public import proofs.«01_k».proof.Proof.ConvLn.Reference
public import proofs.«01_k».proof.Proof.Gen.Kernel30Ideal
public import proofs.«01_k».proof.Proof.Gen.Reference30Ideal
public import proofs.«01_k».proof.Proof.Gen.Pre_finite30
public import Idealize.ShloMosaic.Lib.Claim

@[expose] public section

set_option maxRecDepth 16384

noncomputable section

namespace Cert.ConvLn

open Idealize.ShloMosaic Idealize.ShloMosaic.TcCoe Idealize.SL.Sem Cert.Product Cert.Norm

/-- The reference terminates with its arguments unchanged; it declares no semaphore. -/
theorem frame_reference : Cert.quiescent_Reference30Ideal := fun m ρ _ =>
  (θ_run Cert.Reference30Ideal.defs _ _).mono
    (fun r h => ⟨fun c => (h c).2.2.2, sem_eq_zero_of_no_sems (by decide) r.2⟩)
    (Cert.Reference30Ideal.Value.run (F := Ideal) m ρ)

/-- The kernel and the reference compute the same arrays. -/
theorem algebraic : Cert.algebraic_Kernel30Ideal_Reference30Ideal_pre_finite30 := by
  intro m g m' g' hp agree
  refine ⟨_, _, _, Cert.Kernel30Ideal.ConvLn.run m g,
    (θ_run Cert.Reference30Ideal.defs _ _).mono (fun r h c => ?_) (Cert.Reference30Ideal.ConvLn.run m' g')⟩
  have f0 : ∀ i, Fin1 ((m ((c.tc : Thread Cert.Kernel30Ideal.nD Cert.Kernel30Ideal.τ).loc Cert.Kernel30Ideal.main_arg0) : Mat 8192 512) i) := fun i => fin1_of_cmp (congrFun (hp c).1 i)
  have f1 : ∀ i, Fin1 ((m ((c.tc : Thread Cert.Kernel30Ideal.nD Cert.Kernel30Ideal.τ).loc Cert.Kernel30Ideal.main_arg1) : Mat 8192 512) i) := fun i => fin1_of_cmp (congrFun (hp c).2.1 i)
  have f2 : ∀ i, Fin1 ((m ((c.tc : Thread Cert.Kernel30Ideal.nD Cert.Kernel30Ideal.τ).loc Cert.Kernel30Ideal.main_arg2) : Mat 1 512) i) := fun i => fin1_of_cmp (congrFun (hp c).2.2.1 i)
  have f3 : ∀ i, Fin1 ((m ((c.tc : Thread Cert.Kernel30Ideal.nD Cert.Kernel30Ideal.τ).loc Cert.Kernel30Ideal.main_arg3) : Mat 1 512) i) := fun i => fin1_of_cmp (congrFun (hp c).2.2.2 i)
  obtain ⟨h0, h1, h2, h3⟩ := agree c
  have := h c
  rw [h0, h1, h2, h3] at this ⊢
  rw [autoSiluCot_eq f0 f1 f2 f3, autoAffDx_eq (by decide) lit_512n (Fin1.siluCot f0 f1 f2 f3) f1 f2] at this
  exact this
end Cert.ConvLn

end
-- ==== Proof.Loss.Kernel.lean ====
/-
  The down-projection, the last residual sum with its norm, the loss and their gradients: a block of rows at every point,
  the loss and three column sums accumulated over the points.
-/
module

public import proofs.«01_k».proof.Proof.Norm.Loss
public import proofs.«01_k».proof.Proof.Gen.Kernel31Ideal.Value
public import Idealize.ShloMosaic.Lib.Pipeline.ValueKit
public import Idealize.ShloMosaic.Lib.Pointwise

@[expose] public section

set_option maxRecDepth 16384
set_option maxHeartbeats 1000000

noncomputable section

namespace Cert.Kernel31Ideal.Loss

open Cert.Kernel31Ideal Cert.Kernel31Ideal.Gen Idealize.ShloMosaic Idealize.ShloMosaic.TcCoe Idealize.SL.Sem Cert.Product Cert.Norm

variable (m : (ℓ : Loc nD τ sig) → Buf (Elt Ideal) ℓ)

/-- The blocks of the arrays at point `t`. -/
theorem idx : ∀ t : Fin cfg0.N, win0_0.index t = ![t.val, 0] ∧
    win0_1.index t = ![t.val, 0] ∧
    win0_2.index t = ![0, 0] ∧
    win0_3.index t = ![0, 0] ∧
    win0_4.index t = ![0, 0] ∧
    win0_5.index t = ![0, 0] ∧
    win0_6.index t = ![t.val, 0] ∧
    win0_7.index t = ![t.val, 0] ∧
    win0_8.index t = ![t.val, 0] ∧
    win0_9.index t = ![0, 0] ∧
    win0_10.index t = ![0, 0] ∧
    win0_11.index t = ![0, 0] ∧
    win0_12.index t = ![0, 0] :=
  (by decide +kernel : ∀ t : Fin grid0.N, _)

/-- The row of the whole arrays that row `r` of the blocks at point `t` is. -/
def rowOf (t : Fin cfg0.N) (r : Fin 512) : Fin 8192 :=
  ⟨t.val * 512 + r.val, by have := r.isLt; have := t.isLt; have h : cfg0.N = 16 := N_0; omega⟩

/-- A row of a block's product. -/
def dotRow (x : Mat 512 2816) (y : Mat 2816 1024) (r : Fin 512) : Fin 1024 → EReal := fun k => ∑ j : Fin 2816, x (ix2 r j) * y (ix2 j k)

/-- The block of the product. -/
theorem prod (v3 : Mat 512 2816) (v4 : Mat 2816 1024) (r : Fin 512) (k : Fin 1024) :
    k0_pay8 (F := Ideal) v3 v4 (ix2 r k) =
      dotRow v3 v4 r k := by
  unfold k0_pay8
  pointwise [dotRow]

/-- A row of the residual sum, its mean subtracted. -/
theorem dist (v3 : Mat 512 2816) (v4 : Mat 2816 1024) (v6 : Mat 512 1024) (v9 : Mat 1 1024) (r : Fin 512) (k : Fin 1024) :
    k0_pay9 (F := Ideal) v3 v4 v6 v9 (ix2 r k) =
      (resid (row v6 r) (dotRow v3 v4 r) v9) k - mean 0x44800000#32 (resid (row v6 r) (dotRow v3 v4 r) v9) := by
  unfold k0_pay9
  pointwise [mean, resid, row, prod]

/-- The inverse deviation of a row of the residual sum. -/
theorem dev (v3 : Mat 512 2816) (v4 : Mat 2816 1024) (v6 : Mat 512 1024) (v9 : Mat 1 1024) (r : Fin 512) (z : Fin 1) :
    k0_pay10 (F := Ideal) v3 v4 v6 v9 (ix2 r z) =
      rstd 0x44800000#32 (resid (row v6 r) (dotRow v3 v4 r) v9) := by
  unfold k0_pay10
  pointwise [dist]
  rfl

/-- A row of the residual sum, normalised. -/
theorem normed (v3 : Mat 512 2816) (v4 : Mat 2816 1024) (v6 : Mat 512 1024) (v9 : Mat 1 1024) (r : Fin 512) (k : Fin 1024) :
    k0_pay11 (F := Ideal) v3 v4 v6 v9 (ix2 r k) =
      hat 0x44800000#32 (resid (row v6 r) (dotRow v3 v4 r) v9) k := by
  unfold k0_pay11
  pointwise [dist, dev]
  rfl

/-- The difference from the target in the block. -/
theorem err (v3 : Mat 512 2816) (v4 : Mat 2816 1024) (v6 : Mat 512 1024) (v9 : Mat 1 1024) (r : Fin 512) (v29 v32 : Mat 1 1024) (v35 : Mat 512 1024) (k : Fin 1024) :
    k0_pay13 (F := Ideal) (k0_pay12 v3 v4 v6 v9 v29 v32) v35 (ix2 r k) =
      affRow 0x44800000#32 (resid (row v6 r) (dotRow v3 v4 r) v9) v29 v32 k - v35 (ix2 r k) := by
  unfold k0_pay13 k0_pay12
  pointwise [normed]
  rfl

/-- The cotangent of the norm in the block. -/
theorem cot (v3 : Mat 512 2816) (v4 : Mat 2816 1024) (v6 : Mat 512 1024) (v9 : Mat 1 1024) (r : Fin 512) (v29 v32 : Mat 1 1024) (v35 : Mat 512 1024) (k : Fin 1024) :
    k0_pay15 (F := Ideal) (k0_pay12 v3 v4 v6 v9 v29 v32) v35 (ix2 r k) =
      Ideal.div (affRow 0x44800000#32 (resid (row v6 r) (dotRow v3 v4 r) v9) v29 v32 k - v35 (ix2 r k)) (lit 0x44800000#32) := by
  unfold k0_pay15
  pointwise [err]

/-- The same by the scale. -/
theorem scaled (v3 : Mat 512 2816) (v4 : Mat 2816 1024) (v6 : Mat 512 1024) (v9 : Mat 1 1024) (r : Fin 512) (v29 v32 : Mat 1 1024) (v35 : Mat 512 1024) (k : Fin 1024) :
    k0_pay18 (F := Ideal) (k0_pay12 v3 v4 v6 v9 v29 v32) v35 v29 (ix2 r k) =
      affCot (fun k => Ideal.div (affRow 0x44800000#32 (resid (row v6 r) (dotRow v3 v4 r) v9) v29 v32 k - v35 (ix2 r k)) (lit 0x44800000#32)) v29 k := by
  unfold k0_pay18
  pointwise [cot, affCot]

/-- Its sum along the row. -/
theorem total (v3 : Mat 512 2816) (v4 : Mat 2816 1024) (v6 : Mat 512 1024) (v9 : Mat 1 1024) (r : Fin 512) (v29 v32 : Mat 1 1024) (v35 : Mat 512 1024) (z : Fin 1) :
    k0_pay19 (F := Ideal) (k0_pay12 v3 v4 v6 v9 v29 v32) v35 v29 (ix2 r z) =
      ∑ k : Fin 1024, affCot (fun k => Ideal.div (affRow 0x44800000#32 (resid (row v6 r) (dotRow v3 v4 r) v9) v29 v32 k - v35 (ix2 r k)) (lit 0x44800000#32)) v29 k := by
  unfold k0_pay19
  pointwise [scaled]

/-- A row of the block's gradient of the residual sum. -/
theorem grad (v3 : Mat 512 2816) (v4 : Mat 2816 1024) (v6 : Mat 512 1024) (v9 : Mat 1 1024) (r : Fin 512) (v29 v32 : Mat 1 1024) (v35 : Mat 512 1024) (k : Fin 1024) :
    k0_pay1 (F := Ideal) (k0_pay10 v3 v4 v6 v9) (k0_pay11 v3 v4 v6 v9) (k0_pay18 (k0_pay12 v3 v4 v6 v9 v29 v32) v35 v29) (k0_pay19 (k0_pay12 v3 v4 v6 v9 v29 v32) v35 v29) (ix2 r k) =
      back 0x44800000#32 (affCot (fun k => Ideal.div (affRow 0x44800000#32 (resid (row v6 r) (dotRow v3 v4 r) v9) v29 v32 k - v35 (ix2 r k)) (lit 0x44800000#32)) v29) (resid (row v6 r) (dotRow v3 v4 r) v9) k := by
  unfold k0_pay1
  pointwise [normed, dev, scaled, total]
  rfl

/-- The sum over one block's rows. -/
def blkSum (G : Mat 8192 1024) (t : Fin cfg0.N) (j : S1x1024.Idx) : EReal := ∑ r : Fin 512, G (ix2 (rowOf t r) (j 1))

/-- The blocks' sums add up to the sum of the whole column. -/
theorem sum_blkSum (G : Mat 8192 1024) (j : S1x1024.Idx) : (0 : EReal) + ∑ t, blkSum G t j = colSum G j := by
  rw [zero_add]
  have h : cfg0.N = 16 := N_0
  exact Fin.sum_mul_add_congr (F := fun t r => G (ix2 (rowOf t r) (j 1))) (f := fun l => G (ix2 l (j 1)))
    (fun s k hl => rfl) (by rw [h])

/-- The block's product, in the whole array. -/
theorem atY0 (c : Dev nD) (t : Fin cfg0.N) (r : Fin 512) (k : Fin 1024) :
    dotRow (iblk m c 1 t) (iblk m c 2 t) r k =
      (nn (m ((c : Thread nD τ).loc main_arg1)) (m ((c : Thread nD τ).loc main_arg2))) (ix2 (rowOf t r) k) := by
  exact Finset.sum_congr (M := EReal) rfl fun j _ => congrArg₂ (fun a b : EReal => a * b) (by (try simp only [row]) <;> blk_point [iblk, V, idx t, rowOf]) (by (try simp only [row]) <;> blk_point [iblk, V, idx t, rowOf])

/-- The same, as the kernel writes it. -/
theorem atY (c : Dev nD) (t : Fin cfg0.N) (r : Fin 512) (k : Fin 1024) :
    k0_pay8 (F := Ideal) (iblk m c 1 t) (iblk m c 2 t) (ix2 r k) =
      (nn (m ((c : Thread nD τ).loc main_arg1)) (m ((c : Thread nD τ).loc main_arg2))) (ix2 (rowOf t r) k) := by
  exact (prod _ _ _ _).trans (atY0 m c t r k)

/-- The block's residual sum, in the whole array. -/
theorem atR (c : Dev nD) (t : Fin cfg0.N) (r : Fin 512) (k : Fin 1024) :
    (resid (row (iblk m c 0 t) r) (dotRow (iblk m c 1 t) (iblk m c 2 t) r) (iblk m c 3 t)) k =
      (residArr (m ((c : Thread nD τ).loc main_arg0)) (nn (m ((c : Thread nD τ).loc main_arg1)) (m ((c : Thread nD τ).loc main_arg2))) (m ((c : Thread nD τ).loc main_arg3))) (ix2 (rowOf t r) k) := by
  refine resid_congr (fun k => ?_) (fun k => atY0 m c t r k) (fun k => ?_) rfl <;> (try simp only [row]) <;> blk_point [iblk, V, idx t, rowOf]

/-- The block's residual sum normalised, in the whole array. -/
theorem atH (c : Dev nD) (t : Fin cfg0.N) (r : Fin 512) (k : Fin 1024) :
    k0_pay11 (F := Ideal) (iblk m c 1 t) (iblk m c 2 t) (iblk m c 0 t) (iblk m c 3 t) (ix2 r k) =
      hat 0x44800000#32 (row (residArr (m ((c : Thread nD τ).loc main_arg0)) (nn (m ((c : Thread nD τ).loc main_arg1)) (m ((c : Thread nD τ).loc main_arg2))) (m ((c : Thread nD τ).loc main_arg3))) (rowOf t r)) k := by
  exact (normed _ _ _ _ _ _).trans (hat_congr (fun k => atR m c t r k) rfl)

/-- The block's differences, in the whole array. -/
theorem atErr0 (c : Dev nD) (t : Fin cfg0.N) (r : Fin 512) (k : Fin 1024) :
    affRow 0x44800000#32 (resid (row (iblk m c 0 t) r) (dotRow (iblk m c 1 t) (iblk m c 2 t) r) (iblk m c 3 t)) (iblk m c 4 t) (iblk m c 5 t) k - (iblk m c 6 t) (ix2 r k) =
      (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))) (ix2 (rowOf t r) k) := by
  simp only [errArr]
  refine congrArg₂ (fun a b : EReal => a - b) (affRow_congr (fun k => atR m c t r k) (fun k => ?_) (fun k => ?_) rfl) ?_ <;> (try simp only [row]) <;> blk_point [iblk, V, idx t, rowOf]

/-- The block's cotangent of the norm, in the whole array. -/
theorem atZ0 (c : Dev nD) (t : Fin cfg0.N) (r : Fin 512) (k : Fin 1024) :
    Ideal.div (affRow 0x44800000#32 (resid (row (iblk m c 0 t) r) (dotRow (iblk m c 1 t) (iblk m c 2 t) r) (iblk m c 3 t)) (iblk m c 4 t) (iblk m c 5 t) k - (iblk m c 6 t) (ix2 r k)) (lit 0x44800000#32) =
      (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (ix2 (rowOf t r) k) := by
  exact congrArg (fun a => Ideal.div a (lit 0x44800000#32)) (atErr0 m c t r k)

/-- The same, as the kernel writes it. -/
theorem atZ (c : Dev nD) (t : Fin cfg0.N) (r : Fin 512) (k : Fin 1024) :
    k0_pay15 (F := Ideal) (k0_pay12 (iblk m c 1 t) (iblk m c 2 t) (iblk m c 0 t) (iblk m c 3 t) (iblk m c 4 t) (iblk m c 5 t)) (iblk m c 6 t) (ix2 r k) =
      (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (ix2 (rowOf t r) k) := by
  exact (cot _ _ _ _ _ _ _ _ _).trans (atZ0 m c t r k)

/-- The differences, as the kernel writes them. -/
theorem atErr (c : Dev nD) (t : Fin cfg0.N) (r : Fin 512) (k : Fin 1024) :
    k0_pay13 (F := Ideal) (k0_pay12 (iblk m c 1 t) (iblk m c 2 t) (iblk m c 0 t) (iblk m c 3 t) (iblk m c 4 t) (iblk m c 5 t)) (iblk m c 6 t) (ix2 r k) =
      (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))) (ix2 (rowOf t r) k) := by
  exact (err _ _ _ _ _ _ _ _ _).trans (atErr0 m c t r k)

/-- The block's gradient of the residual sum, in the whole array. -/
theorem atE (c : Dev nD) (t : Fin cfg0.N) (r : Fin 512) (k : Fin 1024) :
    k0_pay1 (F := Ideal) (k0_pay10 (iblk m c 1 t) (iblk m c 2 t) (iblk m c 0 t) (iblk m c 3 t)) (k0_pay11 (iblk m c 1 t) (iblk m c 2 t) (iblk m c 0 t) (iblk m c 3 t)) (k0_pay18 (k0_pay12 (iblk m c 1 t) (iblk m c 2 t) (iblk m c 0 t) (iblk m c 3 t) (iblk m c 4 t) (iblk m c 5 t)) (iblk m c 6 t) (iblk m c 4 t)) (k0_pay19 (k0_pay12 (iblk m c 1 t) (iblk m c 2 t) (iblk m c 0 t) (iblk m c 3 t) (iblk m c 4 t) (iblk m c 5 t)) (iblk m c 6 t) (iblk m c 4 t)) (ix2 r k) =
      (affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))) (ix2 (rowOf t r) k) := by
  refine (grad _ _ _ _ _ _ _ _ _).trans ?_
  simp only [affDx]
  refine back_congr (fun k => atZ0 m c t r k) (fun k => atR m c t r k) (fun k => ?_) rfl
  (try simp only [row]) <;> blk_point [iblk, V, idx t, rowOf]

/-- What one block adds to the loss. -/
def blkLoss (e : Mat 8192 1024) (t : Fin cfg0.N) (_ : S1x1.Idx) : EReal := ∑ r : Fin 512, lossRow e (rowOf t r)

/-- The blocks' parts add up to the loss. -/
theorem sum_blkLoss (e : Mat 8192 1024) (j : S1x1.Idx) : (0 : EReal) + ∑ t, blkLoss e t j = lossArr e j := by
  rw [zero_add]
  have h : cfg0.N = 16 := N_0
  exact Fin.sum_mul_add_congr (F := fun t r => lossRow e (rowOf t r)) (f := lossRow e) (fun s k hl => rfl) (by rw [h])

/-- The loss of one block. -/
theorem blk_loss (c : Dev nD) (t : Fin cfg0.N) : lit 0x3F000000#32 * (∑ r : Fin 512, Ideal.div (∑ k : Fin 1024,
      k0_pay13 (F := Ideal) (k0_pay12 (iblk m c 1 t) (iblk m c 2 t) (iblk m c 0 t) (iblk m c 3 t) (iblk m c 4 t) (iblk m c 5 t)) (iblk m c 6 t) (ix2 r k) * k0_pay13 (F := Ideal) (k0_pay12 (iblk m c 1 t) (iblk m c 2 t) (iblk m c 0 t) (iblk m c 3 t) (iblk m c 4 t) (iblk m c 5 t)) (iblk m c 6 t) (ix2 r k)) (lit 0x44800000#32)) =
    ∑ r : Fin 512, lossRow (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))) (rowOf t r) := by
  rw [half_sum]
  refine Finset.sum_congr (M := EReal) rfl fun r _ => congrArg (fun a => lit 0x3F000000#32 * Ideal.div a (lit 0x44800000#32)) ?_
  exact Finset.sum_congr (M := EReal) rfl fun k _ => congrArg₂ (fun a b : EReal => a * b) (atErr m c t r k) (atErr m c t r k)

/-- The result of one entry holds the loss. -/
theorem out9 (c : Dev nD) : (dats m 0 c).arrAt 9 cfg0.N = lossArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))) := by
  refine (dats m 0 c).arrAt_eq_of_after_last 9 t0_15 (by decide +kernel) _ fun j => ?_
  blk_simp
  rw [after0_9]
  refine (Pipeline.eq_sum_fin_of_reset_step_apply_last (fun n h => (outsAt0 m c n h).2.2.1) 16 (fun _ => (0 : EReal))
    (blkLoss (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))))
    (fun t h j => ?_) (fun t h j => ?_) N_0.le t0_15 rfl _).trans (sum_blkLoss _ _)
  · rw [outsAt0_A m c t h]
    idx_vars j
    frame_out
    unfold k0_pay14 k0_pay4
    pointwise []
    exact blk_loss m c t
  · rw [outsAt0_B m c t h]
    idx_vars j
    frame_out
    unfold k0_pay14
    pointwise []
    exact congrArg (_ + ·) (blk_loss m c t)

/-- The first result array holds the gradient of the residual sum. -/
theorem out7 (c : Dev nD) : (dats m 0 c).arrAt 7 cfg0.N =
    affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4)) := by
  refine (dats m 0 c).arrAt_eq_of_covers 7 _ (by decide +kernel) fun t hf y => ?_
  blk_simp
  rw [after0_7]
  idx_vars y
  have e : (win0_7.blk t).view.emb (ix2 y0 y1) = ix2 (rowOf t y0) y1 := by blk_ext [idx t, rowOf]
  rw [e]
  by_cases h : t.val % 16 = 0
  · rw [outsAt0_A m c t h]
    frame_out
    exact atE m c t y0 y1
  · rw [outsAt0_B m c t h]
    frame_out
    exact atE m c t y0 y1

/-- The second holds that of the product. -/
theorem out8 (c : Dev nD) : (dats m 0 c).arrAt 8 cfg0.N =
    gated (m ((c : Thread nD τ).loc main_arg3)) (affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))) := by
  refine (dats m 0 c).arrAt_eq_of_covers 8 _ (by decide +kernel) fun t hf y => ?_
  blk_simp
  rw [after0_8]
  idx_vars y
  have e : (win0_8.blk t).view.emb (ix2 y0 y1) = ix2 (rowOf t y0) y1 := by blk_ext [idx t, rowOf]
  rw [e]
  by_cases h : t.val % 16 = 0
  · rw [outsAt0_A m c t h]
    frame_out
    unfold k0_pay3
    pointwise []
    exact congrArg₂ (fun a b : EReal => a * b) (by (try simp only [row]) <;> blk_point [iblk, V, idx t, rowOf]) (atE m c t y0 y1)
  · rw [outsAt0_B m c t h]
    frame_out
    unfold k0_pay3
    pointwise []
    exact congrArg₂ (fun a b : EReal => a * b) (by (try simp only [row]) <;> blk_point [iblk, V, idx t, rowOf]) (atE m c t y0 y1)

/-- The gradient of the scale. -/
theorem out10 (c : Dev nD) : (dats m 0 c).arrAt 10 cfg0.N =
    colSum (byHat 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3)))) := by
  refine (dats m 0 c).arrAt_eq_of_after_last 10 t0_15 (by decide +kernel) _ fun j => ?_
  blk_simp
  rw [after0_10]
  refine (Pipeline.eq_sum_fin_of_reset_step_apply_last (fun n h => (outsAt0 m c n h).2.2.2.1) 16 (fun _ => (0 : EReal))
    (blkSum (byHat 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3)))))
    (fun t h j => ?_) (fun t h j => ?_) N_0.le t0_15 rfl _).trans (sum_blkSum _ _)
  · rw [outsAt0_A m c t h]
    idx_vars j
    frame_out
    unfold k0_pay16 k0_pay5
    pointwise []
    refine Finset.sum_congr rfl fun x _ => ?_
    exact congrArg₂ (fun a b : EReal => a * b) (atZ m c t x j1) (atH m c t x j1)
  · rw [outsAt0_B m c t h]
    idx_vars j
    frame_out
    unfold k0_pay16
    pointwise []
    refine congrArg (_ + ·) (Finset.sum_congr rfl fun x _ => ?_)
    exact congrArg₂ (fun a b : EReal => a * b) (atZ m c t x j1) (atH m c t x j1)

/-- The gradient of the shift. -/
theorem out11 (c : Dev nD) : (dats m 0 c).arrAt 11 cfg0.N =
    colSum ((divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))))) := by
  refine (dats m 0 c).arrAt_eq_of_after_last 11 t0_15 (by decide +kernel) _ fun j => ?_
  blk_simp
  rw [after0_11]
  refine (Pipeline.eq_sum_fin_of_reset_step_apply_last (fun n h => (outsAt0 m c n h).2.2.2.2.1) 16 (fun _ => (0 : EReal))
    (blkSum ((divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))))))
    (fun t h j => ?_) (fun t h j => ?_) N_0.le t0_15 rfl _).trans (sum_blkSum _ _)
  · rw [outsAt0_A m c t h]
    idx_vars j
    frame_out
    unfold k0_pay17 k0_pay6
    pointwise []
    refine Finset.sum_congr rfl fun x _ => ?_
    exact atZ m c t x j1
  · rw [outsAt0_B m c t h]
    idx_vars j
    frame_out
    unfold k0_pay17
    pointwise []
    refine congrArg (_ + ·) (Finset.sum_congr rfl fun x _ => ?_)
    exact atZ m c t x j1

/-- The gradient of the gate. -/
theorem out12 (c : Dev nD) : (dats m 0 c).arrAt 12 cfg0.N =
    colSum (byEntry (affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))) (nn (m ((c : Thread nD τ).loc main_arg1)) (m ((c : Thread nD τ).loc main_arg2)))) := by
  refine (dats m 0 c).arrAt_eq_of_after_last 12 t0_15 (by decide +kernel) _ fun j => ?_
  blk_simp
  rw [after0_12]
  refine (Pipeline.eq_sum_fin_of_reset_step_apply_last (fun n h => (outsAt0 m c n h).2.2.2.2.2) 16 (fun _ => (0 : EReal))
    (blkSum (byEntry (affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))) (nn (m ((c : Thread nD τ).loc main_arg1)) (m ((c : Thread nD τ).loc main_arg2)))))
    (fun t h j => ?_) (fun t h j => ?_) N_0.le t0_15 rfl _).trans (sum_blkSum _ _)
  · rw [outsAt0_A m c t h]
    idx_vars j
    frame_out
    unfold k0_pay2 k0_pay7
    pointwise []
    refine Finset.sum_congr rfl fun x _ => ?_
    exact congrArg₂ (fun a b : EReal => a * b) (atE m c t x j1) (atY m c t x j1)
  · rw [outsAt0_B m c t h]
    idx_vars j
    frame_out
    unfold k0_pay2
    pointwise []
    refine congrArg (_ + ·) (Finset.sum_congr rfl fun x _ => ?_)
    exact congrArg₂ (fun a b : EReal => a * b) (atE m c t x j1) (atY m c t x j1)

/-- The whole program ends with the six results holding the loss and the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))
      ∧ r.2.mem ((c : Thread nD τ).loc main_v0_1) =
        gated (m ((c : Thread nD τ).loc main_arg3)) (affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4)))
      ∧ r.2.mem ((c : Thread nD τ).loc main_v0_2) =
        lossArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))
      ∧ r.2.mem ((c : Thread nD τ).loc main_v0_3) =
        colSum (byHat 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))))
      ∧ r.2.mem ((c : Thread nD τ).loc main_v0_4) =
        colSum ((divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))))
      ∧ r.2.mem ((c : Thread nD τ).loc main_v0_5) =
        colSum (byEntry (affDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))) (nn (m ((c : Thread nD τ).loc main_arg1)) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (out7 m c),
    (h c).2.1.trans (out8 m c),
    (h c).2.2.1.trans (out9 m c),
    (h c).2.2.2.1.trans (out10 m c),
    (h c).2.2.2.2.1.trans (out11 m c),
    (h c).2.2.2.2.2.1.trans (out12 m c),
    (h c).2.2.2.2.2.2⟩) (Cert.Kernel31Ideal.Value.run_blocks m ρ)

end Cert.Kernel31Ideal.Loss
end
-- ==== Proof.Loss.Reference.lean ====
/-
  The reference of the down-projection, the last residual sum with its norm, the loss and their gradients.
-/
module

public import proofs.«01_k».proof.Proof.Norm.Auto
public import proofs.«01_k».proof.Proof.Gen.Reference31Ideal.Run
public import proofs.«01_k».proof.Proof.Gen.Reference31Ideal.Read
public import Idealize.ShloMosaic.Lib.Pipeline.ValueKit
public import Idealize.ShloMosaic.Lib.Pointwise

@[expose] public section

set_option maxRecDepth 16384

noncomputable section

namespace Cert.Reference31Ideal.Loss

open Cert.Reference31Ideal Cert.Reference31Ideal.Gen Cert.Reference31Ideal.Read Idealize.ShloMosaic Idealize.ShloMosaic.TcCoe Idealize.SL.Sem Cert.Product Cert.Norm

/-! How the reference's index maps read at a row and a column. -/

theorem ix_main_v5 (i0 : Fin 8192) (i1 : Fin 1024) : idx_main_v5 (ix2 i0 i1) = ix2 0 i1 :=
  funext fun a => match a with
    | ⟨0, _⟩ => rfl
    | ⟨1, _⟩ => rfl

theorem ix_main_v8 (i0 : Fin 8192) (k : Fin 1024) : idx_main_v8 (ix1 i0) k = ix2 i0 k :=
  funext fun a => match a with
    | ⟨0, _⟩ => rfl
    | ⟨1, _⟩ => rfl

theorem ix_main_v9 (i0 : Fin 8192) (i1 : Fin 1) : idx_main_v9 (ix2 i0 i1) = ix1 i0 :=
  funext fun a => match a with
    | ⟨0, _⟩ => rfl

theorem ix_main_v12 (i0 : Fin 8192) (i1 : Fin 1024) : idx_main_v12 (ix2 i0 i1) = ix2 i0 0 :=
  funext fun a => match a with
    | ⟨0, _⟩ => rfl
    | ⟨1, _⟩ => rfl

theorem ix_main_v17 (i0 : Fin 8192) (k : Fin 1024) : idx_main_v17 (ix1 i0) k = ix2 i0 k :=
  funext fun a => match a with
    | ⟨0, _⟩ => rfl
    | ⟨1, _⟩ => rfl

theorem ix_main_v18 (i0 : Fin 8192) (i1 : Fin 1) : idx_main_v18 (ix2 i0 i1) = ix1 i0 :=
  funext fun a => match a with
    | ⟨0, _⟩ => rfl

theorem ix_main_v21 (i0 : Fin 8192) (i1 : Fin 1024) : idx_main_v21 (ix2 i0 i1) = ix2 i0 0 :=
  funext fun a => match a with
    | ⟨0, _⟩ => rfl
    | ⟨1, _⟩ => rfl

theorem ix_main_v29 (i0 : Fin 8192) (i1 : Fin 1024) : idx_main_v29 (ix2 i0 i1) = ix2 i0 0 :=
  funext fun a => match a with
    | ⟨0, _⟩ => rfl
    | ⟨1, _⟩ => rfl

theorem ix_main_v31 (i0 : Fin 8192) (i1 : Fin 1024) : idx_main_v31 (ix2 i0 i1) = ix2 0 i1 :=
  funext fun a => match a with
    | ⟨0, _⟩ => rfl
    | ⟨1, _⟩ => rfl

theorem ix_main_v33 (i0 : Fin 8192) (i1 : Fin 1024) : idx_main_v33 (ix2 i0 i1) = ix2 0 i1 :=
  funext fun a => match a with
    | ⟨0, _⟩ => rfl
    | ⟨1, _⟩ => rfl

theorem ix_main_v39 (i0 : Fin 8192) (k : Fin 1024) : idx_main_v39 (ix1 i0) k = ix2 i0 k :=
  funext fun a => match a with
    | ⟨0, _⟩ => rfl
    | ⟨1, _⟩ => rfl

theorem ix_main_v48 (i0 : Fin 8192) (i1 : Fin 1024) : idx_main_v48 (ix2 i0 i1) = ix1 i0 :=
  funext fun a => match a with
    | ⟨0, _⟩ => rfl

theorem ix_main_v50 (i0 : Fin 1024) (k : Fin 8192) : idx_main_v50 (ix1 i0) k = ix2 k i0 :=
  funext fun a => match a with
    | ⟨0, _⟩ => rfl
    | ⟨1, _⟩ => rfl

theorem ix_main_v51 (i0 : Fin 1) (i1 : Fin 1024) : idx_main_v51 (ix2 i0 i1) = ix1 i1 :=
  funext fun a => match a with
    | ⟨0, _⟩ => Fin.ext (show i0.val * 1024 + i1.val = i1.val by omega)

theorem ix_main_v53 (i0 : Fin 1024) (k : Fin 8192) : idx_main_v53 (ix1 i0) k = ix2 k i0 :=
  funext fun a => match a with
    | ⟨0, _⟩ => rfl
    | ⟨1, _⟩ => rfl

theorem ix_main_v54 (i0 : Fin 1) (i1 : Fin 1024) : idx_main_v54 (ix2 i0 i1) = ix1 i1 :=
  funext fun a => match a with
    | ⟨0, _⟩ => Fin.ext (show i0.val * 1024 + i1.val = i1.val by omega)

theorem ix_main_v55 (i0 : Fin 8192) (i1 : Fin 1024) : idx_main_v55 (ix2 i0 i1) = ix2 0 i1 :=
  funext fun a => match a with
    | ⟨0, _⟩ => rfl
    | ⟨1, _⟩ => rfl

theorem ix_main_v58 (i0 : Fin 8192) (k : Fin 1024) : idx_main_v58 (ix1 i0) k = ix2 i0 k :=
  funext fun a => match a with
    | ⟨0, _⟩ => rfl
    | ⟨1, _⟩ => rfl

theorem ix_main_v59 (i0 : Fin 8192) (i1 : Fin 1) : idx_main_v59 (ix2 i0 i1) = ix1 i0 :=
  funext fun a => match a with
    | ⟨0, _⟩ => Fin.ext (show i0.val * 1 + i1.val = i0.val by omega)

theorem ix_main_v60 (i0 : Fin 8192) (i1 : Fin 1024) : idx_main_v60 (ix2 i0 i1) = ix2 i0 0 :=
  funext fun a => match a with
    | ⟨0, _⟩ => rfl
    | ⟨1, _⟩ => rfl

theorem ix_main_v64 (i0 : Fin 8192) (k : Fin 1024) : idx_main_v64 (ix1 i0) k = ix2 i0 k :=
  funext fun a => match a with
    | ⟨0, _⟩ => rfl
    | ⟨1, _⟩ => rfl

theorem ix_main_v65 (i0 : Fin 8192) (i1 : Fin 1) : idx_main_v65 (ix2 i0 i1) = ix1 i0 :=
  funext fun a => match a with
    | ⟨0, _⟩ => Fin.ext (show i0.val * 1 + i1.val = i0.val by omega)

theorem ix_main_v68 (i0 : Fin 8192) (k : Fin 1) : idx_main_v68 (ix1 i0) k = ix2 i0 k :=
  funext fun a => match a with
    | ⟨0, _⟩ => rfl
    | ⟨1, _⟩ => rfl

theorem ix_main_v69 (i0 : Fin 8192) (i1 : Fin 1024) : idx_main_v69 (ix2 i0 i1) = ix1 i0 :=
  funext fun a => match a with
    | ⟨0, _⟩ => rfl

theorem ix_main_v72 (i0 : Fin 8192) (k : Fin 1024) : idx_main_v72 (ix1 i0) k = ix2 i0 k :=
  funext fun a => match a with
    | ⟨0, _⟩ => rfl
    | ⟨1, _⟩ => rfl

theorem ix_main_v73 (i0 : Fin 8192) (i1 : Fin 1) : idx_main_v73 (ix2 i0 i1) = ix1 i0 :=
  funext fun a => match a with
    | ⟨0, _⟩ => Fin.ext (show i0.val * 1 + i1.val = i0.val by omega)

theorem ix_main_v78 (i0 : Fin 8192) (k : Fin 1) : idx_main_v78 (ix1 i0) k = ix2 i0 k :=
  funext fun a => match a with
    | ⟨0, _⟩ => rfl
    | ⟨1, _⟩ => rfl

theorem ix_main_v79 (i0 : Fin 8192) (i1 : Fin 1024) : idx_main_v79 (ix2 i0 i1) = ix1 i0 :=
  funext fun a => match a with
    | ⟨0, _⟩ => rfl

theorem ix_main_v83 (i0 : Fin 8192) (i1 : Fin 1024) : idx_main_v83 (ix2 i0 i1) = ix2 0 i1 :=
  funext fun a => match a with
    | ⟨0, _⟩ => rfl
    | ⟨1, _⟩ => rfl

theorem ix_main_v86 (i0 : Fin 1024) (k : Fin 8192) : idx_main_v86 (ix1 i0) k = ix2 k i0 :=
  funext fun a => match a with
    | ⟨0, _⟩ => rfl
    | ⟨1, _⟩ => rfl

theorem ix_main_v87 (i0 : Fin 1) (i1 : Fin 1024) : idx_main_v87 (ix2 i0 i1) = ix1 i1 :=
  funext fun a => match a with
    | ⟨0, _⟩ => Fin.ext (show i0.val * 1024 + i1.val = i1.val by omega)

/-- The product. -/
theorem prod (x1 : Mat 8192 2816) (x2 : Mat 2816 1024) (i0 : Fin 8192) (i1 : Fin 1024) :
    val_main_v2 (F := Ideal) x1 x2 (ix2 i0 i1) = nn x1 x2 (ix2 i0 i1) := by
  simp only [val_main_v2_apply, val_main_v0_apply, val_main_v1_apply]
  pointwise [nn]
  exact Finset.sum_congr (M := EReal) rfl fun k _ => congrArg₂ (fun a b : EReal => a * b) (read2 _ rfl rfl) (read2 _ rfl rfl)

/-- The residual sum. -/
theorem sum (x0 : Mat 8192 1024) (x1 : Mat 8192 2816) (x2 : Mat 2816 1024) (x3 : Mat 1 1024) (i0 : Fin 8192) (i1 : Fin 1024) :
    val_main_v7 (F := Ideal) x0 x1 x2 x3 (ix2 i0 i1) = residArr x0 (nn x1 x2) x3 (ix2 i0 i1) := by
  simp only [val_main_v7_apply, val_main_v4_apply, val_main_v3_apply, val_main_cst_apply, val_main_v6_apply, val_main_v5_apply,
    ix_main_v5, prod]
  pointwise [residArr, resid, row]
  try simp only [Fin.sum_univ_one]
  try rfl

/-- The distances from the mean of the residual sum. -/
theorem adist (x0 : Mat 8192 1024) (x1 : Mat 8192 2816) (x2 : Mat 2816 1024) (x3 : Mat 1 1024) (i0 : Fin 8192) (i1 : Fin 1024) :
    val_main_v13 (F := Ideal) x0 x1 x2 x3 (ix2 i0 i1) = row (residArr x0 (nn x1 x2) x3) i0 i1 - mean 0x44800000#32 (row (residArr x0 (nn x1 x2) x3) i0) := by
  simp only [val_main_v13_apply, val_main_v12_apply, val_main_v11_apply, val_main_v9_apply, val_main_v8_apply,
    val_main_cst_0_apply, val_main_v10_apply, val_main_cst_1_apply, ix_main_v12, ix_main_v8, ix_main_v9, sum]
  pointwise [mean, row]
  try simp only [Fin.sum_univ_one]
  try rfl

/-- The same, written a second time. -/
theorem adist2 (x0 : Mat 8192 1024) (x1 : Mat 8192 2816) (x2 : Mat 2816 1024) (x3 : Mat 1 1024) (i0 : Fin 8192) (i1 : Fin 1024) :
    val_main_v22 (F := Ideal) x0 x1 x2 x3 (ix2 i0 i1) = row (residArr x0 (nn x1 x2) x3) i0 i1 - mean 0x44800000#32 (row (residArr x0 (nn x1 x2) x3) i0) := by
  simp only [val_main_v22_apply, val_main_v21_apply, val_main_v11_apply, val_main_v9_apply, val_main_v8_apply,
    val_main_cst_0_apply, val_main_v10_apply, val_main_cst_1_apply, ix_main_v8, ix_main_v9, ix_main_v21, sum]
  pointwise [mean, row]
  try simp only [Fin.sum_univ_one]
  try rfl

/-- The variance and the small number. -/
theorem avard (x0 : Mat 8192 1024) (x1 : Mat 8192 2816) (x2 : Mat 2816 1024) (x3 : Mat 1 1024) (i0 : Fin 8192) (z : Fin 1) :
    val_main_v24 (F := Ideal) x0 x1 x2 x3 (ix2 i0 z) = var 0x44800000#32 (row (residArr x0 (nn x1 x2) x3) i0) + lit 0x3727C5AC#32 := by
  simp only [val_main_v24_apply, val_main_v20_apply, val_main_v18_apply, val_main_v17_apply, val_main_v14_apply,
    val_main_cst_3_apply, val_main_v19_apply, val_main_cst_4_apply, val_main_v23_apply, val_main_cst_5_apply,
    ix_main_v17, ix_main_v18, sum, adist]
  pointwise []
  try simp only [Fin.sum_univ_one]
  try rfl

/-- The inverse deviation. -/
theorem adev (x0 : Mat 8192 1024) (x1 : Mat 8192 2816) (x2 : Mat 2816 1024) (x3 : Mat 1 1024) (i0 : Fin 8192) (z : Fin 1) :
    val_main_v25 (F := Ideal) x0 x1 x2 x3 (ix2 i0 z) = rstd 0x44800000#32 (row (residArr x0 (nn x1 x2) x3) i0) := by
  simp only [val_main_v25_apply, sum, avard]
  pointwise []
  try simp only [Fin.sum_univ_one]
  try rfl

/-- The differences from the target. -/
theorem err (x0 : Mat 8192 1024) (x1 : Mat 8192 2816) (x2 : Mat 2816 1024) (x3 : Mat 1 1024) (x4 : Mat 1 1024) (x5 : Mat 1 1024) (x6 : Mat 8192 1024) (i0 : Fin 8192) (i1 : Fin 1024) :
    val_main_v35 (F := Ideal) x0 x1 x2 x3 x4 x5 x6 (ix2 i0 i1) = errArr (residArr x0 (nn x1 x2) x3) x4 x5 x6 (ix2 i0 i1) := by
  simp only [val_main_v35_apply, val_main_v34_apply, val_main_v32_apply, val_main_v30_apply, val_main_v29_apply,
    val_main_v31_apply, val_main_v33_apply, ix_main_v29, ix_main_v31, ix_main_v33, adist2, adev]
  pointwise [errArr, affRow, hat]
  try simp only [Fin.sum_univ_one]
  try rfl

/-- The cotangent of the norm. -/
theorem two (x0 : Mat 8192 1024) (x1 : Mat 8192 2816) (x2 : Mat 2816 1024) (x3 : Mat 1 1024) (x4 : Mat 1 1024) (x5 : Mat 1 1024) (x6 : Mat 8192 1024) (i0 : Fin 8192) (i1 : Fin 1024) :
    val_main_v49 (F := Ideal) x0 x1 x2 x3 x4 x5 x6 (ix2 i0 i1) = divArr (errArr (residArr x0 (nn x1 x2) x3) x4 x5 x6) (ix2 i0 i1) := by
  simp only [val_main_v49_apply, val_main_v48_apply, val_main_v47_apply, val_main_v45_apply, val_main_v44_apply,
    val_main_cst_12_apply, val_main_cst_13_apply, val_main_v46_apply, val_main_cst_14_apply, val_main_v38_apply,
    val_main_v37_apply, val_main_cst_7_apply, ix_main_v48, err]
  pointwise [divArr]
  exact half_two _

/-- The cotangent of the normalised array. -/
theorem acot (x0 : Mat 8192 1024) (x1 : Mat 8192 2816) (x2 : Mat 2816 1024) (x3 : Mat 1 1024) (x4 : Mat 1 1024) (x5 : Mat 1 1024) (x6 : Mat 8192 1024) (i0 : Fin 8192) (i1 : Fin 1024) :
    val_main_v56 (F := Ideal) x0 x1 x2 x3 x4 x5 x6 (ix2 i0 i1) = affCot (row (divArr (errArr (residArr x0 (nn x1 x2) x3) x4 x5 x6)) i0) x4 i1 := by
  simp only [val_main_v56_apply, val_main_v55_apply, ix_main_v55, two]
  pointwise [affCot, row]
  try simp only [Fin.sum_univ_one]
  try rfl

/-- The gradient of the variance's mean. -/
theorem apart (x0 : Mat 8192 1024) (x1 : Mat 8192 2816) (x2 : Mat 2816 1024) (x3 : Mat 1 1024) (x4 : Mat 1 1024) (x5 : Mat 1 1024) (x6 : Mat 8192 1024) (i0 : Fin 8192) :
    val_main_v68 (F := Ideal) x0 x1 x2 x3 x4 x5 x6 (ix1 i0) = Ideal.div ((∑ j, (row (residArr x0 (nn x1 x2) x3) i0 j - mean 0x44800000#32 (row (residArr x0 (nn x1 x2) x3) i0)) * affCot (row (divArr (errArr (residArr x0 (nn x1 x2) x3) x4 x5 x6)) i0) x4 j) *
      (lit 0xBF000000#32 * Ideal.div (rstd 0x44800000#32 (row (residArr x0 (nn x1 x2) x3) i0)) (var 0x44800000#32 (row (residArr x0 (nn x1 x2) x3) i0) + lit 0x3727C5AC#32))) (lit 0x44800000#32) := by
  simp only [val_main_v68_apply, val_main_v67_apply, val_main_v62_apply, val_main_v59_apply, val_main_v58_apply,
    val_main_v57_apply, val_main_cst_17_apply, val_main_v28_apply, val_main_v27_apply, val_main_cst_6_apply,
    val_main_v26_apply, val_main_v66_apply, val_main_cst_19_apply, val_main_cst_20_apply, ix_main_v59, ix_main_v68,
    ix_main_v58, two, adist, adist2, avard, adev, acot]
  pointwise []
  try simp only [Fin.sum_univ_one]
  try rfl

/-- The gradient of the array. -/
theorem aback (x0 : Mat 8192 1024) (x1 : Mat 8192 2816) (x2 : Mat 2816 1024) (x3 : Mat 1 1024) (x4 : Mat 1 1024) (x5 : Mat 1 1024) (x6 : Mat 8192 1024) (i0 : Fin 8192) (i1 : Fin 1024) :
    val_main_v80 (F := Ideal) x0 x1 x2 x3 x4 x5 x6 (ix2 i0 i1) = autoBack 0x44800000#32 (affCot (row (divArr (errArr (residArr x0 (nn x1 x2) x3) x4 x5 x6)) i0) x4) (row (residArr x0 (nn x1 x2) x3) i0) i1 := by
  simp only [val_main_v80_apply, val_main_v74_apply, val_main_v61_apply, val_main_v60_apply, val_main_v70_apply,
    val_main_v69_apply, val_main_v16_apply, val_main_v15_apply, val_main_cst_2_apply, val_main_v79_apply,
    val_main_v78_apply, val_main_v77_apply, val_main_v75_apply, val_main_v65_apply, val_main_v64_apply,
    val_main_v63_apply, val_main_cst_18_apply, val_main_v73_apply, val_main_v72_apply, val_main_v71_apply,
    val_main_cst_21_apply, val_main_v76_apply, val_main_cst_22_apply, val_main_cst_23_apply, ix_main_v64, ix_main_v60,
    ix_main_v73, ix_main_v78, ix_main_v69, ix_main_v65, ix_main_v79, ix_main_v72, two, adist, adist2, avard, adev, acot,
    apart]
  pointwise []
  try simp only [Fin.sum_univ_one]
  try rfl

/-- The mean square of one row. -/
theorem meanSq (x0 : Mat 8192 1024) (x1 : Mat 8192 2816) (x2 : Mat 2816 1024) (x3 : Mat 1 1024) (x4 : Mat 1 1024) (x5 : Mat 1 1024) (x6 : Mat 8192 1024) (i0 : Fin 8192) :
    val_main_v41 (F := Ideal) x0 x1 x2 x3 x4 x5 x6 (ix1 i0) = Ideal.div (∑ k : Fin 1024, errArr (residArr x0 (nn x1 x2) x3) x4 x5 x6 (ix2 i0 k) * errArr (residArr x0 (nn x1 x2) x3) x4 x5 x6 (ix2 i0 k)) (lit 0x44800000#32) := by
  simp only [val_main_v41_apply, val_main_v39_apply, val_main_v36_apply, val_main_cst_8_apply, val_main_v40_apply,
    val_main_cst_9_apply, ix_main_v39, err]
  pointwise []

/-- Half of the sum of the rows' mean squares. -/
theorem halfSum (x0 : Mat 8192 1024) (x1 : Mat 8192 2816) (x2 : Mat 2816 1024) (x3 : Mat 1 1024) (x4 : Mat 1 1024) (x5 : Mat 1 1024) (x6 : Mat 8192 1024) (i : S_.Idx) :
    val_main_v43 (F := Ideal) x0 x1 x2 x3 x4 x5 x6 i = lossArr (errArr (residArr x0 (nn x1 x2) x3) x4 x5 x6) (ix2 0 0) := by
  have h : val_main_v42 (F := Ideal) x0 x1 x2 x3 x4 x5 x6 i = ∑ a : Fin 8192, val_main_v41 (F := Ideal) x0 x1 x2 x3 x4 x5 x6 (ix1 a) := by
    simp only [val_main_v42_apply, val_main_cst_10_apply]
    generalize val_main_v41 (F := Ideal) x0 x1 x2 x3 x4 x5 x6 = y
    pointwise []
    exact sum_idx1 (M := EReal) (n0 := 8192) y
  simp only [val_main_v43_apply, val_main_cst_11_apply, h, meanSq]
  exact half_sum _ _

/-- The loss. -/
theorem loss (x0 : Mat 8192 1024) (x1 : Mat 8192 2816) (x2 : Mat 2816 1024) (x3 : Mat 1 1024) (x4 : Mat 1 1024) (x5 : Mat 1 1024) (x6 : Mat 8192 1024) (i0 : Fin 1) (i1 : Fin 1) :
    val_main_v89 (F := Ideal) x0 x1 x2 x3 x4 x5 x6 (ix2 i0 i1) = lossArr (errArr (residArr x0 (nn x1 x2) x3) x4 x5 x6) (ix2 i0 i1) :=
  halfSum x0 x1 x2 x3 x4 x5 x6 _

/-- The gradient of the residual sum. -/
theorem ref0 (x0 : Mat 8192 1024) (x1 : Mat 8192 2816) (x2 : Mat 2816 1024) (x3 : Mat 1 1024) (x4 : Mat 1 1024) (x5 : Mat 1 1024) (x6 : Mat 8192 1024) : val_main_v80 (F := Ideal) x0 x1 x2 x3 x4 x5 x6 = autoAffDx 0x44800000#32 (divArr (errArr (residArr x0 (nn x1 x2) x3) x4 x5 x6)) (residArr x0 (nn x1 x2) x3) x4 := by
  funext i
  idx_vars i
  simp only [aback]
  pointwise [autoAffDx]
  try simp only [Fin.sum_univ_one]
  try rfl

/-- The gradient of the product. -/
theorem ref1 (x0 : Mat 8192 1024) (x1 : Mat 8192 2816) (x2 : Mat 2816 1024) (x3 : Mat 1 1024) (x4 : Mat 1 1024) (x5 : Mat 1 1024) (x6 : Mat 8192 1024) : val_main_v88 (F := Ideal) x0 x1 x2 x3 x4 x5 x6 = gated x3 (autoAffDx 0x44800000#32 (divArr (errArr (residArr x0 (nn x1 x2) x3) x4 x5 x6)) (residArr x0 (nn x1 x2) x3) x4) := by
  funext i
  idx_vars i
  simp only [val_main_v88_apply, val_main_v84_apply, val_main_v83_apply, ix_main_v83, aback]
  pointwise [gated, autoAffDx]
  try simp only [Fin.sum_univ_one]
  try rfl

/-- The loss. -/
theorem ref2 (x0 : Mat 8192 1024) (x1 : Mat 8192 2816) (x2 : Mat 2816 1024) (x3 : Mat 1 1024) (x4 : Mat 1 1024) (x5 : Mat 1 1024) (x6 : Mat 8192 1024) : val_main_v89 (F := Ideal) x0 x1 x2 x3 x4 x5 x6 = lossArr (errArr (residArr x0 (nn x1 x2) x3) x4 x5 x6) := by
  funext i
  idx_vars i
  exact loss _ _ _ _ _ _ _ _ _

/-- The gradient of the scale. -/
theorem ref3 (x0 : Mat 8192 1024) (x1 : Mat 8192 2816) (x2 : Mat 2816 1024) (x3 : Mat 1 1024) (x4 : Mat 1 1024) (x5 : Mat 1 1024) (x6 : Mat 8192 1024) : val_main_v54 (F := Ideal) x0 x1 x2 x3 x4 x5 x6 = colSum (byHat 0x44800000#32 (divArr (errArr (residArr x0 (nn x1 x2) x3) x4 x5 x6)) (residArr x0 (nn x1 x2) x3)) := by
  funext i
  idx_vars i
  simp only [val_main_v54_apply, val_main_v53_apply, val_main_v52_apply, val_main_v30_apply, val_main_v29_apply,
      val_main_cst_16_apply, ix_main_v29, ix_main_v53, ix_main_v54, adist2, adev, two]
  pointwise [colSum, byHat, hat]
  exact Finset.sum_congr rfl fun r _ => mul_comm _ _

/-- The gradient of the shift. -/
theorem ref4 (x0 : Mat 8192 1024) (x1 : Mat 8192 2816) (x2 : Mat 2816 1024) (x3 : Mat 1 1024) (x4 : Mat 1 1024) (x5 : Mat 1 1024) (x6 : Mat 8192 1024) : val_main_v51 (F := Ideal) x0 x1 x2 x3 x4 x5 x6 = colSum (divArr (errArr (residArr x0 (nn x1 x2) x3) x4 x5 x6)) := by
  funext i
  idx_vars i
  simp only [val_main_v51_apply, val_main_v50_apply, val_main_cst_15_apply, ix_main_v50, ix_main_v51, two]
  pointwise [colSum]

/-- The gradient of the gate. -/
theorem ref5 (x0 : Mat 8192 1024) (x1 : Mat 8192 2816) (x2 : Mat 2816 1024) (x3 : Mat 1 1024) (x4 : Mat 1 1024) (x5 : Mat 1 1024) (x6 : Mat 8192 1024) : val_main_v87 (F := Ideal) x0 x1 x2 x3 x4 x5 x6 = colSum (byEntry (autoAffDx 0x44800000#32 (divArr (errArr (residArr x0 (nn x1 x2) x3) x4 x5 x6)) (residArr x0 (nn x1 x2) x3) x4) (nn x1 x2)) := by
  funext i
  idx_vars i
  simp only [val_main_v87_apply, val_main_v86_apply, val_main_v85_apply, val_main_cst_24_apply, ix_main_v86, ix_main_v87, aback,
      prod]
  pointwise [colSum, byEntry, autoAffDx]
  try simp only [Fin.sum_univ_one]
  try rfl

/-- The whole program ends with the six results holding the loss and the gradients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v80) =
        autoAffDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))
      ∧ r.2.mem ((c : Thread nD τ).loc main_v88) =
        gated (m ((c : Thread nD τ).loc main_arg3)) (autoAffDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4)))
      ∧ r.2.mem ((c : Thread nD τ).loc main_v89) =
        lossArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))
      ∧ r.2.mem ((c : Thread nD τ).loc main_v54) =
        colSum (byHat 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))))
      ∧ r.2.mem ((c : Thread nD τ).loc main_v51) =
        colSum (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6))))
      ∧ r.2.mem ((c : Thread nD τ).loc main_v87) =
        colSum (byEntry (autoAffDx 0x44800000#32 (divArr (errArr (residArr (m ((c : Thread nD τ).loc main_arg0)) (nn (m ((c : Thread nD τ).loc main_arg1)) (m ((c : Thread nD τ).loc main_arg2))) (m ((c : Thread nD τ).loc main_arg3))) (m ((c : Thread nD τ).loc main_arg4)) (m ((c : Thread nD τ).loc main_arg5)) (m ((c : Thread nD τ).loc main_arg6)))) (residArr (m ((c : Thread nD τ).loc main_arg0)) (nn (m ((c : Thread nD τ).loc main_arg1)) (m ((c : Thread nD τ).loc main_arg2))) (m ((c : Thread nD τ).loc main_arg3))) (m ((c : Thread nD τ).loc main_arg4))) (nn (m ((c : Thread nD τ).loc main_arg1)) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((val_main_v80_eq _ _).trans (ref0 _ _ _ _ _ _ _)),
    (h c).2.1.trans ((val_main_v88_eq _ _).trans (ref1 _ _ _ _ _ _ _)),
    (h c).2.2.1.trans ((val_main_v89_eq _ _).trans (ref2 _ _ _ _ _ _ _)),
    (h c).2.2.2.1.trans ((val_main_v54_eq _ _).trans (ref3 _ _ _ _ _ _ _)),
    (h c).2.2.2.2.1.trans ((val_main_v51_eq _ _).trans (ref4 _ _ _ _ _ _ _)),
    (h c).2.2.2.2.2.1.trans ((val_main_v87_eq _ _).trans (ref5 _ _ _ _ _ _ _)),
    (h c).2.2.2.2.2.2⟩) (Cert.Reference31Ideal.Value.run (F := Ideal) m ρ)

end Cert.Reference31Ideal.Loss
end
-- ==== Proof.Loss.Claims.lean ====
/-
  The claims about the down-projection, the last residual sum with its norm, and the loss: the reference's frame, and that the kernel and the reference end holding the same arrays.
-/
module

public import proofs.«01_k».proof.Defs
public import proofs.«01_k».proof.Proof.Loss.Kernel
public import proofs.«01_k».proof.Proof.Loss.Reference
public import proofs.«01_k».proof.Proof.Gen.Kernel31Ideal
public import proofs.«01_k».proof.Proof.Gen.Reference31Ideal
public import proofs.«01_k».proof.Proof.Gen.Pre_finite31
public import Idealize.ShloMosaic.Lib.Claim

@[expose] public section

set_option maxRecDepth 16384

noncomputable section

namespace Cert.Loss

open Idealize.ShloMosaic Idealize.ShloMosaic.TcCoe Idealize.SL.Sem Cert.Product Cert.Norm

/-- The reference terminates with its arguments unchanged; it declares no semaphore. -/
theorem frame_reference : Cert.quiescent_Reference31Ideal := fun m ρ _ =>
  (θ_run Cert.Reference31Ideal.defs _ _).mono
    (fun r h => ⟨fun c => (h c).2.2.2.2.2.2, sem_eq_zero_of_no_sems (by decide) r.2⟩)
    (Cert.Reference31Ideal.Value.run (F := Ideal) m ρ)

/-- The kernel and the reference compute the same arrays. -/
theorem algebraic : Cert.algebraic_Kernel31Ideal_Reference31Ideal_pre_finite31 := by
  intro m g m' g' hp agree
  refine ⟨_, _, _, _, _, _, Cert.Kernel31Ideal.Loss.run m g,
    (θ_run Cert.Reference31Ideal.defs _ _).mono (fun r h c => ?_) (Cert.Reference31Ideal.Loss.run m' g')⟩
  have f0 : ∀ i, Fin1 ((m ((c.tc : Thread Cert.Kernel31Ideal.nD Cert.Kernel31Ideal.τ).loc Cert.Kernel31Ideal.main_arg0) : Mat 8192 1024) i) := fun i => fin1_of_cmp (congrFun (hp c).1 i)
  have f1 : ∀ i, Fin1 ((m ((c.tc : Thread Cert.Kernel31Ideal.nD Cert.Kernel31Ideal.τ).loc Cert.Kernel31Ideal.main_arg1) : Mat 8192 2816) i) := fun i => fin1_of_cmp (congrFun (hp c).2.1 i)
  have f2 : ∀ i, Fin1 ((m ((c.tc : Thread Cert.Kernel31Ideal.nD Cert.Kernel31Ideal.τ).loc Cert.Kernel31Ideal.main_arg2) : Mat 2816 1024) i) := fun i => fin1_of_cmp (congrFun (hp c).2.2.1 i)
  have f3 : ∀ i, Fin1 ((m ((c.tc : Thread Cert.Kernel31Ideal.nD Cert.Kernel31Ideal.τ).loc Cert.Kernel31Ideal.main_arg3) : Mat 1 1024) i) := fun i => fin1_of_cmp (congrFun (hp c).2.2.2.1 i)
  have f4 : ∀ i, Fin1 ((m ((c.tc : Thread Cert.Kernel31Ideal.nD Cert.Kernel31Ideal.τ).loc Cert.Kernel31Ideal.main_arg4) : Mat 1 1024) i) := fun i => fin1_of_cmp (congrFun (hp c).2.2.2.2.1 i)
  have f5 : ∀ i, Fin1 ((m ((c.tc : Thread Cert.Kernel31Ideal.nD Cert.Kernel31Ideal.τ).loc Cert.Kernel31Ideal.main_arg5) : Mat 1 1024) i) := fun i => fin1_of_cmp (congrFun (hp c).2.2.2.2.2.1 i)
  have f6 : ∀ i, Fin1 ((m ((c.tc : Thread Cert.Kernel31Ideal.nD Cert.Kernel31Ideal.τ).loc Cert.Kernel31Ideal.main_arg6) : Mat 8192 1024) i) := fun i => fin1_of_cmp (congrFun (hp c).2.2.2.2.2.2 i)
  obtain ⟨h0, h1, h2, h3, h4, h5, h6⟩ := agree c
  have := h c
  rw [h0, h1, h2, h3, h4, h5, h6] at this ⊢
  rw [autoAffDx_eq (by decide) lit_1024n (Fin1.divArr (Fin1.errArr (Fin1.residArr f0 (Fin1.nn f1 f2) f3) f4 f5 f6)) (Fin1.residArr f0 (Fin1.nn f1 f2) f3) f4] at this
  exact this
end Cert.Loss

end
-- ==== Proof.Disc.Spec.lean ====
/-
  The discretisation of a state-space layer, entry by entry. It takes the real and the imaginary part of an eigenvalue
  and the logarithm of a step; with `r = min a c` (`c` the program's small negative number) and the step `Δ`, it gives
  the two parts of `exp ((r + b i) Δ)` and of `(exp ((r + b i) Δ) - 1) / (r + b i)`.
-/
module

public import proofs.«01_k».proof.Proof.Product.Spec
public import Idealize.ShloMosaic.Lib.Pointwise

@[expose] public section

noncomputable section

namespace Cert.Disc

open Idealize.ShloMosaic Cert.Product

/-- The value of a word of 32 bits read as a float. -/
abbrev lit (b : BitVec 32) : EReal := Ideal.ofBits .f32 b

/-- The clipped real part. -/
def clip (a : EReal) : EReal := min a (lit 0xB8D1B717#32)

section entry
-- an eigenvalue's parts and the step
variable (a b dt : EReal)

/-- The modulus of the discretised eigenvalue. -/
def mag : EReal := Ideal.exp (clip a * dt)
/-- Its real part. -/
def eigR : EReal := mag a dt * Ideal.cos (b * dt)
/-- Its imaginary part. -/
def eigI : EReal := mag a dt * Ideal.sin (b * dt)
/-- The square of the eigenvalue's modulus. -/
def den : EReal := clip a * clip a + b * b
/-- The input coefficient's real part. -/
def coefR : EReal := Ideal.div ((eigR a b dt - 1) * clip a + eigI a b dt * b) (den a b)
/-- The input coefficient's imaginary part. -/
def coefI : EReal := Ideal.div (eigI a b dt * clip a - (eigR a b dt - 1) * b) (den a b)

end entry

/-- A function of an eigenvalue and a step, at every entry: a row has one step, given by its logarithm. -/
def entries (f : EReal → EReal → EReal → EReal) (a b : Mat 32 64) (e : Mat 32 1) : Mat 32 64 := fun i =>
  f (a i) (b i) (Ideal.exp (e (ix2 (i 0) 0)))

end Cert.Disc

end
-- ==== Proof.Disc.Kernel.lean ====
/-
  The discretisation of the state-space layer.
-/
module

public import proofs.«01_k».proof.Proof.Disc.Spec
public import proofs.«01_k».proof.Proof.Gen.Kernel33Ideal.Value
public import Idealize.ShloMosaic.Lib.Pipeline.ValueKit
public import Idealize.ShloMosaic.Lib.Pointwise

@[expose] public section

set_option maxRecDepth 16384

noncomputable section

namespace Cert.Kernel33Ideal.Disc

open Cert.Kernel33Ideal Cert.Kernel33Ideal.Gen Cert.Kernel33Ideal.Value Idealize.ShloMosaic Idealize.ShloMosaic.TcCoe Idealize.SL.Sem Cert.Product Cert.Disc

/-- The real parts of the discretised eigenvalues. -/
theorem out3 (x0 x1 : Mat 32 64) (x2 : Mat 32 1) : G3 (F := Ideal) x0 x1 x2 =
    entries eigR x0 x1 x2 := by
  funext i
  idx_vars i
  unfold G3
  unfold k0_pay5 k0_pay4 k0_pay3 k0_pay2 k0_pay1
  pointwise [entries, eigR, eigI, coefR, coefI, den, mag, clip]

/-- Their imaginary parts. -/
theorem out4 (x0 x1 : Mat 32 64) (x2 : Mat 32 1) : G4 (F := Ideal) x0 x1 x2 =
    entries eigI x0 x1 x2 := by
  funext i
  idx_vars i
  unfold G4
  unfold k0_pay6 k0_pay4 k0_pay3 k0_pay2 k0_pay1
  pointwise [entries, eigR, eigI, coefR, coefI, den, mag, clip]

/-- The real parts of the input coefficients. -/
theorem out5 (x0 x1 : Mat 32 64) (x2 : Mat 32 1) : G5 (F := Ideal) x0 x1 x2 =
    entries coefR x0 x1 x2 := by
  funext i
  idx_vars i
  unfold G5
  unfold k0_pay9 k0_pay8 k0_pay7 k0_pay6 k0_pay5 k0_pay4 k0_pay3 k0_pay2 k0_pay1
  pointwise [entries, eigR, eigI, coefR, coefI, den, mag, clip]

/-- Their imaginary parts. -/
theorem out6 (x0 x1 : Mat 32 64) (x2 : Mat 32 1) : G6 (F := Ideal) x0 x1 x2 =
    entries coefI x0 x1 x2 := by
  funext i
  idx_vars i
  unfold G6
  unfold k0_pay10 k0_pay8 k0_pay7 k0_pay6 k0_pay5 k0_pay4 k0_pay3 k0_pay2 k0_pay1
  pointwise [entries, eigR, eigI, coefR, coefI, den, mag, clip]

/-- The whole program ends with the four results holding the two parts of the eigenvalues and of the coefficients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        entries eigR (m ((c : Thread nD τ).loc main_arg0)) (m ((c : Thread nD τ).loc main_arg1)) (m ((c : Thread nD τ).loc main_arg2))
      ∧ r.2.mem ((c : Thread nD τ).loc main_v0_1) =
        entries eigI (m ((c : Thread nD τ).loc main_arg0)) (m ((c : Thread nD τ).loc main_arg1)) (m ((c : Thread nD τ).loc main_arg2))
      ∧ r.2.mem ((c : Thread nD τ).loc main_v0_2) =
        entries coefR (m ((c : Thread nD τ).loc main_arg0)) (m ((c : Thread nD τ).loc main_arg1)) (m ((c : Thread nD τ).loc main_arg2))
      ∧ r.2.mem ((c : Thread nD τ).loc main_v0_3) =
        entries coefI (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out3 _ _ _),
    (h c).2.1.trans (out4 _ _ _),
    (h c).2.2.1.trans (out5 _ _ _),
    (h c).2.2.2.1.trans (out6 _ _ _),
    (h c).2.2.2.2⟩) (Cert.Kernel33Ideal.Value.run (F := Ideal) m ρ)

end Cert.Kernel33Ideal.Disc
end
-- ==== Proof.Disc.Reference.lean ====
/-
  The reference of the discretisation.
-/
module

public import proofs.«01_k».proof.Proof.Disc.Spec
public import proofs.«01_k».proof.Proof.Gen.Reference33Ideal.Run
public import proofs.«01_k».proof.Proof.Gen.Reference33Ideal.Read
public import Idealize.ShloMosaic.Lib.Pipeline.ValueKit
public import Idealize.ShloMosaic.Lib.Pointwise

@[expose] public section

set_option maxRecDepth 16384

noncomputable section

namespace Cert.Reference33Ideal.Disc

open Cert.Reference33Ideal Cert.Reference33Ideal.Gen Cert.Reference33Ideal.Read Idealize.ShloMosaic Idealize.ShloMosaic.TcCoe Idealize.SL.Sem Cert.Product Cert.Disc

/-- The step an entry meets is its row's. -/
theorem ixA (i0 : Fin 32) (i1 : Fin 64) : idx_main_v3 (ix2 i0 i1) = ix2 i0 0 :=
  funext fun a => match a with
    | ⟨0, _⟩ => rfl
    | ⟨1, _⟩ => rfl

/-- The step an entry meets is its row's. -/
theorem ixB (i0 : Fin 32) (i1 : Fin 64) : idx_main_v6 (ix2 i0 i1) = ix2 i0 0 :=
  funext fun a => match a with
    | ⟨0, _⟩ => rfl
    | ⟨1, _⟩ => rfl

/-- The real parts of the discretised eigenvalues. -/
theorem ref0 (x0 x1 : Mat 32 64) (x2 : Mat 32 1) : val_main_v9 (F := Ideal) x0 x1 x2 = entries eigR x0 x1 x2 := by
  funext i
  idx_vars i
  simp only [val_main_v9_apply, val_main_v5_apply, val_main_v4_apply, val_main_v1_apply, val_main_v0_apply, val_main_cst_apply,
      val_main_v3_apply, val_main_v2_apply, val_main_v8_apply, val_main_v7_apply, val_main_v6_apply]
  pointwise [entries, eigR, eigI, coefR, coefI, den, mag, clip]
  simp only [ixA, ixB, lit]

/-- Their imaginary parts. -/
theorem ref1 (x0 x1 : Mat 32 64) (x2 : Mat 32 1) : val_main_v11 (F := Ideal) x0 x1 x2 = entries eigI x0 x1 x2 := by
  funext i
  idx_vars i
  simp only [val_main_v11_apply, val_main_v5_apply, val_main_v4_apply, val_main_v1_apply, val_main_v0_apply, val_main_cst_apply,
      val_main_v3_apply, val_main_v2_apply, val_main_v10_apply, val_main_v7_apply, val_main_v6_apply]
  pointwise [entries, eigR, eigI, coefR, coefI, den, mag, clip]
  simp only [ixA, ixB, lit]

/-- The real parts of the input coefficients. -/
theorem ref2 (x0 x1 : Mat 32 64) (x2 : Mat 32 1) : val_main_v20 (F := Ideal) x0 x1 x2 = entries coefR x0 x1 x2 := by
  funext i
  idx_vars i
  simp only [val_main_v20_apply, val_main_v19_apply, val_main_v17_apply, val_main_v13_apply, val_main_v9_apply, val_main_v5_apply,
      val_main_v4_apply, val_main_v1_apply, val_main_v0_apply, val_main_cst_apply, val_main_v3_apply, val_main_v2_apply,
      val_main_v8_apply, val_main_v7_apply, val_main_v6_apply, val_main_v12_apply, val_main_cst_0_apply,
      val_main_v18_apply, val_main_v11_apply, val_main_v10_apply, val_main_v16_apply, val_main_v14_apply,
      val_main_v15_apply]
  pointwise [entries, eigR, eigI, coefR, coefI, den, mag, clip]
  simp only [ixA, ixB, lit]

/-- Their imaginary parts. -/
theorem ref3 (x0 x1 : Mat 32 64) (x2 : Mat 32 1) : val_main_v24 (F := Ideal) x0 x1 x2 = entries coefI x0 x1 x2 := by
  funext i
  idx_vars i
  simp only [val_main_v24_apply, val_main_v23_apply, val_main_v21_apply, val_main_v11_apply, val_main_v5_apply, val_main_v4_apply,
      val_main_v1_apply, val_main_v0_apply, val_main_cst_apply, val_main_v3_apply, val_main_v2_apply, val_main_v10_apply,
      val_main_v7_apply, val_main_v6_apply, val_main_v22_apply, val_main_v13_apply, val_main_v9_apply, val_main_v8_apply,
      val_main_v12_apply, val_main_cst_0_apply, val_main_v16_apply, val_main_v14_apply, val_main_v15_apply]
  pointwise [entries, eigR, eigI, coefR, coefI, den, mag, clip]
  simp only [ixA, ixB, lit]

/-- The whole program ends with the four results holding the two parts of the eigenvalues and of the coefficients, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9) =
        entries eigR (m ((c : Thread nD τ).loc main_arg0)) (m ((c : Thread nD τ).loc main_arg1)) (m ((c : Thread nD τ).loc main_arg2))
      ∧ r.2.mem ((c : Thread nD τ).loc main_v11) =
        entries eigI (m ((c : Thread nD τ).loc main_arg0)) (m ((c : Thread nD τ).loc main_arg1)) (m ((c : Thread nD τ).loc main_arg2))
      ∧ r.2.mem ((c : Thread nD τ).loc main_v20) =
        entries coefR (m ((c : Thread nD τ).loc main_arg0)) (m ((c : Thread nD τ).loc main_arg1)) (m ((c : Thread nD τ).loc main_arg2))
      ∧ r.2.mem ((c : Thread nD τ).loc main_v24) =
        entries coefI (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v9_eq _ _ _).trans (ref0 _ _ _)),
    (h c).2.1.trans ((val_main_v11_eq _ _ _).trans (ref1 _ _ _)),
    (h c).2.2.1.trans ((val_main_v20_eq _ _ _).trans (ref2 _ _ _)),
    (h c).2.2.2.1.trans ((val_main_v24_eq _ _ _).trans (ref3 _ _ _)),
    (h c).2.2.2.2⟩) (Cert.Reference33Ideal.Value.run (F := Ideal) m ρ)

end Cert.Reference33Ideal.Disc
end
-- ==== Proof.Disc.Claims.lean ====
/-
  The claims about the discretisation of the state-space layer: the reference's frame, and that the kernel and the reference end holding the same arrays.
-/
module

public import proofs.«01_k».proof.Defs
public import proofs.«01_k».proof.Proof.Disc.Kernel
public import proofs.«01_k».proof.Proof.Disc.Reference
public import proofs.«01_k».proof.Proof.Gen.Kernel33Ideal
public import proofs.«01_k».proof.Proof.Gen.Reference33Ideal
public import Idealize.ShloMosaic.Lib.Claim

@[expose] public section

set_option maxRecDepth 16384

noncomputable section

namespace Cert.Disc

open Idealize.ShloMosaic Idealize.ShloMosaic.TcCoe Idealize.SL.Sem

/-- The reference terminates with its arguments unchanged; it declares no semaphore. -/
theorem frame_reference : Cert.quiescent_Reference33Ideal := fun m ρ _ =>
  (θ_run Cert.Reference33Ideal.defs _ _).mono
    (fun r h => ⟨fun c => (h c).2.2.2.2, sem_eq_zero_of_no_sems (by decide) r.2⟩)
    (Cert.Reference33Ideal.Value.run (F := Ideal) m ρ)

/-- The kernel and the reference compute the same arrays. -/
theorem algebraic : Cert.algebraic_Kernel33Ideal_Reference33Ideal := by
  intro m g m' g' _ agree
  refine ⟨_, _, _, _, Cert.Kernel33Ideal.Disc.run m g,
    (θ_run Cert.Reference33Ideal.defs _ _).mono (fun r h c => ?_) (Cert.Reference33Ideal.Disc.run m' g')⟩
  obtain ⟨h0, h1, h2⟩ := agree c
  have := h c
  rw [h0, h1, h2] at this ⊢
  exact this

end Cert.Disc

end
-- ==== Proof.Cond.Spec.lean ====
/-
  The conditioning: the activated condition times the weights, with a row of biases added to every row.
-/
module

public import proofs.«01_k».proof.Proof.Product.Silu

@[expose] public section

noncomputable section

namespace Cert.Cond

open Idealize.ShloMosaic Cert.Product

/-- The activated condition times the weights, plus the biases. -/
def modulation {r k n : ℕ} (c : Mat r k) (w : Mat k n) (b : Mat 1 n) : Mat r n := fun i =>
  nn (silu c) w i + b (ix2 0 (i 1))

end Cert.Cond

end
-- ==== Proof.Cond.Kernel.lean ====
/-
  The conditioning.
-/
module

public import proofs.«01_k».proof.Proof.Cond.Spec
public import proofs.«01_k».proof.Proof.Gen.Kernel34Ideal.Value
public import Idealize.ShloMosaic.Lib.Pipeline.ValueKit
public import Idealize.ShloMosaic.Lib.Pointwise

@[expose] public section

set_option maxRecDepth 16384

noncomputable section

namespace Cert.Kernel34Ideal.Cond

open Cert.Kernel34Ideal Cert.Kernel34Ideal.Gen Cert.Kernel34Ideal.Value Idealize.ShloMosaic Idealize.ShloMosaic.TcCoe Idealize.SL.Sem Cert.Product Cert.Cond

/-- What the kernel stores. -/
theorem out (x0 : Mat 8 1024) (x1 : Mat 1024 768) (x2 : Mat 1 768) : k0_pay1 (F := Ideal) x0 x1 x2 =
    modulation x0 x1 x2 := by
  funext i
  idx_vars i
  unfold k0_pay1
  pointwise [modulation, nn, silu, silu1]
  simp only [zero_sub]

/-- The whole program ends with the result holding the conditioning, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        modulation (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out _ _ _),
    (h c).2⟩) (Cert.Kernel34Ideal.Value.run (F := Ideal) m ρ)

end Cert.Kernel34Ideal.Cond
end
-- ==== Proof.Cond.Reference.lean ====
/-
  The reference of the conditioning.
-/
module

public import proofs.«01_k».proof.Proof.Cond.Spec
public import proofs.«01_k».proof.Proof.Gen.Reference34Ideal.Run
public import proofs.«01_k».proof.Proof.Gen.Reference34Ideal.Read
public import Idealize.ShloMosaic.Lib.Pipeline.ValueKit
public import Idealize.ShloMosaic.Lib.Pointwise

@[expose] public section

set_option maxRecDepth 16384

noncomputable section

namespace Cert.Reference34Ideal.Cond

open Cert.Reference34Ideal Cert.Reference34Ideal.Gen Cert.Reference34Ideal.Read Idealize.ShloMosaic Idealize.ShloMosaic.TcCoe Idealize.SL.Sem Cert.Product Cert.Cond

/-- The reference's result. -/
theorem ref (x0 : Mat 8 1024) (x1 : Mat 1024 768) (x2 : Mat 1 768) : val_main_v3 (F := Ideal) x0 x1 x2 = modulation x0 x1 x2 := by
  funext i
  idx_vars i
  simp only [val_main_v3_apply, val_main_v1_apply, val_main_v0_apply, val_main_call0_v5_apply, val_main_call0_v4_apply,
      val_main_call0_cst_0_apply, val_main_call0_v3_apply, val_main_call0_v2_apply, val_main_call0_cst_apply,
      val_main_call0_v1_apply, val_main_call0_v0_apply, val_main_v2_apply]
  pointwise [modulation, nn, silu, silu1]
  exact congrArg₂ (fun a b : EReal => a + b) (Finset.sum_congr (M := EReal) rfl fun k _ => by
    have e0 : lidx_main_v1 (ix2 i0 i1) k = ix2 i0 k := funext fun a => match a with
      | ⟨0, _⟩ => rfl
      | ⟨1, _⟩ => rfl
    have e1 : ridx_main_v1 (ix2 i0 i1) k = ix2 k i1 := funext fun a => match a with
      | ⟨0, _⟩ => rfl
      | ⟨1, _⟩ => rfl
    rw [e0, e1]) (read2 _ rfl rfl)

/-- The whole program ends with the result holding the conditioning, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) =
        modulation (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v3_eq _ _ _).trans (ref _ _ _)),
    (h c).2⟩) (Cert.Reference34Ideal.Value.run (F := Ideal) m ρ)

end Cert.Reference34Ideal.Cond
end
-- ==== Proof.Cond.Claims.lean ====
/-
  The claims about the conditioning: the reference's frame, and that the kernel and the reference end holding the same array.
-/
module

public import proofs.«01_k».proof.Defs
public import proofs.«01_k».proof.Proof.Cond.Kernel
public import proofs.«01_k».proof.Proof.Cond.Reference
public import proofs.«01_k».proof.Proof.Gen.Kernel34Ideal
public import proofs.«01_k».proof.Proof.Gen.Reference34Ideal
public import Idealize.ShloMosaic.Lib.Claim

@[expose] public section

set_option maxRecDepth 16384

noncomputable section

namespace Cert.Cond

open Idealize.ShloMosaic Idealize.ShloMosaic.TcCoe Idealize.SL.Sem

/-- The reference terminates with its arguments unchanged; it declares no semaphore. -/
theorem frame_reference : Cert.quiescent_Reference34Ideal := fun m ρ _ =>
  (θ_run Cert.Reference34Ideal.defs _ _).mono
    (fun r h => ⟨fun c => (h c).2, sem_eq_zero_of_no_sems (by decide) r.2⟩)
    (Cert.Reference34Ideal.Value.run (F := Ideal) m ρ)

/-- The kernel and the reference compute the same array. -/
theorem algebraic : Cert.algebraic_Kernel34Ideal_Reference34Ideal := by
  intro m g m' g' _ agree
  refine ⟨_, Cert.Kernel34Ideal.Cond.run m g,
    (θ_run Cert.Reference34Ideal.defs _ _).mono (fun r h c => ?_) (Cert.Reference34Ideal.Cond.run m' g')⟩
  obtain ⟨h0, h1, h2⟩ := agree c
  have := h c
  rw [h0, h1, h2] at this ⊢
  exact this

end Cert.Cond

end
-- ==== Proof.SumSmall.Kernel.lean ====
/-
  The sum of the eight devices' parts of the small weights' gradients and of the loss.
-/
module

public import proofs.«01_k».proof.Proof.Adam.Spec
public import proofs.«01_k».proof.Proof.Gen.Kernel35Ideal.Value
public import Idealize.ShloMosaic.Lib.Pipeline.ValueKit
public import Idealize.ShloMosaic.Lib.Pointwise

@[expose] public section

set_option maxRecDepth 16384

noncomputable section

namespace Cert.Kernel35Ideal.SumSmall

open Cert.Kernel35Ideal Cert.Kernel35Ideal.Gen Cert.Kernel35Ideal.Value Idealize.ShloMosaic Idealize.ShloMosaic.TcCoe Idealize.SL.Sem Cert.Product Cert.Adam

/-- What the kernel stores. -/
theorem out (x0 : Parts 1472 128) : G1 (F := Ideal) x0 =
    sumParts x0 := by
  funext i
  idx_vars i
  unfold G1 k0_pay1
  pointwise [sumParts, Fin.sum_univ_eight]

/-- The whole program ends with the result holding the sum, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        sumParts (m ((c : Thread nD τ).loc main_arg0))
      ∧ r.2.mem ((c : Thread nD τ).loc main_arg0) = m ((c : Thread nD τ).loc main_arg0) :=
  (θ_run defs _ _).mono (fun r h c => ⟨(h c).1.trans (out _),
    (h c).2⟩) (Cert.Kernel35Ideal.Value.run (F := Ideal) m ρ)

end Cert.Kernel35Ideal.SumSmall
end
-- ==== Proof.SumSmall.Reference.lean ====
/-
  The reference of the sum of the parts of the small weights' gradients and of the loss.
-/
module

public import proofs.«01_k».proof.Proof.Adam.Spec
public import proofs.«01_k».proof.Proof.Gen.Reference35Ideal.Run
public import proofs.«01_k».proof.Proof.Gen.Reference35Ideal.Read
public import Idealize.ShloMosaic.Lib.Pipeline.ValueKit
public import Idealize.ShloMosaic.Lib.Pointwise

@[expose] public section

set_option maxRecDepth 16384

noncomputable section

namespace Cert.Reference35Ideal.SumSmall

open Cert.Reference35Ideal Cert.Reference35Ideal.Gen Cert.Reference35Ideal.Read Idealize.ShloMosaic Idealize.ShloMosaic.TcCoe Idealize.SL.Sem Cert.Product Cert.Adam

/-- The reference's result. -/
theorem ref (x0 : Parts 1472 128) : val_main_v0 (F := Ideal) x0 = sumParts x0 := by
  funext i
  idx_vars i
  simp only [val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The whole program ends with the result holding the sum, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        sumParts (m ((c : Thread nD τ).loc main_arg0))
      ∧ r.2.mem ((c : Thread nD τ).loc main_arg0) = m ((c : Thread nD τ).loc main_arg0) :=
  (θ_run defs _ _).mono (fun r h c => ⟨(h c).1.trans ((val_main_v0_eq _).trans (ref _)),
    (h c).2⟩) (Cert.Reference35Ideal.Value.run (F := Ideal) m ρ)

end Cert.Reference35Ideal.SumSmall
end
-- ==== Proof.SumSmall.Claims.lean ====
/-
  The claims about the sum of the parts of the small weights' gradients and of the loss: the reference's frame, and that the kernel and the reference end holding the same array.
-/
module

public import proofs.«01_k».proof.Defs
public import proofs.«01_k».proof.Proof.SumSmall.Kernel
public import proofs.«01_k».proof.Proof.SumSmall.Reference
public import proofs.«01_k».proof.Proof.Gen.Kernel35Ideal
public import proofs.«01_k».proof.Proof.Gen.Reference35Ideal
public import Idealize.ShloMosaic.Lib.Claim

@[expose] public section

set_option maxRecDepth 16384

noncomputable section

namespace Cert.SumSmall

open Idealize.ShloMosaic Idealize.ShloMosaic.TcCoe Idealize.SL.Sem

/-- The reference terminates with its arguments unchanged; it declares no semaphore. -/
theorem frame_reference : Cert.quiescent_Reference35Ideal := fun m ρ _ =>
  (θ_run Cert.Reference35Ideal.defs _ _).mono
    (fun r h => ⟨fun c => (h c).2, sem_eq_zero_of_no_sems (by decide) r.2⟩)
    (Cert.Reference35Ideal.Value.run (F := Ideal) m ρ)

/-- The kernel and the reference compute the same array. -/
theorem algebraic : Cert.algebraic_Kernel35Ideal_Reference35Ideal := by
  intro m g m' g' _ agree
  refine ⟨_, Cert.Kernel35Ideal.SumSmall.run m g,
    (θ_run Cert.Reference35Ideal.defs _ _).mono (fun r h c => ?_) (Cert.Reference35Ideal.SumSmall.run m' g')⟩
  have h0 := agree c
  have := h c
  rw [h0] at this ⊢
  exact this

end Cert.SumSmall

end
-- ==== Proof.SumLast.Kernel.lean ====
/-
  The sum of the eight devices' parts of the first modulation's gradients.
-/
module

public import proofs.«01_k».proof.Proof.Adam.Spec
public import proofs.«01_k».proof.Proof.Gen.Kernel36Ideal.Value
public import Idealize.ShloMosaic.Lib.Pipeline.ValueKit
public import Idealize.ShloMosaic.Lib.Pointwise

@[expose] public section

set_option maxRecDepth 16384

noncomputable section

namespace Cert.Kernel36Ideal.SumLast

open Cert.Kernel36Ideal Cert.Kernel36Ideal.Gen Cert.Kernel36Ideal.Value Idealize.ShloMosaic Idealize.ShloMosaic.TcCoe Idealize.SL.Sem Cert.Product Cert.Adam

/-- What the kernel stores. -/
theorem out (x0 : Parts 16 128) : G1 (F := Ideal) x0 =
    sumParts x0 := by
  funext i
  idx_vars i
  unfold G1 k0_pay1
  pointwise [sumParts, Fin.sum_univ_eight]

/-- The whole program ends with the result holding the sum, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        sumParts (m ((c : Thread nD τ).loc main_arg0))
      ∧ r.2.mem ((c : Thread nD τ).loc main_arg0) = m ((c : Thread nD τ).loc main_arg0) :=
  (θ_run defs _ _).mono (fun r h c => ⟨(h c).1.trans (out _),
    (h c).2⟩) (Cert.Kernel36Ideal.Value.run (F := Ideal) m ρ)

end Cert.Kernel36Ideal.SumLast
end
-- ==== Proof.SumLast.Reference.lean ====
/-
  The reference of the sum of the parts of the first modulation's gradients.
-/
module

public import proofs.«01_k».proof.Proof.Adam.Spec
public import proofs.«01_k».proof.Proof.Gen.Reference36Ideal.Run
public import proofs.«01_k».proof.Proof.Gen.Reference36Ideal.Read
public import Idealize.ShloMosaic.Lib.Pipeline.ValueKit
public import Idealize.ShloMosaic.Lib.Pointwise

@[expose] public section

set_option maxRecDepth 16384

noncomputable section

namespace Cert.Reference36Ideal.SumLast

open Cert.Reference36Ideal Cert.Reference36Ideal.Gen Cert.Reference36Ideal.Read Idealize.ShloMosaic Idealize.ShloMosaic.TcCoe Idealize.SL.Sem Cert.Product Cert.Adam

/-- The reference's result. -/
theorem ref (x0 : Parts 16 128) : val_main_v0 (F := Ideal) x0 = sumParts x0 := by
  funext i
  idx_vars i
  simp only [val_main_v0_apply, val_main_cst_apply]
  pointwise [sumParts]
  exact Finset.sum_congr (M := EReal) rfl fun d _ => congrArg x0 (funext fun a => match a with
    | ⟨0, _⟩ => rfl
    | ⟨1, _⟩ => rfl
    | ⟨2, _⟩ => rfl)

/-- The whole program ends with the result holding the sum, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) =
        sumParts (m ((c : Thread nD τ).loc main_arg0))
      ∧ r.2.mem ((c : Thread nD τ).loc main_arg0) = m ((c : Thread nD τ).loc main_arg0) :=
  (θ_run defs _ _).mono (fun r h c => ⟨(h c).1.trans ((val_main_v0_eq _).trans (ref _)),
    (h c).2⟩) (Cert.Reference36Ideal.Value.run (F := Ideal) m ρ)

end Cert.Reference36Ideal.SumLast
end
-- ==== Proof.SumLast.Claims.lean ====
/-
  The claims about the sum of the parts of the first modulation's gradients: the reference's frame, and that the kernel and the reference end holding the same array.
-/
module

public import proofs.«01_k».proof.Defs
public import proofs.«01_k».proof.Proof.SumLast.Kernel
public import proofs.«01_k».proof.Proof.SumLast.Reference
public import proofs.«01_k».proof.Proof.Gen.Kernel36Ideal
public import proofs.«01_k».proof.Proof.Gen.Reference36Ideal
public import Idealize.ShloMosaic.Lib.Claim

@[expose] public section

set_option maxRecDepth 16384

noncomputable section

namespace Cert.SumLast

open Idealize.ShloMosaic Idealize.ShloMosaic.TcCoe Idealize.SL.Sem

/-- The reference terminates with its arguments unchanged; it declares no semaphore. -/
theorem frame_reference : Cert.quiescent_Reference36Ideal := fun m ρ _ =>
  (θ_run Cert.Reference36Ideal.defs _ _).mono
    (fun r h => ⟨fun c => (h c).2, sem_eq_zero_of_no_sems (by decide) r.2⟩)
    (Cert.Reference36Ideal.Value.run (F := Ideal) m ρ)

/-- The kernel and the reference compute the same array. -/
theorem algebraic : Cert.algebraic_Kernel36Ideal_Reference36Ideal := by
  intro m g m' g' _ agree
  refine ⟨_, Cert.Kernel36Ideal.SumLast.run m g,
    (θ_run Cert.Reference36Ideal.defs _ _).mono (fun r h c => ?_) (Cert.Reference36Ideal.SumLast.run m' g')⟩
  have h0 := agree c
  have := h c
  rw [h0] at this ⊢
  exact this

end Cert.SumLast

end
-- ==== Proof.lean ====
/-
  The certificate. For each of the 33 calls: the generated frames of the kernel and of its ideal form, the reference's
  frame, the (empty) list of rewrites, and the equation of the two programs over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Pre_finite28
public import proofs.«01_k».proof.Proof.Gen.Pre_finite29
public import proofs.«01_k».proof.Proof.Gen.Pre_finite30
public import proofs.«01_k».proof.Proof.Gen.Pre_finite31
public import proofs.«01_k».proof.Proof.Merge.Claims
public import proofs.«01_k».proof.Proof.UpDx.Claims
public import proofs.«01_k».proof.Proof.UpDw.Claims
public import proofs.«01_k».proof.Proof.DownDx.Claims
public import proofs.«01_k».proof.Proof.DownDw.Claims
public import proofs.«01_k».proof.Proof.Up.Claims
public import proofs.«01_k».proof.Proof.InDx.Claims
public import proofs.«01_k».proof.Proof.InDw.Claims
public import proofs.«01_k».proof.Proof.OutDx.Claims
public import proofs.«01_k».proof.Proof.OutDw.Claims
public import proofs.«01_k».proof.Proof.GluDx.Claims
public import proofs.«01_k».proof.Proof.ShardDw.Claims
public import proofs.«01_k».proof.Proof.ConvPwDx.Claims
public import proofs.«01_k».proof.Proof.Glu.Claims
public import proofs.«01_k».proof.Proof.ConvPw.Claims
public import proofs.«01_k».proof.Proof.InProj.Claims
public import proofs.«01_k».proof.Proof.MergeOut.Claims
public import proofs.«01_k».proof.Proof.Resid.Claims
public import proofs.«01_k».proof.Proof.SumIn.Claims
public import proofs.«01_k».proof.Proof.SumUp.Claims
public import proofs.«01_k».proof.Proof.SumBranch.Claims
public import proofs.«01_k».proof.Proof.SumOut.Claims
public import proofs.«01_k».proof.Proof.SumDown.Claims
public import proofs.«01_k».proof.Proof.AdamCond.Claims
public import proofs.«01_k».proof.Proof.CondDw.Claims
public import proofs.«01_k».proof.Proof.Final.Claims
public import proofs.«01_k».proof.Proof.Mid.Claims
public import proofs.«01_k».proof.Proof.ConvLn.Claims
public import proofs.«01_k».proof.Proof.Loss.Claims
public import proofs.«01_k».proof.Proof.Disc.Claims
public import proofs.«01_k».proof.Proof.Cond.Claims
public import proofs.«01_k».proof.Proof.SumSmall.Claims
public import proofs.«01_k».proof.Proof.SumLast.Claims
public import Idealize.ShloMosaic.Adequacy
public import Idealize.ShloMosaic.Init

@[expose] public section

noncomputable section

namespace Cert.Proof

open Idealize.ShloMosaic Idealize.SL.Sem

/-- Everything that is claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel26.Gen.facts, Cert.Kernel26Ideal.Gen.facts, Cert.Reference26Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Pre_finite28.Gen.facts, Cert.Pre_finite29.Gen.facts, Cert.Pre_finite30.Gen.facts, Cert.Pre_finite31.Gen.facts,
    fun m ρ _ => Cert.Kernel.Gen.frame m ρ, fun m ρ _ => Cert.KernelIdeal.Gen.frame m ρ, Cert.Merge.frame_reference,
    fun m ρ _ => Cert.Kernel2.Gen.frame m ρ, fun m ρ _ => Cert.Kernel2Ideal.Gen.frame m ρ, Cert.UpDx.frame_reference,
    fun m ρ _ => Cert.Kernel3.Gen.frame m ρ, fun m ρ _ => Cert.Kernel3Ideal.Gen.frame m ρ, Cert.UpDw.frame_reference,
    fun m ρ _ => Cert.Kernel4.Gen.frame m ρ, fun m ρ _ => Cert.Kernel4Ideal.Gen.frame m ρ, Cert.DownDx.frame_reference,
    fun m ρ _ => Cert.Kernel5.Gen.frame m ρ, fun m ρ _ => Cert.Kernel5Ideal.Gen.frame m ρ, Cert.DownDw.frame_reference,
    fun m ρ _ => Cert.Kernel6.Gen.frame m ρ, fun m ρ _ => Cert.Kernel6Ideal.Gen.frame m ρ, Cert.Up.frame_reference,
    fun m ρ _ => Cert.Kernel7.Gen.frame m ρ, fun m ρ _ => Cert.Kernel7Ideal.Gen.frame m ρ, Cert.InDx.frame_reference,
    fun m ρ _ => Cert.Kernel8.Gen.frame m ρ, fun m ρ _ => Cert.Kernel8Ideal.Gen.frame m ρ, Cert.InDw.frame_reference,
    fun m ρ _ => Cert.Kernel9.Gen.frame m ρ, fun m ρ _ => Cert.Kernel9Ideal.Gen.frame m ρ, Cert.OutDx.frame_reference,
    fun m ρ _ => Cert.Kernel10.Gen.frame m ρ, fun m ρ _ => Cert.Kernel10Ideal.Gen.frame m ρ, Cert.OutDw.frame_reference,
    fun m ρ _ => Cert.Kernel11.Gen.frame m ρ, fun m ρ _ => Cert.Kernel11Ideal.Gen.frame m ρ, Cert.GluDx.frame_reference,
    fun m ρ _ => Cert.Kernel12.Gen.frame m ρ, fun m ρ _ => Cert.Kernel12Ideal.Gen.frame m ρ, Cert.ShardDw.frame_reference,
    fun m ρ _ => Cert.Kernel13.Gen.frame m ρ, fun m ρ _ => Cert.Kernel13Ideal.Gen.frame m ρ, Cert.ConvPwDx.frame_reference,
    fun m ρ _ => Cert.Kernel14.Gen.frame m ρ, fun m ρ _ => Cert.Kernel14Ideal.Gen.frame m ρ, Cert.Glu.frame_reference,
    fun m ρ _ => Cert.Kernel15.Gen.frame m ρ, fun m ρ _ => Cert.Kernel15Ideal.Gen.frame m ρ, Cert.ConvPw.frame_reference,
    fun m ρ _ => Cert.Kernel16.Gen.frame m ρ, fun m ρ _ => Cert.Kernel16Ideal.Gen.frame m ρ, Cert.InProj.frame_reference,
    fun m ρ _ => Cert.Kernel17.Gen.frame m ρ, fun m ρ _ => Cert.Kernel17Ideal.Gen.frame m ρ, Cert.MergeOut.frame_reference,
    fun m ρ _ => Cert.Kernel18.Gen.frame m ρ, fun m ρ _ => Cert.Kernel18Ideal.Gen.frame m ρ, Cert.Resid.frame_reference,
    fun m ρ _ => Cert.Kernel19.Gen.frame m ρ, fun m ρ _ => Cert.Kernel19Ideal.Gen.frame m ρ, Cert.SumIn.frame_reference,
    fun m ρ _ => Cert.Kernel20.Gen.frame m ρ, fun m ρ _ => Cert.Kernel20Ideal.Gen.frame m ρ, Cert.SumUp.frame_reference,
    fun m ρ _ => Cert.Kernel21.Gen.frame m ρ, fun m ρ _ => Cert.Kernel21Ideal.Gen.frame m ρ, Cert.SumBranch.frame_reference,
    fun m ρ _ => Cert.Kernel22.Gen.frame m ρ, fun m ρ _ => Cert.Kernel22Ideal.Gen.frame m ρ, Cert.SumOut.frame_reference,
    fun m ρ _ => Cert.Kernel23.Gen.frame m ρ, fun m ρ _ => Cert.Kernel23Ideal.Gen.frame m ρ, Cert.SumDown.frame_reference,
    fun m ρ _ => Cert.Kernel24.Gen.frame m ρ, fun m ρ _ => Cert.Kernel24Ideal.Gen.frame m ρ, Cert.AdamCond.frame_reference,
    fun m ρ _ => Cert.Kernel26.Gen.frame m ρ, fun m ρ _ => Cert.Kernel26Ideal.Gen.frame m ρ, Cert.CondDw.frame_reference,
    fun m ρ _ => Cert.Kernel28.Gen.frame m ρ, fun m ρ _ => Cert.Kernel28Ideal.Gen.frame m ρ, fun m ρ _ => Cert.Kernel28Ideal.Gen.frame m ρ, Cert.Final.frame_reference, fun m ρ _ => Cert.Final.frame_reference m ρ trivial,
    fun m ρ _ => Cert.Kernel29.Gen.frame m ρ, fun m ρ _ => Cert.Kernel29Ideal.Gen.frame m ρ, fun m ρ _ => Cert.Kernel29Ideal.Gen.frame m ρ, Cert.Mid.frame_reference, fun m ρ _ => Cert.Mid.frame_reference m ρ trivial,
    fun m ρ _ => Cert.Kernel30.Gen.frame m ρ, fun m ρ _ => Cert.Kernel30Ideal.Gen.frame m ρ, fun m ρ _ => Cert.Kernel30Ideal.Gen.frame m ρ, Cert.ConvLn.frame_reference, fun m ρ _ => Cert.ConvLn.frame_reference m ρ trivial,
    fun m ρ _ => Cert.Kernel31.Gen.frame m ρ, fun m ρ _ => Cert.Kernel31Ideal.Gen.frame m ρ, fun m ρ _ => Cert.Kernel31Ideal.Gen.frame m ρ, Cert.Loss.frame_reference, fun m ρ _ => Cert.Loss.frame_reference m ρ trivial,
    fun m ρ _ => Cert.Kernel33.Gen.frame m ρ, fun m ρ _ => Cert.Kernel33Ideal.Gen.frame m ρ, Cert.Disc.frame_reference,
    fun m ρ _ => Cert.Kernel34.Gen.frame m ρ, fun m ρ _ => Cert.Kernel34Ideal.Gen.frame m ρ, Cert.Cond.frame_reference,
    fun m ρ _ => Cert.Kernel35.Gen.frame m ρ, fun m ρ _ => Cert.Kernel35Ideal.Gen.frame m ρ, Cert.SumSmall.frame_reference,
    fun m ρ _ => Cert.Kernel36.Gen.frame m ρ, fun m ρ _ => Cert.Kernel36Ideal.Gen.frame m ρ, Cert.SumLast.frame_reference,
    trivial, Cert.Merge.algebraic,
    trivial, Cert.UpDx.algebraic,
    trivial, Cert.UpDw.algebraic,
    trivial, Cert.DownDx.algebraic,
    trivial, Cert.DownDw.algebraic,
    trivial, Cert.Up.algebraic,
    trivial, Cert.InDx.algebraic,
    trivial, Cert.InDw.algebraic,
    trivial, Cert.OutDx.algebraic,
    trivial, Cert.OutDw.algebraic,
    trivial, Cert.GluDx.algebraic,
    trivial, Cert.ShardDw.algebraic,
    trivial, Cert.ConvPwDx.algebraic,
    trivial, Cert.Glu.algebraic,
    trivial, Cert.ConvPw.algebraic,
    trivial, Cert.InProj.algebraic,
    trivial, Cert.MergeOut.algebraic,
    trivial, Cert.Resid.algebraic,
    trivial, Cert.SumIn.algebraic,
    trivial, Cert.SumUp.algebraic,
    trivial, Cert.SumBranch.algebraic,
    trivial, Cert.SumOut.algebraic,
    trivial, Cert.SumDown.algebraic,
    trivial, Cert.AdamCond.algebraic,
    trivial, Cert.CondDw.algebraic,
    trivial, Cert.Final.algebraic,
    trivial, Cert.Mid.algebraic,
    trivial, Cert.ConvLn.algebraic,
    trivial, Cert.Loss.algebraic,
    trivial, Cert.Disc.algebraic,
    trivial, Cert.Cond.algebraic,
    trivial, Cert.SumSmall.algebraic,
    trivial, Cert.SumLast.algebraic⟩

end Cert.Proof

end
